-- ==== Defs.lean ====
def Pre_Levels (m : (ℓ : Loc Cert.Levels.nD Cert.Levels.τ Cert.Levels.sig) → Buf (Elt Bits) ℓ) : Prop :=
  True

def Pre_Counts (m : (ℓ : Loc Cert.Counts.nD Cert.Counts.τ Cert.Counts.sig) → Buf (Elt Bits) ℓ) : Prop :=
  True

def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_apart [hPre_apart : Cert.Pre_apart.Facts] (m : (ℓ : Loc Cert.KernelIdeal.nD Cert.KernelIdeal.τ Cert.KernelIdeal.sig) → Buf (Elt Ideal) ℓ) : Prop :=
  ∀ c : Dev Cert.KernelIdeal.nD,
    (Cert.Pre_apart.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_apart [hPre_apart : Cert.Pre_apart.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_apart.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Levels [hLevels : Cert.Levels.Facts] : Prop :=
  ∀ (m : (ℓ : Loc Cert.Levels.nD Cert.Levels.τ Cert.Levels.sig) → Buf (Elt Bits) ℓ) (g : Dev Cert.Levels.nD → PrngReg), Pre_Levels m →
    θ_run (Cert.Levels.defs (F := Bits)) (Cert.Levels.threads (F := Bits)) ⟨m, fun _ => 0, g⟩ (fun r => (∀ c : Dev Cert.Levels.nD,
      r.2.mem ((c.tc : Thread Cert.Levels.nD Cert.Levels.τ).loc Cert.Levels.main_arg0) = m ((c.tc : Thread Cert.Levels.nD Cert.Levels.τ).loc Cert.Levels.main_arg0)
      ∧ r.2.mem ((c.tc : Thread Cert.Levels.nD Cert.Levels.τ).loc Cert.Levels.main_arg1) = m ((c.tc : Thread Cert.Levels.nD Cert.Levels.τ).loc Cert.Levels.main_arg1)
      ∧ r.2.mem ((c.tc : Thread Cert.Levels.nD Cert.Levels.τ).loc Cert.Levels.main_arg2) = m ((c.tc : Thread Cert.Levels.nD Cert.Levels.τ).loc Cert.Levels.main_arg2))
      ∧ r.2.sem = fun _ => 0)

def quiescent_Counts [hCounts : Cert.Counts.Facts] : Prop :=
  ∀ (m : (ℓ : Loc Cert.Counts.nD Cert.Counts.τ Cert.Counts.sig) → Buf (Elt Bits) ℓ) (g : Dev Cert.Counts.nD → PrngReg), Pre_Counts m →
    θ_run (Cert.Counts.defs (F := Bits)) (onTc (τ := Cert.Counts.τ) (Cert.Counts.main (F := Bits))) ⟨m, fun _ => 0, g⟩ (fun r => (∀ c : Dev Cert.Counts.nD,
      r.2.mem ((c.tc : Thread Cert.Counts.nD Cert.Counts.τ).loc Cert.Counts.main_arg0) = m ((c.tc : Thread Cert.Counts.nD Cert.Counts.τ).loc Cert.Counts.main_arg0)
      ∧ r.2.mem ((c.tc : Thread Cert.Counts.nD Cert.Counts.τ).loc Cert.Counts.main_arg1) = m ((c.tc : Thread Cert.Counts.nD Cert.Counts.τ).loc Cert.Counts.main_arg1)
      ∧ r.2.mem ((c.tc : Thread Cert.Counts.nD Cert.Counts.τ).loc Cert.Counts.main_arg2) = m ((c.tc : Thread Cert.Counts.nD Cert.Counts.τ).loc Cert.Counts.main_arg2))
      ∧ r.2.sem = fun _ => 0)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_apart [hKernelIdeal : Cert.KernelIdeal.Facts] [hPre_apart : Cert.Pre_apart.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_apart m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_apart [hReferenceIdeal : Cert.ReferenceIdeal.Facts] [hPre_apart : Cert.Pre_apart.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_apart m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def bitexact_Levels_Counts [hLevels : Cert.Levels.Facts] [hCounts : Cert.Counts.Facts] : Prop :=
  ∀ (m : (ℓ : Loc Cert.Levels.nD Cert.Levels.τ Cert.Levels.sig) → Buf (Elt Bits) ℓ) (g : Dev Cert.Levels.nD → PrngReg)
    (m' : (ℓ : Loc Cert.Counts.nD Cert.Counts.τ Cert.Counts.sig) → Buf (Elt Bits) ℓ) (g' : Dev Cert.Counts.nD → PrngReg), Pre_Levels m →
    (∀ c : Dev Cert.Levels.nD,
      m' ((c.tc : Thread Cert.Counts.nD Cert.Counts.τ).loc Cert.Counts.main_arg0) = m ((c.tc : Thread Cert.Levels.nD Cert.Levels.τ).loc Cert.Levels.main_arg0)
      ∧ m' ((c.tc : Thread Cert.Counts.nD Cert.Counts.τ).loc Cert.Counts.main_arg1) = m ((c.tc : Thread Cert.Levels.nD Cert.Levels.τ).loc Cert.Levels.main_arg1)
      ∧ m' ((c.tc : Thread Cert.Counts.nD Cert.Counts.τ).loc Cert.Counts.main_arg2) = m ((c.tc : Thread Cert.Levels.nD Cert.Levels.τ).loc Cert.Levels.main_arg2)) →
    ∃ (v0 : (c : Dev Cert.Levels.nD) → Buf (Elt Bits) ((c.tc : Thread Cert.Levels.nD Cert.Levels.τ).loc Cert.Levels.main_v1)) (v1 : (c : Dev Cert.Levels.nD) → Buf (Elt Bits) ((c.tc : Thread Cert.Levels.nD Cert.Levels.τ).loc Cert.Levels.main_v3)) (v2 : (c : Dev Cert.Levels.nD) → Buf (Elt Bits) ((c.tc : Thread Cert.Levels.nD Cert.Levels.τ).loc Cert.Levels.main_v7)),
      θ_run (Cert.Levels.defs (F := Bits)) (Cert.Levels.threads (F := Bits)) ⟨m, fun _ => 0, g⟩ (fun r => ∀ c : Dev Cert.Levels.nD,
          r.2.mem ((c.tc : Thread Cert.Levels.nD Cert.Levels.τ).loc Cert.Levels.main_v1) = v0 c
          ∧ r.2.mem ((c.tc : Thread Cert.Levels.nD Cert.Levels.τ).loc Cert.Levels.main_v3) = v1 c
          ∧ r.2.mem ((c.tc : Thread Cert.Levels.nD Cert.Levels.τ).loc Cert.Levels.main_v7) = v2 c
          ∧ r.2.mem ((c.tc : Thread Cert.Levels.nD Cert.Levels.τ).loc Cert.Levels.main_arg0) = m ((c.tc : Thread Cert.Levels.nD Cert.Levels.τ).loc Cert.Levels.main_arg0)
          ∧ r.2.mem ((c.tc : Thread Cert.Levels.nD Cert.Levels.τ).loc Cert.Levels.main_arg1) = m ((c.tc : Thread Cert.Levels.nD Cert.Levels.τ).loc Cert.Levels.main_arg1)
          ∧ r.2.mem ((c.tc : Thread Cert.Levels.nD Cert.Levels.τ).loc Cert.Levels.main_arg2) = m ((c.tc : Thread Cert.Levels.nD Cert.Levels.τ).loc Cert.Levels.main_arg2))
      ∧ θ_run (Cert.Counts.defs (F := Bits)) (onTc (τ := Cert.Counts.τ) (Cert.Counts.main (F := Bits))) ⟨m', fun _ => 0, g'⟩ (fun r => ∀ c : Dev Cert.Counts.nD,
          r.2.mem ((c.tc : Thread Cert.Counts.nD Cert.Counts.τ).loc Cert.Counts.main_v22) = v0 c
          ∧ r.2.mem ((c.tc : Thread Cert.Counts.nD Cert.Counts.τ).loc Cert.Counts.main_v47) = v1 c
          ∧ r.2.mem ((c.tc : Thread Cert.Counts.nD Cert.Counts.τ).loc Cert.Counts.main_v72) = v2 c
          ∧ r.2.mem ((c.tc : Thread Cert.Counts.nD Cert.Counts.τ).loc Cert.Counts.main_arg0) = m' ((c.tc : Thread Cert.Counts.nD Cert.Counts.τ).loc Cert.Counts.main_arg0)
          ∧ r.2.mem ((c.tc : Thread Cert.Counts.nD Cert.Counts.τ).loc Cert.Counts.main_arg1) = m' ((c.tc : Thread Cert.Counts.nD Cert.Counts.τ).loc Cert.Counts.main_arg1)
          ∧ r.2.mem ((c.tc : Thread Cert.Counts.nD Cert.Counts.τ).loc Cert.Counts.main_arg2) = m' ((c.tc : Thread Cert.Counts.nD Cert.Counts.τ).loc Cert.Counts.main_arg2))

def preserves_Kernel_KernelIdeal : Prop :=
  True

def algebraic_KernelIdeal_ReferenceIdeal_pre_apart [hKernelIdeal : Cert.KernelIdeal.Facts] [hReferenceIdeal : Cert.ReferenceIdeal.Facts] [hPre_apart : Cert.Pre_apart.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_apart m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v26)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v26) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hLevels : Cert.Levels.Facts) (hCounts : Cert.Counts.Facts) (hKernel : Cert.Kernel.Facts) (hKernelIdeal : Cert.KernelIdeal.Facts) (hReferenceIdeal : Cert.ReferenceIdeal.Facts) (hPre_apart : Cert.Pre_apart.Facts),
    quiescent_Levels (hLevels := hLevels)
    ∧ quiescent_Counts (hCounts := hCounts)
    ∧ quiescent_Kernel (hKernel := hKernel)
    ∧ quiescent_KernelIdeal (hKernelIdeal := hKernelIdeal)
    ∧ quiescent_KernelIdeal_pre_apart (hKernelIdeal := hKernelIdeal) (hPre_apart := hPre_apart)
    ∧ quiescent_ReferenceIdeal (hReferenceIdeal := hReferenceIdeal)
    ∧ quiescent_ReferenceIdeal_pre_apart (hReferenceIdeal := hReferenceIdeal) (hPre_apart := hPre_apart)
    ∧ bitexact_Levels_Counts (hLevels := hLevels) (hCounts := hCounts)
    ∧ preserves_Kernel_KernelIdeal
    ∧ algebraic_KernelIdeal_ReferenceIdeal_pre_apart (hKernelIdeal := hKernelIdeal) (hReferenceIdeal := hReferenceIdeal) (hPre_apart := hPre_apart)
-- ==== Pre_apart.lean ====
abbrev S8192x2048 : Shape := ⟨2, ![8192, 2048]⟩
abbrev S2048x2048 : Shape := ⟨2, ![2048, 2048]⟩
abbrev S2048 : Shape := ⟨1, ![2048]⟩
abbrev S_ : Shape := ⟨0, ![]⟩
abbrev S4194304 : Shape := ⟨1, ![4194304]⟩
abbrev S1 : Shape := ⟨1, ![1]⟩

class Facts : Prop where
  bcast_S_S2048x2048 : S_.BroadcastsInDim S2048x2048 (![] : Fin 0 → Fin S2048x2048.rank)
  shapeCasts_S2048x2048_S4194304 : S2048x2048.ShapeCasts S4194304
  slices_S4194304_S1_2097151 : S4194304.Slices ![2097151] S1
  shapeCasts_S1_S_ : S1.ShapeCasts S_
  slices_S4194304_S1_2097152 : S4194304.Slices ![2097152] S1

variable [Facts]

def comparator_i32_d0 : BitVec 32 → BitVec 32 → BitVec 1 :=
  fun l r =>
    let v1 := IntOp.cmpi .slt l r
    v1
def fn_sort {F : FTy → Type} [FloatOps F] (arg0 : IVec S4194304 32) : IVec S4194304 32 :=
  let v0 : IVec S4194304 32 := (fun x => Host.sort S4194304 0 comparator_i32_d0 x) arg0
  v0

def fn {F : FTy → Type} [FloatOps F] (main_arg0 : FVec F S8192x2048 .f32) (main_arg1 : IVec S2048x2048 32) (main_arg2 : FVec F S2048x2048 .f32) (main_arg3 : FVec F S2048 .f32) : IVec S_ 1 :=
  let main_c : IVec S_ 32 := constantI S_ 32 2147483647#32
  let main_v0 : IVec S2048x2048 32 := broadcastInDim S2048x2048 ![] bcast_S_S2048x2048 main_c
  let main_v1 : IVec S2048x2048 32 := andi main_arg1 main_v0
  let main_v2 : IVec S4194304 32 := shapeCast S4194304 main_v1 shapeCasts_S2048x2048_S4194304
  let main_v3 : IVec S4194304 32 := fn_sort (F := F) main_v2
  let main_v4 : IVec S1 32 := (extractStridedSlice S1 ![2097151] · slices_S4194304_S1_2097151) main_v3
  let main_v5 : IVec S_ 32 := shapeCast S_ main_v4 shapeCasts_S1_S_
  let main_v6 : IVec S1 32 := (extractStridedSlice S1 ![2097152] · slices_S4194304_S1_2097152) main_v3
  let main_v7 : IVec S_ 32 := shapeCast S_ main_v6 shapeCasts_S1_S_
  let main_v8 : IVec S_ 1 := cmpi .slt main_v5 main_v7
  main_v8
-- ==== Levels.lean ====
abbrev S2048x2048 : Shape := ⟨2, ![2048, 2048]⟩
abbrev S_ : Shape := ⟨0, ![]⟩
abbrev S4194304 : Shape := ⟨1, ![4194304]⟩
abbrev S32x32x128 : Shape := ⟨3, ![32, 32, 128]⟩
abbrev S16384 : Shape := ⟨1, ![16384]⟩
abbrev S16x4096 : Shape := ⟨2, ![16, 4096]⟩
abbrev S32x128 : Shape := ⟨2, ![32, 128]⟩
abbrev S16 : Shape := ⟨1, ![16]⟩
abbrev S1x16 : Shape := ⟨2, ![1, 16]⟩
abbrev S1x32x128 : Shape := ⟨3, ![1, 32, 128]⟩

abbrev nBuf : Table → Nat
  | .hbm => 12
  | .local .scVector .vmem => 11
  | _ => 0

abbrev bufTy : (tb : Table) → Fin (nBuf tb) → BufTy
  | .hbm, ⟨0, _⟩ => ⟨S2048x2048, .f32⟩
  | .hbm, ⟨1, _⟩ => ⟨S_, .i32⟩
  | .hbm, ⟨2, _⟩ => ⟨S_, .i32⟩
  | .hbm, ⟨3, _⟩ => ⟨S4194304, .f32⟩
  | .hbm, ⟨4, _⟩ => ⟨S32x32x128, .i32⟩
  | .hbm, ⟨5, _⟩ => ⟨S16, .i32⟩
  | .hbm, ⟨6, _⟩ => ⟨S32x32x128, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S16, .i32⟩
  | .hbm, ⟨11, _⟩ => ⟨S32x32x128, .i32⟩
  | .local .scVector .vmem, ⟨0, _⟩ => ⟨S16384, .f32⟩
  | .local .scVector .vmem, ⟨1, _⟩ => ⟨S16x4096, .i32⟩
  | .local .scVector .vmem, ⟨2, _⟩ => ⟨S32x128, .i32⟩
  | .local .scVector .vmem, ⟨3, _⟩ => ⟨S16384, .f32⟩
  | .local .scVector .vmem, ⟨4, _⟩ => ⟨S16x4096, .i32⟩
  | .local .scVector .vmem, ⟨5, _⟩ => ⟨S32x128, .i32⟩
  | .local .scVector .vmem, ⟨6, _⟩ => ⟨S16, .i32⟩
  | .local .scVector .vmem, ⟨7, _⟩ => ⟨S16384, .f32⟩
  | .local .scVector .vmem, ⟨8, _⟩ => ⟨S16x4096, .i32⟩
  | .local .scVector .vmem, ⟨9, _⟩ => ⟨S32x128, .i32⟩
  | .local .scVector .vmem, ⟨10, _⟩ => ⟨S16, .i32⟩
  | _, _ => ⟨S2048x2048, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 8 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | _ => false

abbrev sig : RefSig :=
  ofTables nBuf rfl bufTy 4 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_c : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v0_scv : Ref sig .scVector := ⟨.hbm, 3, rfl⟩
abbrev main_v1_scv : Ref sig .scVector := ⟨.hbm, 4, rfl⟩
abbrev main_v2_scv : Ref sig .scVector := ⟨.hbm, 5, rfl⟩
abbrev main_v3_scv : Ref sig .scVector := ⟨.hbm, 6, rfl⟩
abbrev main_v6_scv : Ref sig .scVector := ⟨.hbm, 10, rfl⟩
abbrev main_v7_scv : Ref sig .scVector := ⟨.hbm, 11, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc1_scratch0 : Ref sig .scVector := ⟨.vmem, 3, rfl⟩
abbrev cc1_scratch1 : Ref sig .scVector := ⟨.vmem, 4, rfl⟩
abbrev cc1_scratch2 : Ref sig .scVector := ⟨.vmem, 5, rfl⟩
abbrev cc1_scratch3 : Ref sig .scVector := ⟨.vmem, 6, rfl⟩
abbrev cc2_scratch0 : Ref sig .scVector := ⟨.vmem, 7, rfl⟩
abbrev cc2_scratch1 : Ref sig .scVector := ⟨.vmem, 8, rfl⟩
abbrev cc2_scratch2 : Ref sig .scVector := ⟨.vmem, 9, rfl⟩
abbrev cc2_scratch3 : Ref sig .scVector := ⟨.vmem, 10, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [BitOps F]

abbrev grid0 : Pipeline.Grid := ⟨2, ![2, 16], ![false, false]⟩

@[reducible] def k0_t1_loop : Scf.Loop 32 :=
  let c0_i32_1 : BitVec 32 := 0#32
  let c256_i32 : BitVec 32 := 256#32
  let v6 : BitVec 32 := Scalar.addi c0_i32_1 c256_i32
  let c1_i32_2 : BitVec 32 := 1#32
  ⟨c0_i32_1, v6, c1_i32_2⟩
def k0_off1 (k0_t1 : Fin k0_t1_loop.trips) : Fin 2 → Nat :=
  let c0_i32_13 : BitVec 32 := 0#32
  let v13 : Index := Scalar.indexCast c0_i32_13
  let c0_i32_1 : BitVec 32 := 0#32
  let c1_i32_2 : BitVec 32 := 1#32
  let arg7 : BitVec 32 := Scf.iv c0_i32_1 c1_i32_2 k0_t1
  let c16_i32 : BitVec 32 := 16#32
  let v12 : BitVec 32 := Scalar.muli arg7 c16_i32
  let v14 : Index := Scalar.indexCast v12
  ![0, v14.toNat]
def k0_off2 (k0_t1 : Fin k0_t1_loop.trips) : Fin 2 → Nat :=
  let c1_i32_15 : BitVec 32 := 1#32
  let v17 : Index := Scalar.indexCast c1_i32_15
  let c0_i32_1 : BitVec 32 := 0#32
  let c1_i32_2 : BitVec 32 := 1#32
  let arg7 : BitVec 32 := Scf.iv c0_i32_1 c1_i32_2 k0_t1
  let c16_i32_14 : BitVec 32 := 16#32
  let v16 : BitVec 32 := Scalar.muli arg7 c16_i32_14
  let v18 : Index := Scalar.indexCast v16
  ![1, v18.toNat]
def k0_off3 (k0_t1 : Fin k0_t1_loop.trips) : Fin 2 → Nat :=
  let c2_i32_17 : BitVec 32 := 2#32
  let v21 : Index := Scalar.indexCast c2_i32_17
  let c0_i32_1 : BitVec 32 := 0#32
  let c1_i32_2 : BitVec 32 := 1#32
  let arg7 : BitVec 32 := Scf.iv c0_i32_1 c1_i32_2 k0_t1
  let c16_i32_16 : BitVec 32 := 16#32
  let v20 : BitVec 32 := Scalar.muli arg7 c16_i32_16
  let v22 : Index := Scalar.indexCast v20
  ![2, v22.toNat]
def k0_off4 (k0_t1 : Fin k0_t1_loop.trips) : Fin 2 → Nat :=
  let c3_i32 : BitVec 32 := 3#32
  let v25 : Index := Scalar.indexCast c3_i32
  let c0_i32_1 : BitVec 32 := 0#32
  let c1_i32_2 : BitVec 32 := 1#32
  let arg7 : BitVec 32 := Scf.iv c0_i32_1 c1_i32_2 k0_t1
  let c16_i32_18 : BitVec 32 := 16#32
  let v24 : BitVec 32 := Scalar.muli arg7 c16_i32_18
  let v26 : Index := Scalar.indexCast v24
  ![3, v26.toNat]
def k0_off5 (k0_t1 : Fin k0_t1_loop.trips) : Fin 2 → Nat :=
  let c4_i32 : BitVec 32 := 4#32
  let v29 : Index := Scalar.indexCast c4_i32
  let c0_i32_1 : BitVec 32 := 0#32
  let c1_i32_2 : BitVec 32 := 1#32
  let arg7 : BitVec 32 := Scf.iv c0_i32_1 c1_i32_2 k0_t1
  let c16_i32_19 : BitVec 32 := 16#32
  let v28 : BitVec 32 := Scalar.muli arg7 c16_i32_19
  let v30 : Index := Scalar.indexCast v28
  ![4, v30.toNat]
def k0_off6 (k0_t1 : Fin k0_t1_loop.trips) : Fin 2 → Nat :=
  let c5_i32 : BitVec 32 := 5#32
  let v33 : Index := Scalar.indexCast c5_i32
  let c0_i32_1 : BitVec 32 := 0#32
  let c1_i32_2 : BitVec 32 := 1#32
  let arg7 : BitVec 32 := Scf.iv c0_i32_1 c1_i32_2 k0_t1
  let c16_i32_20 : BitVec 32 := 16#32
  let v32 : BitVec 32 := Scalar.muli arg7 c16_i32_20
  let v34 : Index := Scalar.indexCast v32
  ![5, v34.toNat]
def k0_off7 (k0_t1 : Fin k0_t1_loop.trips) : Fin 2 → Nat :=
  let c6_i32 : BitVec 32 := 6#32
  let v37 : Index := Scalar.indexCast c6_i32
  let c0_i32_1 : BitVec 32 := 0#32
  let c1_i32_2 : BitVec 32 := 1#32
  let arg7 : BitVec 32 := Scf.iv c0_i32_1 c1_i32_2 k0_t1
  let c16_i32_21 : BitVec 32 := 16#32
  let v36 : BitVec 32 := Scalar.muli arg7 c16_i32_21
  let v38 : Index := Scalar.indexCast v36
  ![6, v38.toNat]
def k0_off8 (k0_t1 : Fin k0_t1_loop.trips) : Fin 2 → Nat :=
  let c7_i32 : BitVec 32 := 7#32
  let v41 : Index := Scalar.indexCast c7_i32
  let c0_i32_1 : BitVec 32 := 0#32
  let c1_i32_2 : BitVec 32 := 1#32
  let arg7 : BitVec 32 := Scf.iv c0_i32_1 c1_i32_2 k0_t1
  let c16_i32_22 : BitVec 32 := 16#32
  let v40 : BitVec 32 := Scalar.muli arg7 c16_i32_22
  let v42 : Index := Scalar.indexCast v40
  ![7, v42.toNat]
def k0_off9 (k0_t1 : Fin k0_t1_loop.trips) : Fin 2 → Nat :=
  let c8_i32_24 : BitVec 32 := 8#32
  let v45 : Index := Scalar.indexCast c8_i32_24
  let c0_i32_1 : BitVec 32 := 0#32
  let c1_i32_2 : BitVec 32 := 1#32
  let arg7 : BitVec 32 := Scf.iv c0_i32_1 c1_i32_2 k0_t1
  let c16_i32_23 : BitVec 32 := 16#32
  let v44 : BitVec 32 := Scalar.muli arg7 c16_i32_23
  let v46 : Index := Scalar.indexCast v44
  ![8, v46.toNat]
def k0_off10 (k0_t1 : Fin k0_t1_loop.trips) : Fin 2 → Nat :=
  let c9_i32 : BitVec 32 := 9#32
  let v49 : Index := Scalar.indexCast c9_i32
  let c0_i32_1 : BitVec 32 := 0#32
  let c1_i32_2 : BitVec 32 := 1#32
  let arg7 : BitVec 32 := Scf.iv c0_i32_1 c1_i32_2 k0_t1
  let c16_i32_25 : BitVec 32 := 16#32
  let v48 : BitVec 32 := Scalar.muli arg7 c16_i32_25
  let v50 : Index := Scalar.indexCast v48
  ![9, v50.toNat]
def k0_off11 (k0_t1 : Fin k0_t1_loop.trips) : Fin 2 → Nat :=
  let c10_i32 : BitVec 32 := 10#32
  let v53 : Index := Scalar.indexCast c10_i32
  let c0_i32_1 : BitVec 32 := 0#32
  let c1_i32_2 : BitVec 32 := 1#32
  let arg7 : BitVec 32 := Scf.iv c0_i32_1 c1_i32_2 k0_t1
  let c16_i32_26 : BitVec 32 := 16#32
  let v52 : BitVec 32 := Scalar.muli arg7 c16_i32_26
  let v54 : Index := Scalar.indexCast v52
  ![10, v54.toNat]
def k0_off12 (k0_t1 : Fin k0_t1_loop.trips) : Fin 2 → Nat :=
  let c11_i32 : BitVec 32 := 11#32
  let v57 : Index := Scalar.indexCast c11_i32
  let c0_i32_1 : BitVec 32 := 0#32
  let c1_i32_2 : BitVec 32 := 1#32
  let arg7 : BitVec 32 := Scf.iv c0_i32_1 c1_i32_2 k0_t1
  let c16_i32_27 : BitVec 32 := 16#32
  let v56 : BitVec 32 := Scalar.muli arg7 c16_i32_27
  let v58 : Index := Scalar.indexCast v56
  ![11, v58.toNat]
def k0_off13 (k0_t1 : Fin k0_t1_loop.trips) : Fin 2 → Nat :=
  let c12_i32 : BitVec 32 := 12#32
  let v61 : Index := Scalar.indexCast c12_i32
  let c0_i32_1 : BitVec 32 := 0#32
  let c1_i32_2 : BitVec 32 := 1#32
  let arg7 : BitVec 32 := Scf.iv c0_i32_1 c1_i32_2 k0_t1
  let c16_i32_28 : BitVec 32 := 16#32
  let v60 : BitVec 32 := Scalar.muli arg7 c16_i32_28
  let v62 : Index := Scalar.indexCast v60
  ![12, v62.toNat]
def k0_off14 (k0_t1 : Fin k0_t1_loop.trips) : Fin 2 → Nat :=
  let c13_i32 : BitVec 32 := 13#32
  let v65 : Index := Scalar.indexCast c13_i32
  let c0_i32_1 : BitVec 32 := 0#32
  let c1_i32_2 : BitVec 32 := 1#32
  let arg7 : BitVec 32 := Scf.iv c0_i32_1 c1_i32_2 k0_t1
  let c16_i32_29 : BitVec 32 := 16#32
  let v64 : BitVec 32 := Scalar.muli arg7 c16_i32_29
  let v66 : Index := Scalar.indexCast v64
  ![13, v66.toNat]
def k0_off15 (k0_t1 : Fin k0_t1_loop.trips) : Fin 2 → Nat :=
  let c14_i32 : BitVec 32 := 14#32
  let v69 : Index := Scalar.indexCast c14_i32
  let c0_i32_1 : BitVec 32 := 0#32
  let c1_i32_2 : BitVec 32 := 1#32
  let arg7 : BitVec 32 := Scf.iv c0_i32_1 c1_i32_2 k0_t1
  let c16_i32_30 : BitVec 32 := 16#32
  let v68 : BitVec 32 := Scalar.muli arg7 c16_i32_30
  let v70 : Index := Scalar.indexCast v68
  ![14, v70.toNat]
def k0_off16 (k0_t1 : Fin k0_t1_loop.trips) : Fin 2 → Nat :=
  let c15_i32 : BitVec 32 := 15#32
  let v73 : Index := Scalar.indexCast c15_i32
  let c0_i32_1 : BitVec 32 := 0#32
  let c1_i32_2 : BitVec 32 := 1#32
  let arg7 : BitVec 32 := Scf.iv c0_i32_1 c1_i32_2 k0_t1
  let c16_i32_31 : BitVec 32 := 16#32
  let v72 : BitVec 32 := Scalar.muli arg7 c16_i32_31
  let v74 : Index := Scalar.indexCast v72
  ![15, v74.toNat]
@[reducible] def k0_t2_loop : Scf.Loop 32 :=
  let c0_i32_5 : BitVec 32 := 0#32
  let c8_i32 : BitVec 32 := 8#32
  let v8 : BitVec 32 := Scalar.addi c0_i32_5 c8_i32
  let c1_i32_6 : BitVec 32 := 1#32
  ⟨c0_i32_5, v8, c1_i32_6⟩
def k0_off17 (i : grid0.Coords) (k0_t2 : Fin k0_t2_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c131072_i32 : BitVec 32 := 131072#32
  let v2 : BitVec 32 := Scalar.muli v1 c131072_i32
  let c0_i32_5 : BitVec 32 := 0#32
  let c1_i32_6 : BitVec 32 := 1#32
  let arg7 : BitVec 32 := Scf.iv c0_i32_5 c1_i32_6 k0_t2
  let c16384_i32 : BitVec 32 := 16384#32
  let v12 : BitVec 32 := Scalar.muli arg7 c16384_i32
  let v13 : BitVec 32 := Scalar.addi v2 v12
  ![v13.toNat]
@[reducible] def k0_t3_loop : Scf.Loop 32 :=
  let c0_i32_14 : BitVec 32 := 0#32
  let c128_i32 : BitVec 32 := 128#32
  let v14 : BitVec 32 := Scalar.addi c0_i32_14 c128_i32
  let c1_i32_15 : BitVec 32 := 1#32
  ⟨c0_i32_14, v14, c1_i32_15⟩
def k0_off18 (k0_t3 : Fin k0_t3_loop.trips) : Fin 1 → Nat :=
  let c0_i32_14 : BitVec 32 := 0#32
  let c1_i32_15 : BitVec 32 := 1#32
  let arg9 : BitVec 32 := Scf.iv c0_i32_14 c1_i32_15 k0_t3
  let c128_i32_18 : BitVec 32 := 128#32
  let v16 : BitVec 32 := Scalar.muli arg9 c128_i32_18
  let c0_i32_19 : BitVec 32 := 0#32
  let v17 : BitVec 32 := Scalar.addi v16 c0_i32_19
  let v18 : Index := Scalar.indexCast v17
  ![v18.toNat]

def k0_chk1 (v3 : IVec S16 32) (v24 : IVec S16 32) : Prop :=
  (∀ a x, ((![v3, v24] : Fin 2 → IVec S16 32) a x).toNat < S16x4096.size a)
theorem k0_idx1_inb : ∀ (v3 : IVec S16 32) (v24 : IVec S16 32) (k0_hw1 : k0_chk1 v3 v24), ∀ a x, ((![v3, v24] : Fin 2 → IVec S16 32) a x).toNat < S16x4096.size a := fun v3 v24 k0_hw1 => k0_hw1
def k0_off19 (k0_t3 : Fin k0_t3_loop.trips) : Fin 1 → Nat :=
  let c0_i32_14 : BitVec 32 := 0#32
  let c1_i32_15 : BitVec 32 := 1#32
  let arg9 : BitVec 32 := Scf.iv c0_i32_14 c1_i32_15 k0_t3
  let c128_i32_20 : BitVec 32 := 128#32
  let v25 : BitVec 32 := Scalar.muli arg9 c128_i32_20
  let c16_i32 : BitVec 32 := 16#32
  let v26 : BitVec 32 := Scalar.addi v25 c16_i32
  let v27 : Index := Scalar.indexCast v26
  ![v27.toNat]

def k0_chk2 (v3 : IVec S16 32) (v33 : IVec S16 32) : Prop :=
  (∀ a x, ((![v3, v33] : Fin 2 → IVec S16 32) a x).toNat < S16x4096.size a)
theorem k0_idx2_inb : ∀ (v3 : IVec S16 32) (v33 : IVec S16 32) (k0_hw2 : k0_chk2 v3 v33), ∀ a x, ((![v3, v33] : Fin 2 → IVec S16 32) a x).toNat < S16x4096.size a := fun v3 v33 k0_hw2 => k0_hw2
def k0_off20 (k0_t3 : Fin k0_t3_loop.trips) : Fin 1 → Nat :=
  let c0_i32_14 : BitVec 32 := 0#32
  let c1_i32_15 : BitVec 32 := 1#32
  let arg9 : BitVec 32 := Scf.iv c0_i32_14 c1_i32_15 k0_t3
  let c128_i32_23 : BitVec 32 := 128#32
  let v34 : BitVec 32 := Scalar.muli arg9 c128_i32_23
  let c32_i32 : BitVec 32 := 32#32
  let v35 : BitVec 32 := Scalar.addi v34 c32_i32
  let v36 : Index := Scalar.indexCast v35
  ![v36.toNat]

def k0_chk3 (v3 : IVec S16 32) (v42 : IVec S16 32) : Prop :=
  (∀ a x, ((![v3, v42] : Fin 2 → IVec S16 32) a x).toNat < S16x4096.size a)
theorem k0_idx3_inb : ∀ (v3 : IVec S16 32) (v42 : IVec S16 32) (k0_hw3 : k0_chk3 v3 v42), ∀ a x, ((![v3, v42] : Fin 2 → IVec S16 32) a x).toNat < S16x4096.size a := fun v3 v42 k0_hw3 => k0_hw3
def k0_off21 (k0_t3 : Fin k0_t3_loop.trips) : Fin 1 → Nat :=
  let c0_i32_14 : BitVec 32 := 0#32
  let c1_i32_15 : BitVec 32 := 1#32
  let arg9 : BitVec 32 := Scf.iv c0_i32_14 c1_i32_15 k0_t3
  let c128_i32_26 : BitVec 32 := 128#32
  let v43 : BitVec 32 := Scalar.muli arg9 c128_i32_26
  let c48_i32 : BitVec 32 := 48#32
  let v44 : BitVec 32 := Scalar.addi v43 c48_i32
  let v45 : Index := Scalar.indexCast v44
  ![v45.toNat]

def k0_chk4 (v3 : IVec S16 32) (v51 : IVec S16 32) : Prop :=
  (∀ a x, ((![v3, v51] : Fin 2 → IVec S16 32) a x).toNat < S16x4096.size a)
theorem k0_idx4_inb : ∀ (v3 : IVec S16 32) (v51 : IVec S16 32) (k0_hw4 : k0_chk4 v3 v51), ∀ a x, ((![v3, v51] : Fin 2 → IVec S16 32) a x).toNat < S16x4096.size a := fun v3 v51 k0_hw4 => k0_hw4
def k0_off22 (k0_t3 : Fin k0_t3_loop.trips) : Fin 1 → Nat :=
  let c0_i32_14 : BitVec 32 := 0#32
  let c1_i32_15 : BitVec 32 := 1#32
  let arg9 : BitVec 32 := Scf.iv c0_i32_14 c1_i32_15 k0_t3
  let c128_i32_29 : BitVec 32 := 128#32
  let v52 : BitVec 32 := Scalar.muli arg9 c128_i32_29
  let c64_i32 : BitVec 32 := 64#32
  let v53 : BitVec 32 := Scalar.addi v52 c64_i32
  let v54 : Index := Scalar.indexCast v53
  ![v54.toNat]

def k0_chk5 (v3 : IVec S16 32) (v60 : IVec S16 32) : Prop :=
  (∀ a x, ((![v3, v60] : Fin 2 → IVec S16 32) a x).toNat < S16x4096.size a)
theorem k0_idx5_inb : ∀ (v3 : IVec S16 32) (v60 : IVec S16 32) (k0_hw5 : k0_chk5 v3 v60), ∀ a x, ((![v3, v60] : Fin 2 → IVec S16 32) a x).toNat < S16x4096.size a := fun v3 v60 k0_hw5 => k0_hw5
def k0_off23 (k0_t3 : Fin k0_t3_loop.trips) : Fin 1 → Nat :=
  let c0_i32_14 : BitVec 32 := 0#32
  let c1_i32_15 : BitVec 32 := 1#32
  let arg9 : BitVec 32 := Scf.iv c0_i32_14 c1_i32_15 k0_t3
  let c128_i32_32 : BitVec 32 := 128#32
  let v61 : BitVec 32 := Scalar.muli arg9 c128_i32_32
  let c80_i32 : BitVec 32 := 80#32
  let v62 : BitVec 32 := Scalar.addi v61 c80_i32
  let v63 : Index := Scalar.indexCast v62
  ![v63.toNat]

def k0_chk6 (v3 : IVec S16 32) (v69 : IVec S16 32) : Prop :=
  (∀ a x, ((![v3, v69] : Fin 2 → IVec S16 32) a x).toNat < S16x4096.size a)
theorem k0_idx6_inb : ∀ (v3 : IVec S16 32) (v69 : IVec S16 32) (k0_hw6 : k0_chk6 v3 v69), ∀ a x, ((![v3, v69] : Fin 2 → IVec S16 32) a x).toNat < S16x4096.size a := fun v3 v69 k0_hw6 => k0_hw6
def k0_off24 (k0_t3 : Fin k0_t3_loop.trips) : Fin 1 → Nat :=
  let c0_i32_14 : BitVec 32 := 0#32
  let c1_i32_15 : BitVec 32 := 1#32
  let arg9 : BitVec 32 := Scf.iv c0_i32_14 c1_i32_15 k0_t3
  let c128_i32_35 : BitVec 32 := 128#32
  let v70 : BitVec 32 := Scalar.muli arg9 c128_i32_35
  let c96_i32 : BitVec 32 := 96#32
  let v71 : BitVec 32 := Scalar.addi v70 c96_i32
  let v72 : Index := Scalar.indexCast v71
  ![v72.toNat]

def k0_chk7 (v3 : IVec S16 32) (v78 : IVec S16 32) : Prop :=
  (∀ a x, ((![v3, v78] : Fin 2 → IVec S16 32) a x).toNat < S16x4096.size a)
theorem k0_idx7_inb : ∀ (v3 : IVec S16 32) (v78 : IVec S16 32) (k0_hw7 : k0_chk7 v3 v78), ∀ a x, ((![v3, v78] : Fin 2 → IVec S16 32) a x).toNat < S16x4096.size a := fun v3 v78 k0_hw7 => k0_hw7
def k0_off25 (k0_t3 : Fin k0_t3_loop.trips) : Fin 1 → Nat :=
  let c0_i32_14 : BitVec 32 := 0#32
  let c1_i32_15 : BitVec 32 := 1#32
  let arg9 : BitVec 32 := Scf.iv c0_i32_14 c1_i32_15 k0_t3
  let c128_i32_38 : BitVec 32 := 128#32
  let v79 : BitVec 32 := Scalar.muli arg9 c128_i32_38
  let c112_i32 : BitVec 32 := 112#32
  let v80 : BitVec 32 := Scalar.addi v79 c112_i32
  let v81 : Index := Scalar.indexCast v80
  ![v81.toNat]

def k0_chk8 (v3 : IVec S16 32) (v87 : IVec S16 32) : Prop :=
  (∀ a x, ((![v3, v87] : Fin 2 → IVec S16 32) a x).toNat < S16x4096.size a)
theorem k0_idx8_inb : ∀ (v3 : IVec S16 32) (v87 : IVec S16 32) (k0_hw8 : k0_chk8 v3 v87), ∀ a x, ((![v3, v87] : Fin 2 → IVec S16 32) a x).toNat < S16x4096.size a := fun v3 v87 k0_hw8 => k0_hw8
@[reducible] def k0_t4_loop : Scf.Loop 32 :=
  let c0_i32_9 : BitVec 32 := 0#32
  let c256_i32_10 : BitVec 32 := 256#32
  let v10 : BitVec 32 := Scalar.addi c0_i32_9 c256_i32_10
  let c1_i32_11 : BitVec 32 := 1#32
  ⟨c0_i32_9, v10, c1_i32_11⟩
def k0_off26 (k0_t4 : Fin k0_t4_loop.trips) : Fin 2 → Nat :=
  let c0_i32_13 : BitVec 32 := 0#32
  let v13 : Index := Scalar.indexCast c0_i32_13
  let c0_i32_9 : BitVec 32 := 0#32
  let c1_i32_11 : BitVec 32 := 1#32
  let arg7 : BitVec 32 := Scf.iv c0_i32_9 c1_i32_11 k0_t4
  let c16_i32 : BitVec 32 := 16#32
  let v12 : BitVec 32 := Scalar.muli arg7 c16_i32
  let v14 : Index := Scalar.indexCast v12
  ![0, v14.toNat]
def k0_off27 (k0_t4 : Fin k0_t4_loop.trips) : Fin 2 → Nat :=
  let c1_i32_15 : BitVec 32 := 1#32
  let v17 : Index := Scalar.indexCast c1_i32_15
  let c0_i32_9 : BitVec 32 := 0#32
  let c1_i32_11 : BitVec 32 := 1#32
  let arg7 : BitVec 32 := Scf.iv c0_i32_9 c1_i32_11 k0_t4
  let c16_i32_14 : BitVec 32 := 16#32
  let v16 : BitVec 32 := Scalar.muli arg7 c16_i32_14
  let v18 : Index := Scalar.indexCast v16
  ![1, v18.toNat]
def k0_off28 (k0_t4 : Fin k0_t4_loop.trips) : Fin 2 → Nat :=
  let c2_i32_17 : BitVec 32 := 2#32
  let v22 : Index := Scalar.indexCast c2_i32_17
  let c0_i32_9 : BitVec 32 := 0#32
  let c1_i32_11 : BitVec 32 := 1#32
  let arg7 : BitVec 32 := Scf.iv c0_i32_9 c1_i32_11 k0_t4
  let c16_i32_16 : BitVec 32 := 16#32
  let v21 : BitVec 32 := Scalar.muli arg7 c16_i32_16
  let v23 : Index := Scalar.indexCast v21
  ![2, v23.toNat]
def k0_off29 (k0_t4 : Fin k0_t4_loop.trips) : Fin 2 → Nat :=
  let c3_i32 : BitVec 32 := 3#32
  let v27 : Index := Scalar.indexCast c3_i32
  let c0_i32_9 : BitVec 32 := 0#32
  let c1_i32_11 : BitVec 32 := 1#32
  let arg7 : BitVec 32 := Scf.iv c0_i32_9 c1_i32_11 k0_t4
  let c16_i32_18 : BitVec 32 := 16#32
  let v26 : BitVec 32 := Scalar.muli arg7 c16_i32_18
  let v28 : Index := Scalar.indexCast v26
  ![3, v28.toNat]
def k0_off30 (k0_t4 : Fin k0_t4_loop.trips) : Fin 2 → Nat :=
  let c4_i32 : BitVec 32 := 4#32
  let v32 : Index := Scalar.indexCast c4_i32
  let c0_i32_9 : BitVec 32 := 0#32
  let c1_i32_11 : BitVec 32 := 1#32
  let arg7 : BitVec 32 := Scf.iv c0_i32_9 c1_i32_11 k0_t4
  let c16_i32_19 : BitVec 32 := 16#32
  let v31 : BitVec 32 := Scalar.muli arg7 c16_i32_19
  let v33 : Index := Scalar.indexCast v31
  ![4, v33.toNat]
def k0_off31 (k0_t4 : Fin k0_t4_loop.trips) : Fin 2 → Nat :=
  let c5_i32 : BitVec 32 := 5#32
  let v37 : Index := Scalar.indexCast c5_i32
  let c0_i32_9 : BitVec 32 := 0#32
  let c1_i32_11 : BitVec 32 := 1#32
  let arg7 : BitVec 32 := Scf.iv c0_i32_9 c1_i32_11 k0_t4
  let c16_i32_20 : BitVec 32 := 16#32
  let v36 : BitVec 32 := Scalar.muli arg7 c16_i32_20
  let v38 : Index := Scalar.indexCast v36
  ![5, v38.toNat]
def k0_off32 (k0_t4 : Fin k0_t4_loop.trips) : Fin 2 → Nat :=
  let c6_i32 : BitVec 32 := 6#32
  let v42 : Index := Scalar.indexCast c6_i32
  let c0_i32_9 : BitVec 32 := 0#32
  let c1_i32_11 : BitVec 32 := 1#32
  let arg7 : BitVec 32 := Scf.iv c0_i32_9 c1_i32_11 k0_t4
  let c16_i32_21 : BitVec 32 := 16#32
  let v41 : BitVec 32 := Scalar.muli arg7 c16_i32_21
  let v43 : Index := Scalar.indexCast v41
  ![6, v43.toNat]
def k0_off33 (k0_t4 : Fin k0_t4_loop.trips) : Fin 2 → Nat :=
  let c7_i32 : BitVec 32 := 7#32
  let v47 : Index := Scalar.indexCast c7_i32
  let c0_i32_9 : BitVec 32 := 0#32
  let c1_i32_11 : BitVec 32 := 1#32
  let arg7 : BitVec 32 := Scf.iv c0_i32_9 c1_i32_11 k0_t4
  let c16_i32_22 : BitVec 32 := 16#32
  let v46 : BitVec 32 := Scalar.muli arg7 c16_i32_22
  let v48 : Index := Scalar.indexCast v46
  ![7, v48.toNat]
def k0_off34 (k0_t4 : Fin k0_t4_loop.trips) : Fin 2 → Nat :=
  let c8_i32_24 : BitVec 32 := 8#32
  let v52 : Index := Scalar.indexCast c8_i32_24
  let c0_i32_9 : BitVec 32 := 0#32
  let c1_i32_11 : BitVec 32 := 1#32
  let arg7 : BitVec 32 := Scf.iv c0_i32_9 c1_i32_11 k0_t4
  let c16_i32_23 : BitVec 32 := 16#32
  let v51 : BitVec 32 := Scalar.muli arg7 c16_i32_23
  let v53 : Index := Scalar.indexCast v51
  ![8, v53.toNat]
def k0_off35 (k0_t4 : Fin k0_t4_loop.trips) : Fin 2 → Nat :=
  let c9_i32 : BitVec 32 := 9#32
  let v57 : Index := Scalar.indexCast c9_i32
  let c0_i32_9 : BitVec 32 := 0#32
  let c1_i32_11 : BitVec 32 := 1#32
  let arg7 : BitVec 32 := Scf.iv c0_i32_9 c1_i32_11 k0_t4
  let c16_i32_25 : BitVec 32 := 16#32
  let v56 : BitVec 32 := Scalar.muli arg7 c16_i32_25
  let v58 : Index := Scalar.indexCast v56
  ![9, v58.toNat]
def k0_off36 (k0_t4 : Fin k0_t4_loop.trips) : Fin 2 → Nat :=
  let c10_i32 : BitVec 32 := 10#32
  let v62 : Index := Scalar.indexCast c10_i32
  let c0_i32_9 : BitVec 32 := 0#32
  let c1_i32_11 : BitVec 32 := 1#32
  let arg7 : BitVec 32 := Scf.iv c0_i32_9 c1_i32_11 k0_t4
  let c16_i32_26 : BitVec 32 := 16#32
  let v61 : BitVec 32 := Scalar.muli arg7 c16_i32_26
  let v63 : Index := Scalar.indexCast v61
  ![10, v63.toNat]
def k0_off37 (k0_t4 : Fin k0_t4_loop.trips) : Fin 2 → Nat :=
  let c11_i32 : BitVec 32 := 11#32
  let v67 : Index := Scalar.indexCast c11_i32
  let c0_i32_9 : BitVec 32 := 0#32
  let c1_i32_11 : BitVec 32 := 1#32
  let arg7 : BitVec 32 := Scf.iv c0_i32_9 c1_i32_11 k0_t4
  let c16_i32_27 : BitVec 32 := 16#32
  let v66 : BitVec 32 := Scalar.muli arg7 c16_i32_27
  let v68 : Index := Scalar.indexCast v66
  ![11, v68.toNat]
def k0_off38 (k0_t4 : Fin k0_t4_loop.trips) : Fin 2 → Nat :=
  let c12_i32 : BitVec 32 := 12#32
  let v72 : Index := Scalar.indexCast c12_i32
  let c0_i32_9 : BitVec 32 := 0#32
  let c1_i32_11 : BitVec 32 := 1#32
  let arg7 : BitVec 32 := Scf.iv c0_i32_9 c1_i32_11 k0_t4
  let c16_i32_28 : BitVec 32 := 16#32
  let v71 : BitVec 32 := Scalar.muli arg7 c16_i32_28
  let v73 : Index := Scalar.indexCast v71
  ![12, v73.toNat]
def k0_off39 (k0_t4 : Fin k0_t4_loop.trips) : Fin 2 → Nat :=
  let c13_i32 : BitVec 32 := 13#32
  let v77 : Index := Scalar.indexCast c13_i32
  let c0_i32_9 : BitVec 32 := 0#32
  let c1_i32_11 : BitVec 32 := 1#32
  let arg7 : BitVec 32 := Scf.iv c0_i32_9 c1_i32_11 k0_t4
  let c16_i32_29 : BitVec 32 := 16#32
  let v76 : BitVec 32 := Scalar.muli arg7 c16_i32_29
  let v78 : Index := Scalar.indexCast v76
  ![13, v78.toNat]
def k0_off40 (k0_t4 : Fin k0_t4_loop.trips) : Fin 2 → Nat :=
  let c14_i32 : BitVec 32 := 14#32
  let v82 : Index := Scalar.indexCast c14_i32
  let c0_i32_9 : BitVec 32 := 0#32
  let c1_i32_11 : BitVec 32 := 1#32
  let arg7 : BitVec 32 := Scf.iv c0_i32_9 c1_i32_11 k0_t4
  let c16_i32_30 : BitVec 32 := 16#32
  let v81 : BitVec 32 := Scalar.muli arg7 c16_i32_30
  let v83 : Index := Scalar.indexCast v81
  ![14, v83.toNat]
def k0_off41 (k0_t4 : Fin k0_t4_loop.trips) : Fin 2 → Nat :=
  let c15_i32 : BitVec 32 := 15#32
  let v87 : Index := Scalar.indexCast c15_i32
  let c0_i32_9 : BitVec 32 := 0#32
  let c1_i32_11 : BitVec 32 := 1#32
  let arg7 : BitVec 32 := Scf.iv c0_i32_9 c1_i32_11 k0_t4
  let c16_i32_31 : BitVec 32 := 16#32
  let v86 : BitVec 32 := Scalar.muli arg7 c16_i32_31
  let v88 : Index := Scalar.indexCast v86
  ![15, v88.toNat]
def k0_off42 (k0_t4 : Fin k0_t4_loop.trips) : Fin 2 → Nat :=
  let c0_i32_9 : BitVec 32 := 0#32
  let c1_i32_11 : BitVec 32 := 1#32
  let arg7 : BitVec 32 := Scf.iv c0_i32_9 c1_i32_11 k0_t4
  let c3_i32_32 : BitVec 32 := 3#32
  let v91 : BitVec 32 := Scalar.shrsi arg7 c3_i32_32
  let v94 : Index := Scalar.indexCast v91
  let c7_i32_33 : BitVec 32 := 7#32
  let v92 : BitVec 32 := Scalar.andi arg7 c7_i32_33
  let c16_i32_34 : BitVec 32 := 16#32
  let v93 : BitVec 32 := Scalar.muli v92 c16_i32_34
  let v95 : Index := Scalar.indexCast v93
  ![v94.toNat, v95.toNat]
def k0_off43 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_13_r1 : BitVec 32 := 0#32
  let c0_i32_14_r1 : BitVec 32 := 0#32
  ![v1.toNat, 0, 0]
abbrev grid1 : Pipeline.Grid := ⟨2, ![2, 16], ![false, false]⟩

@[reducible] def k1_t1_loop : Scf.Loop 32 :=
  let c0_i32_1 : BitVec 32 := 0#32
  let c256_i32 : BitVec 32 := 256#32
  let v7 : BitVec 32 := Scalar.addi c0_i32_1 c256_i32
  let c1_i32_2 : BitVec 32 := 1#32
  ⟨c0_i32_1, v7, c1_i32_2⟩
def k1_off1 (k1_t1 : Fin k1_t1_loop.trips) : Fin 2 → Nat :=
  let c0_i32_13 : BitVec 32 := 0#32
  let v14 : Index := Scalar.indexCast c0_i32_13
  let c0_i32_1 : BitVec 32 := 0#32
  let c1_i32_2 : BitVec 32 := 1#32
  let arg9 : BitVec 32 := Scf.iv c0_i32_1 c1_i32_2 k1_t1
  let c16_i32 : BitVec 32 := 16#32
  let v13 : BitVec 32 := Scalar.muli arg9 c16_i32
  let v15 : Index := Scalar.indexCast v13
  ![0, v15.toNat]
def k1_off2 (k1_t1 : Fin k1_t1_loop.trips) : Fin 2 → Nat :=
  let c1_i32_15 : BitVec 32 := 1#32
  let v18 : Index := Scalar.indexCast c1_i32_15
  let c0_i32_1 : BitVec 32 := 0#32
  let c1_i32_2 : BitVec 32 := 1#32
  let arg9 : BitVec 32 := Scf.iv c0_i32_1 c1_i32_2 k1_t1
  let c16_i32_14 : BitVec 32 := 16#32
  let v17 : BitVec 32 := Scalar.muli arg9 c16_i32_14
  let v19 : Index := Scalar.indexCast v17
  ![1, v19.toNat]
def k1_off3 (k1_t1 : Fin k1_t1_loop.trips) : Fin 2 → Nat :=
  let c2_i32_17 : BitVec 32 := 2#32
  let v22 : Index := Scalar.indexCast c2_i32_17
  let c0_i32_1 : BitVec 32 := 0#32
  let c1_i32_2 : BitVec 32 := 1#32
  let arg9 : BitVec 32 := Scf.iv c0_i32_1 c1_i32_2 k1_t1
  let c16_i32_16 : BitVec 32 := 16#32
  let v21 : BitVec 32 := Scalar.muli arg9 c16_i32_16
  let v23 : Index := Scalar.indexCast v21
  ![2, v23.toNat]
def k1_off4 (k1_t1 : Fin k1_t1_loop.trips) : Fin 2 → Nat :=
  let c3_i32 : BitVec 32 := 3#32
  let v26 : Index := Scalar.indexCast c3_i32
  let c0_i32_1 : BitVec 32 := 0#32
  let c1_i32_2 : BitVec 32 := 1#32
  let arg9 : BitVec 32 := Scf.iv c0_i32_1 c1_i32_2 k1_t1
  let c16_i32_18 : BitVec 32 := 16#32
  let v25 : BitVec 32 := Scalar.muli arg9 c16_i32_18
  let v27 : Index := Scalar.indexCast v25
  ![3, v27.toNat]
def k1_off5 (k1_t1 : Fin k1_t1_loop.trips) : Fin 2 → Nat :=
  let c4_i32 : BitVec 32 := 4#32
  let v30 : Index := Scalar.indexCast c4_i32
  let c0_i32_1 : BitVec 32 := 0#32
  let c1_i32_2 : BitVec 32 := 1#32
  let arg9 : BitVec 32 := Scf.iv c0_i32_1 c1_i32_2 k1_t1
  let c16_i32_19 : BitVec 32 := 16#32
  let v29 : BitVec 32 := Scalar.muli arg9 c16_i32_19
  let v31 : Index := Scalar.indexCast v29
  ![4, v31.toNat]
def k1_off6 (k1_t1 : Fin k1_t1_loop.trips) : Fin 2 → Nat :=
  let c5_i32 : BitVec 32 := 5#32
  let v34 : Index := Scalar.indexCast c5_i32
  let c0_i32_1 : BitVec 32 := 0#32
  let c1_i32_2 : BitVec 32 := 1#32
  let arg9 : BitVec 32 := Scf.iv c0_i32_1 c1_i32_2 k1_t1
  let c16_i32_20 : BitVec 32 := 16#32
  let v33 : BitVec 32 := Scalar.muli arg9 c16_i32_20
  let v35 : Index := Scalar.indexCast v33
  ![5, v35.toNat]
def k1_off7 (k1_t1 : Fin k1_t1_loop.trips) : Fin 2 → Nat :=
  let c6_i32 : BitVec 32 := 6#32
  let v38 : Index := Scalar.indexCast c6_i32
  let c0_i32_1 : BitVec 32 := 0#32
  let c1_i32_2 : BitVec 32 := 1#32
  let arg9 : BitVec 32 := Scf.iv c0_i32_1 c1_i32_2 k1_t1
  let c16_i32_21 : BitVec 32 := 16#32
  let v37 : BitVec 32 := Scalar.muli arg9 c16_i32_21
  let v39 : Index := Scalar.indexCast v37
  ![6, v39.toNat]
def k1_off8 (k1_t1 : Fin k1_t1_loop.trips) : Fin 2 → Nat :=
  let c7_i32 : BitVec 32 := 7#32
  let v42 : Index := Scalar.indexCast c7_i32
  let c0_i32_1 : BitVec 32 := 0#32
  let c1_i32_2 : BitVec 32 := 1#32
  let arg9 : BitVec 32 := Scf.iv c0_i32_1 c1_i32_2 k1_t1
  let c16_i32_22 : BitVec 32 := 16#32
  let v41 : BitVec 32 := Scalar.muli arg9 c16_i32_22
  let v43 : Index := Scalar.indexCast v41
  ![7, v43.toNat]
def k1_off9 (k1_t1 : Fin k1_t1_loop.trips) : Fin 2 → Nat :=
  let c8_i32_24 : BitVec 32 := 8#32
  let v46 : Index := Scalar.indexCast c8_i32_24
  let c0_i32_1 : BitVec 32 := 0#32
  let c1_i32_2 : BitVec 32 := 1#32
  let arg9 : BitVec 32 := Scf.iv c0_i32_1 c1_i32_2 k1_t1
  let c16_i32_23 : BitVec 32 := 16#32
  let v45 : BitVec 32 := Scalar.muli arg9 c16_i32_23
  let v47 : Index := Scalar.indexCast v45
  ![8, v47.toNat]
def k1_off10 (k1_t1 : Fin k1_t1_loop.trips) : Fin 2 → Nat :=
  let c9_i32 : BitVec 32 := 9#32
  let v50 : Index := Scalar.indexCast c9_i32
  let c0_i32_1 : BitVec 32 := 0#32
  let c1_i32_2 : BitVec 32 := 1#32
  let arg9 : BitVec 32 := Scf.iv c0_i32_1 c1_i32_2 k1_t1
  let c16_i32_25 : BitVec 32 := 16#32
  let v49 : BitVec 32 := Scalar.muli arg9 c16_i32_25
  let v51 : Index := Scalar.indexCast v49
  ![9, v51.toNat]
def k1_off11 (k1_t1 : Fin k1_t1_loop.trips) : Fin 2 → Nat :=
  let c10_i32 : BitVec 32 := 10#32
  let v54 : Index := Scalar.indexCast c10_i32
  let c0_i32_1 : BitVec 32 := 0#32
  let c1_i32_2 : BitVec 32 := 1#32
  let arg9 : BitVec 32 := Scf.iv c0_i32_1 c1_i32_2 k1_t1
  let c16_i32_26 : BitVec 32 := 16#32
  let v53 : BitVec 32 := Scalar.muli arg9 c16_i32_26
  let v55 : Index := Scalar.indexCast v53
  ![10, v55.toNat]
def k1_off12 (k1_t1 : Fin k1_t1_loop.trips) : Fin 2 → Nat :=
  let c11_i32 : BitVec 32 := 11#32
  let v58 : Index := Scalar.indexCast c11_i32
  let c0_i32_1 : BitVec 32 := 0#32
  let c1_i32_2 : BitVec 32 := 1#32
  let arg9 : BitVec 32 := Scf.iv c0_i32_1 c1_i32_2 k1_t1
  let c16_i32_27 : BitVec 32 := 16#32
  let v57 : BitVec 32 := Scalar.muli arg9 c16_i32_27
  let v59 : Index := Scalar.indexCast v57
  ![11, v59.toNat]
def k1_off13 (k1_t1 : Fin k1_t1_loop.trips) : Fin 2 → Nat :=
  let c12_i32 : BitVec 32 := 12#32
  let v62 : Index := Scalar.indexCast c12_i32
  let c0_i32_1 : BitVec 32 := 0#32
  let c1_i32_2 : BitVec 32 := 1#32
  let arg9 : BitVec 32 := Scf.iv c0_i32_1 c1_i32_2 k1_t1
  let c16_i32_28 : BitVec 32 := 16#32
  let v61 : BitVec 32 := Scalar.muli arg9 c16_i32_28
  let v63 : Index := Scalar.indexCast v61
  ![12, v63.toNat]
def k1_off14 (k1_t1 : Fin k1_t1_loop.trips) : Fin 2 → Nat :=
  let c13_i32 : BitVec 32 := 13#32
  let v66 : Index := Scalar.indexCast c13_i32
  let c0_i32_1 : BitVec 32 := 0#32
  let c1_i32_2 : BitVec 32 := 1#32
  let arg9 : BitVec 32 := Scf.iv c0_i32_1 c1_i32_2 k1_t1
  let c16_i32_29 : BitVec 32 := 16#32
  let v65 : BitVec 32 := Scalar.muli arg9 c16_i32_29
  let v67 : Index := Scalar.indexCast v65
  ![13, v67.toNat]
def k1_off15 (k1_t1 : Fin k1_t1_loop.trips) : Fin 2 → Nat :=
  let c14_i32 : BitVec 32 := 14#32
  let v70 : Index := Scalar.indexCast c14_i32
  let c0_i32_1 : BitVec 32 := 0#32
  let c1_i32_2 : BitVec 32 := 1#32
  let arg9 : BitVec 32 := Scf.iv c0_i32_1 c1_i32_2 k1_t1
  let c16_i32_30 : BitVec 32 := 16#32
  let v69 : BitVec 32 := Scalar.muli arg9 c16_i32_30
  let v71 : Index := Scalar.indexCast v69
  ![14, v71.toNat]
def k1_off16 (k1_t1 : Fin k1_t1_loop.trips) : Fin 2 → Nat :=
  let c15_i32 : BitVec 32 := 15#32
  let v74 : Index := Scalar.indexCast c15_i32
  let c0_i32_1 : BitVec 32 := 0#32
  let c1_i32_2 : BitVec 32 := 1#32
  let arg9 : BitVec 32 := Scf.iv c0_i32_1 c1_i32_2 k1_t1
  let c16_i32_31 : BitVec 32 := 16#32
  let v73 : BitVec 32 := Scalar.muli arg9 c16_i32_31
  let v75 : Index := Scalar.indexCast v73
  ![15, v75.toNat]
@[reducible] def k1_t2_loop : Scf.Loop 32 :=
  let c0_i32_5 : BitVec 32 := 0#32
  let c8_i32 : BitVec 32 := 8#32
  let v9 : BitVec 32 := Scalar.addi c0_i32_5 c8_i32
  let c1_i32_6 : BitVec 32 := 1#32
  ⟨c0_i32_5, v9, c1_i32_6⟩
def k1_off17 (i : grid1.Coords) (k1_t2 : Fin k1_t2_loop.trips) : Fin 1 → Nat :=
  let arg1 : BitVec 32 := BitVec.ofNat 32 (i 1).val
  let c2_i32 : BitVec 32 := 2#32
  let v1 : BitVec 32 := Scalar.muli arg1 c2_i32
  let arg0 : BitVec 32 := BitVec.ofNat 32 (i 0).val
  let v2 : BitVec 32 := Scalar.addi v1 arg0
  let c131072_i32 : BitVec 32 := 131072#32
  let v3 : BitVec 32 := Scalar.muli v2 c131072_i32
  let c0_i32_5 : BitVec 32 := 0#32
  let c1_i32_6 : BitVec 32 := 1#32
  let arg9 : BitVec 32 := Scf.iv c0_i32_5 c1_i32_6 k1_t2
  let c16384_i32 : BitVec 32 := 16384#32
  let v13 : BitVec 32 := Scalar.muli arg9 c16384_i32
  let v14 : BitVec 32 := Scalar.addi v3 v13
  ![v14.toNat]
@[reducible] def k1_t3_loop : Scf.Loop 32 :=
  let c0_i32_14 : BitVec 32 := 0#32
  let c128_i32 : BitVec 32 := 128#32
  let v15 : BitVec 32 := Scalar.addi c0_i32_14 c128_i32
  let c1_i32_15 : BitVec 32 := 1#32
  ⟨c0_i32_14, v15, c1_i32_15⟩
def k1_off18 (k1_t3 : Fin k1_t3_loop.trips) : Fin 1 → Nat :=
  let c0_i32_14 : BitVec 32 := 0#32
  let c1_i32_15 : BitVec 32 := 1#32
  let arg11 : BitVec 32 := Scf.iv c0_i32_14 c1_i32_15 k1_t3
  let c128_i32_18 : BitVec 32 := 128#32
  let v17 : BitVec 32 := Scalar.muli arg11 c128_i32_18
  let c0_i32_19 : BitVec 32 := 0#32
  let v18 : BitVec 32 := Scalar.addi v17 c0_i32_19
  let v19 : Index := Scalar.indexCast v18
  ![v19.toNat]

def k1_chk1 (v4 : IVec S16 32) (v30 : IVec S16 32) : Prop :=
  (∀ a x, ((![v4, v30] : Fin 2 → IVec S16 32) a x).toNat < S16x4096.size a)
theorem k1_idx1_inb : ∀ (v4 : IVec S16 32) (v30 : IVec S16 32) (k1_hw1 : k1_chk1 v4 v30), ∀ a x, ((![v4, v30] : Fin 2 → IVec S16 32) a x).toNat < S16x4096.size a := fun v4 v30 k1_hw1 => k1_hw1
def k1_off19 (k1_t3 : Fin k1_t3_loop.trips) : Fin 1 → Nat :=
  let c0_i32_14 : BitVec 32 := 0#32
  let c1_i32_15 : BitVec 32 := 1#32
  let arg11 : BitVec 32 := Scf.iv c0_i32_14 c1_i32_15 k1_t3
  let c128_i32_21 : BitVec 32 := 128#32
  let v31 : BitVec 32 := Scalar.muli arg11 c128_i32_21
  let c16_i32 : BitVec 32 := 16#32
  let v32 : BitVec 32 := Scalar.addi v31 c16_i32
  let v33 : Index := Scalar.indexCast v32
  ![v33.toNat]

def k1_chk2 (v4 : IVec S16 32) (v44 : IVec S16 32) : Prop :=
  (∀ a x, ((![v4, v44] : Fin 2 → IVec S16 32) a x).toNat < S16x4096.size a)
theorem k1_idx2_inb : ∀ (v4 : IVec S16 32) (v44 : IVec S16 32) (k1_hw2 : k1_chk2 v4 v44), ∀ a x, ((![v4, v44] : Fin 2 → IVec S16 32) a x).toNat < S16x4096.size a := fun v4 v44 k1_hw2 => k1_hw2
def k1_off20 (k1_t3 : Fin k1_t3_loop.trips) : Fin 1 → Nat :=
  let c0_i32_14 : BitVec 32 := 0#32
  let c1_i32_15 : BitVec 32 := 1#32
  let arg11 : BitVec 32 := Scf.iv c0_i32_14 c1_i32_15 k1_t3
  let c128_i32_26 : BitVec 32 := 128#32
  let v45 : BitVec 32 := Scalar.muli arg11 c128_i32_26
  let c32_i32 : BitVec 32 := 32#32
  let v46 : BitVec 32 := Scalar.addi v45 c32_i32
  let v47 : Index := Scalar.indexCast v46
  ![v47.toNat]

def k1_chk3 (v4 : IVec S16 32) (v58 : IVec S16 32) : Prop :=
  (∀ a x, ((![v4, v58] : Fin 2 → IVec S16 32) a x).toNat < S16x4096.size a)
theorem k1_idx3_inb : ∀ (v4 : IVec S16 32) (v58 : IVec S16 32) (k1_hw3 : k1_chk3 v4 v58), ∀ a x, ((![v4, v58] : Fin 2 → IVec S16 32) a x).toNat < S16x4096.size a := fun v4 v58 k1_hw3 => k1_hw3
def k1_off21 (k1_t3 : Fin k1_t3_loop.trips) : Fin 1 → Nat :=
  let c0_i32_14 : BitVec 32 := 0#32
  let c1_i32_15 : BitVec 32 := 1#32
  let arg11 : BitVec 32 := Scf.iv c0_i32_14 c1_i32_15 k1_t3
  let c128_i32_31 : BitVec 32 := 128#32
  let v59 : BitVec 32 := Scalar.muli arg11 c128_i32_31
  let c48_i32 : BitVec 32 := 48#32
  let v60 : BitVec 32 := Scalar.addi v59 c48_i32
  let v61 : Index := Scalar.indexCast v60
  ![v61.toNat]

def k1_chk4 (v4 : IVec S16 32) (v72 : IVec S16 32) : Prop :=
  (∀ a x, ((![v4, v72] : Fin 2 → IVec S16 32) a x).toNat < S16x4096.size a)
theorem k1_idx4_inb : ∀ (v4 : IVec S16 32) (v72 : IVec S16 32) (k1_hw4 : k1_chk4 v4 v72), ∀ a x, ((![v4, v72] : Fin 2 → IVec S16 32) a x).toNat < S16x4096.size a := fun v4 v72 k1_hw4 => k1_hw4
def k1_off22 (k1_t3 : Fin k1_t3_loop.trips) : Fin 1 → Nat :=
  let c0_i32_14 : BitVec 32 := 0#32
  let c1_i32_15 : BitVec 32 := 1#32
  let arg11 : BitVec 32 := Scf.iv c0_i32_14 c1_i32_15 k1_t3
  let c128_i32_36 : BitVec 32 := 128#32
  let v73 : BitVec 32 := Scalar.muli arg11 c128_i32_36
  let c64_i32 : BitVec 32 := 64#32
  let v74 : BitVec 32 := Scalar.addi v73 c64_i32
  let v75 : Index := Scalar.indexCast v74
  ![v75.toNat]

def k1_chk5 (v4 : IVec S16 32) (v86 : IVec S16 32) : Prop :=
  (∀ a x, ((![v4, v86] : Fin 2 → IVec S16 32) a x).toNat < S16x4096.size a)
theorem k1_idx5_inb : ∀ (v4 : IVec S16 32) (v86 : IVec S16 32) (k1_hw5 : k1_chk5 v4 v86), ∀ a x, ((![v4, v86] : Fin 2 → IVec S16 32) a x).toNat < S16x4096.size a := fun v4 v86 k1_hw5 => k1_hw5
def k1_off23 (k1_t3 : Fin k1_t3_loop.trips) : Fin 1 → Nat :=
  let c0_i32_14 : BitVec 32 := 0#32
  let c1_i32_15 : BitVec 32 := 1#32
  let arg11 : BitVec 32 := Scf.iv c0_i32_14 c1_i32_15 k1_t3
  let c128_i32_41 : BitVec 32 := 128#32
  let v87 : BitVec 32 := Scalar.muli arg11 c128_i32_41
  let c80_i32 : BitVec 32 := 80#32
  let v88 : BitVec 32 := Scalar.addi v87 c80_i32
  let v89 : Index := Scalar.indexCast v88
  ![v89.toNat]

def k1_chk6 (v4 : IVec S16 32) (v100 : IVec S16 32) : Prop :=
  (∀ a x, ((![v4, v100] : Fin 2 → IVec S16 32) a x).toNat < S16x4096.size a)
theorem k1_idx6_inb : ∀ (v4 : IVec S16 32) (v100 : IVec S16 32) (k1_hw6 : k1_chk6 v4 v100), ∀ a x, ((![v4, v100] : Fin 2 → IVec S16 32) a x).toNat < S16x4096.size a := fun v4 v100 k1_hw6 => k1_hw6
def k1_off24 (k1_t3 : Fin k1_t3_loop.trips) : Fin 1 → Nat :=
  let c0_i32_14 : BitVec 32 := 0#32
  let c1_i32_15 : BitVec 32 := 1#32
  let arg11 : BitVec 32 := Scf.iv c0_i32_14 c1_i32_15 k1_t3
  let c128_i32_46 : BitVec 32 := 128#32
  let v101 : BitVec 32 := Scalar.muli arg11 c128_i32_46
  let c96_i32 : BitVec 32 := 96#32
  let v102 : BitVec 32 := Scalar.addi v101 c96_i32
  let v103 : Index := Scalar.indexCast v102
  ![v103.toNat]

def k1_chk7 (v4 : IVec S16 32) (v114 : IVec S16 32) : Prop :=
  (∀ a x, ((![v4, v114] : Fin 2 → IVec S16 32) a x).toNat < S16x4096.size a)
theorem k1_idx7_inb : ∀ (v4 : IVec S16 32) (v114 : IVec S16 32) (k1_hw7 : k1_chk7 v4 v114), ∀ a x, ((![v4, v114] : Fin 2 → IVec S16 32) a x).toNat < S16x4096.size a := fun v4 v114 k1_hw7 => k1_hw7
def k1_off25 (k1_t3 : Fin k1_t3_loop.trips) : Fin 1 → Nat :=
  let c0_i32_14 : BitVec 32 := 0#32
  let c1_i32_15 : BitVec 32 := 1#32
  let arg11 : BitVec 32 := Scf.iv c0_i32_14 c1_i32_15 k1_t3
  let c128_i32_51 : BitVec 32 := 128#32
  let v115 : BitVec 32 := Scalar.muli arg11 c128_i32_51
  let c112_i32 : BitVec 32 := 112#32
  let v116 : BitVec 32 := Scalar.addi v115 c112_i32
  let v117 : Index := Scalar.indexCast v116
  ![v117.toNat]

def k1_chk8 (v4 : IVec S16 32) (v128 : IVec S16 32) : Prop :=
  (∀ a x, ((![v4, v128] : Fin 2 → IVec S16 32) a x).toNat < S16x4096.size a)
theorem k1_idx8_inb : ∀ (v4 : IVec S16 32) (v128 : IVec S16 32) (k1_hw8 : k1_chk8 v4 v128), ∀ a x, ((![v4, v128] : Fin 2 → IVec S16 32) a x).toNat < S16x4096.size a := fun v4 v128 k1_hw8 => k1_hw8
@[reducible] def k1_t4_loop : Scf.Loop 32 :=
  let c0_i32_9 : BitVec 32 := 0#32
  let c256_i32_10 : BitVec 32 := 256#32
  let v11 : BitVec 32 := Scalar.addi c0_i32_9 c256_i32_10
  let c1_i32_11 : BitVec 32 := 1#32
  ⟨c0_i32_9, v11, c1_i32_11⟩
def k1_off26 (k1_t4 : Fin k1_t4_loop.trips) : Fin 2 → Nat :=
  let c0_i32_13 : BitVec 32 := 0#32
  let v14 : Index := Scalar.indexCast c0_i32_13
  let c0_i32_9 : BitVec 32 := 0#32
  let c1_i32_11 : BitVec 32 := 1#32
  let arg9 : BitVec 32 := Scf.iv c0_i32_9 c1_i32_11 k1_t4
  let c16_i32 : BitVec 32 := 16#32
  let v13 : BitVec 32 := Scalar.muli arg9 c16_i32
  let v15 : Index := Scalar.indexCast v13
  ![0, v15.toNat]
def k1_off27 (k1_t4 : Fin k1_t4_loop.trips) : Fin 2 → Nat :=
  let c1_i32_15 : BitVec 32 := 1#32
  let v18 : Index := Scalar.indexCast c1_i32_15
  let c0_i32_9 : BitVec 32 := 0#32
  let c1_i32_11 : BitVec 32 := 1#32
  let arg9 : BitVec 32 := Scf.iv c0_i32_9 c1_i32_11 k1_t4
  let c16_i32_14 : BitVec 32 := 16#32
  let v17 : BitVec 32 := Scalar.muli arg9 c16_i32_14
  let v19 : Index := Scalar.indexCast v17
  ![1, v19.toNat]
def k1_off28 (k1_t4 : Fin k1_t4_loop.trips) : Fin 2 → Nat :=
  let c2_i32_17 : BitVec 32 := 2#32
  let v23 : Index := Scalar.indexCast c2_i32_17
  let c0_i32_9 : BitVec 32 := 0#32
  let c1_i32_11 : BitVec 32 := 1#32
  let arg9 : BitVec 32 := Scf.iv c0_i32_9 c1_i32_11 k1_t4
  let c16_i32_16 : BitVec 32 := 16#32
  let v22 : BitVec 32 := Scalar.muli arg9 c16_i32_16
  let v24 : Index := Scalar.indexCast v22
  ![2, v24.toNat]
def k1_off29 (k1_t4 : Fin k1_t4_loop.trips) : Fin 2 → Nat :=
  let c3_i32 : BitVec 32 := 3#32
  let v28 : Index := Scalar.indexCast c3_i32
  let c0_i32_9 : BitVec 32 := 0#32
  let c1_i32_11 : BitVec 32 := 1#32
  let arg9 : BitVec 32 := Scf.iv c0_i32_9 c1_i32_11 k1_t4
  let c16_i32_18 : BitVec 32 := 16#32
  let v27 : BitVec 32 := Scalar.muli arg9 c16_i32_18
  let v29 : Index := Scalar.indexCast v27
  ![3, v29.toNat]
def k1_off30 (k1_t4 : Fin k1_t4_loop.trips) : Fin 2 → Nat :=
  let c4_i32 : BitVec 32 := 4#32
  let v33 : Index := Scalar.indexCast c4_i32
  let c0_i32_9 : BitVec 32 := 0#32
  let c1_i32_11 : BitVec 32 := 1#32
  let arg9 : BitVec 32 := Scf.iv c0_i32_9 c1_i32_11 k1_t4
  let c16_i32_19 : BitVec 32 := 16#32
  let v32 : BitVec 32 := Scalar.muli arg9 c16_i32_19
  let v34 : Index := Scalar.indexCast v32
  ![4, v34.toNat]
def k1_off31 (k1_t4 : Fin k1_t4_loop.trips) : Fin 2 → Nat :=
  let c5_i32 : BitVec 32 := 5#32
  let v38 : Index := Scalar.indexCast c5_i32
  let c0_i32_9 : BitVec 32 := 0#32
  let c1_i32_11 : BitVec 32 := 1#32
  let arg9 : BitVec 32 := Scf.iv c0_i32_9 c1_i32_11 k1_t4
  let c16_i32_20 : BitVec 32 := 16#32
  let v37 : BitVec 32 := Scalar.muli arg9 c16_i32_20
  let v39 : Index := Scalar.indexCast v37
  ![5, v39.toNat]
def k1_off32 (k1_t4 : Fin k1_t4_loop.trips) : Fin 2 → Nat :=
  let c6_i32 : BitVec 32 := 6#32
  let v43 : Index := Scalar.indexCast c6_i32
  let c0_i32_9 : BitVec 32 := 0#32
  let c1_i32_11 : BitVec 32 := 1#32
  let arg9 : BitVec 32 := Scf.iv c0_i32_9 c1_i32_11 k1_t4
  let c16_i32_21 : BitVec 32 := 16#32
  let v42 : BitVec 32 := Scalar.muli arg9 c16_i32_21
  let v44 : Index := Scalar.indexCast v42
  ![6, v44.toNat]
def k1_off33 (k1_t4 : Fin k1_t4_loop.trips) : Fin 2 → Nat :=
  let c7_i32 : BitVec 32 := 7#32
  let v48 : Index := Scalar.indexCast c7_i32
  let c0_i32_9 : BitVec 32 := 0#32
  let c1_i32_11 : BitVec 32 := 1#32
  let arg9 : BitVec 32 := Scf.iv c0_i32_9 c1_i32_11 k1_t4
  let c16_i32_22 : BitVec 32 := 16#32
  let v47 : BitVec 32 := Scalar.muli arg9 c16_i32_22
  let v49 : Index := Scalar.indexCast v47
  ![7, v49.toNat]
def k1_off34 (k1_t4 : Fin k1_t4_loop.trips) : Fin 2 → Nat :=
  let c8_i32_24 : BitVec 32 := 8#32
  let v53 : Index := Scalar.indexCast c8_i32_24
  let c0_i32_9 : BitVec 32 := 0#32
  let c1_i32_11 : BitVec 32 := 1#32
  let arg9 : BitVec 32 := Scf.iv c0_i32_9 c1_i32_11 k1_t4
  let c16_i32_23 : BitVec 32 := 16#32
  let v52 : BitVec 32 := Scalar.muli arg9 c16_i32_23
  let v54 : Index := Scalar.indexCast v52
  ![8, v54.toNat]
def k1_off35 (k1_t4 : Fin k1_t4_loop.trips) : Fin 2 → Nat :=
  let c9_i32 : BitVec 32 := 9#32
  let v58 : Index := Scalar.indexCast c9_i32
  let c0_i32_9 : BitVec 32 := 0#32
  let c1_i32_11 : BitVec 32 := 1#32
  let arg9 : BitVec 32 := Scf.iv c0_i32_9 c1_i32_11 k1_t4
  let c16_i32_25 : BitVec 32 := 16#32
  let v57 : BitVec 32 := Scalar.muli arg9 c16_i32_25
  let v59 : Index := Scalar.indexCast v57
  ![9, v59.toNat]
def k1_off36 (k1_t4 : Fin k1_t4_loop.trips) : Fin 2 → Nat :=
  let c10_i32 : BitVec 32 := 10#32
  let v63 : Index := Scalar.indexCast c10_i32
  let c0_i32_9 : BitVec 32 := 0#32
  let c1_i32_11 : BitVec 32 := 1#32
  let arg9 : BitVec 32 := Scf.iv c0_i32_9 c1_i32_11 k1_t4
  let c16_i32_26 : BitVec 32 := 16#32
  let v62 : BitVec 32 := Scalar.muli arg9 c16_i32_26
  let v64 : Index := Scalar.indexCast v62
  ![10, v64.toNat]
def k1_off37 (k1_t4 : Fin k1_t4_loop.trips) : Fin 2 → Nat :=
  let c11_i32 : BitVec 32 := 11#32
  let v68 : Index := Scalar.indexCast c11_i32
  let c0_i32_9 : BitVec 32 := 0#32
  let c1_i32_11 : BitVec 32 := 1#32
  let arg9 : BitVec 32 := Scf.iv c0_i32_9 c1_i32_11 k1_t4
  let c16_i32_27 : BitVec 32 := 16#32
  let v67 : BitVec 32 := Scalar.muli arg9 c16_i32_27
  let v69 : Index := Scalar.indexCast v67
  ![11, v69.toNat]
def k1_off38 (k1_t4 : Fin k1_t4_loop.trips) : Fin 2 → Nat :=
  let c12_i32 : BitVec 32 := 12#32
  let v73 : Index := Scalar.indexCast c12_i32
  let c0_i32_9 : BitVec 32 := 0#32
  let c1_i32_11 : BitVec 32 := 1#32
  let arg9 : BitVec 32 := Scf.iv c0_i32_9 c1_i32_11 k1_t4
  let c16_i32_28 : BitVec 32 := 16#32
  let v72 : BitVec 32 := Scalar.muli arg9 c16_i32_28
  let v74 : Index := Scalar.indexCast v72
  ![12, v74.toNat]
def k1_off39 (k1_t4 : Fin k1_t4_loop.trips) : Fin 2 → Nat :=
  let c13_i32 : BitVec 32 := 13#32
  let v78 : Index := Scalar.indexCast c13_i32
  let c0_i32_9 : BitVec 32 := 0#32
  let c1_i32_11 : BitVec 32 := 1#32
  let arg9 : BitVec 32 := Scf.iv c0_i32_9 c1_i32_11 k1_t4
  let c16_i32_29 : BitVec 32 := 16#32
  let v77 : BitVec 32 := Scalar.muli arg9 c16_i32_29
  let v79 : Index := Scalar.indexCast v77
  ![13, v79.toNat]
def k1_off40 (k1_t4 : Fin k1_t4_loop.trips) : Fin 2 → Nat :=
  let c14_i32 : BitVec 32 := 14#32
  let v83 : Index := Scalar.indexCast c14_i32
  let c0_i32_9 : BitVec 32 := 0#32
  let c1_i32_11 : BitVec 32 := 1#32
  let arg9 : BitVec 32 := Scf.iv c0_i32_9 c1_i32_11 k1_t4
  let c16_i32_30 : BitVec 32 := 16#32
  let v82 : BitVec 32 := Scalar.muli arg9 c16_i32_30
  let v84 : Index := Scalar.indexCast v82
  ![14, v84.toNat]
def k1_off41 (k1_t4 : Fin k1_t4_loop.trips) : Fin 2 → Nat :=
  let c15_i32 : BitVec 32 := 15#32
  let v88 : Index := Scalar.indexCast c15_i32
  let c0_i32_9 : BitVec 32 := 0#32
  let c1_i32_11 : BitVec 32 := 1#32
  let arg9 : BitVec 32 := Scf.iv c0_i32_9 c1_i32_11 k1_t4
  let c16_i32_31 : BitVec 32 := 16#32
  let v87 : BitVec 32 := Scalar.muli arg9 c16_i32_31
  let v89 : Index := Scalar.indexCast v87
  ![15, v89.toNat]
def k1_off42 (k1_t4 : Fin k1_t4_loop.trips) : Fin 2 → Nat :=
  let c0_i32_9 : BitVec 32 := 0#32
  let c1_i32_11 : BitVec 32 := 1#32
  let arg9 : BitVec 32 := Scf.iv c0_i32_9 c1_i32_11 k1_t4
  let c3_i32_32 : BitVec 32 := 3#32
  let v92 : BitVec 32 := Scalar.shrsi arg9 c3_i32_32
  let v95 : Index := Scalar.indexCast v92
  let c7_i32_33 : BitVec 32 := 7#32
  let v93 : BitVec 32 := Scalar.andi arg9 c7_i32_33
  let c16_i32_34 : BitVec 32 := 16#32
  let v94 : BitVec 32 := Scalar.muli v93 c16_i32_34
  let v96 : Index := Scalar.indexCast v94
  ![v95.toNat, v96.toNat]
def k1_off43 (i : grid1.Coords) : Fin 3 → Nat :=
  let arg1 : BitVec 32 := BitVec.ofNat 32 (i 1).val
  let c2_i32 : BitVec 32 := 2#32
  let v1 : BitVec 32 := Scalar.muli arg1 c2_i32
  let arg0 : BitVec 32 := BitVec.ofNat 32 (i 0).val
  let v2 : BitVec 32 := Scalar.addi v1 arg0
  let c0_i32_13_r2 : BitVec 32 := 0#32
  let c0_i32_14_r2 : BitVec 32 := 0#32
  ![v2.toNat, 0, 0]
abbrev grid2 : Pipeline.Grid := ⟨2, ![2, 16], ![false, false]⟩

@[reducible] def k2_t1_loop : Scf.Loop 32 :=
  let c0_i32_1 : BitVec 32 := 0#32
  let c256_i32 : BitVec 32 := 256#32
  let v7 : BitVec 32 := Scalar.addi c0_i32_1 c256_i32
  let c1_i32_2 : BitVec 32 := 1#32
  ⟨c0_i32_1, v7, c1_i32_2⟩
def k2_off1 (k2_t1 : Fin k2_t1_loop.trips) : Fin 2 → Nat :=
  let c0_i32_13 : BitVec 32 := 0#32
  let v14 : Index := Scalar.indexCast c0_i32_13
  let c0_i32_1 : BitVec 32 := 0#32
  let c1_i32_2 : BitVec 32 := 1#32
  let arg9 : BitVec 32 := Scf.iv c0_i32_1 c1_i32_2 k2_t1
  let c16_i32 : BitVec 32 := 16#32
  let v13 : BitVec 32 := Scalar.muli arg9 c16_i32
  let v15 : Index := Scalar.indexCast v13
  ![0, v15.toNat]
def k2_off2 (k2_t1 : Fin k2_t1_loop.trips) : Fin 2 → Nat :=
  let c1_i32_15 : BitVec 32 := 1#32
  let v18 : Index := Scalar.indexCast c1_i32_15
  let c0_i32_1 : BitVec 32 := 0#32
  let c1_i32_2 : BitVec 32 := 1#32
  let arg9 : BitVec 32 := Scf.iv c0_i32_1 c1_i32_2 k2_t1
  let c16_i32_14 : BitVec 32 := 16#32
  let v17 : BitVec 32 := Scalar.muli arg9 c16_i32_14
  let v19 : Index := Scalar.indexCast v17
  ![1, v19.toNat]
def k2_off3 (k2_t1 : Fin k2_t1_loop.trips) : Fin 2 → Nat :=
  let c2_i32_17 : BitVec 32 := 2#32
  let v22 : Index := Scalar.indexCast c2_i32_17
  let c0_i32_1 : BitVec 32 := 0#32
  let c1_i32_2 : BitVec 32 := 1#32
  let arg9 : BitVec 32 := Scf.iv c0_i32_1 c1_i32_2 k2_t1
  let c16_i32_16 : BitVec 32 := 16#32
  let v21 : BitVec 32 := Scalar.muli arg9 c16_i32_16
  let v23 : Index := Scalar.indexCast v21
  ![2, v23.toNat]
def k2_off4 (k2_t1 : Fin k2_t1_loop.trips) : Fin 2 → Nat :=
  let c3_i32 : BitVec 32 := 3#32
  let v26 : Index := Scalar.indexCast c3_i32
  let c0_i32_1 : BitVec 32 := 0#32
  let c1_i32_2 : BitVec 32 := 1#32
  let arg9 : BitVec 32 := Scf.iv c0_i32_1 c1_i32_2 k2_t1
  let c16_i32_18 : BitVec 32 := 16#32
  let v25 : BitVec 32 := Scalar.muli arg9 c16_i32_18
  let v27 : Index := Scalar.indexCast v25
  ![3, v27.toNat]
def k2_off5 (k2_t1 : Fin k2_t1_loop.trips) : Fin 2 → Nat :=
  let c4_i32 : BitVec 32 := 4#32
  let v30 : Index := Scalar.indexCast c4_i32
  let c0_i32_1 : BitVec 32 := 0#32
  let c1_i32_2 : BitVec 32 := 1#32
  let arg9 : BitVec 32 := Scf.iv c0_i32_1 c1_i32_2 k2_t1
  let c16_i32_19 : BitVec 32 := 16#32
  let v29 : BitVec 32 := Scalar.muli arg9 c16_i32_19
  let v31 : Index := Scalar.indexCast v29
  ![4, v31.toNat]
def k2_off6 (k2_t1 : Fin k2_t1_loop.trips) : Fin 2 → Nat :=
  let c5_i32 : BitVec 32 := 5#32
  let v34 : Index := Scalar.indexCast c5_i32
  let c0_i32_1 : BitVec 32 := 0#32
  let c1_i32_2 : BitVec 32 := 1#32
  let arg9 : BitVec 32 := Scf.iv c0_i32_1 c1_i32_2 k2_t1
  let c16_i32_20 : BitVec 32 := 16#32
  let v33 : BitVec 32 := Scalar.muli arg9 c16_i32_20
  let v35 : Index := Scalar.indexCast v33
  ![5, v35.toNat]
def k2_off7 (k2_t1 : Fin k2_t1_loop.trips) : Fin 2 → Nat :=
  let c6_i32 : BitVec 32 := 6#32
  let v38 : Index := Scalar.indexCast c6_i32
  let c0_i32_1 : BitVec 32 := 0#32
  let c1_i32_2 : BitVec 32 := 1#32
  let arg9 : BitVec 32 := Scf.iv c0_i32_1 c1_i32_2 k2_t1
  let c16_i32_21 : BitVec 32 := 16#32
  let v37 : BitVec 32 := Scalar.muli arg9 c16_i32_21
  let v39 : Index := Scalar.indexCast v37
  ![6, v39.toNat]
def k2_off8 (k2_t1 : Fin k2_t1_loop.trips) : Fin 2 → Nat :=
  let c7_i32 : BitVec 32 := 7#32
  let v42 : Index := Scalar.indexCast c7_i32
  let c0_i32_1 : BitVec 32 := 0#32
  let c1_i32_2 : BitVec 32 := 1#32
  let arg9 : BitVec 32 := Scf.iv c0_i32_1 c1_i32_2 k2_t1
  let c16_i32_22 : BitVec 32 := 16#32
  let v41 : BitVec 32 := Scalar.muli arg9 c16_i32_22
  let v43 : Index := Scalar.indexCast v41
  ![7, v43.toNat]
def k2_off9 (k2_t1 : Fin k2_t1_loop.trips) : Fin 2 → Nat :=
  let c8_i32_24 : BitVec 32 := 8#32
  let v46 : Index := Scalar.indexCast c8_i32_24
  let c0_i32_1 : BitVec 32 := 0#32
  let c1_i32_2 : BitVec 32 := 1#32
  let arg9 : BitVec 32 := Scf.iv c0_i32_1 c1_i32_2 k2_t1
  let c16_i32_23 : BitVec 32 := 16#32
  let v45 : BitVec 32 := Scalar.muli arg9 c16_i32_23
  let v47 : Index := Scalar.indexCast v45
  ![8, v47.toNat]
def k2_off10 (k2_t1 : Fin k2_t1_loop.trips) : Fin 2 → Nat :=
  let c9_i32 : BitVec 32 := 9#32
  let v50 : Index := Scalar.indexCast c9_i32
  let c0_i32_1 : BitVec 32 := 0#32
  let c1_i32_2 : BitVec 32 := 1#32
  let arg9 : BitVec 32 := Scf.iv c0_i32_1 c1_i32_2 k2_t1
  let c16_i32_25 : BitVec 32 := 16#32
  let v49 : BitVec 32 := Scalar.muli arg9 c16_i32_25
  let v51 : Index := Scalar.indexCast v49
  ![9, v51.toNat]
def k2_off11 (k2_t1 : Fin k2_t1_loop.trips) : Fin 2 → Nat :=
  let c10_i32 : BitVec 32 := 10#32
  let v54 : Index := Scalar.indexCast c10_i32
  let c0_i32_1 : BitVec 32 := 0#32
  let c1_i32_2 : BitVec 32 := 1#32
  let arg9 : BitVec 32 := Scf.iv c0_i32_1 c1_i32_2 k2_t1
  let c16_i32_26 : BitVec 32 := 16#32
  let v53 : BitVec 32 := Scalar.muli arg9 c16_i32_26
  let v55 : Index := Scalar.indexCast v53
  ![10, v55.toNat]
def k2_off12 (k2_t1 : Fin k2_t1_loop.trips) : Fin 2 → Nat :=
  let c11_i32 : BitVec 32 := 11#32
  let v58 : Index := Scalar.indexCast c11_i32
  let c0_i32_1 : BitVec 32 := 0#32
  let c1_i32_2 : BitVec 32 := 1#32
  let arg9 : BitVec 32 := Scf.iv c0_i32_1 c1_i32_2 k2_t1
  let c16_i32_27 : BitVec 32 := 16#32
  let v57 : BitVec 32 := Scalar.muli arg9 c16_i32_27
  let v59 : Index := Scalar.indexCast v57
  ![11, v59.toNat]
def k2_off13 (k2_t1 : Fin k2_t1_loop.trips) : Fin 2 → Nat :=
  let c12_i32 : BitVec 32 := 12#32
  let v62 : Index := Scalar.indexCast c12_i32
  let c0_i32_1 : BitVec 32 := 0#32
  let c1_i32_2 : BitVec 32 := 1#32
  let arg9 : BitVec 32 := Scf.iv c0_i32_1 c1_i32_2 k2_t1
  let c16_i32_28 : BitVec 32 := 16#32
  let v61 : BitVec 32 := Scalar.muli arg9 c16_i32_28
  let v63 : Index := Scalar.indexCast v61
  ![12, v63.toNat]
def k2_off14 (k2_t1 : Fin k2_t1_loop.trips) : Fin 2 → Nat :=
  let c13_i32 : BitVec 32 := 13#32
  let v66 : Index := Scalar.indexCast c13_i32
  let c0_i32_1 : BitVec 32 := 0#32
  let c1_i32_2 : BitVec 32 := 1#32
  let arg9 : BitVec 32 := Scf.iv c0_i32_1 c1_i32_2 k2_t1
  let c16_i32_29 : BitVec 32 := 16#32
  let v65 : BitVec 32 := Scalar.muli arg9 c16_i32_29
  let v67 : Index := Scalar.indexCast v65
  ![13, v67.toNat]
def k2_off15 (k2_t1 : Fin k2_t1_loop.trips) : Fin 2 → Nat :=
  let c14_i32 : BitVec 32 := 14#32
  let v70 : Index := Scalar.indexCast c14_i32
  let c0_i32_1 : BitVec 32 := 0#32
  let c1_i32_2 : BitVec 32 := 1#32
  let arg9 : BitVec 32 := Scf.iv c0_i32_1 c1_i32_2 k2_t1
  let c16_i32_30 : BitVec 32 := 16#32
  let v69 : BitVec 32 := Scalar.muli arg9 c16_i32_30
  let v71 : Index := Scalar.indexCast v69
  ![14, v71.toNat]
def k2_off16 (k2_t1 : Fin k2_t1_loop.trips) : Fin 2 → Nat :=
  let c15_i32 : BitVec 32 := 15#32
  let v74 : Index := Scalar.indexCast c15_i32
  let c0_i32_1 : BitVec 32 := 0#32
  let c1_i32_2 : BitVec 32 := 1#32
  let arg9 : BitVec 32 := Scf.iv c0_i32_1 c1_i32_2 k2_t1
  let c16_i32_31 : BitVec 32 := 16#32
  let v73 : BitVec 32 := Scalar.muli arg9 c16_i32_31
  let v75 : Index := Scalar.indexCast v73
  ![15, v75.toNat]
@[reducible] def k2_t2_loop : Scf.Loop 32 :=
  let c0_i32_5 : BitVec 32 := 0#32
  let c8_i32 : BitVec 32 := 8#32
  let v9 : BitVec 32 := Scalar.addi c0_i32_5 c8_i32
  let c1_i32_6 : BitVec 32 := 1#32
  ⟨c0_i32_5, v9, c1_i32_6⟩
def k2_off17 (i : grid2.Coords) (k2_t2 : Fin k2_t2_loop.trips) : Fin 1 → Nat :=
  let arg1 : BitVec 32 := BitVec.ofNat 32 (i 1).val
  let c2_i32 : BitVec 32 := 2#32
  let v1 : BitVec 32 := Scalar.muli arg1 c2_i32
  let arg0 : BitVec 32 := BitVec.ofNat 32 (i 0).val
  let v2 : BitVec 32 := Scalar.addi v1 arg0
  let c131072_i32 : BitVec 32 := 131072#32
  let v3 : BitVec 32 := Scalar.muli v2 c131072_i32
  let c0_i32_5 : BitVec 32 := 0#32
  let c1_i32_6 : BitVec 32 := 1#32
  let arg9 : BitVec 32 := Scf.iv c0_i32_5 c1_i32_6 k2_t2
  let c16384_i32 : BitVec 32 := 16384#32
  let v13 : BitVec 32 := Scalar.muli arg9 c16384_i32
  let v14 : BitVec 32 := Scalar.addi v3 v13
  ![v14.toNat]
@[reducible] def k2_t3_loop : Scf.Loop 32 :=
  let c0_i32_14 : BitVec 32 := 0#32
  let c128_i32 : BitVec 32 := 128#32
  let v15 : BitVec 32 := Scalar.addi c0_i32_14 c128_i32
  let c1_i32_15 : BitVec 32 := 1#32
  ⟨c0_i32_14, v15, c1_i32_15⟩
def k2_off18 (k2_t3 : Fin k2_t3_loop.trips) : Fin 1 → Nat :=
  let c0_i32_14 : BitVec 32 := 0#32
  let c1_i32_15 : BitVec 32 := 1#32
  let arg11 : BitVec 32 := Scf.iv c0_i32_14 c1_i32_15 k2_t3
  let c128_i32_18 : BitVec 32 := 128#32
  let v17 : BitVec 32 := Scalar.muli arg11 c128_i32_18
  let c0_i32_19 : BitVec 32 := 0#32
  let v18 : BitVec 32 := Scalar.addi v17 c0_i32_19
  let v19 : Index := Scalar.indexCast v18
  ![v19.toNat]

def k2_chk1 (v4 : IVec S16 32) (v28 : IVec S16 32) : Prop :=
  (∀ a x, ((![v4, v28] : Fin 2 → IVec S16 32) a x).toNat < S16x4096.size a)
theorem k2_idx1_inb : ∀ (v4 : IVec S16 32) (v28 : IVec S16 32) (k2_hw1 : k2_chk1 v4 v28), ∀ a x, ((![v4, v28] : Fin 2 → IVec S16 32) a x).toNat < S16x4096.size a := fun v4 v28 k2_hw1 => k2_hw1
def k2_off19 (k2_t3 : Fin k2_t3_loop.trips) : Fin 1 → Nat :=
  let c0_i32_14 : BitVec 32 := 0#32
  let c1_i32_15 : BitVec 32 := 1#32
  let arg11 : BitVec 32 := Scf.iv c0_i32_14 c1_i32_15 k2_t3
  let c128_i32_21 : BitVec 32 := 128#32
  let v29 : BitVec 32 := Scalar.muli arg11 c128_i32_21
  let c16_i32 : BitVec 32 := 16#32
  let v30 : BitVec 32 := Scalar.addi v29 c16_i32
  let v31 : Index := Scalar.indexCast v30
  ![v31.toNat]

def k2_chk2 (v4 : IVec S16 32) (v40 : IVec S16 32) : Prop :=
  (∀ a x, ((![v4, v40] : Fin 2 → IVec S16 32) a x).toNat < S16x4096.size a)
theorem k2_idx2_inb : ∀ (v4 : IVec S16 32) (v40 : IVec S16 32) (k2_hw2 : k2_chk2 v4 v40), ∀ a x, ((![v4, v40] : Fin 2 → IVec S16 32) a x).toNat < S16x4096.size a := fun v4 v40 k2_hw2 => k2_hw2
def k2_off20 (k2_t3 : Fin k2_t3_loop.trips) : Fin 1 → Nat :=
  let c0_i32_14 : BitVec 32 := 0#32
  let c1_i32_15 : BitVec 32 := 1#32
  let arg11 : BitVec 32 := Scf.iv c0_i32_14 c1_i32_15 k2_t3
  let c128_i32_25 : BitVec 32 := 128#32
  let v41 : BitVec 32 := Scalar.muli arg11 c128_i32_25
  let c32_i32 : BitVec 32 := 32#32
  let v42 : BitVec 32 := Scalar.addi v41 c32_i32
  let v43 : Index := Scalar.indexCast v42
  ![v43.toNat]

def k2_chk3 (v4 : IVec S16 32) (v52 : IVec S16 32) : Prop :=
  (∀ a x, ((![v4, v52] : Fin 2 → IVec S16 32) a x).toNat < S16x4096.size a)
theorem k2_idx3_inb : ∀ (v4 : IVec S16 32) (v52 : IVec S16 32) (k2_hw3 : k2_chk3 v4 v52), ∀ a x, ((![v4, v52] : Fin 2 → IVec S16 32) a x).toNat < S16x4096.size a := fun v4 v52 k2_hw3 => k2_hw3
def k2_off21 (k2_t3 : Fin k2_t3_loop.trips) : Fin 1 → Nat :=
  let c0_i32_14 : BitVec 32 := 0#32
  let c1_i32_15 : BitVec 32 := 1#32
  let arg11 : BitVec 32 := Scf.iv c0_i32_14 c1_i32_15 k2_t3
  let c128_i32_29 : BitVec 32 := 128#32
  let v53 : BitVec 32 := Scalar.muli arg11 c128_i32_29
  let c48_i32 : BitVec 32 := 48#32
  let v54 : BitVec 32 := Scalar.addi v53 c48_i32
  let v55 : Index := Scalar.indexCast v54
  ![v55.toNat]

def k2_chk4 (v4 : IVec S16 32) (v64 : IVec S16 32) : Prop :=
  (∀ a x, ((![v4, v64] : Fin 2 → IVec S16 32) a x).toNat < S16x4096.size a)
theorem k2_idx4_inb : ∀ (v4 : IVec S16 32) (v64 : IVec S16 32) (k2_hw4 : k2_chk4 v4 v64), ∀ a x, ((![v4, v64] : Fin 2 → IVec S16 32) a x).toNat < S16x4096.size a := fun v4 v64 k2_hw4 => k2_hw4
def k2_off22 (k2_t3 : Fin k2_t3_loop.trips) : Fin 1 → Nat :=
  let c0_i32_14 : BitVec 32 := 0#32
  let c1_i32_15 : BitVec 32 := 1#32
  let arg11 : BitVec 32 := Scf.iv c0_i32_14 c1_i32_15 k2_t3
  let c128_i32_33 : BitVec 32 := 128#32
  let v65 : BitVec 32 := Scalar.muli arg11 c128_i32_33
  let c64_i32 : BitVec 32 := 64#32
  let v66 : BitVec 32 := Scalar.addi v65 c64_i32
  let v67 : Index := Scalar.indexCast v66
  ![v67.toNat]

def k2_chk5 (v4 : IVec S16 32) (v76 : IVec S16 32) : Prop :=
  (∀ a x, ((![v4, v76] : Fin 2 → IVec S16 32) a x).toNat < S16x4096.size a)
theorem k2_idx5_inb : ∀ (v4 : IVec S16 32) (v76 : IVec S16 32) (k2_hw5 : k2_chk5 v4 v76), ∀ a x, ((![v4, v76] : Fin 2 → IVec S16 32) a x).toNat < S16x4096.size a := fun v4 v76 k2_hw5 => k2_hw5
def k2_off23 (k2_t3 : Fin k2_t3_loop.trips) : Fin 1 → Nat :=
  let c0_i32_14 : BitVec 32 := 0#32
  let c1_i32_15 : BitVec 32 := 1#32
  let arg11 : BitVec 32 := Scf.iv c0_i32_14 c1_i32_15 k2_t3
  let c128_i32_37 : BitVec 32 := 128#32
  let v77 : BitVec 32 := Scalar.muli arg11 c128_i32_37
  let c80_i32 : BitVec 32 := 80#32
  let v78 : BitVec 32 := Scalar.addi v77 c80_i32
  let v79 : Index := Scalar.indexCast v78
  ![v79.toNat]

def k2_chk6 (v4 : IVec S16 32) (v88 : IVec S16 32) : Prop :=
  (∀ a x, ((![v4, v88] : Fin 2 → IVec S16 32) a x).toNat < S16x4096.size a)
theorem k2_idx6_inb : ∀ (v4 : IVec S16 32) (v88 : IVec S16 32) (k2_hw6 : k2_chk6 v4 v88), ∀ a x, ((![v4, v88] : Fin 2 → IVec S16 32) a x).toNat < S16x4096.size a := fun v4 v88 k2_hw6 => k2_hw6
def k2_off24 (k2_t3 : Fin k2_t3_loop.trips) : Fin 1 → Nat :=
  let c0_i32_14 : BitVec 32 := 0#32
  let c1_i32_15 : BitVec 32 := 1#32
  let arg11 : BitVec 32 := Scf.iv c0_i32_14 c1_i32_15 k2_t3
  let c128_i32_41 : BitVec 32 := 128#32
  let v89 : BitVec 32 := Scalar.muli arg11 c128_i32_41
  let c96_i32 : BitVec 32 := 96#32
  let v90 : BitVec 32 := Scalar.addi v89 c96_i32
  let v91 : Index := Scalar.indexCast v90
  ![v91.toNat]

def k2_chk7 (v4 : IVec S16 32) (v100 : IVec S16 32) : Prop :=
  (∀ a x, ((![v4, v100] : Fin 2 → IVec S16 32) a x).toNat < S16x4096.size a)
theorem k2_idx7_inb : ∀ (v4 : IVec S16 32) (v100 : IVec S16 32) (k2_hw7 : k2_chk7 v4 v100), ∀ a x, ((![v4, v100] : Fin 2 → IVec S16 32) a x).toNat < S16x4096.size a := fun v4 v100 k2_hw7 => k2_hw7
def k2_off25 (k2_t3 : Fin k2_t3_loop.trips) : Fin 1 → Nat :=
  let c0_i32_14 : BitVec 32 := 0#32
  let c1_i32_15 : BitVec 32 := 1#32
  let arg11 : BitVec 32 := Scf.iv c0_i32_14 c1_i32_15 k2_t3
  let c128_i32_45 : BitVec 32 := 128#32
  let v101 : BitVec 32 := Scalar.muli arg11 c128_i32_45
  let c112_i32 : BitVec 32 := 112#32
  let v102 : BitVec 32 := Scalar.addi v101 c112_i32
  let v103 : Index := Scalar.indexCast v102
  ![v103.toNat]

def k2_chk8 (v4 : IVec S16 32) (v112 : IVec S16 32) : Prop :=
  (∀ a x, ((![v4, v112] : Fin 2 → IVec S16 32) a x).toNat < S16x4096.size a)
theorem k2_idx8_inb : ∀ (v4 : IVec S16 32) (v112 : IVec S16 32) (k2_hw8 : k2_chk8 v4 v112), ∀ a x, ((![v4, v112] : Fin 2 → IVec S16 32) a x).toNat < S16x4096.size a := fun v4 v112 k2_hw8 => k2_hw8
@[reducible] def k2_t4_loop : Scf.Loop 32 :=
  let c0_i32_9 : BitVec 32 := 0#32
  let c256_i32_10 : BitVec 32 := 256#32
  let v11 : BitVec 32 := Scalar.addi c0_i32_9 c256_i32_10
  let c1_i32_11 : BitVec 32 := 1#32
  ⟨c0_i32_9, v11, c1_i32_11⟩
def k2_off26 (k2_t4 : Fin k2_t4_loop.trips) : Fin 2 → Nat :=
  let c0_i32_13 : BitVec 32 := 0#32
  let v14 : Index := Scalar.indexCast c0_i32_13
  let c0_i32_9 : BitVec 32 := 0#32
  let c1_i32_11 : BitVec 32 := 1#32
  let arg9 : BitVec 32 := Scf.iv c0_i32_9 c1_i32_11 k2_t4
  let c16_i32 : BitVec 32 := 16#32
  let v13 : BitVec 32 := Scalar.muli arg9 c16_i32
  let v15 : Index := Scalar.indexCast v13
  ![0, v15.toNat]
def k2_off27 (k2_t4 : Fin k2_t4_loop.trips) : Fin 2 → Nat :=
  let c1_i32_15 : BitVec 32 := 1#32
  let v18 : Index := Scalar.indexCast c1_i32_15
  let c0_i32_9 : BitVec 32 := 0#32
  let c1_i32_11 : BitVec 32 := 1#32
  let arg9 : BitVec 32 := Scf.iv c0_i32_9 c1_i32_11 k2_t4
  let c16_i32_14 : BitVec 32 := 16#32
  let v17 : BitVec 32 := Scalar.muli arg9 c16_i32_14
  let v19 : Index := Scalar.indexCast v17
  ![1, v19.toNat]
def k2_off28 (k2_t4 : Fin k2_t4_loop.trips) : Fin 2 → Nat :=
  let c2_i32_17 : BitVec 32 := 2#32
  let v23 : Index := Scalar.indexCast c2_i32_17
  let c0_i32_9 : BitVec 32 := 0#32
  let c1_i32_11 : BitVec 32 := 1#32
  let arg9 : BitVec 32 := Scf.iv c0_i32_9 c1_i32_11 k2_t4
  let c16_i32_16 : BitVec 32 := 16#32
  let v22 : BitVec 32 := Scalar.muli arg9 c16_i32_16
  let v24 : Index := Scalar.indexCast v22
  ![2, v24.toNat]
def k2_off29 (k2_t4 : Fin k2_t4_loop.trips) : Fin 2 → Nat :=
  let c3_i32 : BitVec 32 := 3#32
  let v28 : Index := Scalar.indexCast c3_i32
  let c0_i32_9 : BitVec 32 := 0#32
  let c1_i32_11 : BitVec 32 := 1#32
  let arg9 : BitVec 32 := Scf.iv c0_i32_9 c1_i32_11 k2_t4
  let c16_i32_18 : BitVec 32 := 16#32
  let v27 : BitVec 32 := Scalar.muli arg9 c16_i32_18
  let v29 : Index := Scalar.indexCast v27
  ![3, v29.toNat]
def k2_off30 (k2_t4 : Fin k2_t4_loop.trips) : Fin 2 → Nat :=
  let c4_i32 : BitVec 32 := 4#32
  let v33 : Index := Scalar.indexCast c4_i32
  let c0_i32_9 : BitVec 32 := 0#32
  let c1_i32_11 : BitVec 32 := 1#32
  let arg9 : BitVec 32 := Scf.iv c0_i32_9 c1_i32_11 k2_t4
  let c16_i32_19 : BitVec 32 := 16#32
  let v32 : BitVec 32 := Scalar.muli arg9 c16_i32_19
  let v34 : Index := Scalar.indexCast v32
  ![4, v34.toNat]
def k2_off31 (k2_t4 : Fin k2_t4_loop.trips) : Fin 2 → Nat :=
  let c5_i32 : BitVec 32 := 5#32
  let v38 : Index := Scalar.indexCast c5_i32
  let c0_i32_9 : BitVec 32 := 0#32
  let c1_i32_11 : BitVec 32 := 1#32
  let arg9 : BitVec 32 := Scf.iv c0_i32_9 c1_i32_11 k2_t4
  let c16_i32_20 : BitVec 32 := 16#32
  let v37 : BitVec 32 := Scalar.muli arg9 c16_i32_20
  let v39 : Index := Scalar.indexCast v37
  ![5, v39.toNat]
def k2_off32 (k2_t4 : Fin k2_t4_loop.trips) : Fin 2 → Nat :=
  let c6_i32 : BitVec 32 := 6#32
  let v43 : Index := Scalar.indexCast c6_i32
  let c0_i32_9 : BitVec 32 := 0#32
  let c1_i32_11 : BitVec 32 := 1#32
  let arg9 : BitVec 32 := Scf.iv c0_i32_9 c1_i32_11 k2_t4
  let c16_i32_21 : BitVec 32 := 16#32
  let v42 : BitVec 32 := Scalar.muli arg9 c16_i32_21
  let v44 : Index := Scalar.indexCast v42
  ![6, v44.toNat]
def k2_off33 (k2_t4 : Fin k2_t4_loop.trips) : Fin 2 → Nat :=
  let c7_i32 : BitVec 32 := 7#32
  let v48 : Index := Scalar.indexCast c7_i32
  let c0_i32_9 : BitVec 32 := 0#32
  let c1_i32_11 : BitVec 32 := 1#32
  let arg9 : BitVec 32 := Scf.iv c0_i32_9 c1_i32_11 k2_t4
  let c16_i32_22 : BitVec 32 := 16#32
  let v47 : BitVec 32 := Scalar.muli arg9 c16_i32_22
  let v49 : Index := Scalar.indexCast v47
  ![7, v49.toNat]
def k2_off34 (k2_t4 : Fin k2_t4_loop.trips) : Fin 2 → Nat :=
  let c8_i32_24 : BitVec 32 := 8#32
  let v53 : Index := Scalar.indexCast c8_i32_24
  let c0_i32_9 : BitVec 32 := 0#32
  let c1_i32_11 : BitVec 32 := 1#32
  let arg9 : BitVec 32 := Scf.iv c0_i32_9 c1_i32_11 k2_t4
  let c16_i32_23 : BitVec 32 := 16#32
  let v52 : BitVec 32 := Scalar.muli arg9 c16_i32_23
  let v54 : Index := Scalar.indexCast v52
  ![8, v54.toNat]
def k2_off35 (k2_t4 : Fin k2_t4_loop.trips) : Fin 2 → Nat :=
  let c9_i32 : BitVec 32 := 9#32
  let v58 : Index := Scalar.indexCast c9_i32
  let c0_i32_9 : BitVec 32 := 0#32
  let c1_i32_11 : BitVec 32 := 1#32
  let arg9 : BitVec 32 := Scf.iv c0_i32_9 c1_i32_11 k2_t4
  let c16_i32_25 : BitVec 32 := 16#32
  let v57 : BitVec 32 := Scalar.muli arg9 c16_i32_25
  let v59 : Index := Scalar.indexCast v57
  ![9, v59.toNat]
def k2_off36 (k2_t4 : Fin k2_t4_loop.trips) : Fin 2 → Nat :=
  let c10_i32 : BitVec 32 := 10#32
  let v63 : Index := Scalar.indexCast c10_i32
  let c0_i32_9 : BitVec 32 := 0#32
  let c1_i32_11 : BitVec 32 := 1#32
  let arg9 : BitVec 32 := Scf.iv c0_i32_9 c1_i32_11 k2_t4
  let c16_i32_26 : BitVec 32 := 16#32
  let v62 : BitVec 32 := Scalar.muli arg9 c16_i32_26
  let v64 : Index := Scalar.indexCast v62
  ![10, v64.toNat]
def k2_off37 (k2_t4 : Fin k2_t4_loop.trips) : Fin 2 → Nat :=
  let c11_i32 : BitVec 32 := 11#32
  let v68 : Index := Scalar.indexCast c11_i32
  let c0_i32_9 : BitVec 32 := 0#32
  let c1_i32_11 : BitVec 32 := 1#32
  let arg9 : BitVec 32 := Scf.iv c0_i32_9 c1_i32_11 k2_t4
  let c16_i32_27 : BitVec 32 := 16#32
  let v67 : BitVec 32 := Scalar.muli arg9 c16_i32_27
  let v69 : Index := Scalar.indexCast v67
  ![11, v69.toNat]
def k2_off38 (k2_t4 : Fin k2_t4_loop.trips) : Fin 2 → Nat :=
  let c12_i32 : BitVec 32 := 12#32
  let v73 : Index := Scalar.indexCast c12_i32
  let c0_i32_9 : BitVec 32 := 0#32
  let c1_i32_11 : BitVec 32 := 1#32
  let arg9 : BitVec 32 := Scf.iv c0_i32_9 c1_i32_11 k2_t4
  let c16_i32_28 : BitVec 32 := 16#32
  let v72 : BitVec 32 := Scalar.muli arg9 c16_i32_28
  let v74 : Index := Scalar.indexCast v72
  ![12, v74.toNat]
def k2_off39 (k2_t4 : Fin k2_t4_loop.trips) : Fin 2 → Nat :=
  let c13_i32 : BitVec 32 := 13#32
  let v78 : Index := Scalar.indexCast c13_i32
  let c0_i32_9 : BitVec 32 := 0#32
  let c1_i32_11 : BitVec 32 := 1#32
  let arg9 : BitVec 32 := Scf.iv c0_i32_9 c1_i32_11 k2_t4
  let c16_i32_29 : BitVec 32 := 16#32
  let v77 : BitVec 32 := Scalar.muli arg9 c16_i32_29
  let v79 : Index := Scalar.indexCast v77
  ![13, v79.toNat]
def k2_off40 (k2_t4 : Fin k2_t4_loop.trips) : Fin 2 → Nat :=
  let c14_i32 : BitVec 32 := 14#32
  let v83 : Index := Scalar.indexCast c14_i32
  let c0_i32_9 : BitVec 32 := 0#32
  let c1_i32_11 : BitVec 32 := 1#32
  let arg9 : BitVec 32 := Scf.iv c0_i32_9 c1_i32_11 k2_t4
  let c16_i32_30 : BitVec 32 := 16#32
  let v82 : BitVec 32 := Scalar.muli arg9 c16_i32_30
  let v84 : Index := Scalar.indexCast v82
  ![14, v84.toNat]
def k2_off41 (k2_t4 : Fin k2_t4_loop.trips) : Fin 2 → Nat :=
  let c15_i32 : BitVec 32 := 15#32
  let v88 : Index := Scalar.indexCast c15_i32
  let c0_i32_9 : BitVec 32 := 0#32
  let c1_i32_11 : BitVec 32 := 1#32
  let arg9 : BitVec 32 := Scf.iv c0_i32_9 c1_i32_11 k2_t4
  let c16_i32_31 : BitVec 32 := 16#32
  let v87 : BitVec 32 := Scalar.muli arg9 c16_i32_31
  let v89 : Index := Scalar.indexCast v87
  ![15, v89.toNat]
def k2_off42 (k2_t4 : Fin k2_t4_loop.trips) : Fin 2 → Nat :=
  let c0_i32_9 : BitVec 32 := 0#32
  let c1_i32_11 : BitVec 32 := 1#32
  let arg9 : BitVec 32 := Scf.iv c0_i32_9 c1_i32_11 k2_t4
  let c3_i32_32 : BitVec 32 := 3#32
  let v92 : BitVec 32 := Scalar.shrsi arg9 c3_i32_32
  let v95 : Index := Scalar.indexCast v92
  let c7_i32_33 : BitVec 32 := 7#32
  let v93 : BitVec 32 := Scalar.andi arg9 c7_i32_33
  let c16_i32_34 : BitVec 32 := 16#32
  let v94 : BitVec 32 := Scalar.muli v93 c16_i32_34
  let v96 : Index := Scalar.indexCast v94
  ![v95.toNat, v96.toNat]
def k2_off43 (i : grid2.Coords) : Fin 3 → Nat :=
  let arg1 : BitVec 32 := BitVec.ofNat 32 (i 1).val
  let c2_i32 : BitVec 32 := 2#32
  let v1 : BitVec 32 := Scalar.muli arg1 c2_i32
  let arg0 : BitVec 32 := BitVec.ofNat 32 (i 0).val
  let v2 : BitVec 32 := Scalar.addi v1 arg0
  let c0_i32_13_r2 : BitVec 32 := 0#32
  let c0_i32_14_r2 : BitVec 32 := 0#32
  ![v2.toNat, 0, 0]
abbrev scKind : Fin 3 → Kind := fun | 0 => .scVector | 1 => .scVector | 2 => .scVector | ⟨_ + 3, h⟩ => absurd h (Nat.not_lt.2 (Nat.le_add_left _ _))
abbrev scNCore : Fin 3 → Nat := fun | 0 => 2 | 1 => 2 | 2 => 2 | ⟨_ + 3, h⟩ => absurd h (Nat.not_lt.2 (Nat.le_add_left _ _))
abbrev scNSub : Fin 3 → Nat := fun | 0 => 16 | 1 => 16 | 2 => 16 | ⟨_ + 3, h⟩ => absurd h (Nat.not_lt.2 (Nat.le_add_left _ _))
-- ==== Counts.lean ====
abbrev S2048x2048 : Shape := ⟨2, ![2048, 2048]⟩
abbrev S_ : Shape := ⟨0, ![]⟩
abbrev S32x131072 : Shape := ⟨2, ![32, 131072]⟩
abbrev S32x4096 : Shape := ⟨2, ![32, 4096]⟩
abbrev S32x131072x1 : Shape := ⟨3, ![32, 131072, 1]⟩
abbrev S32x131072x2 : Shape := ⟨3, ![32, 131072, 2]⟩
abbrev S32x32x128 : Shape := ⟨3, ![32, 32, 128]⟩

abbrev nBuf : Space → Nat
  | .hbm => 99
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S_, .i32⟩
  | .hbm, ⟨2, _⟩ => ⟨S_, .i32⟩
  | .hbm, ⟨3, _⟩ => ⟨S2048x2048, .f32⟩
  | .hbm, ⟨4, _⟩ => ⟨S2048x2048, .i32⟩
  | .hbm, ⟨5, _⟩ => ⟨S32x131072, .i32⟩
  | .hbm, ⟨6, _⟩ => ⟨S32x131072, .i32⟩
  | .hbm, ⟨7, _⟩ => ⟨S_, .i32⟩
  | .hbm, ⟨8, _⟩ => ⟨S32x131072, .i32⟩
  | .hbm, ⟨9, _⟩ => ⟨S32x131072, .i32⟩
  | .hbm, ⟨10, _⟩ => ⟨S_, .i32⟩
  | .hbm, ⟨11, _⟩ => ⟨S32x131072, .i32⟩
  | .hbm, ⟨12, _⟩ => ⟨S_, .i32⟩
  | .hbm, ⟨13, _⟩ => ⟨S32x4096, .i32⟩
  | .hbm, ⟨14, _⟩ => ⟨S_, .i32⟩
  | .hbm, ⟨15, _⟩ => ⟨S32x131072, .i32⟩
  | .hbm, ⟨16, _⟩ => ⟨S32x131072, .i1⟩
  | .hbm, ⟨17, _⟩ => ⟨S_, .i32⟩
  | .hbm, ⟨18, _⟩ => ⟨S32x131072, .i32⟩
  | .hbm, ⟨19, _⟩ => ⟨S32x131072, .i32⟩
  | .hbm, ⟨20, _⟩ => ⟨S32x131072, .i32⟩
  | .hbm, ⟨21, _⟩ => ⟨S_, .i32⟩
  | .hbm, ⟨22, _⟩ => ⟨S32x131072, .i32⟩
  | .hbm, ⟨23, _⟩ => ⟨S32x131072, .i1⟩
  | .hbm, ⟨24, _⟩ => ⟨S_, .i32⟩
  | .hbm, ⟨25, _⟩ => ⟨S32x131072, .i32⟩
  | .hbm, ⟨26, _⟩ => ⟨S32x131072, .i32⟩
  | .hbm, ⟨27, _⟩ => ⟨S32x131072, .i32⟩
  | .hbm, ⟨28, _⟩ => ⟨S32x131072x1, .i32⟩
  | .hbm, ⟨29, _⟩ => ⟨S32x131072x1, .i32⟩
  | .hbm, ⟨30, _⟩ => ⟨S32x131072x2, .i32⟩
  | .hbm, ⟨31, _⟩ => ⟨S32x4096, .i32⟩
  | .hbm, ⟨32, _⟩ => ⟨S32x32x128, .i32⟩
  | .hbm, ⟨33, _⟩ => ⟨S_, .i32⟩
  | .hbm, ⟨34, _⟩ => ⟨S32x131072, .i32⟩
  | .hbm, ⟨35, _⟩ => ⟨S32x131072, .i32⟩
  | .hbm, ⟨36, _⟩ => ⟨S_, .i32⟩
  | .hbm, ⟨37, _⟩ => ⟨S32x131072, .i32⟩
  | .hbm, ⟨38, _⟩ => ⟨S32x131072, .i32⟩
  | .hbm, ⟨39, _⟩ => ⟨S_, .i32⟩
  | .hbm, ⟨40, _⟩ => ⟨S32x131072, .i32⟩
  | .hbm, ⟨41, _⟩ => ⟨S32x131072, .i32⟩
  | .hbm, ⟨42, _⟩ => ⟨S32x131072, .i32⟩
  | .hbm, ⟨43, _⟩ => ⟨S32x131072, .i1⟩
  | .hbm, ⟨44, _⟩ => ⟨S_, .i32⟩
  | .hbm, ⟨45, _⟩ => ⟨S32x4096, .i32⟩
  | .hbm, ⟨46, _⟩ => ⟨S32x131072, .i32⟩
  | .hbm, ⟨47, _⟩ => ⟨S_, .i32⟩
  | .hbm, ⟨48, _⟩ => ⟨S32x131072, .i32⟩
  | .hbm, ⟨49, _⟩ => ⟨S32x131072, .i1⟩
  | .hbm, ⟨50, _⟩ => ⟨S_, .i32⟩
  | .hbm, ⟨51, _⟩ => ⟨S32x131072, .i32⟩
  | .hbm, ⟨52, _⟩ => ⟨S32x131072, .i32⟩
  | .hbm, ⟨53, _⟩ => ⟨S32x131072, .i32⟩
  | .hbm, ⟨54, _⟩ => ⟨S_, .i32⟩
  | .hbm, ⟨55, _⟩ => ⟨S32x131072, .i32⟩
  | .hbm, ⟨56, _⟩ => ⟨S32x131072, .i1⟩
  | .hbm, ⟨57, _⟩ => ⟨S_, .i32⟩
  | .hbm, ⟨58, _⟩ => ⟨S32x131072, .i32⟩
  | .hbm, ⟨59, _⟩ => ⟨S32x131072, .i32⟩
  | .hbm, ⟨60, _⟩ => ⟨S32x131072, .i32⟩
  | .hbm, ⟨61, _⟩ => ⟨S32x131072x1, .i32⟩
  | .hbm, ⟨62, _⟩ => ⟨S32x131072x1, .i32⟩
  | .hbm, ⟨63, _⟩ => ⟨S32x131072x2, .i32⟩
  | .hbm, ⟨64, _⟩ => ⟨S32x4096, .i32⟩
  | .hbm, ⟨65, _⟩ => ⟨S32x32x128, .i32⟩
  | .hbm, ⟨66, _⟩ => ⟨S_, .i32⟩
  | .hbm, ⟨67, _⟩ => ⟨S32x131072, .i32⟩
  | .hbm, ⟨68, _⟩ => ⟨S32x131072, .i32⟩
  | .hbm, ⟨69, _⟩ => ⟨S_, .i32⟩
  | .hbm, ⟨70, _⟩ => ⟨S32x131072, .i32⟩
  | .hbm, ⟨71, _⟩ => ⟨S32x131072, .i32⟩
  | .hbm, ⟨72, _⟩ => ⟨S_, .i32⟩
  | .hbm, ⟨73, _⟩ => ⟨S_, .i32⟩
  | .hbm, ⟨74, _⟩ => ⟨S_, .i32⟩
  | .hbm, ⟨75, _⟩ => ⟨S32x131072, .i32⟩
  | .hbm, ⟨76, _⟩ => ⟨S32x131072, .i1⟩
  | .hbm, ⟨77, _⟩ => ⟨S_, .i32⟩
  | .hbm, ⟨78, _⟩ => ⟨S32x4096, .i32⟩
  | .hbm, ⟨79, _⟩ => ⟨S32x131072, .i32⟩
  | .hbm, ⟨80, _⟩ => ⟨S_, .i32⟩
  | .hbm, ⟨81, _⟩ => ⟨S32x131072, .i32⟩
  | .hbm, ⟨82, _⟩ => ⟨S32x131072, .i1⟩
  | .hbm, ⟨83, _⟩ => ⟨S_, .i32⟩
  | .hbm, ⟨84, _⟩ => ⟨S32x131072, .i32⟩
  | .hbm, ⟨85, _⟩ => ⟨S32x131072, .i32⟩
  | .hbm, ⟨86, _⟩ => ⟨S32x131072, .i32⟩
  | .hbm, ⟨87, _⟩ => ⟨S_, .i32⟩
  | .hbm, ⟨88, _⟩ => ⟨S32x131072, .i32⟩
  | .hbm, ⟨89, _⟩ => ⟨S32x131072, .i1⟩
  | .hbm, ⟨90, _⟩ => ⟨S_, .i32⟩
  | .hbm, ⟨91, _⟩ => ⟨S32x131072, .i32⟩
  | .hbm, ⟨92, _⟩ => ⟨S32x131072, .i32⟩
  | .hbm, ⟨93, _⟩ => ⟨S32x131072, .i32⟩
  | .hbm, ⟨94, _⟩ => ⟨S32x131072x1, .i32⟩
  | .hbm, ⟨95, _⟩ => ⟨S32x131072x1, .i32⟩
  | .hbm, ⟨96, _⟩ => ⟨S32x131072x2, .i32⟩
  | .hbm, ⟨97, _⟩ => ⟨S32x4096, .i32⟩
  | .hbm, ⟨98, _⟩ => ⟨S32x32x128, .i32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_c : Ref sig .tc := ⟨.hbm, 7, rfl⟩
abbrev main_v4 : Ref sig .tc := ⟨.hbm, 8, rfl⟩
abbrev main_v5 : Ref sig .tc := ⟨.hbm, 9, rfl⟩
abbrev main_c_0 : Ref sig .tc := ⟨.hbm, 10, rfl⟩
abbrev main_v6 : Ref sig .tc := ⟨.hbm, 11, rfl⟩
abbrev main_c_1 : Ref sig .tc := ⟨.hbm, 12, rfl⟩
abbrev main_v7 : Ref sig .tc := ⟨.hbm, 13, rfl⟩
abbrev main_c_2 : Ref sig .tc := ⟨.hbm, 14, rfl⟩
abbrev main_v8 : Ref sig .tc := ⟨.hbm, 15, rfl⟩
abbrev main_v9 : Ref sig .tc := ⟨.hbm, 16, rfl⟩
abbrev main_c_3 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_c_4 : Ref sig .tc := ⟨.hbm, 21, rfl⟩
abbrev main_v13 : Ref sig .tc := ⟨.hbm, 22, rfl⟩
abbrev main_v14 : Ref sig .tc := ⟨.hbm, 23, rfl⟩
abbrev main_c_5 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_c_6 : Ref sig .tc := ⟨.hbm, 33, rfl⟩
abbrev main_v23 : Ref sig .tc := ⟨.hbm, 34, rfl⟩
abbrev main_v24 : Ref sig .tc := ⟨.hbm, 35, rfl⟩
abbrev main_c_7 : Ref sig .tc := ⟨.hbm, 36, rfl⟩
abbrev main_v25 : Ref sig .tc := ⟨.hbm, 37, rfl⟩
abbrev main_v26 : Ref sig .tc := ⟨.hbm, 38, rfl⟩
abbrev main_c_8 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_c_9 : Ref sig .tc := ⟨.hbm, 44, rfl⟩
abbrev main_v31 : Ref sig .tc := ⟨.hbm, 45, rfl⟩
abbrev main_v32 : Ref sig .tc := ⟨.hbm, 46, rfl⟩
abbrev main_c_10 : Ref sig .tc := ⟨.hbm, 47, rfl⟩
abbrev main_v33 : Ref sig .tc := ⟨.hbm, 48, rfl⟩
abbrev main_v34 : Ref sig .tc := ⟨.hbm, 49, rfl⟩
abbrev main_c_11 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_c_12 : Ref sig .tc := ⟨.hbm, 54, rfl⟩
abbrev main_v38 : Ref sig .tc := ⟨.hbm, 55, rfl⟩
abbrev main_v39 : Ref sig .tc := ⟨.hbm, 56, rfl⟩
abbrev main_c_13 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_c_14 : Ref sig .tc := ⟨.hbm, 66, rfl⟩
abbrev main_v48 : Ref sig .tc := ⟨.hbm, 67, rfl⟩
abbrev main_v49 : Ref sig .tc := ⟨.hbm, 68, rfl⟩
abbrev main_c_15 : Ref sig .tc := ⟨.hbm, 69, rfl⟩
abbrev main_v50 : Ref sig .tc := ⟨.hbm, 70, rfl⟩
abbrev main_v51 : Ref sig .tc := ⟨.hbm, 71, rfl⟩
abbrev main_c_16 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_c_17 : Ref sig .tc := ⟨.hbm, 77, rfl⟩
abbrev main_v56 : Ref sig .tc := ⟨.hbm, 78, rfl⟩
abbrev main_v57 : Ref sig .tc := ⟨.hbm, 79, rfl⟩
abbrev main_c_18 : Ref sig .tc := ⟨.hbm, 80, rfl⟩
abbrev main_v58 : Ref sig .tc := ⟨.hbm, 81, rfl⟩
abbrev main_v59 : Ref sig .tc := ⟨.hbm, 82, rfl⟩
abbrev main_c_19 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_c_20 : Ref sig .tc := ⟨.hbm, 87, rfl⟩
abbrev main_v63 : Ref sig .tc := ⟨.hbm, 88, rfl⟩
abbrev main_v64 : Ref sig .tc := ⟨.hbm, 89, rfl⟩
abbrev main_c_21 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩

abbrev nD : Nat := 1
abbrev τ : Topo := Topo.v7x

variable {F : FTy → Type} [BitOps F]
-- ==== Kernel.lean ====
abbrev S8192x2048 : Shape := ⟨2, ![8192, 2048]⟩
abbrev S2048x2048 : Shape := ⟨2, ![2048, 2048]⟩
abbrev S2048 : Shape := ⟨1, ![2048]⟩
abbrev S4194304 : Shape := ⟨1, ![4194304]⟩
abbrev S_ : Shape := ⟨0, ![]⟩
abbrev S1x1 : Shape := ⟨2, ![1, 1]⟩
abbrev S32x32x128 : Shape := ⟨3, ![32, 32, 128]⟩
abbrev S16384 : Shape := ⟨1, ![16384]⟩
abbrev S16x4096 : Shape := ⟨2, ![16, 4096]⟩
abbrev S32x128 : Shape := ⟨2, ![32, 128]⟩
abbrev S16 : Shape := ⟨1, ![16]⟩
abbrev S1x16 : Shape := ⟨2, ![1, 16]⟩
abbrev S1x32x128 : Shape := ⟨3, ![1, 32, 128]⟩
abbrev S1x128 : Shape := ⟨2, ![1, 128]⟩
abbrev S32x32 : Shape := ⟨2, ![32, 32]⟩
abbrev S32 : Shape := ⟨1, ![32]⟩
abbrev S32x1 : Shape := ⟨2, ![32, 1]⟩
abbrev S128x128 : Shape := ⟨2, ![128, 128]⟩
abbrev S1 : Shape := ⟨1, ![1]⟩
abbrev S1x1x1 : Shape := ⟨3, ![1, 1, 1]⟩
abbrev S1x2048 : Shape := ⟨2, ![1, 2048]⟩
abbrev S512x2048 : Shape := ⟨2, ![512, 2048]⟩

abbrev nBuf : Table → Nat
  | .hbm => 35
  | .local .tc .vmem => 14
  | .local .tc .smem => 4
  | .local .scVector .vmem => 11
  | _ => 0

abbrev bufTy : (tb : Table) → Fin (nBuf tb) → BufTy
  | .hbm, ⟨0, _⟩ => ⟨S8192x2048, .f32⟩
  | .hbm, ⟨1, _⟩ => ⟨S2048x2048, .i32⟩
  | .hbm, ⟨2, _⟩ => ⟨S2048x2048, .f32⟩
  | .hbm, ⟨3, _⟩ => ⟨S2048, .f32⟩
  | .hbm, ⟨4, _⟩ => ⟨S4194304, .i32⟩
  | .hbm, ⟨5, _⟩ => ⟨S_, .i32⟩
  | .hbm, ⟨6, _⟩ => ⟨S1x1, .i32⟩
  | .hbm, ⟨7, _⟩ => ⟨S32x32x128, .i32⟩
  | .hbm, ⟨8, _⟩ => ⟨S1x128, .i32⟩
  | .hbm, ⟨9, _⟩ => ⟨S1x1, .i32⟩
  | .hbm, ⟨10, _⟩ => ⟨S_, .i32⟩
  | .hbm, ⟨11, _⟩ => ⟨S16, .i32⟩
  | .hbm, ⟨12, _⟩ => ⟨S32x32x128, .i32⟩
  | .hbm, ⟨13, _⟩ => ⟨S1x1, .i32⟩
  | .hbm, ⟨14, _⟩ => ⟨S1x128, .i32⟩
  | .hbm, ⟨15, _⟩ => ⟨S1x1, .i32⟩
  | .hbm, ⟨16, _⟩ => ⟨S_, .i32⟩
  | .hbm, ⟨17, _⟩ => ⟨S_, .i32⟩
  | .hbm, ⟨18, _⟩ => ⟨S_, .i32⟩
  | .hbm, ⟨19, _⟩ => ⟨S_, .i32⟩
  | .hbm, ⟨20, _⟩ => ⟨S16, .i32⟩
  | .hbm, ⟨21, _⟩ => ⟨S32x32x128, .i32⟩
  | .hbm, ⟨22, _⟩ => ⟨S1x1, .i32⟩
  | .hbm, ⟨23, _⟩ => ⟨S1x128, .i32⟩
  | .hbm, ⟨24, _⟩ => ⟨S1x1, .i32⟩
  | .hbm, ⟨25, _⟩ => ⟨S_, .i32⟩
  | .hbm, ⟨26, _⟩ => ⟨S_, .i32⟩
  | .hbm, ⟨27, _⟩ => ⟨S_, .i32⟩
  | .hbm, ⟨28, _⟩ => ⟨S_, .i32⟩
  | .hbm, ⟨29, _⟩ => ⟨S_, .i32⟩
  | .hbm, ⟨30, _⟩ => ⟨S_, .i32⟩
  | .hbm, ⟨31, _⟩ => ⟨S_, .i32⟩
  | .hbm, ⟨32, _⟩ => ⟨S1x1, .i32⟩
  | .hbm, ⟨33, _⟩ => ⟨S1x2048, .f32⟩
  | .hbm, ⟨34, _⟩ => ⟨S8192x2048, .f32⟩
  | .local .tc .vmem, ⟨0, _⟩ => ⟨S32x32x128, .i32⟩
  | .local .tc .vmem, ⟨1, _⟩ => ⟨S1x128, .i32⟩
  | .local .tc .vmem, ⟨2, _⟩ => ⟨S32x32x128, .i32⟩
  | .local .tc .vmem, ⟨3, _⟩ => ⟨S1x128, .i32⟩
  | .local .tc .vmem, ⟨4, _⟩ => ⟨S32x32x128, .i32⟩
  | .local .tc .vmem, ⟨5, _⟩ => ⟨S1x128, .i32⟩
  | .local .tc .vmem, ⟨6, _⟩ => ⟨S512x2048, .f32⟩
  | .local .tc .vmem, ⟨7, _⟩ => ⟨S512x2048, .f32⟩
  | .local .tc .vmem, ⟨8, _⟩ => ⟨S2048x2048, .i32⟩
  | .local .tc .vmem, ⟨9, _⟩ => ⟨S2048x2048, .f32⟩
  | .local .tc .vmem, ⟨10, _⟩ => ⟨S1x2048, .f32⟩
  | .local .tc .vmem, ⟨11, _⟩ => ⟨S512x2048, .f32⟩
  | .local .tc .vmem, ⟨12, _⟩ => ⟨S512x2048, .f32⟩
  | .local .tc .vmem, ⟨13, _⟩ => ⟨S2048x2048, .bf16⟩
  | .local .tc .smem, ⟨0, _⟩ => ⟨S1x1, .i32⟩
  | .local .tc .smem, ⟨1, _⟩ => ⟨S1x1, .i32⟩
  | .local .tc .smem, ⟨2, _⟩ => ⟨S1x1, .i32⟩
  | .local .tc .smem, ⟨3, _⟩ => ⟨S1x1, .i32⟩
  | .local .scVector .vmem, ⟨0, _⟩ => ⟨S16384, .i32⟩
  | .local .scVector .vmem, ⟨1, _⟩ => ⟨S16x4096, .i32⟩
  | .local .scVector .vmem, ⟨2, _⟩ => ⟨S32x128, .i32⟩
  | .local .scVector .vmem, ⟨3, _⟩ => ⟨S16384, .i32⟩
  | .local .scVector .vmem, ⟨4, _⟩ => ⟨S16x4096, .i32⟩
  | .local .scVector .vmem, ⟨5, _⟩ => ⟨S32x128, .i32⟩
  | .local .scVector .vmem, ⟨6, _⟩ => ⟨S16, .i32⟩
  | .local .scVector .vmem, ⟨7, _⟩ => ⟨S16384, .i32⟩
  | .local .scVector .vmem, ⟨8, _⟩ => ⟨S16x4096, .i32⟩
  | .local .scVector .vmem, ⟨9, _⟩ => ⟨S32x128, .i32⟩
  | .local .scVector .vmem, ⟨10, _⟩ => ⟨S16, .i32⟩
  | _, _ => ⟨S8192x2048, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .smem, ⟨0, _⟩ => true
  | .smem, ⟨1, _⟩ => true
  | .smem, ⟨2, _⟩ => true
  | .smem, ⟨3, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 25 → Bool
  | ⟨0, _⟩ => false
  | ⟨1, _⟩ => false
  | ⟨2, _⟩ => true
  | ⟨3, _⟩ => true
  | ⟨4, _⟩ => true
  | ⟨5, _⟩ => false
  | ⟨6, _⟩ => false
  | ⟨7, _⟩ => false
  | ⟨8, _⟩ => true
  | ⟨9, _⟩ => true
  | ⟨10, _⟩ => true
  | ⟨11, _⟩ => false
  | ⟨12, _⟩ => false
  | ⟨13, _⟩ => false
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTables nBuf rfl bufTy 4 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_c_0 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_c_1 : Ref sig .tc := ⟨.hbm, 26, rfl⟩
abbrev main_v20 : Ref sig .tc := ⟨.hbm, 27, rfl⟩
abbrev main_c_2 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v0_scv : Ref sig .scVector := ⟨.hbm, 4, rfl⟩
abbrev main_v2_scv : Ref sig .scVector := ⟨.hbm, 7, rfl⟩
abbrev main_v6_scv : Ref sig .scVector := ⟨.hbm, 11, rfl⟩
abbrev main_v7_scv : Ref sig .scVector := ⟨.hbm, 12, rfl⟩
abbrev main_v14_scv : Ref sig .scVector := ⟨.hbm, 20, rfl⟩
abbrev main_v15_scv : Ref sig .scVector := ⟨.hbm, 21, rfl⟩
abbrev cc1_stg0_0 : Ref sig .tc := ⟨.vmem, 0, rfl⟩
abbrev cc1_stg2_0 : Ref sig .tc := ⟨.vmem, 1, rfl⟩
abbrev cc3_stg0_0 : Ref sig .tc := ⟨.vmem, 2, rfl⟩
abbrev cc3_stg2_0 : Ref sig .tc := ⟨.vmem, 3, rfl⟩
abbrev cc5_stg0_0 : Ref sig .tc := ⟨.vmem, 4, rfl⟩
abbrev cc5_stg2_0 : Ref sig .tc := ⟨.vmem, 5, rfl⟩
abbrev cc6_stg1_0 : Ref sig .tc := ⟨.vmem, 6, rfl⟩
abbrev cc6_stg1_1 : Ref sig .tc := ⟨.vmem, 7, rfl⟩
abbrev cc6_stg2_0 : Ref sig .tc := ⟨.vmem, 8, rfl⟩
abbrev cc6_stg3_0 : Ref sig .tc := ⟨.vmem, 9, rfl⟩
abbrev cc6_stg4_0 : Ref sig .tc := ⟨.vmem, 10, rfl⟩
abbrev cc6_stg5_0 : Ref sig .tc := ⟨.vmem, 11, rfl⟩
abbrev cc6_stg5_1 : Ref sig .tc := ⟨.vmem, 12, rfl⟩
abbrev cc6_scratch0 : Ref sig .tc := ⟨.vmem, 13, rfl⟩
abbrev cc1_stg1_0 : Ref sig .tc := ⟨.smem, 0, rfl⟩
abbrev cc3_stg1_0 : Ref sig .tc := ⟨.smem, 1, rfl⟩
abbrev cc5_stg1_0 : Ref sig .tc := ⟨.smem, 2, rfl⟩
abbrev cc6_stg0_0 : Ref sig .tc := ⟨.smem, 3, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc2_scratch0 : Ref sig .scVector := ⟨.vmem, 3, rfl⟩
abbrev cc2_scratch1 : Ref sig .scVector := ⟨.vmem, 4, rfl⟩
abbrev cc2_scratch2 : Ref sig .scVector := ⟨.vmem, 5, rfl⟩
abbrev cc2_scratch3 : Ref sig .scVector := ⟨.vmem, 6, rfl⟩
abbrev cc4_scratch0 : Ref sig .scVector := ⟨.vmem, 7, rfl⟩
abbrev cc4_scratch1 : Ref sig .scVector := ⟨.vmem, 8, rfl⟩
abbrev cc4_scratch2 : Ref sig .scVector := ⟨.vmem, 9, rfl⟩
abbrev cc4_scratch3 : Ref sig .scVector := ⟨.vmem, 10, rfl⟩
abbrev cc1_sem0_0 : DmaSem sig := 2
abbrev cc1_sem1_0 : DmaSem sig := 3
abbrev cc1_sem2_0 : DmaSem sig := 4
abbrev cc3_sem0_0 : DmaSem sig := 8
abbrev cc3_sem1_0 : DmaSem sig := 9
abbrev cc3_sem2_0 : DmaSem sig := 10
abbrev cc5_sem0_0 : DmaSem sig := 14
abbrev cc5_sem1_0 : DmaSem sig := 15
abbrev cc5_sem2_0 : DmaSem sig := 16
abbrev cc6_sem0_0 : DmaSem sig := 17
abbrev cc6_sem1_0 : DmaSem sig := 18
abbrev cc6_sem1_1 : DmaSem sig := 19
abbrev cc6_sem2_0 : DmaSem sig := 20
abbrev cc6_sem3_0 : DmaSem sig := 21
abbrev cc6_sem4_0 : DmaSem sig := 22
abbrev cc6_sem5_0 : DmaSem sig := 23
abbrev cc6_sem5_1 : DmaSem sig := 24
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

@[reducible] def k0_t1_loop : Scf.Loop 32 :=
  let c0_i32_1 : BitVec 32 := 0#32
  let c256_i32 : BitVec 32 := 256#32
  let v6 : BitVec 32 := Scalar.addi c0_i32_1 c256_i32
  let c1_i32_2 : BitVec 32 := 1#32
  ⟨c0_i32_1, v6, c1_i32_2⟩
def k0_off1 (k0_t1 : Fin k0_t1_loop.trips) : Fin 2 → Nat :=
  let c0_i32_13 : BitVec 32 := 0#32
  let v13 : Index := Scalar.indexCast c0_i32_13
  let c0_i32_1 : BitVec 32 := 0#32
  let c1_i32_2 : BitVec 32 := 1#32
  let arg7 : BitVec 32 := Scf.iv c0_i32_1 c1_i32_2 k0_t1
  let c16_i32 : BitVec 32 := 16#32
  let v12 : BitVec 32 := Scalar.muli arg7 c16_i32
  let v14 : Index := Scalar.indexCast v12
  ![0, v14.toNat]
def k0_off2 (k0_t1 : Fin k0_t1_loop.trips) : Fin 2 → Nat :=
  let c1_i32_15 : BitVec 32 := 1#32
  let v17 : Index := Scalar.indexCast c1_i32_15
  let c0_i32_1 : BitVec 32 := 0#32
  let c1_i32_2 : BitVec 32 := 1#32
  let arg7 : BitVec 32 := Scf.iv c0_i32_1 c1_i32_2 k0_t1
  let c16_i32_14 : BitVec 32 := 16#32
  let v16 : BitVec 32 := Scalar.muli arg7 c16_i32_14
  let v18 : Index := Scalar.indexCast v16
  ![1, v18.toNat]
def k0_off3 (k0_t1 : Fin k0_t1_loop.trips) : Fin 2 → Nat :=
  let c2_i32_17 : BitVec 32 := 2#32
  let v21 : Index := Scalar.indexCast c2_i32_17
  let c0_i32_1 : BitVec 32 := 0#32
  let c1_i32_2 : BitVec 32 := 1#32
  let arg7 : BitVec 32 := Scf.iv c0_i32_1 c1_i32_2 k0_t1
  let c16_i32_16 : BitVec 32 := 16#32
  let v20 : BitVec 32 := Scalar.muli arg7 c16_i32_16
  let v22 : Index := Scalar.indexCast v20
  ![2, v22.toNat]
def k0_off4 (k0_t1 : Fin k0_t1_loop.trips) : Fin 2 → Nat :=
  let c3_i32 : BitVec 32 := 3#32
  let v25 : Index := Scalar.indexCast c3_i32
  let c0_i32_1 : BitVec 32 := 0#32
  let c1_i32_2 : BitVec 32 := 1#32
  let arg7 : BitVec 32 := Scf.iv c0_i32_1 c1_i32_2 k0_t1
  let c16_i32_18 : BitVec 32 := 16#32
  let v24 : BitVec 32 := Scalar.muli arg7 c16_i32_18
  let v26 : Index := Scalar.indexCast v24
  ![3, v26.toNat]
def k0_off5 (k0_t1 : Fin k0_t1_loop.trips) : Fin 2 → Nat :=
  let c4_i32 : BitVec 32 := 4#32
  let v29 : Index := Scalar.indexCast c4_i32
  let c0_i32_1 : BitVec 32 := 0#32
  let c1_i32_2 : BitVec 32 := 1#32
  let arg7 : BitVec 32 := Scf.iv c0_i32_1 c1_i32_2 k0_t1
  let c16_i32_19 : BitVec 32 := 16#32
  let v28 : BitVec 32 := Scalar.muli arg7 c16_i32_19
  let v30 : Index := Scalar.indexCast v28
  ![4, v30.toNat]
def k0_off6 (k0_t1 : Fin k0_t1_loop.trips) : Fin 2 → Nat :=
  let c5_i32 : BitVec 32 := 5#32
  let v33 : Index := Scalar.indexCast c5_i32
  let c0_i32_1 : BitVec 32 := 0#32
  let c1_i32_2 : BitVec 32 := 1#32
  let arg7 : BitVec 32 := Scf.iv c0_i32_1 c1_i32_2 k0_t1
  let c16_i32_20 : BitVec 32 := 16#32
  let v32 : BitVec 32 := Scalar.muli arg7 c16_i32_20
  let v34 : Index := Scalar.indexCast v32
  ![5, v34.toNat]
def k0_off7 (k0_t1 : Fin k0_t1_loop.trips) : Fin 2 → Nat :=
  let c6_i32 : BitVec 32 := 6#32
  let v37 : Index := Scalar.indexCast c6_i32
  let c0_i32_1 : BitVec 32 := 0#32
  let c1_i32_2 : BitVec 32 := 1#32
  let arg7 : BitVec 32 := Scf.iv c0_i32_1 c1_i32_2 k0_t1
  let c16_i32_21 : BitVec 32 := 16#32
  let v36 : BitVec 32 := Scalar.muli arg7 c16_i32_21
  let v38 : Index := Scalar.indexCast v36
  ![6, v38.toNat]
def k0_off8 (k0_t1 : Fin k0_t1_loop.trips) : Fin 2 → Nat :=
  let c7_i32 : BitVec 32 := 7#32
  let v41 : Index := Scalar.indexCast c7_i32
  let c0_i32_1 : BitVec 32 := 0#32
  let c1_i32_2 : BitVec 32 := 1#32
  let arg7 : BitVec 32 := Scf.iv c0_i32_1 c1_i32_2 k0_t1
  let c16_i32_22 : BitVec 32 := 16#32
  let v40 : BitVec 32 := Scalar.muli arg7 c16_i32_22
  let v42 : Index := Scalar.indexCast v40
  ![7, v42.toNat]
def k0_off9 (k0_t1 : Fin k0_t1_loop.trips) : Fin 2 → Nat :=
  let c8_i32_24 : BitVec 32 := 8#32
  let v45 : Index := Scalar.indexCast c8_i32_24
  let c0_i32_1 : BitVec 32 := 0#32
  let c1_i32_2 : BitVec 32 := 1#32
  let arg7 : BitVec 32 := Scf.iv c0_i32_1 c1_i32_2 k0_t1
  let c16_i32_23 : BitVec 32 := 16#32
  let v44 : BitVec 32 := Scalar.muli arg7 c16_i32_23
  let v46 : Index := Scalar.indexCast v44
  ![8, v46.toNat]
def k0_off10 (k0_t1 : Fin k0_t1_loop.trips) : Fin 2 → Nat :=
  let c9_i32 : BitVec 32 := 9#32
  let v49 : Index := Scalar.indexCast c9_i32
  let c0_i32_1 : BitVec 32 := 0#32
  let c1_i32_2 : BitVec 32 := 1#32
  let arg7 : BitVec 32 := Scf.iv c0_i32_1 c1_i32_2 k0_t1
  let c16_i32_25 : BitVec 32 := 16#32
  let v48 : BitVec 32 := Scalar.muli arg7 c16_i32_25
  let v50 : Index := Scalar.indexCast v48
  ![9, v50.toNat]
def k0_off11 (k0_t1 : Fin k0_t1_loop.trips) : Fin 2 → Nat :=
  let c10_i32 : BitVec 32 := 10#32
  let v53 : Index := Scalar.indexCast c10_i32
  let c0_i32_1 : BitVec 32 := 0#32
  let c1_i32_2 : BitVec 32 := 1#32
  let arg7 : BitVec 32 := Scf.iv c0_i32_1 c1_i32_2 k0_t1
  let c16_i32_26 : BitVec 32 := 16#32
  let v52 : BitVec 32 := Scalar.muli arg7 c16_i32_26
  let v54 : Index := Scalar.indexCast v52
  ![10, v54.toNat]
def k0_off12 (k0_t1 : Fin k0_t1_loop.trips) : Fin 2 → Nat :=
  let c11_i32 : BitVec 32 := 11#32
  let v57 : Index := Scalar.indexCast c11_i32
  let c0_i32_1 : BitVec 32 := 0#32
  let c1_i32_2 : BitVec 32 := 1#32
  let arg7 : BitVec 32 := Scf.iv c0_i32_1 c1_i32_2 k0_t1
  let c16_i32_27 : BitVec 32 := 16#32
  let v56 : BitVec 32 := Scalar.muli arg7 c16_i32_27
  let v58 : Index := Scalar.indexCast v56
  ![11, v58.toNat]
def k0_off13 (k0_t1 : Fin k0_t1_loop.trips) : Fin 2 → Nat :=
  let c12_i32 : BitVec 32 := 12#32
  let v61 : Index := Scalar.indexCast c12_i32
  let c0_i32_1 : BitVec 32 := 0#32
  let c1_i32_2 : BitVec 32 := 1#32
  let arg7 : BitVec 32 := Scf.iv c0_i32_1 c1_i32_2 k0_t1
  let c16_i32_28 : BitVec 32 := 16#32
  let v60 : BitVec 32 := Scalar.muli arg7 c16_i32_28
  let v62 : Index := Scalar.indexCast v60
  ![12, v62.toNat]
def k0_off14 (k0_t1 : Fin k0_t1_loop.trips) : Fin 2 → Nat :=
  let c13_i32 : BitVec 32 := 13#32
  let v65 : Index := Scalar.indexCast c13_i32
  let c0_i32_1 : BitVec 32 := 0#32
  let c1_i32_2 : BitVec 32 := 1#32
  let arg7 : BitVec 32 := Scf.iv c0_i32_1 c1_i32_2 k0_t1
  let c16_i32_29 : BitVec 32 := 16#32
  let v64 : BitVec 32 := Scalar.muli arg7 c16_i32_29
  let v66 : Index := Scalar.indexCast v64
  ![13, v66.toNat]
def k0_off15 (k0_t1 : Fin k0_t1_loop.trips) : Fin 2 → Nat :=
  let c14_i32 : BitVec 32 := 14#32
  let v69 : Index := Scalar.indexCast c14_i32
  let c0_i32_1 : BitVec 32 := 0#32
  let c1_i32_2 : BitVec 32 := 1#32
  let arg7 : BitVec 32 := Scf.iv c0_i32_1 c1_i32_2 k0_t1
  let c16_i32_30 : BitVec 32 := 16#32
  let v68 : BitVec 32 := Scalar.muli arg7 c16_i32_30
  let v70 : Index := Scalar.indexCast v68
  ![14, v70.toNat]
def k0_off16 (k0_t1 : Fin k0_t1_loop.trips) : Fin 2 → Nat :=
  let c15_i32 : BitVec 32 := 15#32
  let v73 : Index := Scalar.indexCast c15_i32
  let c0_i32_1 : BitVec 32 := 0#32
  let c1_i32_2 : BitVec 32 := 1#32
  let arg7 : BitVec 32 := Scf.iv c0_i32_1 c1_i32_2 k0_t1
  let c16_i32_31 : BitVec 32 := 16#32
  let v72 : BitVec 32 := Scalar.muli arg7 c16_i32_31
  let v74 : Index := Scalar.indexCast v72
  ![15, v74.toNat]
@[reducible] def k0_t2_loop : Scf.Loop 32 :=
  let c0_i32_5 : BitVec 32 := 0#32
  let c8_i32 : BitVec 32 := 8#32
  let v8 : BitVec 32 := Scalar.addi c0_i32_5 c8_i32
  let c1_i32_6 : BitVec 32 := 1#32
  ⟨c0_i32_5, v8, c1_i32_6⟩
def k0_off17 (i : grid0.Coords) (k0_t2 : Fin k0_t2_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c131072_i32 : BitVec 32 := 131072#32
  let v2 : BitVec 32 := Scalar.muli v1 c131072_i32
  let c0_i32_5 : BitVec 32 := 0#32
  let c1_i32_6 : BitVec 32 := 1#32
  let arg7 : BitVec 32 := Scf.iv c0_i32_5 c1_i32_6 k0_t2
  let c16384_i32 : BitVec 32 := 16384#32
  let v12 : BitVec 32 := Scalar.muli arg7 c16384_i32
  let v13 : BitVec 32 := Scalar.addi v2 v12
  ![v13.toNat]
@[reducible] def k0_t3_loop : Scf.Loop 32 :=
  let c0_i32_14 : BitVec 32 := 0#32
  let c128_i32 : BitVec 32 := 128#32
  let v14 : BitVec 32 := Scalar.addi c0_i32_14 c128_i32
  let c1_i32_15 : BitVec 32 := 1#32
  ⟨c0_i32_14, v14, c1_i32_15⟩
def k0_off18 (k0_t3 : Fin k0_t3_loop.trips) : Fin 1 → Nat :=
  let c0_i32_14 : BitVec 32 := 0#32
  let c1_i32_15 : BitVec 32 := 1#32
  let arg9 : BitVec 32 := Scf.iv c0_i32_14 c1_i32_15 k0_t3
  let c128_i32_18 : BitVec 32 := 128#32
  let v16 : BitVec 32 := Scalar.muli arg9 c128_i32_18
  let c0_i32_19 : BitVec 32 := 0#32
  let v17 : BitVec 32 := Scalar.addi v16 c0_i32_19
  let v18 : Index := Scalar.indexCast v17
  ![v18.toNat]

def k0_chk1 (v3 : IVec S16 32) (v23 : IVec S16 32) : Prop :=
  (∀ a x, ((![v3, v23] : Fin 2 → IVec S16 32) a x).toNat < S16x4096.size a)
theorem k0_idx1_inb : ∀ (v3 : IVec S16 32) (v23 : IVec S16 32) (k0_hw1 : k0_chk1 v3 v23), ∀ a x, ((![v3, v23] : Fin 2 → IVec S16 32) a x).toNat < S16x4096.size a := fun v3 v23 k0_hw1 => k0_hw1
def k0_off19 (k0_t3 : Fin k0_t3_loop.trips) : Fin 1 → Nat :=
  let c0_i32_14 : BitVec 32 := 0#32
  let c1_i32_15 : BitVec 32 := 1#32
  let arg9 : BitVec 32 := Scf.iv c0_i32_14 c1_i32_15 k0_t3
  let c128_i32_20 : BitVec 32 := 128#32
  let v24 : BitVec 32 := Scalar.muli arg9 c128_i32_20
  let c16_i32 : BitVec 32 := 16#32
  let v25 : BitVec 32 := Scalar.addi v24 c16_i32
  let v26 : Index := Scalar.indexCast v25
  ![v26.toNat]

def k0_chk2 (v3 : IVec S16 32) (v31 : IVec S16 32) : Prop :=
  (∀ a x, ((![v3, v31] : Fin 2 → IVec S16 32) a x).toNat < S16x4096.size a)
theorem k0_idx2_inb : ∀ (v3 : IVec S16 32) (v31 : IVec S16 32) (k0_hw2 : k0_chk2 v3 v31), ∀ a x, ((![v3, v31] : Fin 2 → IVec S16 32) a x).toNat < S16x4096.size a := fun v3 v31 k0_hw2 => k0_hw2
def k0_off20 (k0_t3 : Fin k0_t3_loop.trips) : Fin 1 → Nat :=
  let c0_i32_14 : BitVec 32 := 0#32
  let c1_i32_15 : BitVec 32 := 1#32
  let arg9 : BitVec 32 := Scf.iv c0_i32_14 c1_i32_15 k0_t3
  let c128_i32_23 : BitVec 32 := 128#32
  let v32 : BitVec 32 := Scalar.muli arg9 c128_i32_23
  let c32_i32 : BitVec 32 := 32#32
  let v33 : BitVec 32 := Scalar.addi v32 c32_i32
  let v34 : Index := Scalar.indexCast v33
  ![v34.toNat]

def k0_chk3 (v3 : IVec S16 32) (v39 : IVec S16 32) : Prop :=
  (∀ a x, ((![v3, v39] : Fin 2 → IVec S16 32) a x).toNat < S16x4096.size a)
theorem k0_idx3_inb : ∀ (v3 : IVec S16 32) (v39 : IVec S16 32) (k0_hw3 : k0_chk3 v3 v39), ∀ a x, ((![v3, v39] : Fin 2 → IVec S16 32) a x).toNat < S16x4096.size a := fun v3 v39 k0_hw3 => k0_hw3
def k0_off21 (k0_t3 : Fin k0_t3_loop.trips) : Fin 1 → Nat :=
  let c0_i32_14 : BitVec 32 := 0#32
  let c1_i32_15 : BitVec 32 := 1#32
  let arg9 : BitVec 32 := Scf.iv c0_i32_14 c1_i32_15 k0_t3
  let c128_i32_26 : BitVec 32 := 128#32
  let v40 : BitVec 32 := Scalar.muli arg9 c128_i32_26
  let c48_i32 : BitVec 32 := 48#32
  let v41 : BitVec 32 := Scalar.addi v40 c48_i32
  let v42 : Index := Scalar.indexCast v41
  ![v42.toNat]

def k0_chk4 (v3 : IVec S16 32) (v47 : IVec S16 32) : Prop :=
  (∀ a x, ((![v3, v47] : Fin 2 → IVec S16 32) a x).toNat < S16x4096.size a)
theorem k0_idx4_inb : ∀ (v3 : IVec S16 32) (v47 : IVec S16 32) (k0_hw4 : k0_chk4 v3 v47), ∀ a x, ((![v3, v47] : Fin 2 → IVec S16 32) a x).toNat < S16x4096.size a := fun v3 v47 k0_hw4 => k0_hw4
def k0_off22 (k0_t3 : Fin k0_t3_loop.trips) : Fin 1 → Nat :=
  let c0_i32_14 : BitVec 32 := 0#32
  let c1_i32_15 : BitVec 32 := 1#32
  let arg9 : BitVec 32 := Scf.iv c0_i32_14 c1_i32_15 k0_t3
  let c128_i32_29 : BitVec 32 := 128#32
  let v48 : BitVec 32 := Scalar.muli arg9 c128_i32_29
  let c64_i32 : BitVec 32 := 64#32
  let v49 : BitVec 32 := Scalar.addi v48 c64_i32
  let v50 : Index := Scalar.indexCast v49
  ![v50.toNat]

def k0_chk5 (v3 : IVec S16 32) (v55 : IVec S16 32) : Prop :=
  (∀ a x, ((![v3, v55] : Fin 2 → IVec S16 32) a x).toNat < S16x4096.size a)
theorem k0_idx5_inb : ∀ (v3 : IVec S16 32) (v55 : IVec S16 32) (k0_hw5 : k0_chk5 v3 v55), ∀ a x, ((![v3, v55] : Fin 2 → IVec S16 32) a x).toNat < S16x4096.size a := fun v3 v55 k0_hw5 => k0_hw5
def k0_off23 (k0_t3 : Fin k0_t3_loop.trips) : Fin 1 → Nat :=
  let c0_i32_14 : BitVec 32 := 0#32
  let c1_i32_15 : BitVec 32 := 1#32
  let arg9 : BitVec 32 := Scf.iv c0_i32_14 c1_i32_15 k0_t3
  let c128_i32_32 : BitVec 32 := 128#32
  let v56 : BitVec 32 := Scalar.muli arg9 c128_i32_32
  let c80_i32 : BitVec 32 := 80#32
  let v57 : BitVec 32 := Scalar.addi v56 c80_i32
  let v58 : Index := Scalar.indexCast v57
  ![v58.toNat]

def k0_chk6 (v3 : IVec S16 32) (v63 : IVec S16 32) : Prop :=
  (∀ a x, ((![v3, v63] : Fin 2 → IVec S16 32) a x).toNat < S16x4096.size a)
theorem k0_idx6_inb : ∀ (v3 : IVec S16 32) (v63 : IVec S16 32) (k0_hw6 : k0_chk6 v3 v63), ∀ a x, ((![v3, v63] : Fin 2 → IVec S16 32) a x).toNat < S16x4096.size a := fun v3 v63 k0_hw6 => k0_hw6
def k0_off24 (k0_t3 : Fin k0_t3_loop.trips) : Fin 1 → Nat :=
  let c0_i32_14 : BitVec 32 := 0#32
  let c1_i32_15 : BitVec 32 := 1#32
  let arg9 : BitVec 32 := Scf.iv c0_i32_14 c1_i32_15 k0_t3
  let c128_i32_35 : BitVec 32 := 128#32
  let v64 : BitVec 32 := Scalar.muli arg9 c128_i32_35
  let c96_i32 : BitVec 32 := 96#32
  let v65 : BitVec 32 := Scalar.addi v64 c96_i32
  let v66 : Index := Scalar.indexCast v65
  ![v66.toNat]

def k0_chk7 (v3 : IVec S16 32) (v71 : IVec S16 32) : Prop :=
  (∀ a x, ((![v3, v71] : Fin 2 → IVec S16 32) a x).toNat < S16x4096.size a)
theorem k0_idx7_inb : ∀ (v3 : IVec S16 32) (v71 : IVec S16 32) (k0_hw7 : k0_chk7 v3 v71), ∀ a x, ((![v3, v71] : Fin 2 → IVec S16 32) a x).toNat < S16x4096.size a := fun v3 v71 k0_hw7 => k0_hw7
def k0_off25 (k0_t3 : Fin k0_t3_loop.trips) : Fin 1 → Nat :=
  let c0_i32_14 : BitVec 32 := 0#32
  let c1_i32_15 : BitVec 32 := 1#32
  let arg9 : BitVec 32 := Scf.iv c0_i32_14 c1_i32_15 k0_t3
  let c128_i32_38 : BitVec 32 := 128#32
  let v72 : BitVec 32 := Scalar.muli arg9 c128_i32_38
  let c112_i32 : BitVec 32 := 112#32
  let v73 : BitVec 32 := Scalar.addi v72 c112_i32
  let v74 : Index := Scalar.indexCast v73
  ![v74.toNat]

def k0_chk8 (v3 : IVec S16 32) (v79 : IVec S16 32) : Prop :=
  (∀ a x, ((![v3, v79] : Fin 2 → IVec S16 32) a x).toNat < S16x4096.size a)
theorem k0_idx8_inb : ∀ (v3 : IVec S16 32) (v79 : IVec S16 32) (k0_hw8 : k0_chk8 v3 v79), ∀ a x, ((![v3, v79] : Fin 2 → IVec S16 32) a x).toNat < S16x4096.size a := fun v3 v79 k0_hw8 => k0_hw8
@[reducible] def k0_t4_loop : Scf.Loop 32 :=
  let c0_i32_9 : BitVec 32 := 0#32
  let c256_i32_10 : BitVec 32 := 256#32
  let v10 : BitVec 32 := Scalar.addi c0_i32_9 c256_i32_10
  let c1_i32_11 : BitVec 32 := 1#32
  ⟨c0_i32_9, v10, c1_i32_11⟩
def k0_off26 (k0_t4 : Fin k0_t4_loop.trips) : Fin 2 → Nat :=
  let c0_i32_13 : BitVec 32 := 0#32
  let v13 : Index := Scalar.indexCast c0_i32_13
  let c0_i32_9 : BitVec 32 := 0#32
  let c1_i32_11 : BitVec 32 := 1#32
  let arg7 : BitVec 32 := Scf.iv c0_i32_9 c1_i32_11 k0_t4
  let c16_i32 : BitVec 32 := 16#32
  let v12 : BitVec 32 := Scalar.muli arg7 c16_i32
  let v14 : Index := Scalar.indexCast v12
  ![0, v14.toNat]
def k0_off27 (k0_t4 : Fin k0_t4_loop.trips) : Fin 2 → Nat :=
  let c1_i32_15 : BitVec 32 := 1#32
  let v17 : Index := Scalar.indexCast c1_i32_15
  let c0_i32_9 : BitVec 32 := 0#32
  let c1_i32_11 : BitVec 32 := 1#32
  let arg7 : BitVec 32 := Scf.iv c0_i32_9 c1_i32_11 k0_t4
  let c16_i32_14 : BitVec 32 := 16#32
  let v16 : BitVec 32 := Scalar.muli arg7 c16_i32_14
  let v18 : Index := Scalar.indexCast v16
  ![1, v18.toNat]
def k0_off28 (k0_t4 : Fin k0_t4_loop.trips) : Fin 2 → Nat :=
  let c2_i32_17 : BitVec 32 := 2#32
  let v22 : Index := Scalar.indexCast c2_i32_17
  let c0_i32_9 : BitVec 32 := 0#32
  let c1_i32_11 : BitVec 32 := 1#32
  let arg7 : BitVec 32 := Scf.iv c0_i32_9 c1_i32_11 k0_t4
  let c16_i32_16 : BitVec 32 := 16#32
  let v21 : BitVec 32 := Scalar.muli arg7 c16_i32_16
  let v23 : Index := Scalar.indexCast v21
  ![2, v23.toNat]
def k0_off29 (k0_t4 : Fin k0_t4_loop.trips) : Fin 2 → Nat :=
  let c3_i32 : BitVec 32 := 3#32
  let v27 : Index := Scalar.indexCast c3_i32
  let c0_i32_9 : BitVec 32 := 0#32
  let c1_i32_11 : BitVec 32 := 1#32
  let arg7 : BitVec 32 := Scf.iv c0_i32_9 c1_i32_11 k0_t4
  let c16_i32_18 : BitVec 32 := 16#32
  let v26 : BitVec 32 := Scalar.muli arg7 c16_i32_18
  let v28 : Index := Scalar.indexCast v26
  ![3, v28.toNat]
def k0_off30 (k0_t4 : Fin k0_t4_loop.trips) : Fin 2 → Nat :=
  let c4_i32 : BitVec 32 := 4#32
  let v32 : Index := Scalar.indexCast c4_i32
  let c0_i32_9 : BitVec 32 := 0#32
  let c1_i32_11 : BitVec 32 := 1#32
  let arg7 : BitVec 32 := Scf.iv c0_i32_9 c1_i32_11 k0_t4
  let c16_i32_19 : BitVec 32 := 16#32
  let v31 : BitVec 32 := Scalar.muli arg7 c16_i32_19
  let v33 : Index := Scalar.indexCast v31
  ![4, v33.toNat]
def k0_off31 (k0_t4 : Fin k0_t4_loop.trips) : Fin 2 → Nat :=
  let c5_i32 : BitVec 32 := 5#32
  let v37 : Index := Scalar.indexCast c5_i32
  let c0_i32_9 : BitVec 32 := 0#32
  let c1_i32_11 : BitVec 32 := 1#32
  let arg7 : BitVec 32 := Scf.iv c0_i32_9 c1_i32_11 k0_t4
  let c16_i32_20 : BitVec 32 := 16#32
  let v36 : BitVec 32 := Scalar.muli arg7 c16_i32_20
  let v38 : Index := Scalar.indexCast v36
  ![5, v38.toNat]
def k0_off32 (k0_t4 : Fin k0_t4_loop.trips) : Fin 2 → Nat :=
  let c6_i32 : BitVec 32 := 6#32
  let v42 : Index := Scalar.indexCast c6_i32
  let c0_i32_9 : BitVec 32 := 0#32
  let c1_i32_11 : BitVec 32 := 1#32
  let arg7 : BitVec 32 := Scf.iv c0_i32_9 c1_i32_11 k0_t4
  let c16_i32_21 : BitVec 32 := 16#32
  let v41 : BitVec 32 := Scalar.muli arg7 c16_i32_21
  let v43 : Index := Scalar.indexCast v41
  ![6, v43.toNat]
def k0_off33 (k0_t4 : Fin k0_t4_loop.trips) : Fin 2 → Nat :=
  let c7_i32 : BitVec 32 := 7#32
  let v47 : Index := Scalar.indexCast c7_i32
  let c0_i32_9 : BitVec 32 := 0#32
  let c1_i32_11 : BitVec 32 := 1#32
  let arg7 : BitVec 32 := Scf.iv c0_i32_9 c1_i32_11 k0_t4
  let c16_i32_22 : BitVec 32 := 16#32
  let v46 : BitVec 32 := Scalar.muli arg7 c16_i32_22
  let v48 : Index := Scalar.indexCast v46
  ![7, v48.toNat]
def k0_off34 (k0_t4 : Fin k0_t4_loop.trips) : Fin 2 → Nat :=
  let c8_i32_24 : BitVec 32 := 8#32
  let v52 : Index := Scalar.indexCast c8_i32_24
  let c0_i32_9 : BitVec 32 := 0#32
  let c1_i32_11 : BitVec 32 := 1#32
  let arg7 : BitVec 32 := Scf.iv c0_i32_9 c1_i32_11 k0_t4
  let c16_i32_23 : BitVec 32 := 16#32
  let v51 : BitVec 32 := Scalar.muli arg7 c16_i32_23
  let v53 : Index := Scalar.indexCast v51
  ![8, v53.toNat]
def k0_off35 (k0_t4 : Fin k0_t4_loop.trips) : Fin 2 → Nat :=
  let c9_i32 : BitVec 32 := 9#32
  let v57 : Index := Scalar.indexCast c9_i32
  let c0_i32_9 : BitVec 32 := 0#32
  let c1_i32_11 : BitVec 32 := 1#32
  let arg7 : BitVec 32 := Scf.iv c0_i32_9 c1_i32_11 k0_t4
  let c16_i32_25 : BitVec 32 := 16#32
  let v56 : BitVec 32 := Scalar.muli arg7 c16_i32_25
  let v58 : Index := Scalar.indexCast v56
  ![9, v58.toNat]
def k0_off36 (k0_t4 : Fin k0_t4_loop.trips) : Fin 2 → Nat :=
  let c10_i32 : BitVec 32 := 10#32
  let v62 : Index := Scalar.indexCast c10_i32
  let c0_i32_9 : BitVec 32 := 0#32
  let c1_i32_11 : BitVec 32 := 1#32
  let arg7 : BitVec 32 := Scf.iv c0_i32_9 c1_i32_11 k0_t4
  let c16_i32_26 : BitVec 32 := 16#32
  let v61 : BitVec 32 := Scalar.muli arg7 c16_i32_26
  let v63 : Index := Scalar.indexCast v61
  ![10, v63.toNat]
def k0_off37 (k0_t4 : Fin k0_t4_loop.trips) : Fin 2 → Nat :=
  let c11_i32 : BitVec 32 := 11#32
  let v67 : Index := Scalar.indexCast c11_i32
  let c0_i32_9 : BitVec 32 := 0#32
  let c1_i32_11 : BitVec 32 := 1#32
  let arg7 : BitVec 32 := Scf.iv c0_i32_9 c1_i32_11 k0_t4
  let c16_i32_27 : BitVec 32 := 16#32
  let v66 : BitVec 32 := Scalar.muli arg7 c16_i32_27
  let v68 : Index := Scalar.indexCast v66
  ![11, v68.toNat]
def k0_off38 (k0_t4 : Fin k0_t4_loop.trips) : Fin 2 → Nat :=
  let c12_i32 : BitVec 32 := 12#32
  let v72 : Index := Scalar.indexCast c12_i32
  let c0_i32_9 : BitVec 32 := 0#32
  let c1_i32_11 : BitVec 32 := 1#32
  let arg7 : BitVec 32 := Scf.iv c0_i32_9 c1_i32_11 k0_t4
  let c16_i32_28 : BitVec 32 := 16#32
  let v71 : BitVec 32 := Scalar.muli arg7 c16_i32_28
  let v73 : Index := Scalar.indexCast v71
  ![12, v73.toNat]
def k0_off39 (k0_t4 : Fin k0_t4_loop.trips) : Fin 2 → Nat :=
  let c13_i32 : BitVec 32 := 13#32
  let v77 : Index := Scalar.indexCast c13_i32
  let c0_i32_9 : BitVec 32 := 0#32
  let c1_i32_11 : BitVec 32 := 1#32
  let arg7 : BitVec 32 := Scf.iv c0_i32_9 c1_i32_11 k0_t4
  let c16_i32_29 : BitVec 32 := 16#32
  let v76 : BitVec 32 := Scalar.muli arg7 c16_i32_29
  let v78 : Index := Scalar.indexCast v76
  ![13, v78.toNat]
def k0_off40 (k0_t4 : Fin k0_t4_loop.trips) : Fin 2 → Nat :=
  let c14_i32 : BitVec 32 := 14#32
  let v82 : Index := Scalar.indexCast c14_i32
  let c0_i32_9 : BitVec 32 := 0#32
  let c1_i32_11 : BitVec 32 := 1#32
  let arg7 : BitVec 32 := Scf.iv c0_i32_9 c1_i32_11 k0_t4
  let c16_i32_30 : BitVec 32 := 16#32
  let v81 : BitVec 32 := Scalar.muli arg7 c16_i32_30
  let v83 : Index := Scalar.indexCast v81
  ![14, v83.toNat]
def k0_off41 (k0_t4 : Fin k0_t4_loop.trips) : Fin 2 → Nat :=
  let c15_i32 : BitVec 32 := 15#32
  let v87 : Index := Scalar.indexCast c15_i32
  let c0_i32_9 : BitVec 32 := 0#32
  let c1_i32_11 : BitVec 32 := 1#32
  let arg7 : BitVec 32 := Scf.iv c0_i32_9 c1_i32_11 k0_t4
  let c16_i32_31 : BitVec 32 := 16#32
  let v86 : BitVec 32 := Scalar.muli arg7 c16_i32_31
  let v88 : Index := Scalar.indexCast v86
  ![15, v88.toNat]
def k0_off42 (k0_t4 : Fin k0_t4_loop.trips) : Fin 2 → Nat :=
  let c0_i32_9 : BitVec 32 := 0#32
  let c1_i32_11 : BitVec 32 := 1#32
  let arg7 : BitVec 32 := Scf.iv c0_i32_9 c1_i32_11 k0_t4
  let c3_i32_32 : BitVec 32 := 3#32
  let v91 : BitVec 32 := Scalar.shrsi arg7 c3_i32_32
  let v94 : Index := Scalar.indexCast v91
  let c7_i32_33 : BitVec 32 := 7#32
  let v92 : BitVec 32 := Scalar.andi arg7 c7_i32_33
  let c16_i32_34 : BitVec 32 := 16#32
  let v93 : BitVec 32 := Scalar.muli v92 c16_i32_34
  let v95 : Index := Scalar.indexCast v93
  ![v94.toNat, v95.toNat]
def k0_off43 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_13_r1 : BitVec 32 := 0#32
  let c0_i32_14_r1 : BitVec 32 := 0#32
  ![v1.toNat, 0, 0]
abbrev grid1 : Pipeline.Grid := .none

abbrev stage1_0 : Fin 1 → Memref sig .tc .vmem S32x32x128 .i32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .smem S1x1 .i32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev stage1_2 : Fin 1 → Memref sig .tc .vmem S1x128 .i32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))

abbrev grid2 : Pipeline.Grid := ⟨2, ![2, 16], ![false, false]⟩

@[reducible] def k2_t1_loop : Scf.Loop 32 :=
  let c0_i32_1 : BitVec 32 := 0#32
  let c256_i32 : BitVec 32 := 256#32
  let v7 : BitVec 32 := Scalar.addi c0_i32_1 c256_i32
  let c1_i32_2 : BitVec 32 := 1#32
  ⟨c0_i32_1, v7, c1_i32_2⟩
def k2_off1 (k2_t1 : Fin k2_t1_loop.trips) : Fin 2 → Nat :=
  let c0_i32_13 : BitVec 32 := 0#32
  let v14 : Index := Scalar.indexCast c0_i32_13
  let c0_i32_1 : BitVec 32 := 0#32
  let c1_i32_2 : BitVec 32 := 1#32
  let arg9 : BitVec 32 := Scf.iv c0_i32_1 c1_i32_2 k2_t1
  let c16_i32 : BitVec 32 := 16#32
  let v13 : BitVec 32 := Scalar.muli arg9 c16_i32
  let v15 : Index := Scalar.indexCast v13
  ![0, v15.toNat]
def k2_off2 (k2_t1 : Fin k2_t1_loop.trips) : Fin 2 → Nat :=
  let c1_i32_15 : BitVec 32 := 1#32
  let v18 : Index := Scalar.indexCast c1_i32_15
  let c0_i32_1 : BitVec 32 := 0#32
  let c1_i32_2 : BitVec 32 := 1#32
  let arg9 : BitVec 32 := Scf.iv c0_i32_1 c1_i32_2 k2_t1
  let c16_i32_14 : BitVec 32 := 16#32
  let v17 : BitVec 32 := Scalar.muli arg9 c16_i32_14
  let v19 : Index := Scalar.indexCast v17
  ![1, v19.toNat]
def k2_off3 (k2_t1 : Fin k2_t1_loop.trips) : Fin 2 → Nat :=
  let c2_i32_17 : BitVec 32 := 2#32
  let v22 : Index := Scalar.indexCast c2_i32_17
  let c0_i32_1 : BitVec 32 := 0#32
  let c1_i32_2 : BitVec 32 := 1#32
  let arg9 : BitVec 32 := Scf.iv c0_i32_1 c1_i32_2 k2_t1
  let c16_i32_16 : BitVec 32 := 16#32
  let v21 : BitVec 32 := Scalar.muli arg9 c16_i32_16
  let v23 : Index := Scalar.indexCast v21
  ![2, v23.toNat]
def k2_off4 (k2_t1 : Fin k2_t1_loop.trips) : Fin 2 → Nat :=
  let c3_i32 : BitVec 32 := 3#32
  let v26 : Index := Scalar.indexCast c3_i32
  let c0_i32_1 : BitVec 32 := 0#32
  let c1_i32_2 : BitVec 32 := 1#32
  let arg9 : BitVec 32 := Scf.iv c0_i32_1 c1_i32_2 k2_t1
  let c16_i32_18 : BitVec 32 := 16#32
  let v25 : BitVec 32 := Scalar.muli arg9 c16_i32_18
  let v27 : Index := Scalar.indexCast v25
  ![3, v27.toNat]
def k2_off5 (k2_t1 : Fin k2_t1_loop.trips) : Fin 2 → Nat :=
  let c4_i32 : BitVec 32 := 4#32
  let v30 : Index := Scalar.indexCast c4_i32
  let c0_i32_1 : BitVec 32 := 0#32
  let c1_i32_2 : BitVec 32 := 1#32
  let arg9 : BitVec 32 := Scf.iv c0_i32_1 c1_i32_2 k2_t1
  let c16_i32_19 : BitVec 32 := 16#32
  let v29 : BitVec 32 := Scalar.muli arg9 c16_i32_19
  let v31 : Index := Scalar.indexCast v29
  ![4, v31.toNat]
def k2_off6 (k2_t1 : Fin k2_t1_loop.trips) : Fin 2 → Nat :=
  let c5_i32 : BitVec 32 := 5#32
  let v34 : Index := Scalar.indexCast c5_i32
  let c0_i32_1 : BitVec 32 := 0#32
  let c1_i32_2 : BitVec 32 := 1#32
  let arg9 : BitVec 32 := Scf.iv c0_i32_1 c1_i32_2 k2_t1
  let c16_i32_20 : BitVec 32 := 16#32
  let v33 : BitVec 32 := Scalar.muli arg9 c16_i32_20
  let v35 : Index := Scalar.indexCast v33
  ![5, v35.toNat]
def k2_off7 (k2_t1 : Fin k2_t1_loop.trips) : Fin 2 → Nat :=
  let c6_i32 : BitVec 32 := 6#32
  let v38 : Index := Scalar.indexCast c6_i32
  let c0_i32_1 : BitVec 32 := 0#32
  let c1_i32_2 : BitVec 32 := 1#32
  let arg9 : BitVec 32 := Scf.iv c0_i32_1 c1_i32_2 k2_t1
  let c16_i32_21 : BitVec 32 := 16#32
  let v37 : BitVec 32 := Scalar.muli arg9 c16_i32_21
  let v39 : Index := Scalar.indexCast v37
  ![6, v39.toNat]
def k2_off8 (k2_t1 : Fin k2_t1_loop.trips) : Fin 2 → Nat :=
  let c7_i32 : BitVec 32 := 7#32
  let v42 : Index := Scalar.indexCast c7_i32
  let c0_i32_1 : BitVec 32 := 0#32
  let c1_i32_2 : BitVec 32 := 1#32
  let arg9 : BitVec 32 := Scf.iv c0_i32_1 c1_i32_2 k2_t1
  let c16_i32_22 : BitVec 32 := 16#32
  let v41 : BitVec 32 := Scalar.muli arg9 c16_i32_22
  let v43 : Index := Scalar.indexCast v41
  ![7, v43.toNat]
def k2_off9 (k2_t1 : Fin k2_t1_loop.trips) : Fin 2 → Nat :=
  let c8_i32_24 : BitVec 32 := 8#32
  let v46 : Index := Scalar.indexCast c8_i32_24
  let c0_i32_1 : BitVec 32 := 0#32
  let c1_i32_2 : BitVec 32 := 1#32
  let arg9 : BitVec 32 := Scf.iv c0_i32_1 c1_i32_2 k2_t1
  let c16_i32_23 : BitVec 32 := 16#32
  let v45 : BitVec 32 := Scalar.muli arg9 c16_i32_23
  let v47 : Index := Scalar.indexCast v45
  ![8, v47.toNat]
def k2_off10 (k2_t1 : Fin k2_t1_loop.trips) : Fin 2 → Nat :=
  let c9_i32 : BitVec 32 := 9#32
  let v50 : Index := Scalar.indexCast c9_i32
  let c0_i32_1 : BitVec 32 := 0#32
  let c1_i32_2 : BitVec 32 := 1#32
  let arg9 : BitVec 32 := Scf.iv c0_i32_1 c1_i32_2 k2_t1
  let c16_i32_25 : BitVec 32 := 16#32
  let v49 : BitVec 32 := Scalar.muli arg9 c16_i32_25
  let v51 : Index := Scalar.indexCast v49
  ![9, v51.toNat]
def k2_off11 (k2_t1 : Fin k2_t1_loop.trips) : Fin 2 → Nat :=
  let c10_i32 : BitVec 32 := 10#32
  let v54 : Index := Scalar.indexCast c10_i32
  let c0_i32_1 : BitVec 32 := 0#32
  let c1_i32_2 : BitVec 32 := 1#32
  let arg9 : BitVec 32 := Scf.iv c0_i32_1 c1_i32_2 k2_t1
  let c16_i32_26 : BitVec 32 := 16#32
  let v53 : BitVec 32 := Scalar.muli arg9 c16_i32_26
  let v55 : Index := Scalar.indexCast v53
  ![10, v55.toNat]
def k2_off12 (k2_t1 : Fin k2_t1_loop.trips) : Fin 2 → Nat :=
  let c11_i32 : BitVec 32 := 11#32
  let v58 : Index := Scalar.indexCast c11_i32
  let c0_i32_1 : BitVec 32 := 0#32
  let c1_i32_2 : BitVec 32 := 1#32
  let arg9 : BitVec 32 := Scf.iv c0_i32_1 c1_i32_2 k2_t1
  let c16_i32_27 : BitVec 32 := 16#32
  let v57 : BitVec 32 := Scalar.muli arg9 c16_i32_27
  let v59 : Index := Scalar.indexCast v57
  ![11, v59.toNat]
def k2_off13 (k2_t1 : Fin k2_t1_loop.trips) : Fin 2 → Nat :=
  let c12_i32 : BitVec 32 := 12#32
  let v62 : Index := Scalar.indexCast c12_i32
  let c0_i32_1 : BitVec 32 := 0#32
  let c1_i32_2 : BitVec 32 := 1#32
  let arg9 : BitVec 32 := Scf.iv c0_i32_1 c1_i32_2 k2_t1
  let c16_i32_28 : BitVec 32 := 16#32
  let v61 : BitVec 32 := Scalar.muli arg9 c16_i32_28
  let v63 : Index := Scalar.indexCast v61
  ![12, v63.toNat]
def k2_off14 (k2_t1 : Fin k2_t1_loop.trips) : Fin 2 → Nat :=
  let c13_i32 : BitVec 32 := 13#32
  let v66 : Index := Scalar.indexCast c13_i32
  let c0_i32_1 : BitVec 32 := 0#32
  let c1_i32_2 : BitVec 32 := 1#32
  let arg9 : BitVec 32 := Scf.iv c0_i32_1 c1_i32_2 k2_t1
  let c16_i32_29 : BitVec 32 := 16#32
  let v65 : BitVec 32 := Scalar.muli arg9 c16_i32_29
  let v67 : Index := Scalar.indexCast v65
  ![13, v67.toNat]
def k2_off15 (k2_t1 : Fin k2_t1_loop.trips) : Fin 2 → Nat :=
  let c14_i32 : BitVec 32 := 14#32
  let v70 : Index := Scalar.indexCast c14_i32
  let c0_i32_1 : BitVec 32 := 0#32
  let c1_i32_2 : BitVec 32 := 1#32
  let arg9 : BitVec 32 := Scf.iv c0_i32_1 c1_i32_2 k2_t1
  let c16_i32_30 : BitVec 32 := 16#32
  let v69 : BitVec 32 := Scalar.muli arg9 c16_i32_30
  let v71 : Index := Scalar.indexCast v69
  ![14, v71.toNat]
def k2_off16 (k2_t1 : Fin k2_t1_loop.trips) : Fin 2 → Nat :=
  let c15_i32 : BitVec 32 := 15#32
  let v74 : Index := Scalar.indexCast c15_i32
  let c0_i32_1 : BitVec 32 := 0#32
  let c1_i32_2 : BitVec 32 := 1#32
  let arg9 : BitVec 32 := Scf.iv c0_i32_1 c1_i32_2 k2_t1
  let c16_i32_31 : BitVec 32 := 16#32
  let v73 : BitVec 32 := Scalar.muli arg9 c16_i32_31
  let v75 : Index := Scalar.indexCast v73
  ![15, v75.toNat]
@[reducible] def k2_t2_loop : Scf.Loop 32 :=
  let c0_i32_5 : BitVec 32 := 0#32
  let c8_i32 : BitVec 32 := 8#32
  let v9 : BitVec 32 := Scalar.addi c0_i32_5 c8_i32
  let c1_i32_6 : BitVec 32 := 1#32
  ⟨c0_i32_5, v9, c1_i32_6⟩
def k2_off17 (i : grid2.Coords) (k2_t2 : Fin k2_t2_loop.trips) : Fin 1 → Nat :=
  let arg1 : BitVec 32 := BitVec.ofNat 32 (i 1).val
  let c2_i32 : BitVec 32 := 2#32
  let v1 : BitVec 32 := Scalar.muli arg1 c2_i32
  let arg0 : BitVec 32 := BitVec.ofNat 32 (i 0).val
  let v2 : BitVec 32 := Scalar.addi v1 arg0
  let c131072_i32 : BitVec 32 := 131072#32
  let v3 : BitVec 32 := Scalar.muli v2 c131072_i32
  let c0_i32_5 : BitVec 32 := 0#32
  let c1_i32_6 : BitVec 32 := 1#32
  let arg9 : BitVec 32 := Scf.iv c0_i32_5 c1_i32_6 k2_t2
  let c16384_i32 : BitVec 32 := 16384#32
  let v13 : BitVec 32 := Scalar.muli arg9 c16384_i32
  let v14 : BitVec 32 := Scalar.addi v3 v13
  ![v14.toNat]
@[reducible] def k2_t3_loop : Scf.Loop 32 :=
  let c0_i32_14 : BitVec 32 := 0#32
  let c128_i32 : BitVec 32 := 128#32
  let v15 : BitVec 32 := Scalar.addi c0_i32_14 c128_i32
  let c1_i32_15 : BitVec 32 := 1#32
  ⟨c0_i32_14, v15, c1_i32_15⟩
def k2_off18 (k2_t3 : Fin k2_t3_loop.trips) : Fin 1 → Nat :=
  let c0_i32_14 : BitVec 32 := 0#32
  let c1_i32_15 : BitVec 32 := 1#32
  let arg11 : BitVec 32 := Scf.iv c0_i32_14 c1_i32_15 k2_t3
  let c128_i32_18 : BitVec 32 := 128#32
  let v17 : BitVec 32 := Scalar.muli arg11 c128_i32_18
  let c0_i32_19 : BitVec 32 := 0#32
  let v18 : BitVec 32 := Scalar.addi v17 c0_i32_19
  let v19 : Index := Scalar.indexCast v18
  ![v19.toNat]

def k2_chk1 (v4 : IVec S16 32) (v29 : IVec S16 32) : Prop :=
  (∀ a x, ((![v4, v29] : Fin 2 → IVec S16 32) a x).toNat < S16x4096.size a)
theorem k2_idx1_inb : ∀ (v4 : IVec S16 32) (v29 : IVec S16 32) (k2_hw1 : k2_chk1 v4 v29), ∀ a x, ((![v4, v29] : Fin 2 → IVec S16 32) a x).toNat < S16x4096.size a := fun v4 v29 k2_hw1 => k2_hw1
def k2_off19 (k2_t3 : Fin k2_t3_loop.trips) : Fin 1 → Nat :=
  let c0_i32_14 : BitVec 32 := 0#32
  let c1_i32_15 : BitVec 32 := 1#32
  let arg11 : BitVec 32 := Scf.iv c0_i32_14 c1_i32_15 k2_t3
  let c128_i32_21 : BitVec 32 := 128#32
  let v30 : BitVec 32 := Scalar.muli arg11 c128_i32_21
  let c16_i32 : BitVec 32 := 16#32
  let v31 : BitVec 32 := Scalar.addi v30 c16_i32
  let v32 : Index := Scalar.indexCast v31
  ![v32.toNat]

def k2_chk2 (v4 : IVec S16 32) (v42 : IVec S16 32) : Prop :=
  (∀ a x, ((![v4, v42] : Fin 2 → IVec S16 32) a x).toNat < S16x4096.size a)
theorem k2_idx2_inb : ∀ (v4 : IVec S16 32) (v42 : IVec S16 32) (k2_hw2 : k2_chk2 v4 v42), ∀ a x, ((![v4, v42] : Fin 2 → IVec S16 32) a x).toNat < S16x4096.size a := fun v4 v42 k2_hw2 => k2_hw2
def k2_off20 (k2_t3 : Fin k2_t3_loop.trips) : Fin 1 → Nat :=
  let c0_i32_14 : BitVec 32 := 0#32
  let c1_i32_15 : BitVec 32 := 1#32
  let arg11 : BitVec 32 := Scf.iv c0_i32_14 c1_i32_15 k2_t3
  let c128_i32_26 : BitVec 32 := 128#32
  let v43 : BitVec 32 := Scalar.muli arg11 c128_i32_26
  let c32_i32 : BitVec 32 := 32#32
  let v44 : BitVec 32 := Scalar.addi v43 c32_i32
  let v45 : Index := Scalar.indexCast v44
  ![v45.toNat]

def k2_chk3 (v4 : IVec S16 32) (v55 : IVec S16 32) : Prop :=
  (∀ a x, ((![v4, v55] : Fin 2 → IVec S16 32) a x).toNat < S16x4096.size a)
theorem k2_idx3_inb : ∀ (v4 : IVec S16 32) (v55 : IVec S16 32) (k2_hw3 : k2_chk3 v4 v55), ∀ a x, ((![v4, v55] : Fin 2 → IVec S16 32) a x).toNat < S16x4096.size a := fun v4 v55 k2_hw3 => k2_hw3
def k2_off21 (k2_t3 : Fin k2_t3_loop.trips) : Fin 1 → Nat :=
  let c0_i32_14 : BitVec 32 := 0#32
  let c1_i32_15 : BitVec 32 := 1#32
  let arg11 : BitVec 32 := Scf.iv c0_i32_14 c1_i32_15 k2_t3
  let c128_i32_31 : BitVec 32 := 128#32
  let v56 : BitVec 32 := Scalar.muli arg11 c128_i32_31
  let c48_i32 : BitVec 32 := 48#32
  let v57 : BitVec 32 := Scalar.addi v56 c48_i32
  let v58 : Index := Scalar.indexCast v57
  ![v58.toNat]

def k2_chk4 (v4 : IVec S16 32) (v68 : IVec S16 32) : Prop :=
  (∀ a x, ((![v4, v68] : Fin 2 → IVec S16 32) a x).toNat < S16x4096.size a)
theorem k2_idx4_inb : ∀ (v4 : IVec S16 32) (v68 : IVec S16 32) (k2_hw4 : k2_chk4 v4 v68), ∀ a x, ((![v4, v68] : Fin 2 → IVec S16 32) a x).toNat < S16x4096.size a := fun v4 v68 k2_hw4 => k2_hw4
def k2_off22 (k2_t3 : Fin k2_t3_loop.trips) : Fin 1 → Nat :=
  let c0_i32_14 : BitVec 32 := 0#32
  let c1_i32_15 : BitVec 32 := 1#32
  let arg11 : BitVec 32 := Scf.iv c0_i32_14 c1_i32_15 k2_t3
  let c128_i32_36 : BitVec 32 := 128#32
  let v69 : BitVec 32 := Scalar.muli arg11 c128_i32_36
  let c64_i32 : BitVec 32 := 64#32
  let v70 : BitVec 32 := Scalar.addi v69 c64_i32
  let v71 : Index := Scalar.indexCast v70
  ![v71.toNat]

def k2_chk5 (v4 : IVec S16 32) (v81 : IVec S16 32) : Prop :=
  (∀ a x, ((![v4, v81] : Fin 2 → IVec S16 32) a x).toNat < S16x4096.size a)
theorem k2_idx5_inb : ∀ (v4 : IVec S16 32) (v81 : IVec S16 32) (k2_hw5 : k2_chk5 v4 v81), ∀ a x, ((![v4, v81] : Fin 2 → IVec S16 32) a x).toNat < S16x4096.size a := fun v4 v81 k2_hw5 => k2_hw5
def k2_off23 (k2_t3 : Fin k2_t3_loop.trips) : Fin 1 → Nat :=
  let c0_i32_14 : BitVec 32 := 0#32
  let c1_i32_15 : BitVec 32 := 1#32
  let arg11 : BitVec 32 := Scf.iv c0_i32_14 c1_i32_15 k2_t3
  let c128_i32_41 : BitVec 32 := 128#32
  let v82 : BitVec 32 := Scalar.muli arg11 c128_i32_41
  let c80_i32 : BitVec 32 := 80#32
  let v83 : BitVec 32 := Scalar.addi v82 c80_i32
  let v84 : Index := Scalar.indexCast v83
  ![v84.toNat]

def k2_chk6 (v4 : IVec S16 32) (v94 : IVec S16 32) : Prop :=
  (∀ a x, ((![v4, v94] : Fin 2 → IVec S16 32) a x).toNat < S16x4096.size a)
theorem k2_idx6_inb : ∀ (v4 : IVec S16 32) (v94 : IVec S16 32) (k2_hw6 : k2_chk6 v4 v94), ∀ a x, ((![v4, v94] : Fin 2 → IVec S16 32) a x).toNat < S16x4096.size a := fun v4 v94 k2_hw6 => k2_hw6
def k2_off24 (k2_t3 : Fin k2_t3_loop.trips) : Fin 1 → Nat :=
  let c0_i32_14 : BitVec 32 := 0#32
  let c1_i32_15 : BitVec 32 := 1#32
  let arg11 : BitVec 32 := Scf.iv c0_i32_14 c1_i32_15 k2_t3
  let c128_i32_46 : BitVec 32 := 128#32
  let v95 : BitVec 32 := Scalar.muli arg11 c128_i32_46
  let c96_i32 : BitVec 32 := 96#32
  let v96 : BitVec 32 := Scalar.addi v95 c96_i32
  let v97 : Index := Scalar.indexCast v96
  ![v97.toNat]

def k2_chk7 (v4 : IVec S16 32) (v107 : IVec S16 32) : Prop :=
  (∀ a x, ((![v4, v107] : Fin 2 → IVec S16 32) a x).toNat < S16x4096.size a)
theorem k2_idx7_inb : ∀ (v4 : IVec S16 32) (v107 : IVec S16 32) (k2_hw7 : k2_chk7 v4 v107), ∀ a x, ((![v4, v107] : Fin 2 → IVec S16 32) a x).toNat < S16x4096.size a := fun v4 v107 k2_hw7 => k2_hw7
def k2_off25 (k2_t3 : Fin k2_t3_loop.trips) : Fin 1 → Nat :=
  let c0_i32_14 : BitVec 32 := 0#32
  let c1_i32_15 : BitVec 32 := 1#32
  let arg11 : BitVec 32 := Scf.iv c0_i32_14 c1_i32_15 k2_t3
  let c128_i32_51 : BitVec 32 := 128#32
  let v108 : BitVec 32 := Scalar.muli arg11 c128_i32_51
  let c112_i32 : BitVec 32 := 112#32
  let v109 : BitVec 32 := Scalar.addi v108 c112_i32
  let v110 : Index := Scalar.indexCast v109
  ![v110.toNat]

def k2_chk8 (v4 : IVec S16 32) (v120 : IVec S16 32) : Prop :=
  (∀ a x, ((![v4, v120] : Fin 2 → IVec S16 32) a x).toNat < S16x4096.size a)
theorem k2_idx8_inb : ∀ (v4 : IVec S16 32) (v120 : IVec S16 32) (k2_hw8 : k2_chk8 v4 v120), ∀ a x, ((![v4, v120] : Fin 2 → IVec S16 32) a x).toNat < S16x4096.size a := fun v4 v120 k2_hw8 => k2_hw8
@[reducible] def k2_t4_loop : Scf.Loop 32 :=
  let c0_i32_9 : BitVec 32 := 0#32
  let c256_i32_10 : BitVec 32 := 256#32
  let v11 : BitVec 32 := Scalar.addi c0_i32_9 c256_i32_10
  let c1_i32_11 : BitVec 32 := 1#32
  ⟨c0_i32_9, v11, c1_i32_11⟩
def k2_off26 (k2_t4 : Fin k2_t4_loop.trips) : Fin 2 → Nat :=
  let c0_i32_13 : BitVec 32 := 0#32
  let v14 : Index := Scalar.indexCast c0_i32_13
  let c0_i32_9 : BitVec 32 := 0#32
  let c1_i32_11 : BitVec 32 := 1#32
  let arg9 : BitVec 32 := Scf.iv c0_i32_9 c1_i32_11 k2_t4
  let c16_i32 : BitVec 32 := 16#32
  let v13 : BitVec 32 := Scalar.muli arg9 c16_i32
  let v15 : Index := Scalar.indexCast v13
  ![0, v15.toNat]
def k2_off27 (k2_t4 : Fin k2_t4_loop.trips) : Fin 2 → Nat :=
  let c1_i32_15 : BitVec 32 := 1#32
  let v18 : Index := Scalar.indexCast c1_i32_15
  let c0_i32_9 : BitVec 32 := 0#32
  let c1_i32_11 : BitVec 32 := 1#32
  let arg9 : BitVec 32 := Scf.iv c0_i32_9 c1_i32_11 k2_t4
  let c16_i32_14 : BitVec 32 := 16#32
  let v17 : BitVec 32 := Scalar.muli arg9 c16_i32_14
  let v19 : Index := Scalar.indexCast v17
  ![1, v19.toNat]
def k2_off28 (k2_t4 : Fin k2_t4_loop.trips) : Fin 2 → Nat :=
  let c2_i32_17 : BitVec 32 := 2#32
  let v23 : Index := Scalar.indexCast c2_i32_17
  let c0_i32_9 : BitVec 32 := 0#32
  let c1_i32_11 : BitVec 32 := 1#32
  let arg9 : BitVec 32 := Scf.iv c0_i32_9 c1_i32_11 k2_t4
  let c16_i32_16 : BitVec 32 := 16#32
  let v22 : BitVec 32 := Scalar.muli arg9 c16_i32_16
  let v24 : Index := Scalar.indexCast v22
  ![2, v24.toNat]
def k2_off29 (k2_t4 : Fin k2_t4_loop.trips) : Fin 2 → Nat :=
  let c3_i32 : BitVec 32 := 3#32
  let v28 : Index := Scalar.indexCast c3_i32
  let c0_i32_9 : BitVec 32 := 0#32
  let c1_i32_11 : BitVec 32 := 1#32
  let arg9 : BitVec 32 := Scf.iv c0_i32_9 c1_i32_11 k2_t4
  let c16_i32_18 : BitVec 32 := 16#32
  let v27 : BitVec 32 := Scalar.muli arg9 c16_i32_18
  let v29 : Index := Scalar.indexCast v27
  ![3, v29.toNat]
def k2_off30 (k2_t4 : Fin k2_t4_loop.trips) : Fin 2 → Nat :=
  let c4_i32 : BitVec 32 := 4#32
  let v33 : Index := Scalar.indexCast c4_i32
  let c0_i32_9 : BitVec 32 := 0#32
  let c1_i32_11 : BitVec 32 := 1#32
  let arg9 : BitVec 32 := Scf.iv c0_i32_9 c1_i32_11 k2_t4
  let c16_i32_19 : BitVec 32 := 16#32
  let v32 : BitVec 32 := Scalar.muli arg9 c16_i32_19
  let v34 : Index := Scalar.indexCast v32
  ![4, v34.toNat]
def k2_off31 (k2_t4 : Fin k2_t4_loop.trips) : Fin 2 → Nat :=
  let c5_i32 : BitVec 32 := 5#32
  let v38 : Index := Scalar.indexCast c5_i32
  let c0_i32_9 : BitVec 32 := 0#32
  let c1_i32_11 : BitVec 32 := 1#32
  let arg9 : BitVec 32 := Scf.iv c0_i32_9 c1_i32_11 k2_t4
  let c16_i32_20 : BitVec 32 := 16#32
  let v37 : BitVec 32 := Scalar.muli arg9 c16_i32_20
  let v39 : Index := Scalar.indexCast v37
  ![5, v39.toNat]
def k2_off32 (k2_t4 : Fin k2_t4_loop.trips) : Fin 2 → Nat :=
  let c6_i32 : BitVec 32 := 6#32
  let v43 : Index := Scalar.indexCast c6_i32
  let c0_i32_9 : BitVec 32 := 0#32
  let c1_i32_11 : BitVec 32 := 1#32
  let arg9 : BitVec 32 := Scf.iv c0_i32_9 c1_i32_11 k2_t4
  let c16_i32_21 : BitVec 32 := 16#32
  let v42 : BitVec 32 := Scalar.muli arg9 c16_i32_21
  let v44 : Index := Scalar.indexCast v42
  ![6, v44.toNat]
def k2_off33 (k2_t4 : Fin k2_t4_loop.trips) : Fin 2 → Nat :=
  let c7_i32 : BitVec 32 := 7#32
  let v48 : Index := Scalar.indexCast c7_i32
  let c0_i32_9 : BitVec 32 := 0#32
  let c1_i32_11 : BitVec 32 := 1#32
  let arg9 : BitVec 32 := Scf.iv c0_i32_9 c1_i32_11 k2_t4
  let c16_i32_22 : BitVec 32 := 16#32
  let v47 : BitVec 32 := Scalar.muli arg9 c16_i32_22
  let v49 : Index := Scalar.indexCast v47
  ![7, v49.toNat]
def k2_off34 (k2_t4 : Fin k2_t4_loop.trips) : Fin 2 → Nat :=
  let c8_i32_24 : BitVec 32 := 8#32
  let v53 : Index := Scalar.indexCast c8_i32_24
  let c0_i32_9 : BitVec 32 := 0#32
  let c1_i32_11 : BitVec 32 := 1#32
  let arg9 : BitVec 32 := Scf.iv c0_i32_9 c1_i32_11 k2_t4
  let c16_i32_23 : BitVec 32 := 16#32
  let v52 : BitVec 32 := Scalar.muli arg9 c16_i32_23
  let v54 : Index := Scalar.indexCast v52
  ![8, v54.toNat]
def k2_off35 (k2_t4 : Fin k2_t4_loop.trips) : Fin 2 → Nat :=
  let c9_i32 : BitVec 32 := 9#32
  let v58 : Index := Scalar.indexCast c9_i32
  let c0_i32_9 : BitVec 32 := 0#32
  let c1_i32_11 : BitVec 32 := 1#32
  let arg9 : BitVec 32 := Scf.iv c0_i32_9 c1_i32_11 k2_t4
  let c16_i32_25 : BitVec 32 := 16#32
  let v57 : BitVec 32 := Scalar.muli arg9 c16_i32_25
  let v59 : Index := Scalar.indexCast v57
  ![9, v59.toNat]
def k2_off36 (k2_t4 : Fin k2_t4_loop.trips) : Fin 2 → Nat :=
  let c10_i32 : BitVec 32 := 10#32
  let v63 : Index := Scalar.indexCast c10_i32
  let c0_i32_9 : BitVec 32 := 0#32
  let c1_i32_11 : BitVec 32 := 1#32
  let arg9 : BitVec 32 := Scf.iv c0_i32_9 c1_i32_11 k2_t4
  let c16_i32_26 : BitVec 32 := 16#32
  let v62 : BitVec 32 := Scalar.muli arg9 c16_i32_26
  let v64 : Index := Scalar.indexCast v62
  ![10, v64.toNat]
def k2_off37 (k2_t4 : Fin k2_t4_loop.trips) : Fin 2 → Nat :=
  let c11_i32 : BitVec 32 := 11#32
  let v68 : Index := Scalar.indexCast c11_i32
  let c0_i32_9 : BitVec 32 := 0#32
  let c1_i32_11 : BitVec 32 := 1#32
  let arg9 : BitVec 32 := Scf.iv c0_i32_9 c1_i32_11 k2_t4
  let c16_i32_27 : BitVec 32 := 16#32
  let v67 : BitVec 32 := Scalar.muli arg9 c16_i32_27
  let v69 : Index := Scalar.indexCast v67
  ![11, v69.toNat]
def k2_off38 (k2_t4 : Fin k2_t4_loop.trips) : Fin 2 → Nat :=
  let c12_i32 : BitVec 32 := 12#32
  let v73 : Index := Scalar.indexCast c12_i32
  let c0_i32_9 : BitVec 32 := 0#32
  let c1_i32_11 : BitVec 32 := 1#32
  let arg9 : BitVec 32 := Scf.iv c0_i32_9 c1_i32_11 k2_t4
  let c16_i32_28 : BitVec 32 := 16#32
  let v72 : BitVec 32 := Scalar.muli arg9 c16_i32_28
  let v74 : Index := Scalar.indexCast v72
  ![12, v74.toNat]
def k2_off39 (k2_t4 : Fin k2_t4_loop.trips) : Fin 2 → Nat :=
  let c13_i32 : BitVec 32 := 13#32
  let v78 : Index := Scalar.indexCast c13_i32
  let c0_i32_9 : BitVec 32 := 0#32
  let c1_i32_11 : BitVec 32 := 1#32
  let arg9 : BitVec 32 := Scf.iv c0_i32_9 c1_i32_11 k2_t4
  let c16_i32_29 : BitVec 32 := 16#32
  let v77 : BitVec 32 := Scalar.muli arg9 c16_i32_29
  let v79 : Index := Scalar.indexCast v77
  ![13, v79.toNat]
def k2_off40 (k2_t4 : Fin k2_t4_loop.trips) : Fin 2 → Nat :=
  let c14_i32 : BitVec 32 := 14#32
  let v83 : Index := Scalar.indexCast c14_i32
  let c0_i32_9 : BitVec 32 := 0#32
  let c1_i32_11 : BitVec 32 := 1#32
  let arg9 : BitVec 32 := Scf.iv c0_i32_9 c1_i32_11 k2_t4
  let c16_i32_30 : BitVec 32 := 16#32
  let v82 : BitVec 32 := Scalar.muli arg9 c16_i32_30
  let v84 : Index := Scalar.indexCast v82
  ![14, v84.toNat]
def k2_off41 (k2_t4 : Fin k2_t4_loop.trips) : Fin 2 → Nat :=
  let c15_i32 : BitVec 32 := 15#32
  let v88 : Index := Scalar.indexCast c15_i32
  let c0_i32_9 : BitVec 32 := 0#32
  let c1_i32_11 : BitVec 32 := 1#32
  let arg9 : BitVec 32 := Scf.iv c0_i32_9 c1_i32_11 k2_t4
  let c16_i32_31 : BitVec 32 := 16#32
  let v87 : BitVec 32 := Scalar.muli arg9 c16_i32_31
  let v89 : Index := Scalar.indexCast v87
  ![15, v89.toNat]
def k2_off42 (k2_t4 : Fin k2_t4_loop.trips) : Fin 2 → Nat :=
  let c0_i32_9 : BitVec 32 := 0#32
  let c1_i32_11 : BitVec 32 := 1#32
  let arg9 : BitVec 32 := Scf.iv c0_i32_9 c1_i32_11 k2_t4
  let c3_i32_32 : BitVec 32 := 3#32
  let v92 : BitVec 32 := Scalar.shrsi arg9 c3_i32_32
  let v95 : Index := Scalar.indexCast v92
  let c7_i32_33 : BitVec 32 := 7#32
  let v93 : BitVec 32 := Scalar.andi arg9 c7_i32_33
  let c16_i32_34 : BitVec 32 := 16#32
  let v94 : BitVec 32 := Scalar.muli v93 c16_i32_34
  let v96 : Index := Scalar.indexCast v94
  ![v95.toNat, v96.toNat]
def k2_off43 (i : grid2.Coords) : Fin 3 → Nat :=
  let arg1 : BitVec 32 := BitVec.ofNat 32 (i 1).val
  let c2_i32 : BitVec 32 := 2#32
  let v1 : BitVec 32 := Scalar.muli arg1 c2_i32
  let arg0 : BitVec 32 := BitVec.ofNat 32 (i 0).val
  let v2 : BitVec 32 := Scalar.addi v1 arg0
  let c0_i32_13_r2 : BitVec 32 := 0#32
  let c0_i32_14_r2 : BitVec 32 := 0#32
  ![v2.toNat, 0, 0]
abbrev grid3 : Pipeline.Grid := .none

abbrev stage3_0 : Fin 1 → Memref sig .tc .vmem S32x32x128 .i32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))

abbrev stage3_1 : Fin 1 → Memref sig .tc .smem S1x1 .i32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))

abbrev stage3_2 : Fin 1 → Memref sig .tc .vmem S1x128 .i32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))

abbrev grid4 : Pipeline.Grid := ⟨2, ![2, 16], ![false, false]⟩

@[reducible] def k4_t1_loop : Scf.Loop 32 :=
  let c0_i32_1 : BitVec 32 := 0#32
  let c256_i32 : BitVec 32 := 256#32
  let v7 : BitVec 32 := Scalar.addi c0_i32_1 c256_i32
  let c1_i32_2 : BitVec 32 := 1#32
  ⟨c0_i32_1, v7, c1_i32_2⟩
def k4_off1 (k4_t1 : Fin k4_t1_loop.trips) : Fin 2 → Nat :=
  let c0_i32_13 : BitVec 32 := 0#32
  let v14 : Index := Scalar.indexCast c0_i32_13
  let c0_i32_1 : BitVec 32 := 0#32
  let c1_i32_2 : BitVec 32 := 1#32
  let arg9 : BitVec 32 := Scf.iv c0_i32_1 c1_i32_2 k4_t1
  let c16_i32 : BitVec 32 := 16#32
  let v13 : BitVec 32 := Scalar.muli arg9 c16_i32
  let v15 : Index := Scalar.indexCast v13
  ![0, v15.toNat]
def k4_off2 (k4_t1 : Fin k4_t1_loop.trips) : Fin 2 → Nat :=
  let c1_i32_15 : BitVec 32 := 1#32
  let v18 : Index := Scalar.indexCast c1_i32_15
  let c0_i32_1 : BitVec 32 := 0#32
  let c1_i32_2 : BitVec 32 := 1#32
  let arg9 : BitVec 32 := Scf.iv c0_i32_1 c1_i32_2 k4_t1
  let c16_i32_14 : BitVec 32 := 16#32
  let v17 : BitVec 32 := Scalar.muli arg9 c16_i32_14
  let v19 : Index := Scalar.indexCast v17
  ![1, v19.toNat]
def k4_off3 (k4_t1 : Fin k4_t1_loop.trips) : Fin 2 → Nat :=
  let c2_i32_17 : BitVec 32 := 2#32
  let v22 : Index := Scalar.indexCast c2_i32_17
  let c0_i32_1 : BitVec 32 := 0#32
  let c1_i32_2 : BitVec 32 := 1#32
  let arg9 : BitVec 32 := Scf.iv c0_i32_1 c1_i32_2 k4_t1
  let c16_i32_16 : BitVec 32 := 16#32
  let v21 : BitVec 32 := Scalar.muli arg9 c16_i32_16
  let v23 : Index := Scalar.indexCast v21
  ![2, v23.toNat]
def k4_off4 (k4_t1 : Fin k4_t1_loop.trips) : Fin 2 → Nat :=
  let c3_i32 : BitVec 32 := 3#32
  let v26 : Index := Scalar.indexCast c3_i32
  let c0_i32_1 : BitVec 32 := 0#32
  let c1_i32_2 : BitVec 32 := 1#32
  let arg9 : BitVec 32 := Scf.iv c0_i32_1 c1_i32_2 k4_t1
  let c16_i32_18 : BitVec 32 := 16#32
  let v25 : BitVec 32 := Scalar.muli arg9 c16_i32_18
  let v27 : Index := Scalar.indexCast v25
  ![3, v27.toNat]
def k4_off5 (k4_t1 : Fin k4_t1_loop.trips) : Fin 2 → Nat :=
  let c4_i32 : BitVec 32 := 4#32
  let v30 : Index := Scalar.indexCast c4_i32
  let c0_i32_1 : BitVec 32 := 0#32
  let c1_i32_2 : BitVec 32 := 1#32
  let arg9 : BitVec 32 := Scf.iv c0_i32_1 c1_i32_2 k4_t1
  let c16_i32_19 : BitVec 32 := 16#32
  let v29 : BitVec 32 := Scalar.muli arg9 c16_i32_19
  let v31 : Index := Scalar.indexCast v29
  ![4, v31.toNat]
def k4_off6 (k4_t1 : Fin k4_t1_loop.trips) : Fin 2 → Nat :=
  let c5_i32 : BitVec 32 := 5#32
  let v34 : Index := Scalar.indexCast c5_i32
  let c0_i32_1 : BitVec 32 := 0#32
  let c1_i32_2 : BitVec 32 := 1#32
  let arg9 : BitVec 32 := Scf.iv c0_i32_1 c1_i32_2 k4_t1
  let c16_i32_20 : BitVec 32 := 16#32
  let v33 : BitVec 32 := Scalar.muli arg9 c16_i32_20
  let v35 : Index := Scalar.indexCast v33
  ![5, v35.toNat]
def k4_off7 (k4_t1 : Fin k4_t1_loop.trips) : Fin 2 → Nat :=
  let c6_i32 : BitVec 32 := 6#32
  let v38 : Index := Scalar.indexCast c6_i32
  let c0_i32_1 : BitVec 32 := 0#32
  let c1_i32_2 : BitVec 32 := 1#32
  let arg9 : BitVec 32 := Scf.iv c0_i32_1 c1_i32_2 k4_t1
  let c16_i32_21 : BitVec 32 := 16#32
  let v37 : BitVec 32 := Scalar.muli arg9 c16_i32_21
  let v39 : Index := Scalar.indexCast v37
  ![6, v39.toNat]
def k4_off8 (k4_t1 : Fin k4_t1_loop.trips) : Fin 2 → Nat :=
  let c7_i32 : BitVec 32 := 7#32
  let v42 : Index := Scalar.indexCast c7_i32
  let c0_i32_1 : BitVec 32 := 0#32
  let c1_i32_2 : BitVec 32 := 1#32
  let arg9 : BitVec 32 := Scf.iv c0_i32_1 c1_i32_2 k4_t1
  let c16_i32_22 : BitVec 32 := 16#32
  let v41 : BitVec 32 := Scalar.muli arg9 c16_i32_22
  let v43 : Index := Scalar.indexCast v41
  ![7, v43.toNat]
def k4_off9 (k4_t1 : Fin k4_t1_loop.trips) : Fin 2 → Nat :=
  let c8_i32_24 : BitVec 32 := 8#32
  let v46 : Index := Scalar.indexCast c8_i32_24
  let c0_i32_1 : BitVec 32 := 0#32
  let c1_i32_2 : BitVec 32 := 1#32
  let arg9 : BitVec 32 := Scf.iv c0_i32_1 c1_i32_2 k4_t1
  let c16_i32_23 : BitVec 32 := 16#32
  let v45 : BitVec 32 := Scalar.muli arg9 c16_i32_23
  let v47 : Index := Scalar.indexCast v45
  ![8, v47.toNat]
def k4_off10 (k4_t1 : Fin k4_t1_loop.trips) : Fin 2 → Nat :=
  let c9_i32 : BitVec 32 := 9#32
  let v50 : Index := Scalar.indexCast c9_i32
  let c0_i32_1 : BitVec 32 := 0#32
  let c1_i32_2 : BitVec 32 := 1#32
  let arg9 : BitVec 32 := Scf.iv c0_i32_1 c1_i32_2 k4_t1
  let c16_i32_25 : BitVec 32 := 16#32
  let v49 : BitVec 32 := Scalar.muli arg9 c16_i32_25
  let v51 : Index := Scalar.indexCast v49
  ![9, v51.toNat]
def k4_off11 (k4_t1 : Fin k4_t1_loop.trips) : Fin 2 → Nat :=
  let c10_i32 : BitVec 32 := 10#32
  let v54 : Index := Scalar.indexCast c10_i32
  let c0_i32_1 : BitVec 32 := 0#32
  let c1_i32_2 : BitVec 32 := 1#32
  let arg9 : BitVec 32 := Scf.iv c0_i32_1 c1_i32_2 k4_t1
  let c16_i32_26 : BitVec 32 := 16#32
  let v53 : BitVec 32 := Scalar.muli arg9 c16_i32_26
  let v55 : Index := Scalar.indexCast v53
  ![10, v55.toNat]
def k4_off12 (k4_t1 : Fin k4_t1_loop.trips) : Fin 2 → Nat :=
  let c11_i32 : BitVec 32 := 11#32
  let v58 : Index := Scalar.indexCast c11_i32
  let c0_i32_1 : BitVec 32 := 0#32
  let c1_i32_2 : BitVec 32 := 1#32
  let arg9 : BitVec 32 := Scf.iv c0_i32_1 c1_i32_2 k4_t1
  let c16_i32_27 : BitVec 32 := 16#32
  let v57 : BitVec 32 := Scalar.muli arg9 c16_i32_27
  let v59 : Index := Scalar.indexCast v57
  ![11, v59.toNat]
def k4_off13 (k4_t1 : Fin k4_t1_loop.trips) : Fin 2 → Nat :=
  let c12_i32 : BitVec 32 := 12#32
  let v62 : Index := Scalar.indexCast c12_i32
  let c0_i32_1 : BitVec 32 := 0#32
  let c1_i32_2 : BitVec 32 := 1#32
  let arg9 : BitVec 32 := Scf.iv c0_i32_1 c1_i32_2 k4_t1
  let c16_i32_28 : BitVec 32 := 16#32
  let v61 : BitVec 32 := Scalar.muli arg9 c16_i32_28
  let v63 : Index := Scalar.indexCast v61
  ![12, v63.toNat]
def k4_off14 (k4_t1 : Fin k4_t1_loop.trips) : Fin 2 → Nat :=
  let c13_i32 : BitVec 32 := 13#32
  let v66 : Index := Scalar.indexCast c13_i32
  let c0_i32_1 : BitVec 32 := 0#32
  let c1_i32_2 : BitVec 32 := 1#32
  let arg9 : BitVec 32 := Scf.iv c0_i32_1 c1_i32_2 k4_t1
  let c16_i32_29 : BitVec 32 := 16#32
  let v65 : BitVec 32 := Scalar.muli arg9 c16_i32_29
  let v67 : Index := Scalar.indexCast v65
  ![13, v67.toNat]
def k4_off15 (k4_t1 : Fin k4_t1_loop.trips) : Fin 2 → Nat :=
  let c14_i32 : BitVec 32 := 14#32
  let v70 : Index := Scalar.indexCast c14_i32
  let c0_i32_1 : BitVec 32 := 0#32
  let c1_i32_2 : BitVec 32 := 1#32
  let arg9 : BitVec 32 := Scf.iv c0_i32_1 c1_i32_2 k4_t1
  let c16_i32_30 : BitVec 32 := 16#32
  let v69 : BitVec 32 := Scalar.muli arg9 c16_i32_30
  let v71 : Index := Scalar.indexCast v69
  ![14, v71.toNat]
def k4_off16 (k4_t1 : Fin k4_t1_loop.trips) : Fin 2 → Nat :=
  let c15_i32 : BitVec 32 := 15#32
  let v74 : Index := Scalar.indexCast c15_i32
  let c0_i32_1 : BitVec 32 := 0#32
  let c1_i32_2 : BitVec 32 := 1#32
  let arg9 : BitVec 32 := Scf.iv c0_i32_1 c1_i32_2 k4_t1
  let c16_i32_31 : BitVec 32 := 16#32
  let v73 : BitVec 32 := Scalar.muli arg9 c16_i32_31
  let v75 : Index := Scalar.indexCast v73
  ![15, v75.toNat]
@[reducible] def k4_t2_loop : Scf.Loop 32 :=
  let c0_i32_5 : BitVec 32 := 0#32
  let c8_i32 : BitVec 32 := 8#32
  let v9 : BitVec 32 := Scalar.addi c0_i32_5 c8_i32
  let c1_i32_6 : BitVec 32 := 1#32
  ⟨c0_i32_5, v9, c1_i32_6⟩
def k4_off17 (i : grid4.Coords) (k4_t2 : Fin k4_t2_loop.trips) : Fin 1 → Nat :=
  let arg1 : BitVec 32 := BitVec.ofNat 32 (i 1).val
  let c2_i32 : BitVec 32 := 2#32
  let v1 : BitVec 32 := Scalar.muli arg1 c2_i32
  let arg0 : BitVec 32 := BitVec.ofNat 32 (i 0).val
  let v2 : BitVec 32 := Scalar.addi v1 arg0
  let c131072_i32 : BitVec 32 := 131072#32
  let v3 : BitVec 32 := Scalar.muli v2 c131072_i32
  let c0_i32_5 : BitVec 32 := 0#32
  let c1_i32_6 : BitVec 32 := 1#32
  let arg9 : BitVec 32 := Scf.iv c0_i32_5 c1_i32_6 k4_t2
  let c16384_i32 : BitVec 32 := 16384#32
  let v13 : BitVec 32 := Scalar.muli arg9 c16384_i32
  let v14 : BitVec 32 := Scalar.addi v3 v13
  ![v14.toNat]
@[reducible] def k4_t3_loop : Scf.Loop 32 :=
  let c0_i32_14 : BitVec 32 := 0#32
  let c128_i32 : BitVec 32 := 128#32
  let v15 : BitVec 32 := Scalar.addi c0_i32_14 c128_i32
  let c1_i32_15 : BitVec 32 := 1#32
  ⟨c0_i32_14, v15, c1_i32_15⟩
def k4_off18 (k4_t3 : Fin k4_t3_loop.trips) : Fin 1 → Nat :=
  let c0_i32_14 : BitVec 32 := 0#32
  let c1_i32_15 : BitVec 32 := 1#32
  let arg11 : BitVec 32 := Scf.iv c0_i32_14 c1_i32_15 k4_t3
  let c128_i32_18 : BitVec 32 := 128#32
  let v17 : BitVec 32 := Scalar.muli arg11 c128_i32_18
  let c0_i32_19 : BitVec 32 := 0#32
  let v18 : BitVec 32 := Scalar.addi v17 c0_i32_19
  let v19 : Index := Scalar.indexCast v18
  ![v19.toNat]

def k4_chk1 (v4 : IVec S16 32) (v27 : IVec S16 32) : Prop :=
  (∀ a x, ((![v4, v27] : Fin 2 → IVec S16 32) a x).toNat < S16x4096.size a)
theorem k4_idx1_inb : ∀ (v4 : IVec S16 32) (v27 : IVec S16 32) (k4_hw1 : k4_chk1 v4 v27), ∀ a x, ((![v4, v27] : Fin 2 → IVec S16 32) a x).toNat < S16x4096.size a := fun v4 v27 k4_hw1 => k4_hw1
def k4_off19 (k4_t3 : Fin k4_t3_loop.trips) : Fin 1 → Nat :=
  let c0_i32_14 : BitVec 32 := 0#32
  let c1_i32_15 : BitVec 32 := 1#32
  let arg11 : BitVec 32 := Scf.iv c0_i32_14 c1_i32_15 k4_t3
  let c128_i32_21 : BitVec 32 := 128#32
  let v28 : BitVec 32 := Scalar.muli arg11 c128_i32_21
  let c16_i32 : BitVec 32 := 16#32
  let v29 : BitVec 32 := Scalar.addi v28 c16_i32
  let v30 : Index := Scalar.indexCast v29
  ![v30.toNat]

def k4_chk2 (v4 : IVec S16 32) (v38 : IVec S16 32) : Prop :=
  (∀ a x, ((![v4, v38] : Fin 2 → IVec S16 32) a x).toNat < S16x4096.size a)
theorem k4_idx2_inb : ∀ (v4 : IVec S16 32) (v38 : IVec S16 32) (k4_hw2 : k4_chk2 v4 v38), ∀ a x, ((![v4, v38] : Fin 2 → IVec S16 32) a x).toNat < S16x4096.size a := fun v4 v38 k4_hw2 => k4_hw2
def k4_off20 (k4_t3 : Fin k4_t3_loop.trips) : Fin 1 → Nat :=
  let c0_i32_14 : BitVec 32 := 0#32
  let c1_i32_15 : BitVec 32 := 1#32
  let arg11 : BitVec 32 := Scf.iv c0_i32_14 c1_i32_15 k4_t3
  let c128_i32_25 : BitVec 32 := 128#32
  let v39 : BitVec 32 := Scalar.muli arg11 c128_i32_25
  let c32_i32 : BitVec 32 := 32#32
  let v40 : BitVec 32 := Scalar.addi v39 c32_i32
  let v41 : Index := Scalar.indexCast v40
  ![v41.toNat]

def k4_chk3 (v4 : IVec S16 32) (v49 : IVec S16 32) : Prop :=
  (∀ a x, ((![v4, v49] : Fin 2 → IVec S16 32) a x).toNat < S16x4096.size a)
theorem k4_idx3_inb : ∀ (v4 : IVec S16 32) (v49 : IVec S16 32) (k4_hw3 : k4_chk3 v4 v49), ∀ a x, ((![v4, v49] : Fin 2 → IVec S16 32) a x).toNat < S16x4096.size a := fun v4 v49 k4_hw3 => k4_hw3
def k4_off21 (k4_t3 : Fin k4_t3_loop.trips) : Fin 1 → Nat :=
  let c0_i32_14 : BitVec 32 := 0#32
  let c1_i32_15 : BitVec 32 := 1#32
  let arg11 : BitVec 32 := Scf.iv c0_i32_14 c1_i32_15 k4_t3
  let c128_i32_29 : BitVec 32 := 128#32
  let v50 : BitVec 32 := Scalar.muli arg11 c128_i32_29
  let c48_i32 : BitVec 32 := 48#32
  let v51 : BitVec 32 := Scalar.addi v50 c48_i32
  let v52 : Index := Scalar.indexCast v51
  ![v52.toNat]

def k4_chk4 (v4 : IVec S16 32) (v60 : IVec S16 32) : Prop :=
  (∀ a x, ((![v4, v60] : Fin 2 → IVec S16 32) a x).toNat < S16x4096.size a)
theorem k4_idx4_inb : ∀ (v4 : IVec S16 32) (v60 : IVec S16 32) (k4_hw4 : k4_chk4 v4 v60), ∀ a x, ((![v4, v60] : Fin 2 → IVec S16 32) a x).toNat < S16x4096.size a := fun v4 v60 k4_hw4 => k4_hw4
def k4_off22 (k4_t3 : Fin k4_t3_loop.trips) : Fin 1 → Nat :=
  let c0_i32_14 : BitVec 32 := 0#32
  let c1_i32_15 : BitVec 32 := 1#32
  let arg11 : BitVec 32 := Scf.iv c0_i32_14 c1_i32_15 k4_t3
  let c128_i32_33 : BitVec 32 := 128#32
  let v61 : BitVec 32 := Scalar.muli arg11 c128_i32_33
  let c64_i32 : BitVec 32 := 64#32
  let v62 : BitVec 32 := Scalar.addi v61 c64_i32
  let v63 : Index := Scalar.indexCast v62
  ![v63.toNat]

def k4_chk5 (v4 : IVec S16 32) (v71 : IVec S16 32) : Prop :=
  (∀ a x, ((![v4, v71] : Fin 2 → IVec S16 32) a x).toNat < S16x4096.size a)
theorem k4_idx5_inb : ∀ (v4 : IVec S16 32) (v71 : IVec S16 32) (k4_hw5 : k4_chk5 v4 v71), ∀ a x, ((![v4, v71] : Fin 2 → IVec S16 32) a x).toNat < S16x4096.size a := fun v4 v71 k4_hw5 => k4_hw5
def k4_off23 (k4_t3 : Fin k4_t3_loop.trips) : Fin 1 → Nat :=
  let c0_i32_14 : BitVec 32 := 0#32
  let c1_i32_15 : BitVec 32 := 1#32
  let arg11 : BitVec 32 := Scf.iv c0_i32_14 c1_i32_15 k4_t3
  let c128_i32_37 : BitVec 32 := 128#32
  let v72 : BitVec 32 := Scalar.muli arg11 c128_i32_37
  let c80_i32 : BitVec 32 := 80#32
  let v73 : BitVec 32 := Scalar.addi v72 c80_i32
  let v74 : Index := Scalar.indexCast v73
  ![v74.toNat]

def k4_chk6 (v4 : IVec S16 32) (v82 : IVec S16 32) : Prop :=
  (∀ a x, ((![v4, v82] : Fin 2 → IVec S16 32) a x).toNat < S16x4096.size a)
theorem k4_idx6_inb : ∀ (v4 : IVec S16 32) (v82 : IVec S16 32) (k4_hw6 : k4_chk6 v4 v82), ∀ a x, ((![v4, v82] : Fin 2 → IVec S16 32) a x).toNat < S16x4096.size a := fun v4 v82 k4_hw6 => k4_hw6
def k4_off24 (k4_t3 : Fin k4_t3_loop.trips) : Fin 1 → Nat :=
  let c0_i32_14 : BitVec 32 := 0#32
  let c1_i32_15 : BitVec 32 := 1#32
  let arg11 : BitVec 32 := Scf.iv c0_i32_14 c1_i32_15 k4_t3
  let c128_i32_41 : BitVec 32 := 128#32
  let v83 : BitVec 32 := Scalar.muli arg11 c128_i32_41
  let c96_i32 : BitVec 32 := 96#32
  let v84 : BitVec 32 := Scalar.addi v83 c96_i32
  let v85 : Index := Scalar.indexCast v84
  ![v85.toNat]

def k4_chk7 (v4 : IVec S16 32) (v93 : IVec S16 32) : Prop :=
  (∀ a x, ((![v4, v93] : Fin 2 → IVec S16 32) a x).toNat < S16x4096.size a)
theorem k4_idx7_inb : ∀ (v4 : IVec S16 32) (v93 : IVec S16 32) (k4_hw7 : k4_chk7 v4 v93), ∀ a x, ((![v4, v93] : Fin 2 → IVec S16 32) a x).toNat < S16x4096.size a := fun v4 v93 k4_hw7 => k4_hw7
def k4_off25 (k4_t3 : Fin k4_t3_loop.trips) : Fin 1 → Nat :=
  let c0_i32_14 : BitVec 32 := 0#32
  let c1_i32_15 : BitVec 32 := 1#32
  let arg11 : BitVec 32 := Scf.iv c0_i32_14 c1_i32_15 k4_t3
  let c128_i32_45 : BitVec 32 := 128#32
  let v94 : BitVec 32 := Scalar.muli arg11 c128_i32_45
  let c112_i32 : BitVec 32 := 112#32
  let v95 : BitVec 32 := Scalar.addi v94 c112_i32
  let v96 : Index := Scalar.indexCast v95
  ![v96.toNat]

def k4_chk8 (v4 : IVec S16 32) (v104 : IVec S16 32) : Prop :=
  (∀ a x, ((![v4, v104] : Fin 2 → IVec S16 32) a x).toNat < S16x4096.size a)
theorem k4_idx8_inb : ∀ (v4 : IVec S16 32) (v104 : IVec S16 32) (k4_hw8 : k4_chk8 v4 v104), ∀ a x, ((![v4, v104] : Fin 2 → IVec S16 32) a x).toNat < S16x4096.size a := fun v4 v104 k4_hw8 => k4_hw8
@[reducible] def k4_t4_loop : Scf.Loop 32 :=
  let c0_i32_9 : BitVec 32 := 0#32
  let c256_i32_10 : BitVec 32 := 256#32
  let v11 : BitVec 32 := Scalar.addi c0_i32_9 c256_i32_10
  let c1_i32_11 : BitVec 32 := 1#32
  ⟨c0_i32_9, v11, c1_i32_11⟩
def k4_off26 (k4_t4 : Fin k4_t4_loop.trips) : Fin 2 → Nat :=
  let c0_i32_13 : BitVec 32 := 0#32
  let v14 : Index := Scalar.indexCast c0_i32_13
  let c0_i32_9 : BitVec 32 := 0#32
  let c1_i32_11 : BitVec 32 := 1#32
  let arg9 : BitVec 32 := Scf.iv c0_i32_9 c1_i32_11 k4_t4
  let c16_i32 : BitVec 32 := 16#32
  let v13 : BitVec 32 := Scalar.muli arg9 c16_i32
  let v15 : Index := Scalar.indexCast v13
  ![0, v15.toNat]
def k4_off27 (k4_t4 : Fin k4_t4_loop.trips) : Fin 2 → Nat :=
  let c1_i32_15 : BitVec 32 := 1#32
  let v18 : Index := Scalar.indexCast c1_i32_15
  let c0_i32_9 : BitVec 32 := 0#32
  let c1_i32_11 : BitVec 32 := 1#32
  let arg9 : BitVec 32 := Scf.iv c0_i32_9 c1_i32_11 k4_t4
  let c16_i32_14 : BitVec 32 := 16#32
  let v17 : BitVec 32 := Scalar.muli arg9 c16_i32_14
  let v19 : Index := Scalar.indexCast v17
  ![1, v19.toNat]
def k4_off28 (k4_t4 : Fin k4_t4_loop.trips) : Fin 2 → Nat :=
  let c2_i32_17 : BitVec 32 := 2#32
  let v23 : Index := Scalar.indexCast c2_i32_17
  let c0_i32_9 : BitVec 32 := 0#32
  let c1_i32_11 : BitVec 32 := 1#32
  let arg9 : BitVec 32 := Scf.iv c0_i32_9 c1_i32_11 k4_t4
  let c16_i32_16 : BitVec 32 := 16#32
  let v22 : BitVec 32 := Scalar.muli arg9 c16_i32_16
  let v24 : Index := Scalar.indexCast v22
  ![2, v24.toNat]
def k4_off29 (k4_t4 : Fin k4_t4_loop.trips) : Fin 2 → Nat :=
  let c3_i32 : BitVec 32 := 3#32
  let v28 : Index := Scalar.indexCast c3_i32
  let c0_i32_9 : BitVec 32 := 0#32
  let c1_i32_11 : BitVec 32 := 1#32
  let arg9 : BitVec 32 := Scf.iv c0_i32_9 c1_i32_11 k4_t4
  let c16_i32_18 : BitVec 32 := 16#32
  let v27 : BitVec 32 := Scalar.muli arg9 c16_i32_18
  let v29 : Index := Scalar.indexCast v27
  ![3, v29.toNat]
def k4_off30 (k4_t4 : Fin k4_t4_loop.trips) : Fin 2 → Nat :=
  let c4_i32 : BitVec 32 := 4#32
  let v33 : Index := Scalar.indexCast c4_i32
  let c0_i32_9 : BitVec 32 := 0#32
  let c1_i32_11 : BitVec 32 := 1#32
  let arg9 : BitVec 32 := Scf.iv c0_i32_9 c1_i32_11 k4_t4
  let c16_i32_19 : BitVec 32 := 16#32
  let v32 : BitVec 32 := Scalar.muli arg9 c16_i32_19
  let v34 : Index := Scalar.indexCast v32
  ![4, v34.toNat]
def k4_off31 (k4_t4 : Fin k4_t4_loop.trips) : Fin 2 → Nat :=
  let c5_i32 : BitVec 32 := 5#32
  let v38 : Index := Scalar.indexCast c5_i32
  let c0_i32_9 : BitVec 32 := 0#32
  let c1_i32_11 : BitVec 32 := 1#32
  let arg9 : BitVec 32 := Scf.iv c0_i32_9 c1_i32_11 k4_t4
  let c16_i32_20 : BitVec 32 := 16#32
  let v37 : BitVec 32 := Scalar.muli arg9 c16_i32_20
  let v39 : Index := Scalar.indexCast v37
  ![5, v39.toNat]
def k4_off32 (k4_t4 : Fin k4_t4_loop.trips) : Fin 2 → Nat :=
  let c6_i32 : BitVec 32 := 6#32
  let v43 : Index := Scalar.indexCast c6_i32
  let c0_i32_9 : BitVec 32 := 0#32
  let c1_i32_11 : BitVec 32 := 1#32
  let arg9 : BitVec 32 := Scf.iv c0_i32_9 c1_i32_11 k4_t4
  let c16_i32_21 : BitVec 32 := 16#32
  let v42 : BitVec 32 := Scalar.muli arg9 c16_i32_21
  let v44 : Index := Scalar.indexCast v42
  ![6, v44.toNat]
def k4_off33 (k4_t4 : Fin k4_t4_loop.trips) : Fin 2 → Nat :=
  let c7_i32 : BitVec 32 := 7#32
  let v48 : Index := Scalar.indexCast c7_i32
  let c0_i32_9 : BitVec 32 := 0#32
  let c1_i32_11 : BitVec 32 := 1#32
  let arg9 : BitVec 32 := Scf.iv c0_i32_9 c1_i32_11 k4_t4
  let c16_i32_22 : BitVec 32 := 16#32
  let v47 : BitVec 32 := Scalar.muli arg9 c16_i32_22
  let v49 : Index := Scalar.indexCast v47
  ![7, v49.toNat]
def k4_off34 (k4_t4 : Fin k4_t4_loop.trips) : Fin 2 → Nat :=
  let c8_i32_24 : BitVec 32 := 8#32
  let v53 : Index := Scalar.indexCast c8_i32_24
  let c0_i32_9 : BitVec 32 := 0#32
  let c1_i32_11 : BitVec 32 := 1#32
  let arg9 : BitVec 32 := Scf.iv c0_i32_9 c1_i32_11 k4_t4
  let c16_i32_23 : BitVec 32 := 16#32
  let v52 : BitVec 32 := Scalar.muli arg9 c16_i32_23
  let v54 : Index := Scalar.indexCast v52
  ![8, v54.toNat]
def k4_off35 (k4_t4 : Fin k4_t4_loop.trips) : Fin 2 → Nat :=
  let c9_i32 : BitVec 32 := 9#32
  let v58 : Index := Scalar.indexCast c9_i32
  let c0_i32_9 : BitVec 32 := 0#32
  let c1_i32_11 : BitVec 32 := 1#32
  let arg9 : BitVec 32 := Scf.iv c0_i32_9 c1_i32_11 k4_t4
  let c16_i32_25 : BitVec 32 := 16#32
  let v57 : BitVec 32 := Scalar.muli arg9 c16_i32_25
  let v59 : Index := Scalar.indexCast v57
  ![9, v59.toNat]
def k4_off36 (k4_t4 : Fin k4_t4_loop.trips) : Fin 2 → Nat :=
  let c10_i32 : BitVec 32 := 10#32
  let v63 : Index := Scalar.indexCast c10_i32
  let c0_i32_9 : BitVec 32 := 0#32
  let c1_i32_11 : BitVec 32 := 1#32
  let arg9 : BitVec 32 := Scf.iv c0_i32_9 c1_i32_11 k4_t4
  let c16_i32_26 : BitVec 32 := 16#32
  let v62 : BitVec 32 := Scalar.muli arg9 c16_i32_26
  let v64 : Index := Scalar.indexCast v62
  ![10, v64.toNat]
def k4_off37 (k4_t4 : Fin k4_t4_loop.trips) : Fin 2 → Nat :=
  let c11_i32 : BitVec 32 := 11#32
  let v68 : Index := Scalar.indexCast c11_i32
  let c0_i32_9 : BitVec 32 := 0#32
  let c1_i32_11 : BitVec 32 := 1#32
  let arg9 : BitVec 32 := Scf.iv c0_i32_9 c1_i32_11 k4_t4
  let c16_i32_27 : BitVec 32 := 16#32
  let v67 : BitVec 32 := Scalar.muli arg9 c16_i32_27
  let v69 : Index := Scalar.indexCast v67
  ![11, v69.toNat]
def k4_off38 (k4_t4 : Fin k4_t4_loop.trips) : Fin 2 → Nat :=
  let c12_i32 : BitVec 32 := 12#32
  let v73 : Index := Scalar.indexCast c12_i32
  let c0_i32_9 : BitVec 32 := 0#32
  let c1_i32_11 : BitVec 32 := 1#32
  let arg9 : BitVec 32 := Scf.iv c0_i32_9 c1_i32_11 k4_t4
  let c16_i32_28 : BitVec 32 := 16#32
  let v72 : BitVec 32 := Scalar.muli arg9 c16_i32_28
  let v74 : Index := Scalar.indexCast v72
  ![12, v74.toNat]
def k4_off39 (k4_t4 : Fin k4_t4_loop.trips) : Fin 2 → Nat :=
  let c13_i32 : BitVec 32 := 13#32
  let v78 : Index := Scalar.indexCast c13_i32
  let c0_i32_9 : BitVec 32 := 0#32
  let c1_i32_11 : BitVec 32 := 1#32
  let arg9 : BitVec 32 := Scf.iv c0_i32_9 c1_i32_11 k4_t4
  let c16_i32_29 : BitVec 32 := 16#32
  let v77 : BitVec 32 := Scalar.muli arg9 c16_i32_29
  let v79 : Index := Scalar.indexCast v77
  ![13, v79.toNat]
def k4_off40 (k4_t4 : Fin k4_t4_loop.trips) : Fin 2 → Nat :=
  let c14_i32 : BitVec 32 := 14#32
  let v83 : Index := Scalar.indexCast c14_i32
  let c0_i32_9 : BitVec 32 := 0#32
  let c1_i32_11 : BitVec 32 := 1#32
  let arg9 : BitVec 32 := Scf.iv c0_i32_9 c1_i32_11 k4_t4
  let c16_i32_30 : BitVec 32 := 16#32
  let v82 : BitVec 32 := Scalar.muli arg9 c16_i32_30
  let v84 : Index := Scalar.indexCast v82
  ![14, v84.toNat]
def k4_off41 (k4_t4 : Fin k4_t4_loop.trips) : Fin 2 → Nat :=
  let c15_i32 : BitVec 32 := 15#32
  let v88 : Index := Scalar.indexCast c15_i32
  let c0_i32_9 : BitVec 32 := 0#32
  let c1_i32_11 : BitVec 32 := 1#32
  let arg9 : BitVec 32 := Scf.iv c0_i32_9 c1_i32_11 k4_t4
  let c16_i32_31 : BitVec 32 := 16#32
  let v87 : BitVec 32 := Scalar.muli arg9 c16_i32_31
  let v89 : Index := Scalar.indexCast v87
  ![15, v89.toNat]
def k4_off42 (k4_t4 : Fin k4_t4_loop.trips) : Fin 2 → Nat :=
  let c0_i32_9 : BitVec 32 := 0#32
  let c1_i32_11 : BitVec 32 := 1#32
  let arg9 : BitVec 32 := Scf.iv c0_i32_9 c1_i32_11 k4_t4
  let c3_i32_32 : BitVec 32 := 3#32
  let v92 : BitVec 32 := Scalar.shrsi arg9 c3_i32_32
  let v95 : Index := Scalar.indexCast v92
  let c7_i32_33 : BitVec 32 := 7#32
  let v93 : BitVec 32 := Scalar.andi arg9 c7_i32_33
  let c16_i32_34 : BitVec 32 := 16#32
  let v94 : BitVec 32 := Scalar.muli v93 c16_i32_34
  let v96 : Index := Scalar.indexCast v94
  ![v95.toNat, v96.toNat]
def k4_off43 (i : grid4.Coords) : Fin 3 → Nat :=
  let arg1 : BitVec 32 := BitVec.ofNat 32 (i 1).val
  let c2_i32 : BitVec 32 := 2#32
  let v1 : BitVec 32 := Scalar.muli arg1 c2_i32
  let arg0 : BitVec 32 := BitVec.ofNat 32 (i 0).val
  let v2 : BitVec 32 := Scalar.addi v1 arg0
  let c0_i32_13_r2 : BitVec 32 := 0#32
  let c0_i32_14_r2 : BitVec 32 := 0#32
  ![v2.toNat, 0, 0]
abbrev grid5 : Pipeline.Grid := .none

abbrev stage5_0 : Fin 1 → Memref sig .tc .vmem S32x32x128 .i32 := fun | 0 => Memref.whole cc5_stg0_0 | ⟨_ + 1, h⟩ => absurd h (Nat.not_lt.2 (Nat.le_add_left _ _))
abbrev sem5_0 : Fin 1 → DmaSem sig := fun | 0 => cc5_sem0_0 | ⟨_ + 1, h⟩ => absurd h (Nat.not_lt.2 (Nat.le_add_left _ _))

abbrev stage5_1 : Fin 1 → Memref sig .tc .smem S1x1 .i32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))

abbrev stage5_2 : Fin 1 → Memref sig .tc .vmem S1x128 .i32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))

abbrev grid6 : Pipeline.Grid := ⟨1, ![16], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 1 → Memref sig .tc .smem S1x1 .i32 := fun | 0 => Memref.whole cc6_stg0_0 | ⟨_ + 1, h⟩ => absurd h (Nat.not_lt.2 (Nat.le_add_left _ _))
abbrev sem6_0 : Fin 1 → DmaSem sig := fun | 0 => cc6_sem0_0 | ⟨_ + 1, h⟩ => absurd h (Nat.not_lt.2 (Nat.le_add_left _ _))
abbrev reads6_0 : Fin grid6.rank → Bool := ![false]

abbrev stage6_1 : Fin 2 → Memref sig .tc .vmem S512x2048 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 1 → Memref sig .tc .vmem S2048x2048 .i32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S2048x2048 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S1x2048 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 2 → Memref sig .tc .vmem S512x2048 .f32 := fun | 0 => Memref.whole cc6_stg5_0 | 1 => Memref.whole cc6_stg5_1 | ⟨_ + 2, h⟩ => absurd h (Nat.not_lt.2 (Nat.le_add_left _ _))
abbrev sem6_5 : Fin 2 → DmaSem sig := fun | 0 => cc6_sem5_0 | 1 => cc6_sem5_1 | ⟨_ + 2, h⟩ => absurd h (Nat.not_lt.2 (Nat.le_add_left _ _))
abbrev reads6_5 : Fin grid6.rank → Bool := ![true]

abbrev scKind : Fin 3 → Kind := fun | 0 => .scVector | 1 => .scVector | 2 => .scVector | ⟨_ + 3, h⟩ => absurd h (Nat.not_lt.2 (Nat.le_add_left _ _))
abbrev scNCore : Fin 3 → Nat := fun | 0 => 2 | 1 => 2 | 2 => 2 | ⟨_ + 3, h⟩ => absurd h (Nat.not_lt.2 (Nat.le_add_left _ _))
abbrev scNSub : Fin 3 → Nat := fun | 0 => 16 | 1 => 16 | 2 => 16 | ⟨_ + 3, h⟩ => absurd h (Nat.not_lt.2 (Nat.le_add_left _ _))
-- ==== ReferenceIdeal.lean ====
abbrev S8192x2048 : Shape := ⟨2, ![8192, 2048]⟩
abbrev S2048x2048 : Shape := ⟨2, ![2048, 2048]⟩
abbrev S2048 : Shape := ⟨1, ![2048]⟩
abbrev S_ : Shape := ⟨0, ![]⟩
abbrev S4194304 : Shape := ⟨1, ![4194304]⟩
abbrev S2097152 : Shape := ⟨1, ![2097152]⟩
abbrev S2097152x1 : Shape := ⟨2, ![2097152, 1]⟩
abbrev S1x2048 : Shape := ⟨2, ![1, 2048]⟩

abbrev nBuf : Space → Nat
  | .hbm => 32
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x2048, .i32⟩
  | .hbm, ⟨2, _⟩ => ⟨S2048x2048, .f32⟩
  | .hbm, ⟨3, _⟩ => ⟨S2048, .f32⟩
  | .hbm, ⟨4, _⟩ => ⟨S_, .i32⟩
  | .hbm, ⟨5, _⟩ => ⟨S2048x2048, .i32⟩
  | .hbm, ⟨6, _⟩ => ⟨S2048x2048, .i32⟩
  | .hbm, ⟨7, _⟩ => ⟨S4194304, .i32⟩
  | .hbm, ⟨8, _⟩ => ⟨S4194304, .i32⟩
  | .hbm, ⟨9, _⟩ => ⟨S4194304, .i32⟩
  | .hbm, ⟨10, _⟩ => ⟨S4194304, .i32⟩
  | .hbm, ⟨11, _⟩ => ⟨S_, .f32⟩
  | .hbm, ⟨12, _⟩ => ⟨S4194304, .f32⟩
  | .hbm, ⟨13, _⟩ => ⟨S2097152, .i32⟩
  | .hbm, ⟨14, _⟩ => ⟨S_, .i32⟩
  | .hbm, ⟨15, _⟩ => ⟨S2097152, .i32⟩
  | .hbm, ⟨16, _⟩ => ⟨S2097152, .i1⟩
  | .hbm, ⟨17, _⟩ => ⟨S_, .i32⟩
  | .hbm, ⟨18, _⟩ => ⟨S2097152, .i32⟩
  | .hbm, ⟨19, _⟩ => ⟨S2097152, .i32⟩
  | .hbm, ⟨20, _⟩ => ⟨S2097152, .i32⟩
  | .hbm, ⟨21, _⟩ => ⟨S2097152x1, .i32⟩
  | .hbm, ⟨22, _⟩ => ⟨S_, .f32⟩
  | .hbm, ⟨23, _⟩ => ⟨S2097152, .f32⟩
  | .hbm, ⟨24, _⟩ => ⟨S4194304, .f32⟩
  | .hbm, ⟨25, _⟩ => ⟨S2048x2048, .f32⟩
  | .hbm, ⟨26, _⟩ => ⟨S2048x2048, .f32⟩
  | .hbm, ⟨27, _⟩ => ⟨S2048x2048, .f32⟩
  | .hbm, ⟨28, _⟩ => ⟨S8192x2048, .f32⟩
  | .hbm, ⟨29, _⟩ => ⟨S1x2048, .f32⟩
  | .hbm, ⟨30, _⟩ => ⟨S8192x2048, .f32⟩
  | .hbm, ⟨31, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_call0_v0 : Ref sig .tc := ⟨.hbm, 8, rfl⟩
abbrev main_call0_v1_0 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_c_0 : Ref sig .tc := ⟨.hbm, 14, rfl⟩
abbrev main_v6 : Ref sig .tc := ⟨.hbm, 15, rfl⟩
abbrev main_v7 : Ref sig .tc := ⟨.hbm, 16, rfl⟩
abbrev main_c_1 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_2 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩

abbrev nD : Nat := 1
abbrev τ : Topo := Topo.v7x

variable {F : FTy → Type} [FloatOps F]
-- ==== Proof.Tile.lean ====
/-
  THE HISTOGRAM KERNEL OF ONE TILE, written once. The printed bodies of the kernel unroll everything; the program here
  says the same in rows and groups: zero the sixteen lanes' tables sixteen columns at a time (`zBody`); for each chunk of
  16384 words fetch it and, a group of sixteen at a time, scatter-add a one into each lane's table at the word's bin
  (`gBody`, `cBody`); add the sixteen tables up (`sBody`); write the result out (`hist`). What the calls differ in — which
  words count (`mask`) and into which bin (`bins`) — is a parameter. The printed bodies are instances of these by
  definition (`t1_eq`, `t2_eq`, `t4_eq`).
-/
module

public import proofs.«01_k».proof.Proof.Holds
public import proofs.«01_k».proof.Proof.Gen.Levels
public import proofs.«01_k».proof.Proof.Gen.Levels.Skeleton

@[expose] public section

noncomputable section

namespace Cert.Hist

open Cert.Levels Cert.Levels.Gen
open Idealize.ShloMosaic
open Idealize.SL Idealize.SL.Sem

/-! ## Offsets -/

/-- Row `l`, columns from `16 * k`. -/
def roff (l : ℕ) (k : Fin k0_t1_loop.trips) : Fin 2 → ℕ :=
  ![l, (Scalar.indexCast (Scalar.muli (Scf.iv 0#32 1#32 k) 16#32)).toNat]

theorem roff_eq (l : ℕ) (k : Fin k0_t1_loop.trips) : roff l k = ![l, 16 * k.val] := by
  have h : (Scalar.indexCast (Scalar.muli (Scf.iv 0#32 1#32 k) 16#32)).toNat = 16 * k.val := congrFun (k0_off1_eq k) 1
  unfold roff; rw [h]

theorem t1_lt (k : Fin k0_t1_loop.trips) : k.val < 256 := lt_of_lt_of_le k.isLt k0_t1_abs.2.1

theorem roff_inb (l : Fin 16) (k : Fin k0_t1_loop.trips) : ∀ a, roff l.val k a + S1x16.size a ≤ S16x4096.size a := by
  have hl := l.isLt; have hk := t1_lt k
  rw [roff_eq]
  intro a
  match a with
  | 0 => show l.val + 1 ≤ 16; omega
  | 1 => show 16 * k.val + 16 ≤ 4096; omega

/-- Words from `128 * k + 16 * u` of the chunk. -/
def goff (u : ℕ) (k : Fin k0_t3_loop.trips) : Fin 1 → ℕ :=
  ![(Scalar.indexCast (Scalar.addi (Scalar.muli (Scf.iv 0#32 1#32 k) 128#32) (BitVec.ofNat 32 (16 * u)))).toNat]

theorem goff_eq : ∀ (u : Fin 8) (k : Fin k0_t3_loop.trips), goff u.val k = ![128 * k.val + 16 * u.val] := by decide +kernel

theorem t3_lt : ∀ k : Fin k0_t3_loop.trips, k.val < 128 := by decide +kernel

theorem goff_inb (u : Fin 8) (k : Fin k0_t3_loop.trips) : ∀ a, goff u.val k a + S16.size a ≤ S16384.size a := by
  have hu := u.isLt; have hk := t3_lt k
  rw [goff_eq]
  intro a
  match a with
  | 0 => show 128 * k.val + 16 * u.val + 16 ≤ 16384; omega

/-- Where sum group `k` goes in the tile's sums, 128 to a row. -/
theorem soff_eq : ∀ k : Fin k0_t4_loop.trips, k0_off42 k = ![k.val / 8, k.val % 8 * 16] := by decide +kernel

/-! ## The program -/

variable {F : FTy → Type} [BitOps F]
variable {cc : Fin τ.nSC} {ss : Fin τ.nSub} {α : Type}

/-- One row of the zeroing: sixteen columns of row `l`, then `rest`. -/
def zRow (h6 : Memref sig .scVector .vmem S16x4096 .i32) (k : Fin k0_t1_loop.trips) (l : Fin 16)
    (rest : Prog (TpuEff nD τ sig (Elt F) Λ₀ (.scVector cc ss)) α) : Prog (TpuEff nD τ sig (Elt F) Λ₀ (.scVector cc ss)) α := do
  let _ ← Prog.lift (.load h6 (Rect.unit (s := S16x4096) (roff l.val k) S1x16.size (roff_inb l k)).toLoadRect (View.loadsAt_vmem h_S1x16))
  Prog.lift (.store h6 (Rect.unit (s := S16x4096) (roff l.val k) S1x16.size (roff_inb l k)) (shapeCast S1x16 k0_pay2 shapeCasts_S16_S1x16) Finset.univ
    (View.stores_vmem_bits_univ h_S1x16 rfl) (.inl rfl))
  rest

/-- The rows `ls` of the zeroing, then `rest`. -/
def zRows (h6 : Memref sig .scVector .vmem S16x4096 .i32) (k : Fin k0_t1_loop.trips) (rest : Prog (TpuEff nD τ sig (Elt F) Λ₀ (.scVector cc ss)) α) :
    List (Fin 16) → Prog (TpuEff nD τ sig (Elt F) Λ₀ (.scVector cc ss)) α
  | [] => rest
  | l :: ls => zRow h6 k l (zRows h6 k rest ls)

def zBody (h6 : Memref sig .scVector .vmem S16x4096 .i32) : Fin k0_t1_loop.trips → BitVec 32 → Prog (TpuEff nD τ sig (Elt F) Λ₀ (.scVector cc ss)) (BitVec 32) :=
  fun k _ => zRows h6 k (pure 0#32) [0, 1, 2, 3, 4, 5, 6, 7, 8, 9, 10, 11, 12, 13, 14, 15]

/-- The lane numbers. -/
abbrev lanes : IVec S16 32 := iota .scVector S16 32 [0] iota_S16_d0_w32_scVector

variable (bins : Vec F S16 .f32 → IVec S16 32) (mask : Vec F S16 .f32 → IVec S16 1)

/-- Group `u` of sixteen words of the chunk: each lane's one added at its word's bin, where the mask says so; then `rest`. -/
def grp (h5 : Memref sig .scVector .vmem S16384 .f32) (h6 : Memref sig .scVector .vmem S16x4096 .i32) (k : Fin k0_t3_loop.trips) (u : Fin 8)
    (rest : Prog (TpuEff nD τ sig (Elt F) Λ₀ (.scVector cc ss)) α) : Prog (TpuEff nD τ sig (Elt F) Λ₀ (.scVector cc ss)) α := do
  let v : Vec F S16 .f32 ← Prog.lift (.load h5 (Rect.unit (s := S16384) (goff u.val k) S16.size (goff_inb u k)).toLoadRect (View.loadsAt_vmem h_S16))
  have hw : k0_chk1 lanes (bins v) := (← Prog.lift (TpuEff.assume (k0_chk1 lanes (bins v)) (k0_chk1.dec lanes (bins v)))).down
  SparseCore.vectorStoreIdx h6 ![lanes, bins v] k0_pay1 (mask v) true (k0_idx1_inb lanes (bins v) hw) (View.stores_vmem_bits_univ h_S16x4096 rfl)
  rest

def grps (h5 : Memref sig .scVector .vmem S16384 .f32) (h6 : Memref sig .scVector .vmem S16x4096 .i32) (k : Fin k0_t3_loop.trips)
    (rest : Prog (TpuEff nD τ sig (Elt F) Λ₀ (.scVector cc ss)) α) : List (Fin 8) → Prog (TpuEff nD τ sig (Elt F) Λ₀ (.scVector cc ss)) α
  | [] => rest
  | u :: us => grp bins mask h5 h6 k u (grps h5 h6 k rest us)

def gBody (h5 : Memref sig .scVector .vmem S16384 .f32) (h6 : Memref sig .scVector .vmem S16x4096 .i32) :
    Fin k0_t3_loop.trips → BitVec 32 → Prog (TpuEff nD τ sig (Elt F) Λ₀ (.scVector cc ss)) (BitVec 32) :=
  fun k _ => grps bins mask h5 h6 k (pure 0#32) [0, 1, 2, 3, 4, 5, 6, 7]

/-- One chunk: fetched from `off` on, waited for, its 128 trips of eight groups run. -/
def cBody (h2 : Memref sig .scVector .hbm S4194304 .f32) (h5 : Memref sig .scVector .vmem S16384 .f32) (w5 : h5.IsWhole)
    (h6 : Memref sig .scVector .vmem S16x4096 .i32) (r1 : DmaSems sig S_)
    (off : Fin k0_t2_loop.trips → Fin 1 → ℕ) (inb : ∀ k a, off k a + S16384.size a ≤ S4194304.size a) :
    Fin k0_t2_loop.trips → BitVec 32 → Prog (TpuEff nD τ sig (Elt F) Λ₀ (.scVector cc ss)) (BitVec 32) :=
  fun k _ => do
    Prog.lift (.enqueueDma (h2.slice (Rect.unit (s := S4194304) (off k) S16384.size (inb k)) (fun _ => rfl)) (.here h5) (.dma r1.sem)
      (View.wordExact_bits rfl) w5.wordExact ⟨Or.inl rfl, trivial⟩)
    Prog.lift (.waitDma2 r1.sem (h2.slice (Rect.unit (s := S4194304) (off k) S16384.size (inb k)) (fun _ => rfl)) h5 (View.wordExact_bits rfl) w5.wordExact)
    let _ ← Scf.Loop.for k0_t3_loop k0_t3_ok 0#32 (gBody bins mask h5 h6)
    pure 0#32

/-- The rows `ls` added onto `acc`, then `rest` at the sum. -/
def sRows (h6 : Memref sig .scVector .vmem S16x4096 .i32) (k : Fin k0_t1_loop.trips)
    (rest : IVec S16 32 → Prog (TpuEff nD τ sig (Elt F) Λ₀ (.scVector cc ss)) α) :
    List (Fin 16) → IVec S16 32 → Prog (TpuEff nD τ sig (Elt F) Λ₀ (.scVector cc ss)) α
  | [], acc => rest acc
  | l :: ls, acc => do
    let v : Vec F S1x16 .i32 ← Prog.lift (.load h6 (Rect.unit (s := S16x4096) (roff l.val k) S1x16.size (roff_inb l k)).toLoadRect (View.loadsAt_vmem h_S1x16))
    sRows h6 k rest ls (addi acc (shapeCast (α := BitVec 32) S16 v shapeCasts_S1x16_S16))

def sBody (h6 : Memref sig .scVector .vmem S16x4096 .i32) (h7 : Memref sig .scVector .vmem S32x128 .i32) :
    Fin k0_t1_loop.trips → BitVec 32 → Prog (TpuEff nD τ sig (Elt F) Λ₀ (.scVector cc ss)) (BitVec 32) :=
  fun k _ => do
    let v : Vec F S1x16 .i32 ← Prog.lift (.load h6 (Rect.unit (s := S16x4096) (roff (0 : Fin 16).val k) S1x16.size (roff_inb 0 k)).toLoadRect (View.loadsAt_vmem h_S1x16))
    sRows h6 k (fun acc => do
      let _ ← Prog.lift (.load h7 (Rect.unit (s := S32x128) (k0_off42 k) S1x16.size (k0_off42_inb k)).toLoadRect (View.loadsAt_vmem h_S1x16))
      Prog.lift (.store h7 (Rect.unit (s := S32x128) (k0_off42 k) S1x16.size (k0_off42_inb k)) (shapeCast S1x16 acc shapeCasts_S16_S1x16) Finset.univ
        (View.stores_vmem_bits_univ h_S1x16 rfl) (.inl rfl))
      pure 0#32) [1, 2, 3, 4, 5, 6, 7, 8, 9, 10, 11, 12, 13, 14, 15] (shapeCast (α := BitVec 32) S16 v shapeCasts_S1x16_S16)

/-- The whole tile, after the prefix (if any) is in: the tables zeroed, filled, summed, the sums written to block `ooff` of
    the output. -/
def hist (h2 : Memref sig .scVector .hbm S4194304 .f32) (h4 : Memref sig .scVector .hbm S32x32x128 .i32)
    (h5 : Memref sig .scVector .vmem S16384 .f32) (w5 : h5.IsWhole) (h6 : Memref sig .scVector .vmem S16x4096 .i32)
    (h7 : Memref sig .scVector .vmem S32x128 .i32) (w7 : h7.IsWhole) (r1 r2 : DmaSems sig S_)
    (off : Fin k0_t2_loop.trips → Fin 1 → ℕ) (inb : ∀ k a, off k a + S16384.size a ≤ S4194304.size a)
    (ooff : Fin 3 → ℕ) (oinb : ∀ a, ooff a + S1x32x128.size a ≤ S32x32x128.size a) :
    Prog (TpuEff nD τ sig (Elt F) Λ₀ (.scVector cc ss)) PUnit := do
  let _ ← Scf.Loop.for k0_t1_loop k0_t1_ok 0#32 (zBody h6)
  let _ ← Scf.Loop.for k0_t2_loop k0_t2_ok 0#32 (cBody bins mask h2 h5 w5 h6 r1 off inb)
  let _ ← Scf.Loop.for k0_t4_loop k0_t4_ok 0#32 (sBody h6 h7)
  Prog.lift (.enqueueDma h7 (.here ((h4.slice (Rect.unit (s := S32x32x128) ooff S1x32x128.size oinb) (fun _ => rfl)).squeeze S32x128 squeezes_S1x32x128_S32x128))
    (.dma r2.sem) w7.wordExact ((View.wordExact_bits rfl).reshape _ _) ⟨Or.inl rfl, trivial⟩)
  Prog.lift (.waitDma2 r2.sem h7 ((h4.slice (Rect.unit (s := S32x32x128) ooff S1x32x128.size oinb) (fun _ => rfl)).squeeze S32x128 squeezes_S1x32x128_S32x128)
    w7.wordExact ((View.wordExact_bits rfl).reshape _ _))
  pure ⟨⟩

/-- The sixteen words of `h3` fetched into `h8` and read, then what is done with them. -/
def fetch (h3 : Memref sig .scVector .hbm S16 .i32) (w3 : h3.IsWhole) (h8 : Memref sig .scVector .vmem S16 .i32) (w8 : h8.IsWhole) (r0 : DmaSems sig S_)
    (rest : Vec F S16 .i32 → Prog (TpuEff nD τ sig (Elt F) Λ₀ (.scVector cc ss)) PUnit) : Prog (TpuEff nD τ sig (Elt F) Λ₀ (.scVector cc ss)) PUnit := do
  Prog.lift (.enqueueDma h3 (.here h8) (.dma r0.sem) w3.wordExact w8.wordExact ⟨Or.inl rfl, trivial⟩)
  Prog.lift (.waitDma2 r0.sem h3 h8 w3.wordExact w8.wordExact)
  let v0 : Vec F S16 .i32 ← Prog.lift (.load h8 (Rect.unit (s := S16) ![0] S16.size inb_S16_S16_0).toLoadRect (View.loadsAt_vmem h_S16))
  rest v0

/-- A tile whose mask is over a prefix: the sixteen words of `h3` fetched into `h8` and read, then the tile program. -/
def preHist (pmask : Vec F S16 .i32 → Vec F S16 .f32 → IVec S16 1) (h2 : Memref sig .scVector .hbm S4194304 .f32) (h3 : Memref sig .scVector .hbm S16 .i32) (w3 : h3.IsWhole)
    (h4 : Memref sig .scVector .hbm S32x32x128 .i32) (h5 : Memref sig .scVector .vmem S16384 .f32) (w5 : h5.IsWhole) (h6 : Memref sig .scVector .vmem S16x4096 .i32)
    (h7 : Memref sig .scVector .vmem S32x128 .i32) (w7 : h7.IsWhole) (h8 : Memref sig .scVector .vmem S16 .i32) (w8 : h8.IsWhole) (r0 r1 r2 : DmaSems sig S_)
    (off : Fin k0_t2_loop.trips → Fin 1 → ℕ) (inb : ∀ k a, off k a + S16384.size a ≤ S4194304.size a)
    (ooff : Fin 3 → ℕ) (oinb : ∀ a, ooff a + S1x32x128.size a ≤ S32x32x128.size a) :
    Prog (TpuEff nD τ sig (Elt F) Λ₀ (.scVector cc ss)) PUnit := do
  fetch h3 w3 h8 w8 r0 fun v0 => hist bins (pmask v0) h2 h4 h5 w5 h6 h7 w7 r1 r2 off inb ooff oinb

end Cert.Hist

end
-- ==== Proof.Level1.lean ====
/-
  The level-1 call's printed body is the tile program of `Tile.lean`: each printed loop region by definitional unfolding,
  the whole from them.
-/
module

public import proofs.«01_k».proof.Proof.TileWp

@[expose] public section

noncomputable section

namespace Cert.Hist.Level1

open Cert.Levels Cert.Levels.Gen Cert.Hist
open Idealize.ShloMosaic
open Idealize.SL Idealize.SL.Sem

variable {F : FTy → Type} [BitOps F]

/-- Every lane. -/
abbrev every : Vec F S16 .f32 → IVec S16 1 := fun _ _ => 1#1

section
variable (i : grid0.Coords) (arg2 : Memref sig .scVector .hbm S4194304 .f32) (harg2 : arg2.IsWhole) (arg3 : Memref sig .scVector .hbm S32x32x128 .i32) (harg3 : arg3.IsWhole) (arg4 : Memref sig .scVector .vmem S16384 .f32) (harg4 : arg4.IsWhole) (arg5 : Memref sig .scVector .vmem S16x4096 .i32) (harg5 : arg5.IsWhole) (arg6 : Memref sig .scVector .vmem S32x128 .i32) (harg6 : arg6.IsWhole) (v16_r0 : DmaSems sig S_) (v12_r1 : DmaSems sig S_)

theorem t1_eq : k0_t1_body (F := F) i arg2 harg2 arg3 harg3 arg4 harg4 arg5 harg5 arg6 harg6 v16_r0 v12_r1 = zBody arg5 := by
  funext k acc; rfl

theorem t3_eq : k0_t3_body (F := F) i arg2 harg2 arg3 harg3 arg4 harg4 arg5 harg5 arg6 harg6 v16_r0 v12_r1 (iota .scVector S16 32 [0] iota_S16_d0_w32_scVector)
    = gBody k0_pay4 every arg4 arg5 := by
  funext k acc; rfl

theorem t4_eq : k0_t4_body (F := F) i arg2 harg2 arg3 harg3 arg4 harg4 arg5 harg5 arg6 harg6 v16_r0 v12_r1 = sBody arg5 arg6 := by
  funext k acc; rfl

theorem t2_eq : k0_t2_body (F := F) i arg2 harg2 arg3 harg3 arg4 harg4 arg5 harg5 arg6 harg6 v16_r0 v12_r1 (iota .scVector S16 32 [0] iota_S16_d0_w32_scVector)
    = cBody k0_pay4 every arg2 arg4 harg4 arg5 v16_r0 (k0_off17 i) (k0_off17_inb i) := by
  funext k acc
  unfold k0_t2_body cBody
  rw [t3_eq]

/-- The printed kernel: the tile program at the level's bins, every word counting. -/
theorem kernel_eq : cc0_hist_kernel (F := F) i arg2 harg2 arg3 harg3 arg4 harg4 arg5 harg5 arg6 harg6 v16_r0 v12_r1
    = hist k0_pay4 every arg2 arg3 arg4 harg4 arg5 arg6 harg6 v16_r0 v12_r1 (k0_off17 i) (k0_off17_inb i) (k0_off43 i) (k0_off43_inb i) := by
  rw [cc0_hist_kernel_eq_skeleton]
  unfold cc0_hist_kernel_skel hist
  simp only [t1_eq, t4_eq]
  refine congrArg _ (funext fun _ => ?_)
  exact congrArg (fun b => Scf.Loop.for k0_t2_loop k0_t2_ok 0#32 b >>= _) (t2_eq i arg2 harg2 arg3 harg3 arg4 harg4 arg5 harg5 arg6 harg6 v16_r0 v12_r1)

end

/-- Every word counts. -/
def msk (_ : BitVec 32) : BitVec 1 := 1#1

/-- A word's bin: its upper eleven bits, the sign's left out. -/
def bin (b : BitVec 32) : ℕ := ((b &&& 2147483647#32).sshiftRight 20).toNat

theorem bin_lt (b : BitVec 32) : bin b < 4096 := by
  have hle : (b &&& 2147483647#32).toNat ≤ 2147483647 := by
    rw [BitVec.toNat_and]
    exact Nat.and_le_right
  have hm : (b &&& 2147483647#32).msb = false := by
    rw [BitVec.msb_eq_false_iff_two_mul_lt]
    omega
  unfold bin
  rw [BitVec.sshiftRight_eq_of_msb_false hm, BitVec.toNat_ushiftRight, Nat.shiftRight_eq_div_pow]
  omega

/-- The printed masks and bins are these. -/
theorem level : Level (F := F) k0_pay4 every msk bin where
  mask v x := rfl
  bins v x := rfl
  lt b := bin_lt b

end Cert.Hist.Level1

end
-- ==== Proof.Level2.lean ====
/-
  The level-2 call's printed body is the tile program of `Tile.lean`: each printed loop region by definitional unfolding,
  the whole from them.
-/
module

public import proofs.«01_k».proof.Proof.TileWp

@[expose] public section

noncomputable section

namespace Cert.Hist.Level2

open Cert.Levels Cert.Levels.Gen Cert.Hist
open Idealize.ShloMosaic
open Idealize.SL Idealize.SL.Sem

variable {F : FTy → Type} [BitOps F]

section
variable (i : grid1.Coords) (arg2 : Memref sig .scVector .hbm S4194304 .f32) (harg2 : arg2.IsWhole) (arg3 : Memref sig .scVector .hbm S16 .i32) (harg3 : arg3.IsWhole) (arg4 : Memref sig .scVector .hbm S32x32x128 .i32) (harg4 : arg4.IsWhole) (arg5 : Memref sig .scVector .vmem S16384 .f32) (harg5 : arg5.IsWhole) (arg6 : Memref sig .scVector .vmem S16x4096 .i32) (harg6 : arg6.IsWhole) (arg7 : Memref sig .scVector .vmem S32x128 .i32) (harg7 : arg7.IsWhole) (arg8 : Memref sig .scVector .vmem S16 .i32) (harg8 : arg8.IsWhole) (v13_r0 : DmaSems sig S_) (v17_r1 : DmaSems sig S_) (v13_r2 : DmaSems sig S_)

theorem t1_eq : k1_t1_body (F := F) i arg2 harg2 arg3 harg3 arg4 harg4 arg5 harg5 arg6 harg6 arg7 harg7 arg8 harg8 v13_r0 v17_r1 v13_r2
    = zBody arg6 := by
  funext k acc; rfl

theorem t3_eq (v0 : Vec F S16 .i32) : k1_t3_body (F := F) i arg2 harg2 arg3 harg3 arg4 harg4 arg5 harg5 arg6 harg6 arg7 harg7 arg8 harg8 v13_r0 v17_r1 v13_r2 v0
      (iota .scVector S16 32 [0] iota_S16_d0_w32_scVector)
    = gBody k1_pay6 (k1_pay5 v0) arg5 arg6 := by
  funext k acc; rfl

theorem t4_eq : k1_t4_body (F := F) i arg2 harg2 arg3 harg3 arg4 harg4 arg5 harg5 arg6 harg6 arg7 harg7 arg8 harg8 v13_r0 v17_r1 v13_r2
    = sBody arg6 arg7 := by
  funext k acc; rfl

theorem t2_eq (v0 : Vec F S16 .i32) : k1_t2_body (F := F) i arg2 harg2 arg3 harg3 arg4 harg4 arg5 harg5 arg6 harg6 arg7 harg7 arg8 harg8 v13_r0 v17_r1 v13_r2 v0
      (iota .scVector S16 32 [0] iota_S16_d0_w32_scVector)
    = cBody k1_pay6 (k1_pay5 v0) arg2 arg5 harg5 arg6 v17_r1 (k1_off17 i) (k1_off17_inb i) := by
  funext k acc
  unfold k1_t2_body cBody
  rw [t3_eq]

/-- The printed kernel: the prefix fetched and read, then the tile program at the level's mask and bins. -/
theorem kernel_eq : cc1_hist_kernel (F := F) i arg2 harg2 arg3 harg3 arg4 harg4 arg5 harg5 arg6 harg6 arg7 harg7 arg8 harg8 v13_r0 v17_r1 v13_r2
    = preHist k1_pay6 k1_pay5 arg2 arg3 harg3 arg4 arg5 harg5 arg6 arg7 harg7 arg8 harg8 v13_r0 v17_r1 v13_r2 (k1_off17 i) (k1_off17_inb i) (k1_off43 i) (k1_off43_inb i) := by
  rw [cc1_hist_kernel_eq_skeleton]
  unfold cc1_hist_kernel_skel preHist hist
  simp only [t1_eq, t4_eq]
  refine congrArg _ (funext fun _ => congrArg _ (funext fun _ => congrArg _ (funext fun v0 => congrArg _ (funext fun _ => ?_))))
  exact congrArg (fun b => Scf.Loop.for k1_t2_loop k1_t2_ok 0#32 b >>= _) (t2_eq i arg2 harg2 arg3 harg3 arg4 harg4 arg5 harg5 arg6 harg6 arg7 harg7
    arg8 harg8 v13_r0 v17_r1 v13_r2 v0)

end

/-- The words that count: their upper eleven bits, the sign's left out, are `p`. -/
def msk (p b : BitVec 32) : BitVec 1 := IntOp.cmpi .eq ((b &&& 2147483647#32).sshiftRight 20) p

/-- A word's bin: its middle twelve bits. -/
def bin (b : BitVec 32) : ℕ := ((b &&& 2147483647#32).sshiftRight 8 &&& 4095#32).toNat

/-- The printed masks and bins are these. -/
theorem level (p : BitVec 32) : Level (F := F) k1_pay6 (k1_pay5 fun _ => p) (msk p) bin where
  mask v x := rfl
  bins v x := rfl
  lt b := by
    unfold bin
    rw [BitVec.toNat_and]
    exact Nat.and_le_right.trans_lt (by decide)

end Cert.Hist.Level2

end
-- ==== Proof.Level3.lean ====
/-
  The level-3 call's printed body is the tile program of `Tile.lean`: each printed loop region by definitional unfolding,
  the whole from them.
-/
module

public import proofs.«01_k».proof.Proof.TileWp

@[expose] public section

noncomputable section

namespace Cert.Hist.Level3

open Cert.Levels Cert.Levels.Gen Cert.Hist
open Idealize.ShloMosaic
open Idealize.SL Idealize.SL.Sem

variable {F : FTy → Type} [BitOps F]

section
variable (i : grid2.Coords) (arg2 : Memref sig .scVector .hbm S4194304 .f32) (harg2 : arg2.IsWhole) (arg3 : Memref sig .scVector .hbm S16 .i32) (harg3 : arg3.IsWhole) (arg4 : Memref sig .scVector .hbm S32x32x128 .i32) (harg4 : arg4.IsWhole) (arg5 : Memref sig .scVector .vmem S16384 .f32) (harg5 : arg5.IsWhole) (arg6 : Memref sig .scVector .vmem S16x4096 .i32) (harg6 : arg6.IsWhole) (arg7 : Memref sig .scVector .vmem S32x128 .i32) (harg7 : arg7.IsWhole) (arg8 : Memref sig .scVector .vmem S16 .i32) (harg8 : arg8.IsWhole) (v13_r0 : DmaSems sig S_) (v17_r1 : DmaSems sig S_) (v13_r2 : DmaSems sig S_)

theorem t1_eq : k2_t1_body (F := F) i arg2 harg2 arg3 harg3 arg4 harg4 arg5 harg5 arg6 harg6 arg7 harg7 arg8 harg8 v13_r0 v17_r1 v13_r2
    = zBody arg6 := by
  funext k acc; rfl

theorem t3_eq (v0 : Vec F S16 .i32) : k2_t3_body (F := F) i arg2 harg2 arg3 harg3 arg4 harg4 arg5 harg5 arg6 harg6 arg7 harg7 arg8 harg8 v13_r0 v17_r1 v13_r2 v0
      (iota .scVector S16 32 [0] iota_S16_d0_w32_scVector)
    = gBody k2_pay12 (k2_pay11 v0) arg5 arg6 := by
  funext k acc; rfl

theorem t4_eq : k2_t4_body (F := F) i arg2 harg2 arg3 harg3 arg4 harg4 arg5 harg5 arg6 harg6 arg7 harg7 arg8 harg8 v13_r0 v17_r1 v13_r2
    = sBody arg6 arg7 := by
  funext k acc; rfl

theorem t2_eq (v0 : Vec F S16 .i32) : k2_t2_body (F := F) i arg2 harg2 arg3 harg3 arg4 harg4 arg5 harg5 arg6 harg6 arg7 harg7 arg8 harg8 v13_r0 v17_r1 v13_r2 v0
      (iota .scVector S16 32 [0] iota_S16_d0_w32_scVector)
    = cBody k2_pay12 (k2_pay11 v0) arg2 arg5 harg5 arg6 v17_r1 (k2_off17 i) (k2_off17_inb i) := by
  funext k acc
  unfold k2_t2_body cBody
  rw [t3_eq]

/-- The printed kernel: the prefix fetched and read, then the tile program at the level's mask and bins. -/
theorem kernel_eq : cc2_hist_kernel (F := F) i arg2 harg2 arg3 harg3 arg4 harg4 arg5 harg5 arg6 harg6 arg7 harg7 arg8 harg8 v13_r0 v17_r1 v13_r2
    = preHist k2_pay12 k2_pay11 arg2 arg3 harg3 arg4 arg5 harg5 arg6 arg7 harg7 arg8 harg8 v13_r0 v17_r1 v13_r2 (k2_off17 i) (k2_off17_inb i) (k2_off43 i) (k2_off43_inb i) := by
  rw [cc2_hist_kernel_eq_skeleton]
  unfold cc2_hist_kernel_skel preHist hist
  simp only [t1_eq, t4_eq]
  refine congrArg _ (funext fun _ => congrArg _ (funext fun _ => congrArg _ (funext fun v0 => congrArg _ (funext fun _ => ?_))))
  exact congrArg (fun b => Scf.Loop.for k2_t2_loop k2_t2_ok 0#32 b >>= _) (t2_eq i arg2 harg2 arg3 harg3 arg4 harg4 arg5 harg5 arg6 harg6 arg7 harg7
    arg8 harg8 v13_r0 v17_r1 v13_r2 v0)

end

/-- The words that count: all but their low eight bits, the sign left out, are `p`. -/
def msk (p b : BitVec 32) : BitVec 1 := IntOp.cmpi .eq ((b &&& 2147483647#32).sshiftRight 8) p

/-- A word's bin: its low eight bits. -/
def bin (b : BitVec 32) : ℕ := ((b &&& 2147483647#32) &&& 255#32).toNat

/-- The printed masks and bins are these. -/
theorem level (p : BitVec 32) : Level (F := F) k2_pay12 (k2_pay11 fun _ => p) (msk p) bin where
  mask v x := rfl
  bins v x := rfl
  lt b := by
    unfold bin
    rw [BitVec.toNat_and]
    exact Nat.and_le_right.trans_lt (by decide)

end Cert.Hist.Level3

end
-- ==== Proof.Launch.lean ====
/-
  THE PROGRAM'S RUN: the scores flattened, each prefix sixteen times, the three calls of thirty-two tiles each. At its end every result
  is `table` of the flattened scores at its level, the arguments are unchanged and every counter is zero.
-/
module

public import proofs.«01_k».proof.Proof.Level1
public import proofs.«01_k».proof.Proof.Level2
public import proofs.«01_k».proof.Proof.Level3
public import proofs.«01_k».proof.Proof.Deal
public import Idealize.ShloMosaic.Lib.SparseCore.Quiescent
public import Idealize.ShloMosaic.Lib.StableHlo.Run
public import Idealize.ShloMosaic.Lib.Pipeline.Kit

@[expose] public section

noncomputable section

namespace Cert.Hist

open Cert.Levels Cert.Levels.Gen
open Idealize.ShloMosaic
open Idealize.ShloMosaic.SparseCore (S V T)
open Idealize.ShloMosaic.SparseCore.Cfg (HIx Pay ownBufs ownSems0)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held wp_hlo_within)
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 3 := sc (F := F)
abbrev D [BitOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

local notation "𝕄" => MT nD τ sig (HIx 3) (Elt F) ℕ UU ℕ

abbrev EH : Emb UH (MT nD τ sig (HIx 3) (Elt F) ℕ UU ℕ) := embL

/-! ## The launch memory -/

variable (m : (ℓ : Loc nD τ sig) → Buf (Elt F) ℓ) (ρ : Dev nD → PrngReg)

abbrev aLoc (d : Dev nD) : Loc nD τ sig := (SparseCore.T d).loc main_arg0
abbrev bLoc (d : Dev nD) : Loc nD τ sig := (SparseCore.T d).loc main_arg1
abbrev cLoc (d : Dev nD) : Loc nD τ sig := (SparseCore.T d).loc main_arg2
abbrev xLoc (d : Dev nD) : Loc nD τ sig := (SparseCore.T d).loc main_v0
abbrev p2Loc (d : Dev nD) : Loc nD τ sig := (SparseCore.T d).loc main_v2
abbrev p3Loc (d : Dev nD) : Loc nD τ sig := (SparseCore.T d).loc main_v6
abbrev o1Loc (d : Dev nD) : Loc nD τ sig := (SparseCore.T d).loc main_v1
abbrev o2Loc (d : Dev nD) : Loc nD τ sig := (SparseCore.T d).loc main_v3
abbrev o3Loc (d : Dev nD) : Loc nD τ sig := (SparseCore.T d).loc main_v7

local notation "xV" => (Memref.whole Cert.Levels.main_v0_scv : Memref Cert.Levels.sig Kind.scVector Space.hbm Cert.Levels.S4194304 EltTy.f32)
local notation "p2V" => (Memref.whole Cert.Levels.main_v2_scv : Memref Cert.Levels.sig Kind.scVector Space.hbm Cert.Levels.S16 EltTy.i32)
local notation "p3V" => (Memref.whole Cert.Levels.main_v6_scv : Memref Cert.Levels.sig Kind.scVector Space.hbm Cert.Levels.S16 EltTy.i32)
local notation "o1V" => (Memref.whole Cert.Levels.main_v1_scv : Memref Cert.Levels.sig Kind.scVector Space.hbm Cert.Levels.S32x32x128 EltTy.i32)
local notation "o2V" => (Memref.whole Cert.Levels.main_v3_scv : Memref Cert.Levels.sig Kind.scVector Space.hbm Cert.Levels.S32x32x128 EltTy.i32)
local notation "o3V" => (Memref.whole Cert.Levels.main_v7_scv : Memref Cert.Levels.sig Kind.scVector Space.hbm Cert.Levels.S32x32x128 EltTy.i32)

variable [BitOps F]

/-- The scores flattened. -/
def flat (d : Dev nD) : S4194304.Idx → Elt F .f32 := shapeCast S4194304 (m (aLoc d) : S2048x2048.Idx → Elt F .f32) shapeCasts_S2048x2048_S4194304
/-- The first prefix. -/
def pref2 (d : Dev nD) : BitVec 32 := (m (bLoc d) : S_.Idx → Elt F .i32) (fun a => a.elim0)
/-- The two prefixes joined, the first above the second's twelve bits. -/
def joined (d : Dev nD) : S_.Idx → Elt F .i32 :=
  ori (Host.shli (m (bLoc d) : S_.Idx → BitVec 32) (constantI S_ 32 12#32)) (m (cLoc d) : S_.Idx → BitVec 32)
def pref3 (d : Dev nD) : BitVec 32 := joined m d (fun a => a.elim0)
/-- The results. -/
def out1 (d : Dev nD) : S32x32x128.Idx → Elt F .i32 := table (flat m d) Level1.msk Level1.bin
def out2 (d : Dev nD) : S32x32x128.Idx → Elt F .i32 := table (flat m d) (Level2.msk (pref2 m d)) Level2.bin
def out3 (d : Dev nD) : S32x32x128.Idx → Elt F .i32 := table (flat m d) (Level3.msk (pref3 m d)) Level3.bin

/-! ## What the calls take and give -/

abbrev go1 (d : Dev nD) (c : Fin 2) (s : Fin 16) : sProp 𝕄 := given0 (nc := 3) d c s xV o1V (flat m d) (tileNo c s)
abbrev td1 (d : Dev nD) (c : Fin 2) (s : Fin 16) : sProp 𝕄 := taken0 (nc := 3) d c s xV o1V (flat m d) (out1 m d) (tileNo c s)
abbrev go2 (d : Dev nD) (c : Fin 2) (s : Fin 16) : sProp 𝕄 := given (nc := 3) d c s xV p2V o2V (flat m d) (fun _ => pref2 m d) (tileNo c s)
abbrev td2 (d : Dev nD) (c : Fin 2) (s : Fin 16) : sProp 𝕄 := taken (nc := 3) d c s xV p2V o2V (flat m d) (fun _ => pref2 m d) (out2 m d) (tileNo c s)
abbrev go3 (d : Dev nD) (c : Fin 2) (s : Fin 16) : sProp 𝕄 := given (nc := 3) d c s xV p3V o3V (flat m d) (fun _ => pref3 m d) (tileNo c s)
abbrev td3 (d : Dev nD) (c : Fin 2) (s : Fin 16) : sProp 𝕄 := taken (nc := 3) d c s xV p3V o3V (flat m d) (fun _ => pref3 m d) (out3 m d) (tileNo c s)

def P : (K (F := F)).Pay (nD := nD) (Val := Elt F) (Name := ℕ) (U := UU) where
  st := fun q d c => match q with
    | 0 => bigSep Finset.univ fun s : Fin 16 => go1 m d c s
    | 1 => bigSep Finset.univ fun s : Fin 16 => go2 m d c s
    | 2 => bigSep Finset.univ fun s : Fin 16 => go3 m d c s
  dn := fun q d c => match q with
    | 0 => bigSep Finset.univ fun s : Fin 16 => td1 m d c s
    | 1 => bigSep Finset.univ fun s : Fin 16 => td2 m d c s
    | 2 => bigSep Finset.univ fun s : Fin 16 => td3 m d c s
  go := fun q d c s => match q with
    | 0 => go1 m d c s
    | 1 => go2 m d c s
    | 2 => go3 m d c s
  td := fun q d c s => match q with
    | 0 => td1 m d c s
    | 1 => td2 m d c s
    | 2 => td3 m d c s
  x := fun _ _ => iprop(emp)

section
variable (d : Dev nD) (cc : Fin τ.nSC) (ss : Fin τ.nSub) (h2 : Memref sig .scVector .hbm S4194304 .f32) (h3 : Memref sig .scVector .hbm S16 .i32)
  (h4 : Memref sig .scVector .hbm S32x32x128 .i32) (f2 : Buf (Elt F) (h2.view.loc (V d cc ss))) (f3 : Buf (Elt F) (h3.view.loc (V d cc ss)))
  (g : Buf (Elt F) (h4.view.loc (V d cc ss))) (w : Fin 32)

instance given_storable : BI.Storable (upEmb : UEmb _ 𝕄) (given (nc := 3) d cc ss h2 h3 h4 f2 f3 w) := by unfold given; infer_instance
instance taken_storable : BI.Storable (upEmb : UEmb _ 𝕄) (taken (nc := 3) d cc ss h2 h3 h4 f2 f3 g w) := by unfold taken; infer_instance
instance given0_storable : BI.Storable (upEmb : UEmb _ 𝕄) (given0 (nc := 3) d cc ss h2 h4 f2 w) := by unfold given0; infer_instance
instance taken0_storable : BI.Storable (upEmb : UEmb _ 𝕄) (taken0 (nc := 3) d cc ss h2 h4 f2 g w) := by unfold taken0; infer_instance

end

instance P_storable : (P (F := F) m).IsStorable where
  st q d c := match q with
    | 0 => (inferInstance : BI.Storable (upEmb : UEmb _ 𝕄) (bigSep Finset.univ fun s : Fin 16 => go1 m d c s))
    | 1 => (inferInstance : BI.Storable (upEmb : UEmb _ 𝕄) (bigSep Finset.univ fun s : Fin 16 => go2 m d c s))
    | 2 => (inferInstance : BI.Storable (upEmb : UEmb _ 𝕄) (bigSep Finset.univ fun s : Fin 16 => go3 m d c s))
  dn q d c := match q with
    | 0 => (inferInstance : BI.Storable (upEmb : UEmb _ 𝕄) (bigSep Finset.univ fun s : Fin 16 => td1 m d c s))
    | 1 => (inferInstance : BI.Storable (upEmb : UEmb _ 𝕄) (bigSep Finset.univ fun s : Fin 16 => td2 m d c s))
    | 2 => (inferInstance : BI.Storable (upEmb : UEmb _ 𝕄) (bigSep Finset.univ fun s : Fin 16 => td3 m d c s))
  go q d c s := match q with
    | 0 => (inferInstance : BI.Storable (upEmb : UEmb _ 𝕄) (go1 m d c s))
    | 1 => (inferInstance : BI.Storable (upEmb : UEmb _ 𝕄) (go2 m d c s))
    | 2 => (inferInstance : BI.Storable (upEmb : UEmb _ 𝕄) (go3 m d c s))
  td q d c s := match q with
    | 0 => (inferInstance : BI.Storable (upEmb : UEmb _ 𝕄) (td1 m d c s))
    | 1 => (inferInstance : BI.Storable (upEmb : UEmb _ 𝕄) (td2 m d c s))
    | 2 => (inferInstance : BI.Storable (upEmb : UEmb _ 𝕄) (td3 m d c s))

theorem split_self (Φ Ψ : sProp 𝕄) : Φ ⊢ |={Set.univ}=> iprop(Φ ∗ (Ψ -∗ Ψ)) := by
  iintro H; imodintro
  isplitl [H]; · iexact H
  iintro H; iexact H

theorem vecSplit1 : (K (F := F)).VecSplit' (P m) 0 := by
  intro d c
  show (P m).st 0 d c ⊢ |={Set.univ}=> iprop((P m).st 0 d c ∗ ((P m).dn 0 d c -∗ (P m).dn 0 d c))
  exact split_self _ _

theorem vecSplit2 : (K (F := F)).VecSplit' (P m) 1 := by
  intro d c
  show (P m).st 1 d c ⊢ |={Set.univ}=> iprop((P m).st 1 d c ∗ ((P m).dn 1 d c -∗ (P m).dn 1 d c))
  exact split_self _ _

theorem vecSplit3 : (K (F := F)).VecSplit' (P m) 2 := by
  intro d c
  show (P m).st 2 d c ⊢ |={Set.univ}=> iprop((P m).st 2 d c ∗ ((P m).dn 2 d c -∗ (P m).dn 2 d c))
  exact split_self _ _

/-! ## The tiles' obligations -/

section
variable (d : Dev nD) (cc : Fin τ.nSC) (ss : Fin τ.nSub) (O : CellTallies nD τ sig (HIx 3)) (W : Waits sig (HIx 3)) (hO : ∀ g, O g none = 0) (q : Fin 3)

include hO

/-- A proof about a tile's own scratch is one about all its scoped scratch. -/
theorem tile_of {Λ : Labels} {defs : Defs nD τ sig (Elt F) Λ} {prog : Prog (TpuEff nD τ sig (Elt F) Λ (.scVector cc ss)) PUnit} {G T : sProp 𝕄}
    (h : iprop(Transfers.MayWaits (V d cc ss) (none : HIx 3) O ∗ G ∗ ownBufs (V d cc ss) ∗ ownSems0 (V d cc ss) ∗ owes (V d cc ss) O W)
      ⊢ wp frame (wpE defs Variants.none (V d cc ss) none) Set.univ prog
          fun _ => iprop(T ∗ ownBufs (V d cc ss) ∗ ownSems0 (V d cc ss) ∗ ∃ W', ⌜∀ p ∈ W', p ∈ W ∨ p.2 = none⌝ ∗ owes (V d cc ss) O W')) :
    iprop(levAts (K (F := F)).L (K (F := F)).lev ∗ emp ∗ G ∗ scopedBufs (V d cc ss) ∗ scopedSems0 (V d cc ss) ∗ owes (V d cc ss) O W)
      ⊢ wp frame (wpE defs Variants.none (V d cc ss) none) Set.univ prog
          fun _ => iprop(T ∗ scopedBufs (V d cc ss) ∗ scopedSems0 (V d cc ss) ∗ ∃ W', ⌜∀ p ∈ W', p ∈ W ∨ p.2 = none ∨ p.2 = some q⌝ ∗ owes (V d cc ss) O W') := by
  rw [(K (F := F)).scopedBufs_V facts d cc ss, SparseCore.Cfg.scopedSems0_V (Val := Elt F) d cc ss]
  iintro ⟨#Hlv, -, HG, HB, HS, HO⟩
  ihave Hmw := (show levAts (K (F := F)).L (K (F := F)).lev ⊢ Transfers.MayWaits (V d cc ss) (default : HIx 3) O from
    (K (F := F)).mayWaits_none (thr := V d cc ss) hO) $$ Hlv
  ihave Hw := h $$ [Hmw HG HB HS HO]
  · isplitr; · iexact Hmw
    isplitl [HG]; · iexact HG
    isplitl [HB]; · iexact HB
    isplitl [HS]; · iexact HS
    iexact HO
  ihave Hw2 := wp_wand $$ Hw
  iapply Hw2
  iintro %a ⟨HT, HB, HS, %W', %hW', HO⟩
  isplitl [HT]; · iexact HT
  isplitl [HB]; · iexact HB
  isplitl [HS]; · iexact HS
  iexists W'; isplitr
  · ipureintro; exact fun p hp => (hW' p hp).imp_right Or.inl
  · iexact HO

end

/-- A tile's number from its coordinates. -/
theorem tile_off {cv sv kv : ℕ} {o : ℕ} (h : o = 262144 * sv + 131072 * cv + 16384 * kv) : o = 131072 * (2 * sv + cv) + 16384 * kv := by omega

def coords0 (c : Fin (grid0.bound 0)) (s : Fin (grid0.bound 1)) : grid0.Coords :=
  fun | 0 => c | 1 => s | ⟨_ + 2, h⟩ => absurd h (Nat.not_lt.2 (Nat.le_add_left _ _))
def coords1 (c : Fin (grid1.bound 0)) (s : Fin (grid1.bound 1)) : grid1.Coords :=
  fun | 0 => c | 1 => s | ⟨_ + 2, h⟩ => absurd h (Nat.not_lt.2 (Nat.le_add_left _ _))
def coords2 (c : Fin (grid2.bound 0)) (s : Fin (grid2.bound 1)) : grid2.Coords :=
  fun | 0 => c | 1 => s | ⟨_ + 2, h⟩ => absurd h (Nat.not_lt.2 (Nat.le_add_left _ _))

/-- The three calls on a tile. -/
abbrev call1 (c : Fin (grid0.bound 0)) (s : Fin (grid0.bound 1)) :=
  cc0_hist_kernel (F := F) (coords0 c s) xV (Memref.isWhole_whole _) o1V (Memref.isWhole_whole _)
    (Memref.whole cc0_scratch0) (Memref.isWhole_whole _) (Memref.whole cc0_scratch1) (Memref.isWhole_whole _)
    (Memref.whole cc0_scratch2) (Memref.isWhole_whole _) cc0_scoped0 cc0_scoped1
abbrev call2 (c : Fin (grid1.bound 0)) (s : Fin (grid1.bound 1)) :=
  cc1_hist_kernel (F := F) (coords1 c s) xV (Memref.isWhole_whole _) p2V (Memref.isWhole_whole _) o2V (Memref.isWhole_whole _)
    (Memref.whole cc1_scratch0) (Memref.isWhole_whole _) (Memref.whole cc1_scratch1) (Memref.isWhole_whole _)
    (Memref.whole cc1_scratch2) (Memref.isWhole_whole _) (Memref.whole cc1_scratch3) (Memref.isWhole_whole _) cc1_scoped0 cc1_scoped1 cc1_scoped2
abbrev call3 (c : Fin (grid2.bound 0)) (s : Fin (grid2.bound 1)) :=
  cc2_hist_kernel (F := F) (coords2 c s) xV (Memref.isWhole_whole _) p3V (Memref.isWhole_whole _) o3V (Memref.isWhole_whole _)
    (Memref.whole cc2_scratch0) (Memref.isWhole_whole _) (Memref.whole cc2_scratch1) (Memref.isWhole_whole _)
    (Memref.whole cc2_scratch2) (Memref.isWhole_whole _) (Memref.whole cc2_scratch3) (Memref.isWhole_whole _) cc2_scoped0 cc2_scoped1 cc2_scoped2

theorem defs₀_call1 (c : Fin τ.nSC) (s : Fin τ.nSub) : defs₀ (F := F) (.scVector c s) 0 () = SparseCore.onTile hcore0 hsub0 call1 ⟨⟩ c s := rfl
theorem defs₀_call2 (c : Fin τ.nSC) (s : Fin τ.nSub) : defs₀ (F := F) (.scVector c s) 1 () = SparseCore.onTile hcore1 hsub1 call2 ⟨⟩ c s := rfl
theorem defs₀_call3 (c : Fin τ.nSC) (s : Fin τ.nSub) : defs₀ (F := F) (.scVector c s) 2 () = SparseCore.onTile hcore2 hsub2 call3 ⟨⟩ c s := rfl

theorem mine1 (cc : Fin τ.nSC) (ss : Fin τ.nSub) : Mine0 cc ss (Memref.whole cc0_scratch0 : Memref sig .scVector .vmem S16384 .f32)
    (Memref.whole cc0_scratch1 : Memref sig .scVector .vmem S16x4096 .i32) (Memref.whole cc0_scratch2 : Memref sig .scVector .vmem S32x128 .i32)
    cc0_scoped0 cc0_scoped1 where
  o5 := rfl
  o6 := rfl
  o7 := rfl
  refs := show [cc0_scratch0, cc0_scratch1, cc0_scratch2].Nodup by decide
  o1 := by decide
  o2 := by decide
  sems := by decide

theorem mine2 (cc : Fin τ.nSC) (ss : Fin τ.nSub) : Mine cc ss (Memref.whole cc1_scratch0 : Memref sig .scVector .vmem S16384 .f32)
    (Memref.whole cc1_scratch1 : Memref sig .scVector .vmem S16x4096 .i32) (Memref.whole cc1_scratch2 : Memref sig .scVector .vmem S32x128 .i32)
    (Memref.whole cc1_scratch3 : Memref sig .scVector .vmem S16 .i32) cc1_scoped0 cc1_scoped1 cc1_scoped2 where
  o5 := rfl
  o6 := rfl
  o7 := rfl
  o8 := rfl
  refs := show [cc1_scratch0, cc1_scratch1, cc1_scratch2, cc1_scratch3].Nodup by decide
  o0 := by decide
  o1 := by decide
  o2 := by decide
  sems := by decide

theorem mine3 (cc : Fin τ.nSC) (ss : Fin τ.nSub) : Mine cc ss (Memref.whole cc2_scratch0 : Memref sig .scVector .vmem S16384 .f32)
    (Memref.whole cc2_scratch1 : Memref sig .scVector .vmem S16x4096 .i32) (Memref.whole cc2_scratch2 : Memref sig .scVector .vmem S32x128 .i32)
    (Memref.whole cc2_scratch3 : Memref sig .scVector .vmem S16 .i32) cc2_scoped0 cc2_scoped1 cc2_scoped2 where
  o5 := rfl
  o6 := rfl
  o7 := rfl
  o8 := rfl
  refs := show [cc2_scratch0, cc2_scratch1, cc2_scratch2, cc2_scratch3].Nodup by decide
  o0 := by decide
  o1 := by decide
  o2 := by decide
  sems := by decide

section
variable (d : Dev nD) (O : CellTallies nD τ sig (HIx 3)) (W : Waits sig (HIx 3))

theorem body1 (c : Fin (grid0.bound 0)) (s : Fin (grid0.bound 1)) :
    iprop(Transfers.MayWaits (V d (c.castLE hcore0) (s.castLE hsub0)) (none : HIx 3) O ∗ go1 m d (c.castLE hcore0) (s.castLE hsub0)
        ∗ ownBufs (V d (c.castLE hcore0) (s.castLE hsub0)) ∗ ownSems0 (V d (c.castLE hcore0) (s.castLE hsub0)) ∗ owes (V d (c.castLE hcore0) (s.castLE hsub0)) O W)
      ⊢ wp frame (wpE (defs₀ (F := F)) Variants.none (V d (c.castLE hcore0) (s.castLE hsub0)) none) Set.univ (call1 c s)
          fun _ => iprop(td1 m d (c.castLE hcore0) (s.castLE hsub0) ∗ ownBufs (V d (c.castLE hcore0) (s.castLE hsub0)) ∗ ownSems0 (V d (c.castLE hcore0) (s.castLE hsub0))
            ∗ ∃ W', ⌜∀ p ∈ W', p ∈ W ∨ p.2 = none⌝ ∗ owes (V d (c.castLE hcore0) (s.castLE hsub0)) O W') := by
  unfold call1
  rw [Level1.kernel_eq]
  exact call0_wp (F := F) (nc := 3) d (c.castLE hcore0) (s.castLE hsub0) O W (tileNo c s) Level1.level xV o1V _ (Memref.isWhole_whole _) _ (Memref.isWhole_whole _)
    _ (Memref.isWhole_whole _) cc0_scoped0 cc0_scoped1 (mine1 (c.castLE hcore0) (s.castLE hsub0)) (k0_off17 (coords0 c s)) (k0_off17_inb (coords0 c s))
    (fun k => tile_off (congrFun (k0_off17_eq (coords0 c s) k) 0)) (k0_off43 (coords0 c s)) (k0_off43_inb (coords0 c s)) (k0_off43_eq (coords0 c s))
    (flat m d) (out1 m d) rfl

theorem body2 (c : Fin (grid1.bound 0)) (s : Fin (grid1.bound 1)) :
    iprop(Transfers.MayWaits (V d (c.castLE hcore1) (s.castLE hsub1)) (none : HIx 3) O ∗ go2 m d (c.castLE hcore1) (s.castLE hsub1)
        ∗ ownBufs (V d (c.castLE hcore1) (s.castLE hsub1)) ∗ ownSems0 (V d (c.castLE hcore1) (s.castLE hsub1)) ∗ owes (V d (c.castLE hcore1) (s.castLE hsub1)) O W)
      ⊢ wp frame (wpE (defs₀ (F := F)) Variants.none (V d (c.castLE hcore1) (s.castLE hsub1)) none) Set.univ (call2 c s)
          fun _ => iprop(td2 m d (c.castLE hcore1) (s.castLE hsub1) ∗ ownBufs (V d (c.castLE hcore1) (s.castLE hsub1)) ∗ ownSems0 (V d (c.castLE hcore1) (s.castLE hsub1))
            ∗ ∃ W', ⌜∀ p ∈ W', p ∈ W ∨ p.2 = none⌝ ∗ owes (V d (c.castLE hcore1) (s.castLE hsub1)) O W') := by
  unfold call2
  rw [Level2.kernel_eq]
  exact call_wp (F := F) (nc := 3) d (c.castLE hcore1) (s.castLE hsub1) O W (tileNo c s) (pref2 m d) (Level2.level (pref2 m d)) xV p2V (Memref.isWhole_whole _) o2V
    _ (Memref.isWhole_whole _) _ (Memref.isWhole_whole _) _ (Memref.isWhole_whole _) _ (Memref.isWhole_whole _)
    cc1_scoped0 cc1_scoped1 cc1_scoped2 (mine2 (c.castLE hcore1) (s.castLE hsub1)) (k1_off17 (coords1 c s)) (k1_off17_inb (coords1 c s))
    (fun k => tile_off (congrFun (k1_off17_eq (coords1 c s) k) 0)) (k1_off43 (coords1 c s)) (k1_off43_inb (coords1 c s)) (k1_off43_eq (coords1 c s))
    (flat m d) (fun _ => pref2 m d) (out2 m d) rfl rfl

theorem body3 (c : Fin (grid2.bound 0)) (s : Fin (grid2.bound 1)) :
    iprop(Transfers.MayWaits (V d (c.castLE hcore2) (s.castLE hsub2)) (none : HIx 3) O ∗ go3 m d (c.castLE hcore2) (s.castLE hsub2)
        ∗ ownBufs (V d (c.castLE hcore2) (s.castLE hsub2)) ∗ ownSems0 (V d (c.castLE hcore2) (s.castLE hsub2)) ∗ owes (V d (c.castLE hcore2) (s.castLE hsub2)) O W)
      ⊢ wp frame (wpE (defs₀ (F := F)) Variants.none (V d (c.castLE hcore2) (s.castLE hsub2)) none) Set.univ (call3 c s)
          fun _ => iprop(td3 m d (c.castLE hcore2) (s.castLE hsub2) ∗ ownBufs (V d (c.castLE hcore2) (s.castLE hsub2)) ∗ ownSems0 (V d (c.castLE hcore2) (s.castLE hsub2))
            ∗ ∃ W', ⌜∀ p ∈ W', p ∈ W ∨ p.2 = none⌝ ∗ owes (V d (c.castLE hcore2) (s.castLE hsub2)) O W') := by
  unfold call3
  rw [Level3.kernel_eq]
  exact call_wp (F := F) (nc := 3) d (c.castLE hcore2) (s.castLE hsub2) O W (tileNo c s) (pref3 m d) (Level3.level (pref3 m d)) xV p3V (Memref.isWhole_whole _) o3V
    _ (Memref.isWhole_whole _) _ (Memref.isWhole_whole _) _ (Memref.isWhole_whole _) _ (Memref.isWhole_whole _)
    cc2_scoped0 cc2_scoped1 cc2_scoped2 (mine3 (c.castLE hcore2) (s.castLE hsub2)) (k2_off17 (coords2 c s)) (k2_off17_inb (coords2 c s))
    (fun k => tile_off (congrFun (k2_off17_eq (coords2 c s) k) 0)) (k2_off43 (coords2 c s)) (k2_off43_inb (coords2 c s)) (k2_off43_eq (coords2 c s))
    (flat m d) (fun _ => pref3 m d) (out3 m d) rfl rfl

end

set_option maxRecDepth 16384 in
theorem tileObl1 : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_call1]; simp only [SparseCore.onTile, hci, and_self, ↓reduceDIte]
  exact tile_of d _ _ O W hO 0 (body1 m d O W ⟨_, hci.1⟩ ⟨_, hci.2⟩)

set_option maxRecDepth 16384 in
theorem tileObl2 : (K (F := F)).TileObl (D (F := F)) 𝒱 (P m) v₀ 1 := by
  intro d c i O W hO _ _
  simp only [show (P m).ox = fun _ _ => 0 from rfl, add_zero]
  have hci : ((K (F := F)).core 1 c).val < grid1.bound 0 ∧ ((K (F := F)).sub 1 i).val < grid1.bound 1 := ⟨c.isLt, i.isLt⟩
  change _ ⊢ wp _ _ _ (Pipeline.liftProg (defs₀ (F := F) (.scVector ((K (F := F)).core 1 c) ((K (F := F)).sub 1 i)) 1 ())) _
  refine BI.Entails.trans ?_ (Pipeline.wp_liftProg (D (F := F)) (Pipeline.defs_kernel pcfgs defs₀) 𝒱₀ _ Set.univ none _ _)
  rw [defs₀_call2]; simp only [SparseCore.onTile, hci, and_self, ↓reduceDIte]
  exact tile_of d _ _ O W hO 1 (body2 m d O W ⟨_, hci.1⟩ ⟨_, hci.2⟩)

set_option maxRecDepth 16384 in
theorem tileObl3 : (K (F := F)).TileObl (D (F := F)) 𝒱 (P m) v₀ 2 := by
  intro d c i O W hO _ _
  simp only [show (P m).ox = fun _ _ => 0 from rfl, add_zero]
  have hci : ((K (F := F)).core 2 c).val < grid2.bound 0 ∧ ((K (F := F)).sub 2 i).val < grid2.bound 1 := ⟨c.isLt, i.isLt⟩
  change _ ⊢ wp _ _ _ (Pipeline.liftProg (defs₀ (F := F) (.scVector ((K (F := F)).core 2 c) ((K (F := F)).sub 2 i)) 2 ())) _
  refine BI.Entails.trans ?_ (Pipeline.wp_liftProg (D (F := F)) (Pipeline.defs_kernel pcfgs defs₀) 𝒱₀ _ Set.univ none _ _)
  rw [defs₀_call3]; simp only [SparseCore.onTile, hci, and_self, ↓reduceDIte]
  exact tile_of d _ _ O W hO 2 (body3 m d O W ⟨_, hci.1⟩ ⟨_, hci.2⟩)

/-! ## The launch element -/

def u₀ : UU := (initOf (K (F := F)).hsCells (K (F := F)).hsToks, 1)

theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 3 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_emp']; iempintro
  rw [show (bigSep Finset.univ fun thr : Thread nD τ => bigSep Finset.univ fun q : Fin 3 => (P (F := F) m).x q thr) = bigSep Finset.univ fun _ => iprop(emp) from
    bigSep_congr fun _ _ => bigSep_emp' _, bigSep_emp']
  iempintro

/-! ## The blocks of a result -/

theorem odiv : 32 ∣ S32x32x128.size 0 := ⟨1, rfl⟩

theorem part_eq (w : Fin 32) : Rect.unit (s := S32x32x128) ![w.val, 0, 0] S1x32x128.size (inb_block w) = Rect.part (s := S32x32x128) (a₀ := 0) odiv w := by
  unfold Rect.part Rect.block
  congr 1 <;> funext a
  · match a with
    | 0 => simp [Shape.partIx, Shape.partSize]
    | 1 => simp [Shape.partIx, Shape.partSize]
    | 2 => simp [Shape.partIx, Shape.partSize]
  · match a with
    | 0 => simp [Shape.partSize]
    | 1 => simp [Shape.partSize]
    | 2 => simp [Shape.partSize]

section
variable (h : Memref sig .scVector .hbm S32x32x128 .i32)

/-- Tile `w`'s block, as a set of the result's indices. -/
abbrev blockSet (w : Fin 32) : Finset h.view.ty.Idx := (block h w).view.set

theorem block_set (w : Fin 32) : blockSet h w = (Rect.part (s := S32x32x128) (a₀ := 0) odiv w).set.map h.view.emb := by
  show ((h.view.slice (Rect.unit (s := S32x32x128) ![w.val, 0, 0] S1x32x128.size (inb_block w))).reshape S32x128 squeezes_S1x32x128_S32x128.numel_eq).set = _
  rw [View.set_reshape, View.set_slice]
  exact congrArg (fun r : Rect S32x32x128 => r.set.map h.view.emb) (part_eq w)

theorem blocks_disjoint (i j : Fin 32) (hij : i ≠ j) : Disjoint (blockSet h i) (blockSet h j) := by
  rw [block_set, block_set]; exact (Finset.disjoint_map _).mpr (Rect.part_disjoint odiv hij)

theorem blocks_cover (hw : h.view.set = Finset.univ) : Finset.univ.biUnion (blockSet h) = Finset.univ := by
  refine Finset.eq_univ_of_forall fun x => ?_
  obtain ⟨y, -, rfl⟩ := Finset.mem_map.mp (show x ∈ Finset.univ.map h.view.emb from (Finset.ext_iff.mp hw x).mpr (Finset.mem_univ x))
  obtain ⟨w, hw', hy⟩ := Finset.mem_biUnion.mp (show y ∈ Finset.univ.biUnion fun w => (Rect.part (s := S32x32x128) (a₀ := 0) odiv w).set from
    Rect.biUnion_part (s := S32x32x128) (a₀ := 0) odiv ▸ Finset.mem_univ y)
  exact Finset.mem_biUnion.mpr ⟨w, hw', block_set h w ▸ Finset.mem_map_of_mem _ hy⟩

end

theorem gv1_eq (d : Dev nD) (c : Fin 2) (s : Fin 16) :
    go1 m d c s = iprop((xLoc d ↦{part32 (tileNo c s)} flat m d) ∗ ∃ f, o1Loc d ↦[blockSet o1V (tileNo c s)]{fullShare} f) := by
  unfold go1 given0
  rw [show (xV).view.set = Finset.univ from View.set_whole _]

theorem tk1_eq (d : Dev nD) (c : Fin 2) (s : Fin 16) :
    td1 m d c s = iprop((xLoc d ↦{part32 (tileNo c s)} flat m d) ∗ o1Loc d ↦[blockSet o1V (tileNo c s)]{fullShare} out1 m d) := by
  unfold td1 taken0
  rw [show (xV).view.set = Finset.univ from View.set_whole _]

theorem gv2_eq (d : Dev nD) (c : Fin 2) (s : Fin 16) :
    go2 m d c s = iprop((xLoc d ↦{part32 (tileNo c s)} flat m d) ∗ (p2Loc d ↦{part32 (tileNo c s)} fun _ => pref2 m d)
      ∗ ∃ f, o2Loc d ↦[blockSet o2V (tileNo c s)]{fullShare} f) := by
  unfold go2 given
  rw [show (xV).view.set = Finset.univ from View.set_whole _, show (p2V).view.set = Finset.univ from View.set_whole _]

theorem tk2_eq (d : Dev nD) (c : Fin 2) (s : Fin 16) :
    td2 m d c s = iprop((xLoc d ↦{part32 (tileNo c s)} flat m d) ∗ (p2Loc d ↦{part32 (tileNo c s)} fun _ => pref2 m d)
      ∗ o2Loc d ↦[blockSet o2V (tileNo c s)]{fullShare} out2 m d) := by
  unfold td2 taken
  rw [show (xV).view.set = Finset.univ from View.set_whole _, show (p2V).view.set = Finset.univ from View.set_whole _]

theorem gv3_eq (d : Dev nD) (c : Fin 2) (s : Fin 16) :
    go3 m d c s = iprop((xLoc d ↦{part32 (tileNo c s)} flat m d) ∗ (p3Loc d ↦{part32 (tileNo c s)} fun _ => pref3 m d)
      ∗ ∃ f, o3Loc d ↦[blockSet o3V (tileNo c s)]{fullShare} f) := by
  unfold go3 given
  rw [show (xV).view.set = Finset.univ from View.set_whole _, show (p3V).view.set = Finset.univ from View.set_whole _]

theorem tk3_eq (d : Dev nD) (c : Fin 2) (s : Fin 16) :
    td3 m d c s = iprop((xLoc d ↦{part32 (tileNo c s)} flat m d) ∗ (p3Loc d ↦{part32 (tileNo c s)} fun _ => pref3 m d)
      ∗ o3Loc d ↦[blockSet o3V (tileNo c s)]{fullShare} out3 m d) := by
  unfold td3 taken
  rw [show (xV).view.set = Finset.univ from View.set_whole _, show (p3V).view.set = Finset.univ from View.set_whole _]

/-! ## The calls dealt and collected -/

theorem st1_eq (d : Dev nD) : (bigSep Finset.univ fun c : Fin ((K (F := F)).nCore 0) => (P m).st 0 d c)
    = bigSep Finset.univ fun c : Fin 2 => bigSep Finset.univ fun s : Fin 16 =>
      iprop((xLoc d ↦{part32 (tileNo c s)} flat m d) ∗ ∃ f, o1Loc d ↦[blockSet o1V (tileNo c s)]{fullShare} f) :=
  bigSep_congr fun c _ => (show (P m).st 0 d c = bigSep Finset.univ fun s : Fin 16 => go1 m d c s from rfl).trans (bigSep_congr fun s _ => gv1_eq m d c s)

theorem dn1_eq (d : Dev nD) : (bigSep Finset.univ fun c : Fin ((K (F := F)).nCore 0) => (P m).dn 0 d c)
    = bigSep Finset.univ fun c : Fin 2 => bigSep Finset.univ fun s : Fin 16 =>
      iprop((xLoc d ↦{part32 (tileNo c s)} flat m d) ∗ o1Loc d ↦[blockSet o1V (tileNo c s)]{fullShare} out1 m d) :=
  bigSep_congr fun c _ => (show (P m).dn 0 d c = bigSep Finset.univ fun s : Fin 16 => td1 m d c s from rfl).trans (bigSep_congr fun s _ => tk1_eq m d c s)

theorem deal1 (d : Dev nD) (f : Buf (Elt F) (o1Loc d)) :
    (iprop((xLoc d ↦{fullShare} flat m d) ∗ o1Loc d ↦{fullShare} f) : sProp 𝕄) ⊢ bigSep Finset.univ fun c : Fin ((K (F := F)).nCore 0) => (P m).st 0 d c := by
  rw [st1_eq]
  exact deal0 (nc := 3) (ℓ2 := xLoc d) (ℓ4 := o1Loc d) (blockSet o1V) (blocks_disjoint o1V) (blocks_cover o1V (View.set_whole _)) (flat m d) f

theorem collect1 (d : Dev nD) :
    (bigSep Finset.univ fun c : Fin ((K (F := F)).nCore 0) => (P m).dn 0 d c) ⊢ (iprop((xLoc d ↦{fullShare} flat m d) ∗ o1Loc d ↦{fullShare} out1 m d) : sProp 𝕄) := by
  rw [dn1_eq]
  exact collect0 (nc := 3) (ℓ2 := xLoc d) (ℓ4 := o1Loc d) (blockSet o1V) (blocks_disjoint o1V) (blocks_cover o1V (View.set_whole _)) (flat m d) (out1 m d)

theorem st2_eq (d : Dev nD) : (bigSep Finset.univ fun c : Fin ((K (F := F)).nCore 1) => (P m).st 1 d c)
    = bigSep Finset.univ fun c : Fin 2 => bigSep Finset.univ fun s : Fin 16 =>
      iprop((xLoc d ↦{part32 (tileNo c s)} flat m d) ∗ (p2Loc d ↦{part32 (tileNo c s)} fun _ => pref2 m d) ∗ ∃ f, o2Loc d ↦[blockSet o2V (tileNo c s)]{fullShare} f) :=
  bigSep_congr fun c _ => (show (P m).st 1 d c = bigSep Finset.univ fun s : Fin 16 => go2 m d c s from rfl).trans (bigSep_congr fun s _ => gv2_eq m d c s)

theorem dn2_eq (d : Dev nD) : (bigSep Finset.univ fun c : Fin ((K (F := F)).nCore 1) => (P m).dn 1 d c)
    = bigSep Finset.univ fun c : Fin 2 => bigSep Finset.univ fun s : Fin 16 =>
      iprop((xLoc d ↦{part32 (tileNo c s)} flat m d) ∗ (p2Loc d ↦{part32 (tileNo c s)} fun _ => pref2 m d) ∗ o2Loc d ↦[blockSet o2V (tileNo c s)]{fullShare} out2 m d) :=
  bigSep_congr fun c _ => (show (P m).dn 1 d c = bigSep Finset.univ fun s : Fin 16 => td2 m d c s from rfl).trans (bigSep_congr fun s _ => tk2_eq m d c s)

theorem deal2 (d : Dev nD) (f : Buf (Elt F) (o2Loc d)) :
    (iprop((xLoc d ↦{fullShare} flat m d) ∗ (p2Loc d ↦{fullShare} fun _ => pref2 m d) ∗ o2Loc d ↦{fullShare} f) : sProp 𝕄) ⊢ bigSep Finset.univ fun c : Fin ((K (F := F)).nCore 1) => (P m).st 1 d c := by
  rw [st2_eq]
  exact deal (nc := 3) (ℓ2 := xLoc d) (ℓ3 := p2Loc d) (ℓ4 := o2Loc d) (blockSet o2V) (blocks_disjoint o2V) (blocks_cover o2V (View.set_whole _)) (flat m d) (fun _ => pref2 m d) f

theorem collect2 (d : Dev nD) :
    (bigSep Finset.univ fun c : Fin ((K (F := F)).nCore 1) => (P m).dn 1 d c) ⊢ (iprop((xLoc d ↦{fullShare} flat m d) ∗ (p2Loc d ↦{fullShare} fun _ => pref2 m d) ∗ o2Loc d ↦{fullShare} out2 m d) : sProp 𝕄) := by
  rw [dn2_eq]
  exact collect (nc := 3) (ℓ2 := xLoc d) (ℓ3 := p2Loc d) (ℓ4 := o2Loc d) (blockSet o2V) (blocks_disjoint o2V) (blocks_cover o2V (View.set_whole _)) (flat m d) (fun _ => pref2 m d) (out2 m d)

theorem st3_eq (d : Dev nD) : (bigSep Finset.univ fun c : Fin ((K (F := F)).nCore 2) => (P m).st 2 d c)
    = bigSep Finset.univ fun c : Fin 2 => bigSep Finset.univ fun s : Fin 16 =>
      iprop((xLoc d ↦{part32 (tileNo c s)} flat m d) ∗ (p3Loc d ↦{part32 (tileNo c s)} fun _ => pref3 m d) ∗ ∃ f, o3Loc d ↦[blockSet o3V (tileNo c s)]{fullShare} f) :=
  bigSep_congr fun c _ => (show (P m).st 2 d c = bigSep Finset.univ fun s : Fin 16 => go3 m d c s from rfl).trans (bigSep_congr fun s _ => gv3_eq m d c s)

theorem dn3_eq (d : Dev nD) : (bigSep Finset.univ fun c : Fin ((K (F := F)).nCore 2) => (P m).dn 2 d c)
    = bigSep Finset.univ fun c : Fin 2 => bigSep Finset.univ fun s : Fin 16 =>
      iprop((xLoc d ↦{part32 (tileNo c s)} flat m d) ∗ (p3Loc d ↦{part32 (tileNo c s)} fun _ => pref3 m d) ∗ o3Loc d ↦[blockSet o3V (tileNo c s)]{fullShare} out3 m d) :=
  bigSep_congr fun c _ => (show (P m).dn 2 d c = bigSep Finset.univ fun s : Fin 16 => td3 m d c s from rfl).trans (bigSep_congr fun s _ => tk3_eq m d c s)

theorem deal3 (d : Dev nD) (f : Buf (Elt F) (o3Loc d)) :
    (iprop((xLoc d ↦{fullShare} flat m d) ∗ (p3Loc d ↦{fullShare} fun _ => pref3 m d) ∗ o3Loc d ↦{fullShare} f) : sProp 𝕄) ⊢ bigSep Finset.univ fun c : Fin ((K (F := F)).nCore 2) => (P m).st 2 d c := by
  rw [st3_eq]
  exact deal (nc := 3) (ℓ2 := xLoc d) (ℓ3 := p3Loc d) (ℓ4 := o3Loc d) (blockSet o3V) (blocks_disjoint o3V) (blocks_cover o3V (View.set_whole _)) (flat m d) (fun _ => pref3 m d) f

theorem collect3 (d : Dev nD) :
    (bigSep Finset.univ fun c : Fin ((K (F := F)).nCore 2) => (P m).dn 2 d c) ⊢ (iprop((xLoc d ↦{fullShare} flat m d) ∗ (p3Loc d ↦{fullShare} fun _ => pref3 m d) ∗ o3Loc d ↦{fullShare} out3 m d) : sProp 𝕄) := by
  rw [dn3_eq]
  exact collect (nc := 3) (ℓ2 := xLoc d) (ℓ3 := p3Loc d) (ℓ4 := o3Loc d) (blockSet o3V) (blocks_disjoint o3V) (blocks_cover o3V (View.set_whole _)) (flat m d) (fun _ => pref3 m d) (out3 m d)

/-! ## @main on the TensorCore -/

abbrev a' : DevRef τ sig := Proc.devRef .tc (main_arg0 : Ref sig .tc)
abbrev b' : DevRef τ sig := Proc.devRef .tc (main_arg1 : Ref sig .tc)
abbrev c' : DevRef τ sig := Proc.devRef .tc (main_arg2 : Ref sig .tc)
abbrev x' : DevRef τ sig := Proc.devRef .tc (main_v0 : Ref sig .tc)
abbrev o1' : DevRef τ sig := Proc.devRef .tc (main_v1 : Ref sig .tc)
abbrev p2' : DevRef τ sig := Proc.devRef .tc (main_v2 : Ref sig .tc)
abbrev o2' : DevRef τ sig := Proc.devRef .tc (main_v3 : Ref sig .tc)
abbrev k' : DevRef τ sig := Proc.devRef .tc (main_c : Ref sig .tc)
abbrev s' : DevRef τ sig := Proc.devRef .tc (main_v4 : Ref sig .tc)
abbrev j' : DevRef τ sig := Proc.devRef .tc (main_v5 : Ref sig .tc)
abbrev p3' : DevRef τ sig := Proc.devRef .tc (main_v6 : Ref sig .tc)
abbrev o3' : DevRef τ sig := Proc.devRef .tc (main_v7 : Ref sig .tc)

abbrev opX : HloOp τ sig (Elt F) := StableHlo.reshape main_arg0 main_v0 (rfl : (.f32 : EltTy) = .f32) shapeCasts_S2048x2048_S4194304
abbrev opP2 : HloOp τ sig (Elt F) :=
  StableHlo.unary main_arg1 main_v2 (broadcastInDim S16 ![] bcast_S_S16 : (⟨S_, .i32⟩ : BufTy).Contents (Elt F) → (⟨S16, .i32⟩ : BufTy).Contents (Elt F))
abbrev opK : HloOp τ sig (Elt F) := StableHlo.nullary main_c (constantI S_ 32 12#32)
abbrev opS : HloOp τ sig (Elt F) := StableHlo.binary main_arg1 main_c main_v4
  (Host.shli : (⟨S_, .i32⟩ : BufTy).Contents (Elt F) → (⟨S_, .i32⟩ : BufTy).Contents (Elt F) → (⟨S_, .i32⟩ : BufTy).Contents (Elt F))
abbrev opJ : HloOp τ sig (Elt F) := StableHlo.binary main_v4 main_arg2 main_v5
  (ori : (⟨S_, .i32⟩ : BufTy).Contents (Elt F) → (⟨S_, .i32⟩ : BufTy).Contents (Elt F) → (⟨S_, .i32⟩ : BufTy).Contents (Elt F))
abbrev opP3 : HloOp τ sig (Elt F) :=
  StableHlo.unary main_v5 main_v6 (broadcastInDim S16 ![] bcast_S_S16 : (⟨S_, .i32⟩ : BufTy).Contents (Elt F) → (⟨S16, .i32⟩ : BufTy).Contents (Elt F))

/-- The arrays of @main still in play before the first call, the second, the third. -/
abbrev arr3 : Finset (DevRef τ sig) := {a', b', c', k', s', j', p3'}
abbrev arr2 : Finset (DevRef τ sig) := insert p2' arr3
abbrev arr1 : Finset (DevRef τ sig) := insert x' arr2

theorem held_take (d : Dev nD) {S : Finset (DevRef τ sig)} {b : DevRef τ sig} (hb : b ∉ S) (W : Valuation τ sig (Elt F)) :
    (held (SparseCore.T d) (insert b S) W : sProp 𝕄) = iprop((((d, b) : Loc nD τ sig) ↦{fullShare} W b) ∗ held (SparseCore.T d) S W) := by
  unfold held
  rw [SparseCore.bigSep_insert' hb]

theorem held3 (d : Dev nD) (W : Valuation τ sig (Elt F)) :
    (held (SparseCore.T d) arr3 W : sProp 𝕄) = iprop((aLoc d ↦{fullShare} W a') ∗ (bLoc d ↦{fullShare} W b') ∗ (cLoc d ↦{fullShare} W c')
      ∗ (((d, k') : Loc nD τ sig) ↦{fullShare} W k') ∗ (((d, s') : Loc nD τ sig) ↦{fullShare} W s') ∗ (((d, j') : Loc nD τ sig) ↦{fullShare} W j') ∗ p3Loc d ↦{fullShare} W p3') := by
  unfold held arr3
  rw [SparseCore.bigSep_insert' (by decide), SparseCore.bigSep_insert' (by decide), SparseCore.bigSep_insert' (by decide), SparseCore.bigSep_insert' (by decide),
    SparseCore.bigSep_insert' (by decide), SparseCore.bigSep_insert' (by decide), bigSep_singleton]

def W0 (d : Dev nD) : Valuation τ sig (Elt F) := fun b => m (d, b)
def W1 (d : Dev nD) : Valuation τ sig (Elt F) := (opX (F := F)).result (W0 m d)
def W2 (d : Dev nD) : Valuation τ sig (Elt F) := (opP2 (F := F)).result (W1 m d)
def W3 (d : Dev nD) : Valuation τ sig (Elt F) := (opK (F := F)).result (W2 m d)
def W4 (d : Dev nD) : Valuation τ sig (Elt F) := (opS (F := F)).result (W3 m d)
def W5 (d : Dev nD) : Valuation τ sig (Elt F) := (opJ (F := F)).result (W4 m d)
def W6 (d : Dev nD) : Valuation τ sig (Elt F) := (opP3 (F := F)).result (W5 m d)

theorem unscoped_held (d : Dev nD) : (unscopedBufs d (fun b => m ((SparseCore.T d).loc b)) : sProp 𝕄)
    = iprop((o1Loc d ↦{fullShare} m (o1Loc d)) ∗ (o2Loc d ↦{fullShare} m (o2Loc d)) ∗ (o3Loc d ↦{fullShare} m (o3Loc d)) ∗ held (SparseCore.T d) arr1 (W0 m d)) := by
  rw [held_take d (b := x') (S := arr2) (by decide), held_take d (b := p2') (S := arr3) (by decide), held3]
  unfold unscopedBufs
  rw [show (Finset.univ.filter fun b : Ref sig .tc => ¬ b.isScoped)
      = {main_v1, main_v3, main_v7, main_v0, main_v2, main_arg0, main_arg1, main_arg2, main_c, main_v4, main_v5, main_v6} by decide,
    SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]
  rfl

section
variable (d : Dev nD) (W : Valuation τ sig (Elt F)) {b : DevRef τ sig}
theorem resX (h : b ≠ x') : (opX (F := F)).result W b = W b := (opX (F := F)).result_of_not_mem W (b := b) (fun hm => h (Finset.mem_singleton.mp hm))
theorem resP2 (h : b ≠ p2') : (opP2 (F := F)).result W b = W b := (opP2 (F := F)).result_of_not_mem W (b := b) (fun hm => h (Finset.mem_singleton.mp hm))
theorem resK (h : b ≠ k') : (opK (F := F)).result W b = W b := (opK (F := F)).result_of_not_mem W (b := b) (fun hm => h (Finset.mem_singleton.mp hm))
theorem resS (h : b ≠ s') : (opS (F := F)).result W b = W b := (opS (F := F)).result_of_not_mem W (b := b) (fun hm => h (Finset.mem_singleton.mp hm))
theorem resJ (h : b ≠ j') : (opJ (F := F)).result W b = W b := (opJ (F := F)).result_of_not_mem W (b := b) (fun hm => h (Finset.mem_singleton.mp hm))
theorem resP3 (h : b ≠ p3') : (opP3 (F := F)).result W b = W b := (opP3 (F := F)).result_of_not_mem W (b := b) (fun hm => h (Finset.mem_singleton.mp hm))
end

/-- What none of the operations writes is as at the launch. -/
theorem W4_of (d : Dev nD) {b : DevRef τ sig} (h1 : b ≠ x') (h2 : b ≠ p2') (h3 : b ≠ k') (h4 : b ≠ s') : W4 m d b = m (d, b) :=
  (resS _ h4).trans ((resK _ h3).trans ((resP2 _ h2).trans (resX _ h1)))
theorem W6_of (d : Dev nD) {b : DevRef τ sig} (h1 : b ≠ x') (h2 : b ≠ p2') (h3 : b ≠ k') (h4 : b ≠ s') (h5 : b ≠ j') (h6 : b ≠ p3') : W6 m d b = m (d, b) :=
  (resP3 _ h6).trans ((resJ _ h5).trans (W4_of m d h1 h2 h3 h4))
theorem W1_x (d : Dev nD) : W1 m d x' = flat m d := StableHlo.reshape_result main_arg0 main_v0 _ _ _ _ (W0 m d)
theorem W2_p2 (d : Dev nD) : W2 m d p2' = fun _ => pref2 m d := by
  refine (StableHlo.unary_result main_arg1 main_v2 _ _ _ (W1 m d)).trans ?_
  rw [show W1 m d b' = m (bLoc d) from resX _ (by decide)]
  funext i
  exact congrArg (m (bLoc d)) (funext fun a => a.elim0)
theorem W4_s (d : Dev nD) : W4 m d s' = (Host.shli (m (bLoc d) : S_.Idx → BitVec 32) (constantI S_ 32 12#32) : S_.Idx → BitVec 32) := by
  refine (StableHlo.binary_result main_arg1 main_c main_v4 _ _ _ _ (W3 m d)).trans ?_
  rw [show W3 m d b' = m (bLoc d) from (resK _ (by decide)).trans ((resP2 _ (by decide)).trans (resX _ (by decide))),
    show W3 m d k' = constantI S_ 32 12#32 from StableHlo.nullary_result main_c _ _ (W2 m d)]
theorem W5_j (d : Dev nD) : W5 m d j' = joined m d := by
  refine (StableHlo.binary_result main_v4 main_arg2 main_v5 _ _ _ _ (W4 m d)).trans ?_
  rw [W4_s, show W4 m d c' = m (cLoc d) from W4_of m d (by decide) (by decide) (by decide) (by decide)]
  rfl
theorem W6_p3 (d : Dev nD) : W6 m d p3' = fun _ => pref3 m d := by
  refine (StableHlo.unary_result main_v5 main_v6 _ _ _ (W5 m d)).trans ?_
  rw [W5_j]
  funext i
  exact congrArg (joined m d) (funext fun a => a.elim0)

theorem hX : (opX (F := F)).bufs ⊆ arr1 := show ({a', x'} : Finset (DevRef τ sig)) ⊆ arr1 by decide
theorem hP2 : (opP2 (F := F)).bufs ⊆ arr2 := show ({b', p2'} : Finset (DevRef τ sig)) ⊆ arr2 by decide
theorem hK : (opK (F := F)).bufs ⊆ arr3 := show ({k'} : Finset (DevRef τ sig)) ⊆ arr3 by decide
theorem hS : (opS (F := F)).bufs ⊆ arr3 := show ({b', k', s'} : Finset (DevRef τ sig)) ⊆ arr3 by decide
theorem hJ : (opJ (F := F)).bufs ⊆ arr3 := show ({s', c', j'} : Finset (DevRef τ sig)) ⊆ arr3 by decide
theorem hP3 : (opP3 (F := F)).bufs ⊆ arr3 := show ({j', p3'} : Finset (DevRef τ sig)) ⊆ arr3 by decide

/-- What @main leaves: the arguments as at the launch, the results at their tables. -/
abbrev FIN (d : Dev nD) : sProp 𝕄 := iprop((aLoc d ↦{fullShare} m (aLoc d)) ∗ (bLoc d ↦{fullShare} m (bLoc d)) ∗ (cLoc d ↦{fullShare} m (cLoc d))
  ∗ (o1Loc d ↦{fullShare} out1 m d) ∗ (o2Loc d ↦{fullShare} out2 m d) ∗ o3Loc d ↦{fullShare} out3 m d)

theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 3 ∗ FIN m d ∗ (K (F := F)).tcEnd d) := by
  unfold SparseCore.Cfg.tcRes SparseCore.Cfg.tcEnd
  rw [unscoped_held]
  simp only [main, wp_bind, wp_pure]
  iintro ⟨#Hctx, Hst, ⟨Hb, ⟨Ho1, Ho2, Ho3, Hheld⟩, Hts, -⟩, -⟩
  iapply (wp_hlo_within 𝒱 (SparseCore.T d) none Set.univ (op := opX) (S := arr1) hX (V := W0 m d)) $$ [Hb Hheld]
  · isplitl [Hb]; · iexact Hb
    iexact Hheld
  iintro ⟨Hb, Hheld⟩
  rw [wp_ret]; imodintro
  ihave Hh := (Entails.of_eq (held_take (F := F) d (b := x') (S := arr2) (by decide) (W1 m d))) $$ [Hheld]
  · iexact Hheld
  rw [W1_x]
  icases Hh with ⟨Hx, Hheld⟩
  iapply ((K (F := F)).wp_run (D (F := F)) 𝒱 (EH := EH) (P := P m) κ d 0) $$ [Hst Hheld Hx Ho1 Ho2 Ho3 Hb Hts]
  isplitr; · iexact Hctx
  isplitl [Hst]; · iexact Hst
  isplitl [Hx Ho1]
  · iapply (deal1 m d (m (o1Loc d)))
    isplitl [Hx]; · iexact Hx
    iexact Ho1
  iintro ⟨Hst, Hdn⟩
  ihave Hall := (collect1 m d) $$ Hdn
  icases Hall with ⟨Hx, Ho1⟩
  iapply (wp_hlo_within 𝒱 (SparseCore.T d) none Set.univ (op := opP2) (S := arr2) hP2 (V := W1 m d)) $$ [Hb Hheld]
  · isplitl [Hb]; · iexact Hb
    iexact Hheld
  iintro ⟨Hb, Hheld⟩
  rw [wp_ret]; imodintro
  ihave Hh := (Entails.of_eq (held_take (F := F) d (b := p2') (S := arr3) (by decide) (W2 m d))) $$ [Hheld]
  · iexact Hheld
  rw [W2_p2]
  icases Hh with ⟨Hp, Hheld⟩
  iapply ((K (F := F)).wp_run (D (F := F)) 𝒱 (EH := EH) (P := P m) κ d 1) $$ [Hst Hheld Hx Hp Ho1 Ho2 Ho3 Hb Hts]
  isplitr; · iexact Hctx
  isplitl [Hst]; · iexact Hst
  isplitl [Hx Hp Ho2]
  · iapply (deal2 m d (m (o2Loc d)))
    isplitl [Hx]; · iexact Hx
    isplitl [Hp]; · iexact Hp
    iexact Ho2
  iintro ⟨Hst, Hdn⟩
  ihave Hall := (collect2 m d) $$ Hdn
  icases Hall with ⟨Hx, -, Ho2⟩
  iapply (wp_hlo_within 𝒱 (SparseCore.T d) none Set.univ (op := opK) (S := arr3) hK (V := W2 m d)) $$ [Hb Hheld]
  · isplitl [Hb]; · iexact Hb
    iexact Hheld
  iintro ⟨Hb, Hheld⟩
  rw [wp_ret]; imodintro
  iapply (wp_hlo_within 𝒱 (SparseCore.T d) none Set.univ (op := opS) (S := arr3) hS (V := W3 m d)) $$ [Hb Hheld]
  · isplitl [Hb]; · iexact Hb
    iexact Hheld
  iintro ⟨Hb, Hheld⟩
  rw [wp_ret]; imodintro
  iapply (wp_hlo_within 𝒱 (SparseCore.T d) none Set.univ (op := opJ) (S := arr3) hJ (V := W4 m d)) $$ [Hb Hheld]
  · isplitl [Hb]; · iexact Hb
    iexact Hheld
  iintro ⟨Hb, Hheld⟩
  rw [wp_ret]; imodintro
  iapply (wp_hlo_within 𝒱 (SparseCore.T d) none Set.univ (op := opP3) (S := arr3) hP3 (V := W5 m d)) $$ [Hb Hheld]
  · isplitl [Hb]; · iexact Hb
    iexact Hheld
  iintro ⟨Hb, Hheld⟩
  rw [wp_ret]; imodintro
  ihave Hh := (Entails.of_eq (held3 (F := F) d (W6 m d))) $$ [Hheld]
  · iexact Hheld
  rw [W6_p3, W6_of m d (b := a') (by decide) (by decide) (by decide) (by decide) (by decide) (by decide),
    W6_of m d (b := b') (by decide) (by decide) (by decide) (by decide) (by decide) (by decide),
    W6_of m d (b := c') (by decide) (by decide) (by decide) (by decide) (by decide) (by decide)]
  icases Hh with ⟨Ha, Hbb, Hc, -, -, -, Hp⟩
  iapply ((K (F := F)).wp_run (D (F := F)) 𝒱 (EH := EH) (P := P m) κ d 2) $$ [Hst Ha Hbb Hc Hx Hp Ho1 Ho2 Ho3 Hb Hts]
  isplitr; · iexact Hctx
  isplitl [Hst]; · iexact Hst
  isplitl [Hx Hp Ho3]
  · iapply (deal3 m d (m (o3Loc d)))
    isplitl [Hx]; · iexact Hx
    isplitl [Hp]; · iexact Hp
    iexact Ho3
  iintro ⟨Hst, Hdn⟩
  ihave Hall := (collect3 m d) $$ Hdn
  icases Hall with ⟨-, -, Ho3⟩
  imodintro
  isplitl [Hst]; · iexact Hst
  isplitr [Hb Hts]
  · isplitl [Ha]; · iexact Ha
    isplitl [Hbb]; · iexact Hbb
    isplitl [Hc]; · iexact Hc
    isplitl [Ho1]; · iexact Ho1
    isplitl [Ho2]; · iexact Ho2
    iexact Ho3
  isplitl [Hb] <;> iassumption

def fq (d : Dev nD) (s' : Phys nD τ sig (Elt F)) : Prop :=
  s'.mem.mem (aLoc d) = m (aLoc d) ∧ s'.mem.mem (bLoc d) = m (bLoc d) ∧ s'.mem.mem (cLoc d) = m (cLoc d)
    ∧ s'.mem.mem (o1Loc d) = out1 m d ∧ s'.mem.mem (o2Loc d) = out2 m d ∧ s'.mem.mem (o3Loc d) = out3 m d

/-- What is held whole is what the memory holds. -/
theorem agree (s' : Phys nD τ sig (Elt F)) (ℓ : Loc nD τ sig) (f : Buf (Elt F) ℓ) (R : sProp 𝕄) {φ : Prop} (h : iprop(R ∗ SI s') ⊢ (⌜φ⌝ : sProp 𝕄)) :
    iprop(((ℓ ↦{fullShare} f) ∗ R) ∗ SI s') ⊢ (⌜s'.mem.mem ℓ = f ∧ φ⌝ : sProp 𝕄) := by
  iintro ⟨⟨Hl, HR⟩, HSI⟩
  ihave H := (persistent_entails_right (SI_pointsTo_agree (st := s') (ℓ := ℓ) (I := Finset.univ) (q := fullShare) (f := f))) $$ [HSI Hl]
  · isplitl [HSI] <;> iassumption
  icases H with ⟨%h1, HSI, -⟩
  ihave H := h $$ [HR HSI]
  · isplitl [HR] <;> iassumption
  icases H with %h2
  ipureintro
  exact ⟨funext fun i => h1 i (Finset.mem_univ i), h2⟩

theorem agree_last (s' : Phys nD τ sig (Elt F)) (ℓ : Loc nD τ sig) (f : Buf (Elt F) ℓ) : iprop((ℓ ↦{fullShare} f) ∗ SI s') ⊢ (⌜s'.mem.mem ℓ = f⌝ : sProp 𝕄) := by
  iintro ⟨Hl, HSI⟩
  ihave H := (SI_pointsTo_agree (st := s') (ℓ := ℓ) (I := Finset.univ) (q := fullShare) (f := f)) $$ [HSI Hl]
  · isplitl [HSI] <;> iassumption
  icases H with %h1
  ipureintro
  exact funext fun i => h1 i (Finset.mem_univ i)

theorem hfin (d : Dev nD) (s' : Phys nD τ sig (Elt F)) : iprop(FIN m d ∗ SI s') ⊢ (⌜fq m d s'⌝ : sProp 𝕄) :=
  agree s' (aLoc d) _ _ (agree s' (bLoc d) _ _ (agree s' (cLoc d) _ _ (agree s' (o1Loc d) _ _ (agree s' (o2Loc d) _ _ (agree_last s' (o3Loc d) _)))))

/-! ## The run -/

def QC : PUnit × MemSt nD τ sig (Elt F) → Prop := fun r =>
  (∀ d : Dev nD, r.2.mem (aLoc d) = m (aLoc d) ∧ r.2.mem (bLoc d) = m (bLoc d) ∧ r.2.mem (cLoc d) = m (cLoc d)
    ∧ r.2.mem (o1Loc d) = out1 m d ∧ r.2.mem (o2Loc d) = out2 m d ∧ r.2.mem (o3Loc d) = out3 m d) ∧ r.2.sem = fun _ => 0

theorem run_main [∀ e, Nonempty (Elt F e)] : θ_run (Cert.Levels.defs (F := F)) (Cert.Levels.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq | 1 => nomatch hq | 2 => nomatch hq)
    (fun q _ => match q with | 0 => tileObl1 m | 1 => tileObl2 m | 2 => tileObl3 m)
    (fun q _ => match q with | 0 => SparseCore.Cfg.VecSplit.of_plain (vecSplit1 m) | 1 => SparseCore.Cfg.VecSplit.of_plain (vecSplit2 m) | 2 => SparseCore.Cfg.VecSplit.of_plain (vecSplit3 m))
    m ρ main (fun _ => iprop(emp)) (FIN m) (u₀ (F := F)) (sep_elim_left.trans (hu₀ m)) (hmain m ρ) (fq m) (hfin m) (QC m) (fun _ h hz => ⟨h, hz⟩)

end Cert.Hist

end
-- ==== Proof.Whole.Count.lean ====
/-
  COUNTING, with no program in it. A tile sees a stream of 32-bit words, sixteen at a time: word `k` of the stream goes
  to lane `k % 16`. `hit k` is the mask bit of word `k`, `bin k` the bin it falls into. `tal hit bin l b n` is how many of
  the first `n` words are lane `l`'s, hit, and fall into bin `b`; `cnt hit bin b n` the same over all the lanes. The masked
  scatter-add of sixteen ones takes the sixteen per-lane histograms of `n` words to those of `n + 16`
  (`storeIdx_tal`); the sum of the sixteen is the histogram of the stream (`sum_tal`).
-/
module

public import proofs.«01_k».proof.Defs
public import Mathlib.Data.Nat.Count

@[expose] public section

namespace Cert.Whole

open Idealize.ShloMosaic Cert.KernelIdeal

/-- How many of the first `n` words are lane `l`'s, hit, and in bin `b`. -/
def tal (hit : ℕ → BitVec 1) (bin : ℕ → ℕ) (l b n : ℕ) : ℕ := Nat.count (fun k => k % 16 = l ∧ hit k = 1#1 ∧ bin k = b) n

/-- How many of the first `n` words are hit and in bin `b`. -/
def cnt (hit : ℕ → BitVec 1) (bin : ℕ → ℕ) (b n : ℕ) : ℕ := Nat.count (fun k => hit k = 1#1 ∧ bin k = b) n

variable (hit : ℕ → BitVec 1) (bin : ℕ → ℕ)

theorem tal_zero (l b : ℕ) : tal hit bin l b 0 = 0 := Nat.count_zero _

/-- The sixteen lanes' histograms add up to the stream's. -/
theorem sum_tal (b n : ℕ) : ∑ l ∈ Finset.range 16, tal hit bin l b n = cnt hit bin b n := by
  induction n with
  | zero => simp [tal, cnt]
  | succ n ih =>
    have e : ∀ l, tal hit bin l b (n + 1) = tal hit bin l b n + if n % 16 = l ∧ hit n = 1#1 ∧ bin n = b then 1 else 0 :=
      fun l => Nat.count_succ _ _
    have e' : cnt hit bin b (n + 1) = cnt hit bin b n + if hit n = 1#1 ∧ bin n = b then 1 else 0 := Nat.count_succ _ _
    rw [e', ← ih, Finset.sum_congr rfl fun l _ => e l, Finset.sum_add_distrib]
    refine congrArg (_ + ·) ?_
    by_cases h : hit n = 1#1 ∧ bin n = b
    · rw [if_pos h, Finset.sum_eq_single_of_mem (n % 16) (Finset.mem_range.mpr (Nat.mod_lt _ (by decide)))
        fun l _ hl => if_neg fun H => hl H.1.symm]
      exact if_pos ⟨rfl, h⟩
    · rw [if_neg h]
      exact Finset.sum_eq_zero fun l _ => if_neg fun H => h H.2

/-- Sixteen more words: lane `l` gains its own one of them, when it is hit and in bin `b`. -/
theorem tal_add (l b n : ℕ) (hn : 16 ∣ n) :
    tal hit bin l b (n + 16) = tal hit bin l b n + Nat.count (fun k => k = l ∧ hit (n + k) = 1#1 ∧ bin (n + k) = b) 16 := by
  unfold tal
  rw [Nat.count_add]
  congr 1
  rw [Nat.count_eq_card_filter_range, Nat.count_eq_card_filter_range]
  congr 1
  refine Finset.filter_congr fun k hk => ?_
  have hk := Finset.mem_range.mp hk
  rw [show (n + k) % 16 = k by omega]

/-- Folding one-at-a-time increments over a list adds, at each place, the number of list members naming it. -/
theorem foldl_incr {ι κ : Type} (L : List κ) (P : κ → ι → Prop) [∀ k i, Decidable (P k i)] (step : (ι → BitVec 32) → κ → ι → BitVec 32)
    (hstep : ∀ g k i, step g k i = if P k i then g i + 1#32 else g i) (g : ι → BitVec 32) (i : ι) :
    L.foldl step g i = g i + BitVec.ofNat 32 (L.countP fun k => P k i) := by
  induction L generalizing g with
  | nil => simp
  | cons k L ih =>
    rw [List.foldl_cons, ih, hstep, List.countP_cons]
    by_cases h : P k i
    · simp only [h, if_true, decide_true, BitVec.ofNat_add]; rw [BitVec.add_assoc, BitVec.add_comm 1#32]
    · simp [h]

/-- The masked scatter-add of sixteen ones, one into each lane's row at the bin its word falls into, takes the lanes'
    histograms of `n` words to those of `n + 16`. -/
theorem storeIdx_tal {F : FTy → Type} [FloatOps F] (n : ℕ) (hn : 16 ∣ n) (lanes bins ones : IVec S16 32) (mask : IVec S16 1)
    (hl : ∀ x : S16.Idx, (lanes x).toNat = (x 0).val) (hb : ∀ x : S16.Idx, (bins x).toNat = bin (n + (x 0).val))
    (hm : ∀ x : S16.Idx, mask x = hit (n + (x 0).val)) (ho : ∀ x, ones x = 1#32)
    (h : ∀ a x, ((![lanes, bins] : Fin 2 → IVec S16 32) a x).toNat < S16x4096.size a) :
    (storeIdx (F := F) (s := S16x4096) (e := .i32) (fun j => BitVec.ofNat 32 (tal hit bin (j 0).val (j 1).val n)) ![lanes, bins] ones mask true h
        : S16x4096.Idx → BitVec 32)
      = fun j => BitVec.ofNat 32 (tal hit bin (j 0).val (j 1).val (n + 16)) := by
  funext j
  unfold storeIdx
  refine (foldl_incr (ι := S16x4096.Idx) (κ := Fin ((![16] : Fin 1 → ℕ) 0)) (List.finRange ((![16] : Fin 1 → ℕ) 0))
    (fun k j => k.val = (j 0).val ∧ hit (n + k.val) = 1#1 ∧ bin (n + k.val) = (j 1).val) _ ?_ _ j).trans ?_
  · intro g k i
    have e0 : ((idxAt (s := S16x4096) ![lanes, bins] h (Shape.ofLane (d := ![16]) k)) 0).val = k.val := hl _
    have e1 : ((idxAt (s := S16x4096) ![lanes, bins] h (Shape.ofLane (d := ![16]) k)) 1).val = bin (n + k.val) := hb _
    have em : mask (Shape.ofLane (d := ![16]) k) = hit (n + k.val) := hm _
    have hall : (∀ a, (i a).val = ((idxAt (s := S16x4096) ![lanes, bins] h (Shape.ofLane (d := ![16]) k)) a).val)
        ↔ k.val = (i 0).val ∧ bin (n + k.val) = (i 1).val :=
      ⟨fun H => ⟨by rw [H 0, e0], by rw [H 1, e1]⟩, fun H a => by
        match a with
        | 0 => rw [e0, H.1]
        | 1 => rw [e1, H.2]⟩
    by_cases hh : hit (n + k.val) = 1#1
    · refine (congrFun (if_pos (em.trans hh)) i).trans ?_
      by_cases hi : k.val = (i 0).val ∧ bin (n + k.val) = (i 1).val
      · refine (if_pos (hall.mpr hi)).trans (Eq.trans ?_ (if_pos ⟨hi.1, hh, hi.2⟩).symm)
        have : (idxAt (s := S16x4096) ![lanes, bins] h (Shape.ofLane (d := ![16]) k)) = i := by
          funext a; exact Fin.ext ((hall.mpr hi) a).symm
        exact congrArg₂ (· + ·) (congrArg g this) (ho _)
      · exact (if_neg (mt hall.mp hi)).trans (if_neg fun H => hi ⟨H.1, H.2.2⟩).symm
    · exact (congrFun (if_neg fun H => hh (em.symm.trans H)) i).trans (if_neg fun H => hh H.2.1).symm
  · rw [tal_add hit bin _ _ n hn, BitVec.ofNat_add]
    refine congrArg (BitVec.ofNat 32 (tal hit bin (j 0).val (j 1).val n) + BitVec.ofNat 32 ·) ?_
    show (List.finRange 16).countP _ = (List.range 16).countP _
    rw [← List.map_coe_finRange_eq_range, List.countP_map]
    rfl

end Cert.Whole
-- ==== Proof.Whole.Holds.lean ====
/-
  WHAT A SCRATCH BUFFER HOLDS, at one tile: `holds thr h G` says that thread `thr` owns memref `h`'s elements and that
  they read `G`. One rule per memory operation of the histogram kernels, at the head of a program: a load gives `G` on its
  rectangle, a store rewrites it there, a scatter (`vector_store_idx`) gives the scatter of `G`.
-/
module

public import proofs.«01_k».proof.Proof.Whole.Count
public import proofs.«01_k».proof.Proof.Gen.KernelIdeal
public import Idealize.ShloMosaic.Lib.SparseCore.Quiescent
public import Idealize.ShloMosaic.Lib.SparseCore.Ops
public import Idealize.ShloMosaic.Lib.Pipeline.Kit
public import Idealize.ShloMosaic.Lib.Tactic

@[expose] public section

noncomputable section

namespace Cert.Whole

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

abbrev UH : Type := URounds (GSem nD τ sig) ℕ
abbrev UU : Type := UH × (UR sig nD τ × Counters)

variable {nc : ℕ}

local notation "𝕄" => MT nD τ sig (HIx nc) (Elt F) ℕ UU ℕ

section

variable {s : Shape} {e : EltTy} (thr : Thread nD τ)

/-- Thread `thr` owns memref `h`'s elements, and they read `G`. -/
def holds (h : Memref sig thr.2.kind .vmem s e) (G : s.Idx → Elt F e) : sProp 𝕄 :=
  iprop(∃ f : Buf (Elt F) (h.view.loc thr), ⌜h.view.read (Elt F) f = G⌝ ∗ (h.view.loc thr ↦[h.view.set]{fullShare} f))

variable {defs : Defs nD τ sig (Elt F) Λ₀} {α : Type}

/-- A load of rectangle `r` gives what the memref holds there. -/
theorem wp_load_holds {h : Memref sig thr.2.kind .vmem s e} {G : s.Idx → Elt F e} {r : Rect s} {hl : h.view.LoadsAt r.toLoadRect}
    {k : (r.shape.Idx → Elt F e) → Prog (TpuEff nD τ sig (Elt F) Λ₀ thr.2) α} {Q : α → sProp (MT nD τ sig (HIx nc) (Elt F) ℕ UU ℕ)} :
    holds (nc := nc) thr h G
      ⊢ iprop((holds (nc := nc) thr h G -∗ wp frame (wpE defs Variants.none thr none) Set.univ (k fun x => G (r.emb x)) Q)
        -∗ wp frame (wpE defs Variants.none thr none) Set.univ (Prog.lift (.load h r.toLoadRect hl) >>= k) Q) := by
  unfold holds
  iintro ⟨%f, %hf, H⟩ Hk
  iapply (wp_load_rect (defs := defs) Variants.none thr none Set.univ (Q := Q) (m := h) (r := r) (hl := hl) (k := k) (q := fullShare) (f := f)
    (S := h.view.set) (h.view.set_slice_subset r)) $$ H
  iintro H
  subst hf
  iapply Hk
  iexists f
  isplitr; · ipureintro; rfl
  iexact H

/-- A store of `w` over rectangle `r` leaves the memref holding `w` there and what it held elsewhere. -/
theorem wp_store_holds {h : Memref sig thr.2.kind .vmem s e} {G G' : s.Idx → Elt F e} {r : Rect s} {w : r.shape.Idx → Elt F e}
    {hx : (h.access r).Stores Finset.univ} {hm : (Finset.univ : Finset r.shape.Idx) = Finset.univ ∨ ∀ a, r.stride a = 1}
    {k : PUnit → Prog (TpuEff nD τ sig (Elt F) Λ₀ thr.2) α} {Q : α → sProp (MT nD τ sig (HIx nc) (Elt F) ℕ UU ℕ)}
    (hin : ∀ x, G' (r.emb x) = w x) (hout : ∀ y, y ∉ r.set → G' y = G y) :
    holds (nc := nc) thr h G
      ⊢ iprop((holds (nc := nc) thr h G' -∗ wp frame (wpE defs Variants.none thr none) Set.univ (k ⟨⟩) Q)
        -∗ wp frame (wpE defs Variants.none thr none) Set.univ (Prog.lift (.store h r w Finset.univ hx hm) >>= k) Q) := by
  unfold holds
  iintro ⟨%f, %hf, H⟩ Hk
  iapply (wp_store (defs := defs) Variants.none thr none Set.univ (Q := Q) (m := h) (r := r) (w := w) (Mk := Finset.univ) (hx := hx) (hm := hm) (k := k) (f := f)
    (S := h.view.set) (h.setOn_access_subset r Finset.univ)) $$ H
  iintro H
  iapply Hk
  iexists ((h.access r).write (Elt F) f w Finset.univ)
  isplitr
  · ipureintro
    funext y
    by_cases hy : y ∈ r.set
    · obtain ⟨x, -, rfl⟩ := Finset.mem_map.mp (r.map_emb_univ ▸ hy)
      rw [hin x]
      exact View.read_slice_write_emb (v := h.view) r f w (Finset.mem_univ x)
    · rw [hout y hy, ← hf]
      exact View.read_slice_write_of_not_mem (v := h.view) r f w Finset.univ (by rwa [Rect.map_emb_univ])
  iexact H

/-- A check whose condition holds passes. -/
theorem wp_assume_head {P : Prop} {dP : Decidable P} {k : PLift P → Prog (TpuEff nD τ sig (Elt F) Λ₀ thr.2) α}
    {Q : α → sProp (MT nD τ sig (HIx nc) (Elt F) ℕ UU ℕ)} (h : P) :
    wp frame (wpE defs Variants.none thr none) Set.univ (k ⟨h⟩) Q
      ⊢ wp frame (wpE defs Variants.none thr none) Set.univ (Prog.lift (TpuEff.assume P dP) >>= k) Q :=
  Entails.of_eq (wp_assume_of Variants.none thr none Set.univ h).symm

variable [FloatOps F]

/-- A scatter leaves the memref holding the scatter of what it held. -/
theorem wp_scatter_holds {d : Fin 1 → Nat} {h : Memref sig thr.2.kind .vmem s e} {G G' : s.Idx → Elt F e}
    {idxs : Fin s.rank → IVec ⟨1, d⟩ 32} {v : Vec F ⟨1, d⟩ e}
    {mask : IVec ⟨1, d⟩ 1} {add : Bool} {hi : ∀ a x, (idxs a x).toNat < s.size a} {hs : (h.access (.whole s)).Stores Finset.univ}
    {k : PUnit → Prog (TpuEff nD τ sig (Elt F) Λ₀ thr.2) α} {Q : α → sProp (MT nD τ sig (HIx nc) (Elt F) ℕ UU ℕ)}
    (hG : storeIdx G idxs v mask add hi = G') :
    holds (nc := nc) thr h G
      ⊢ iprop((holds (nc := nc) thr h G' -∗ wp frame (wpE defs Variants.none thr none) Set.univ (k ⟨⟩) Q)
        -∗ wp frame (wpE defs Variants.none thr none) Set.univ (SparseCore.vectorStoreIdx h idxs v mask add hi hs >>= k) Q) := by
  unfold holds
  subst hG
  iintro ⟨%f, %hf, H⟩ Hk
  have hset : (h.access (.whole s)).set = h.view.set := by
    rw [View.set_slice, Rect.set_whole]; rfl
  have hread : (h.access (.whole s)).read (Elt F) f = G := by
    rw [← hf]; funext x
    exact congrArg (h.view.read (Elt F) f) (Rect.emb_whole_apply s x)
  rw [← hset]
  iapply (SparseCore.wp_vectorStoreIdx (defs := defs) Variants.none thr none Set.univ (Q := Q) (base := h) (idxs := idxs) (v := v) (mask := mask)
    (add := add) (h := hi) (hs := hs) (k := k) (f := f)) $$ H
  iintro H
  iapply Hk
  iexists _
  isplitr
  rotate_left
  · iexact H
  · ipureintro
    rw [hread]
    funext y
    have := View.read_slice_write_emb (v := h.view) (Rect.whole s) f (storeIdx G idxs v mask add hi) (Finset.mem_univ y)
    rwa [Rect.emb_whole_apply] at this

end

end Cert.Whole

end
-- ==== Proof.Whole.Tile.lean ====
/-
  THE HISTOGRAM KERNEL OF ONE TILE, written once. The printed bodies of the kernel unroll everything; the program here
  says the same in rows and groups: zero the sixteen lanes' tables sixteen columns at a time (`zBody`); for each chunk of
  16384 words fetch it and, a group of sixteen at a time, scatter-add a one into each lane's table at the word's bin
  (`gBody`, `cBody`); add the sixteen tables up (`sBody`); write the result out (`hist`). What the calls differ in — which
  words count (`mask`) and into which bin (`bins`) — is a parameter. The printed bodies are instances of these by
  definition (`t1_eq`, `t2_eq`, `t4_eq`).
-/
module

public import proofs.«01_k».proof.Proof.Whole.Holds
public import proofs.«01_k».proof.Proof.Gen.KernelIdeal
public import proofs.«01_k».proof.Proof.Gen.KernelIdeal.Skeleton

@[expose] public section

noncomputable section

namespace Cert.Whole

open Cert.KernelIdeal Cert.KernelIdeal.Gen
open Idealize.ShloMosaic
open Idealize.SL Idealize.SL.Sem

/-! ## Offsets -/

/-- Row `l`, columns from `16 * k`. -/
def roff (l : ℕ) (k : Fin k0_t1_loop.trips) : Fin 2 → ℕ :=
  ![l, (Scalar.indexCast (Scalar.muli (Scf.iv 0#32 1#32 k) 16#32)).toNat]

theorem roff_eq (l : ℕ) (k : Fin k0_t1_loop.trips) : roff l k = ![l, 16 * k.val] := by
  have h : (Scalar.indexCast (Scalar.muli (Scf.iv 0#32 1#32 k) 16#32)).toNat = 16 * k.val := congrFun (k0_off1_eq k) 1
  unfold roff; rw [h]

theorem t1_lt (k : Fin k0_t1_loop.trips) : k.val < 256 := lt_of_lt_of_le k.isLt k0_t1_abs.2.1

theorem roff_inb (l : Fin 16) (k : Fin k0_t1_loop.trips) : ∀ a, roff l.val k a + S1x16.size a ≤ S16x4096.size a := by
  have hl := l.isLt; have hk := t1_lt k
  rw [roff_eq]
  intro a
  match a with
  | 0 => show l.val + 1 ≤ 16; omega
  | 1 => show 16 * k.val + 16 ≤ 4096; omega

/-- Words from `128 * k + 16 * u` of the chunk. -/
def goff (u : ℕ) (k : Fin k0_t3_loop.trips) : Fin 1 → ℕ :=
  ![(Scalar.indexCast (Scalar.addi (Scalar.muli (Scf.iv 0#32 1#32 k) 128#32) (BitVec.ofNat 32 (16 * u)))).toNat]

theorem goff_eq : ∀ (u : Fin 8) (k : Fin k0_t3_loop.trips), goff u.val k = ![128 * k.val + 16 * u.val] := by decide +kernel

theorem t3_lt : ∀ k : Fin k0_t3_loop.trips, k.val < 128 := by decide +kernel

theorem goff_inb (u : Fin 8) (k : Fin k0_t3_loop.trips) : ∀ a, goff u.val k a + S16.size a ≤ S16384.size a := by
  have hu := u.isLt; have hk := t3_lt k
  rw [goff_eq]
  intro a
  match a with
  | 0 => show 128 * k.val + 16 * u.val + 16 ≤ 16384; omega

/-- Where sum group `k` goes in the tile's sums, 128 to a row. -/
theorem soff_eq : ∀ k : Fin k0_t4_loop.trips, k0_off42 k = ![k.val / 8, k.val % 8 * 16] := by decide +kernel

/-! ## The program -/

variable {F : FTy → Type} [FloatOps F]
variable {cc : Fin τ.nSC} {ss : Fin τ.nSub} {α : Type}

/-- One row of the zeroing: sixteen columns of row `l`, then `rest`. -/
def zRow (h6 : Memref sig .scVector .vmem S16x4096 .i32) (k : Fin k0_t1_loop.trips) (l : Fin 16)
    (rest : Prog (TpuEff nD τ sig (Elt F) Λ₀ (.scVector cc ss)) α) : Prog (TpuEff nD τ sig (Elt F) Λ₀ (.scVector cc ss)) α := do
  let _ ← Prog.lift (.load h6 (Rect.unit (s := S16x4096) (roff l.val k) S1x16.size (roff_inb l k)).toLoadRect (View.loadsAt_vmem h_S1x16))
  Prog.lift (.store h6 (Rect.unit (s := S16x4096) (roff l.val k) S1x16.size (roff_inb l k)) (shapeCast S1x16 k0_pay2 shapeCasts_S16_S1x16) Finset.univ
    (View.stores_vmem_bits_univ h_S1x16 rfl) (.inl rfl))
  rest

/-- The rows `ls` of the zeroing, then `rest`. -/
def zRows (h6 : Memref sig .scVector .vmem S16x4096 .i32) (k : Fin k0_t1_loop.trips) (rest : Prog (TpuEff nD τ sig (Elt F) Λ₀ (.scVector cc ss)) α) :
    List (Fin 16) → Prog (TpuEff nD τ sig (Elt F) Λ₀ (.scVector cc ss)) α
  | [] => rest
  | l :: ls => zRow h6 k l (zRows h6 k rest ls)

def zBody (h6 : Memref sig .scVector .vmem S16x4096 .i32) : Fin k0_t1_loop.trips → BitVec 32 → Prog (TpuEff nD τ sig (Elt F) Λ₀ (.scVector cc ss)) (BitVec 32) :=
  fun k _ => zRows h6 k (pure 0#32) [0, 1, 2, 3, 4, 5, 6, 7, 8, 9, 10, 11, 12, 13, 14, 15]

/-- The lane numbers. -/
abbrev lanes : IVec S16 32 := iota .scVector S16 32 [0] iota_S16_d0_w32_scVector

variable (bins : Vec F S16 .i32 → IVec S16 32) (mask : Vec F S16 .i32 → IVec S16 1)

/-- Group `u` of sixteen words of the chunk: each lane's one added at its word's bin, where the mask says so; then `rest`. -/
def grp (h5 : Memref sig .scVector .vmem S16384 .i32) (h6 : Memref sig .scVector .vmem S16x4096 .i32) (k : Fin k0_t3_loop.trips) (u : Fin 8)
    (rest : Prog (TpuEff nD τ sig (Elt F) Λ₀ (.scVector cc ss)) α) : Prog (TpuEff nD τ sig (Elt F) Λ₀ (.scVector cc ss)) α := do
  let v : Vec F S16 .i32 ← Prog.lift (.load h5 (Rect.unit (s := S16384) (goff u.val k) S16.size (goff_inb u k)).toLoadRect (View.loadsAt_vmem h_S16))
  have hw : k0_chk1 lanes (bins v) := (← Prog.lift (TpuEff.assume (k0_chk1 lanes (bins v)) (k0_chk1.dec lanes (bins v)))).down
  SparseCore.vectorStoreIdx h6 ![lanes, bins v] k0_pay1 (mask v) true (k0_idx1_inb lanes (bins v) hw) (View.stores_vmem_bits_univ h_S16x4096 rfl)
  rest

def grps (h5 : Memref sig .scVector .vmem S16384 .i32) (h6 : Memref sig .scVector .vmem S16x4096 .i32) (k : Fin k0_t3_loop.trips)
    (rest : Prog (TpuEff nD τ sig (Elt F) Λ₀ (.scVector cc ss)) α) : List (Fin 8) → Prog (TpuEff nD τ sig (Elt F) Λ₀ (.scVector cc ss)) α
  | [] => rest
  | u :: us => grp bins mask h5 h6 k u (grps h5 h6 k rest us)

def gBody (h5 : Memref sig .scVector .vmem S16384 .i32) (h6 : Memref sig .scVector .vmem S16x4096 .i32) :
    Fin k0_t3_loop.trips → BitVec 32 → Prog (TpuEff nD τ sig (Elt F) Λ₀ (.scVector cc ss)) (BitVec 32) :=
  fun k _ => grps bins mask h5 h6 k (pure 0#32) [0, 1, 2, 3, 4, 5, 6, 7]

/-- One chunk: fetched from `off` on, waited for, its 128 trips of eight groups run. -/
def cBody (h2 : Memref sig .scVector .hbm S4194304 .i32) (h5 : Memref sig .scVector .vmem S16384 .i32) (w5 : h5.IsWhole)
    (h6 : Memref sig .scVector .vmem S16x4096 .i32) (r1 : DmaSems sig S_)
    (off : Fin k0_t2_loop.trips → Fin 1 → ℕ) (inb : ∀ k a, off k a + S16384.size a ≤ S4194304.size a) :
    Fin k0_t2_loop.trips → BitVec 32 → Prog (TpuEff nD τ sig (Elt F) Λ₀ (.scVector cc ss)) (BitVec 32) :=
  fun k _ => do
    Prog.lift (.enqueueDma (h2.slice (Rect.unit (s := S4194304) (off k) S16384.size (inb k)) (fun _ => rfl)) (.here h5) (.dma r1.sem)
      (View.wordExact_bits rfl) w5.wordExact ⟨Or.inl rfl, trivial⟩)
    Prog.lift (.waitDma2 r1.sem (h2.slice (Rect.unit (s := S4194304) (off k) S16384.size (inb k)) (fun _ => rfl)) h5 (View.wordExact_bits rfl) w5.wordExact)
    let _ ← Scf.Loop.for k0_t3_loop k0_t3_ok 0#32 (gBody bins mask h5 h6)
    pure 0#32

/-- The rows `ls` added onto `acc`, then `rest` at the sum. -/
def sRows (h6 : Memref sig .scVector .vmem S16x4096 .i32) (k : Fin k0_t1_loop.trips)
    (rest : IVec S16 32 → Prog (TpuEff nD τ sig (Elt F) Λ₀ (.scVector cc ss)) α) :
    List (Fin 16) → IVec S16 32 → Prog (TpuEff nD τ sig (Elt F) Λ₀ (.scVector cc ss)) α
  | [], acc => rest acc
  | l :: ls, acc => do
    let v : Vec F S1x16 .i32 ← Prog.lift (.load h6 (Rect.unit (s := S16x4096) (roff l.val k) S1x16.size (roff_inb l k)).toLoadRect (View.loadsAt_vmem h_S1x16))
    sRows h6 k rest ls (addi acc (shapeCast (α := BitVec 32) S16 v shapeCasts_S1x16_S16))

def sBody (h6 : Memref sig .scVector .vmem S16x4096 .i32) (h7 : Memref sig .scVector .vmem S32x128 .i32) :
    Fin k0_t1_loop.trips → BitVec 32 → Prog (TpuEff nD τ sig (Elt F) Λ₀ (.scVector cc ss)) (BitVec 32) :=
  fun k _ => do
    let v : Vec F S1x16 .i32 ← Prog.lift (.load h6 (Rect.unit (s := S16x4096) (roff (0 : Fin 16).val k) S1x16.size (roff_inb 0 k)).toLoadRect (View.loadsAt_vmem h_S1x16))
    sRows h6 k (fun acc => do
      let _ ← Prog.lift (.load h7 (Rect.unit (s := S32x128) (k0_off42 k) S1x16.size (k0_off42_inb k)).toLoadRect (View.loadsAt_vmem h_S1x16))
      Prog.lift (.store h7 (Rect.unit (s := S32x128) (k0_off42 k) S1x16.size (k0_off42_inb k)) (shapeCast S1x16 acc shapeCasts_S16_S1x16) Finset.univ
        (View.stores_vmem_bits_univ h_S1x16 rfl) (.inl rfl))
      pure 0#32) [1, 2, 3, 4, 5, 6, 7, 8, 9, 10, 11, 12, 13, 14, 15] (shapeCast (α := BitVec 32) S16 v shapeCasts_S1x16_S16)

/-- The whole tile, after the prefix (if any) is in: the tables zeroed, filled, summed, the sums written to block `ooff` of
    the output. -/
def hist (h2 : Memref sig .scVector .hbm S4194304 .i32) (h4 : Memref sig .scVector .hbm S32x32x128 .i32)
    (h5 : Memref sig .scVector .vmem S16384 .i32) (w5 : h5.IsWhole) (h6 : Memref sig .scVector .vmem S16x4096 .i32)
    (h7 : Memref sig .scVector .vmem S32x128 .i32) (w7 : h7.IsWhole) (r1 r2 : DmaSems sig S_)
    (off : Fin k0_t2_loop.trips → Fin 1 → ℕ) (inb : ∀ k a, off k a + S16384.size a ≤ S4194304.size a)
    (ooff : Fin 3 → ℕ) (oinb : ∀ a, ooff a + S1x32x128.size a ≤ S32x32x128.size a) :
    Prog (TpuEff nD τ sig (Elt F) Λ₀ (.scVector cc ss)) PUnit := do
  let _ ← Scf.Loop.for k0_t1_loop k0_t1_ok 0#32 (zBody h6)
  let _ ← Scf.Loop.for k0_t2_loop k0_t2_ok 0#32 (cBody bins mask h2 h5 w5 h6 r1 off inb)
  let _ ← Scf.Loop.for k0_t4_loop k0_t4_ok 0#32 (sBody h6 h7)
  Prog.lift (.enqueueDma h7 (.here ((h4.slice (Rect.unit (s := S32x32x128) ooff S1x32x128.size oinb) (fun _ => rfl)).squeeze S32x128 squeezes_S1x32x128_S32x128))
    (.dma r2.sem) w7.wordExact ((View.wordExact_bits rfl).reshape _ _) ⟨Or.inl rfl, trivial⟩)
  Prog.lift (.waitDma2 r2.sem h7 ((h4.slice (Rect.unit (s := S32x32x128) ooff S1x32x128.size oinb) (fun _ => rfl)).squeeze S32x128 squeezes_S1x32x128_S32x128)
    w7.wordExact ((View.wordExact_bits rfl).reshape _ _))
  pure ⟨⟩

/-- The sixteen words of `h3` fetched into `h8` and read, then what is done with them. -/
def fetch (h3 : Memref sig .scVector .hbm S16 .i32) (w3 : h3.IsWhole) (h8 : Memref sig .scVector .vmem S16 .i32) (w8 : h8.IsWhole) (r0 : DmaSems sig S_)
    (rest : Vec F S16 .i32 → Prog (TpuEff nD τ sig (Elt F) Λ₀ (.scVector cc ss)) PUnit) : Prog (TpuEff nD τ sig (Elt F) Λ₀ (.scVector cc ss)) PUnit := do
  Prog.lift (.enqueueDma h3 (.here h8) (.dma r0.sem) w3.wordExact w8.wordExact ⟨Or.inl rfl, trivial⟩)
  Prog.lift (.waitDma2 r0.sem h3 h8 w3.wordExact w8.wordExact)
  let v0 : Vec F S16 .i32 ← Prog.lift (.load h8 (Rect.unit (s := S16) ![0] S16.size inb_S16_S16_0).toLoadRect (View.loadsAt_vmem h_S16))
  rest v0

/-- A tile whose mask is over a prefix: the sixteen words of `h3` fetched into `h8` and read, then the tile program. -/
def preHist (pmask : Vec F S16 .i32 → Vec F S16 .i32 → IVec S16 1) (h2 : Memref sig .scVector .hbm S4194304 .i32) (h3 : Memref sig .scVector .hbm S16 .i32) (w3 : h3.IsWhole)
    (h4 : Memref sig .scVector .hbm S32x32x128 .i32) (h5 : Memref sig .scVector .vmem S16384 .i32) (w5 : h5.IsWhole) (h6 : Memref sig .scVector .vmem S16x4096 .i32)
    (h7 : Memref sig .scVector .vmem S32x128 .i32) (w7 : h7.IsWhole) (h8 : Memref sig .scVector .vmem S16 .i32) (w8 : h8.IsWhole) (r0 r1 r2 : DmaSems sig S_)
    (off : Fin k0_t2_loop.trips → Fin 1 → ℕ) (inb : ∀ k a, off k a + S16384.size a ≤ S4194304.size a)
    (ooff : Fin 3 → ℕ) (oinb : ∀ a, ooff a + S1x32x128.size a ≤ S32x32x128.size a) :
    Prog (TpuEff nD τ sig (Elt F) Λ₀ (.scVector cc ss)) PUnit := do
  fetch h3 w3 h8 w8 r0 fun v0 => hist bins (pmask v0) h2 h4 h5 w5 h6 h7 w7 r1 r2 off inb ooff oinb

end Cert.Whole

end
-- ==== Proof.Whole.TileWp.lean ====
/-
  WHAT THE TILE PROGRAM DOES, with values: the four loops of `Tile.lean` run once, at a symbolic tile. The stream of tile
  `w` is words `131072 * w` onward of the scores (`word`); after the zeroing the sixteen tables are zero, after `n` words
  they are the lanes' histograms of the first `n` (`hv`), and the sums written out are the histogram of the whole stream.
-/
module

public import proofs.«01_k».proof.Proof.Whole.Tile

@[expose] public section

noncomputable section

namespace Cert.Whole

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] {nc : ℕ}

local notation "𝕄" => MT nD τ sig (HIx nc) (Elt F) ℕ UU ℕ

section
variable (d : Dev nD) (cc : Fin τ.nSC) (ss : Fin τ.nSub)
variable {defs : Defs nD τ sig (Elt F) Λ₀} {α : Type}

/-! ## The zeroing -/

theorem mem_row (l : ℕ) (k : Fin k0_t1_loop.trips) (hin) (y : S16x4096.Idx) :
    y ∈ (Rect.unit (s := S16x4096) (roff l k) S1x16.size hin).set ↔ (y 0).val = l ∧ 16 * k.val ≤ (y 1).val ∧ (y 1).val < 16 * k.val + 16 := by
  rw [Rect.mem_set_unit]
  simp only [roff_eq]
  constructor
  · intro h
    have h0 := h 0; have h1 := h 1
    change l ≤ (y 0).val ∧ (y 0).val < l + 1 at h0
    change 16 * k.val ≤ (y 1).val ∧ (y 1).val < 16 * k.val + 16 at h1
    omega
  · rintro ⟨h0, h1⟩ a
    match a with
    | 0 => show l ≤ (y 0).val ∧ (y 0).val < l + 1; omega
    | 1 => exact h1

theorem row_emb0 (l : ℕ) (k : Fin k0_t1_loop.trips) (hin) (x : S1x16.Idx) :
    ((Rect.unit (s := S16x4096) (roff l k) S1x16.size hin).emb x 0).val = l := by
  have hx : (x 0).val < 1 := (x 0).isLt
  rw [Rect.emb_apply]
  show roff l k 0 + 1 * (x 0).val = l
  rw [roff_eq]; show l + 1 * (x 0).val = l; omega

theorem row_emb1 (l : ℕ) (k : Fin k0_t1_loop.trips) (hin) (x : S1x16.Idx) :
    ((Rect.unit (s := S16x4096) (roff l k) S1x16.size hin).emb x 1).val = 16 * k.val + (x 1).val := by
  rw [Rect.emb_apply]
  show roff l k 1 + 1 * (x 1).val = _
  rw [roff_eq]; show 16 * k.val + 1 * (x 1).val = _; omega

theorem wp_zRows (h6 : Memref sig .scVector .vmem S16x4096 .i32) (k : Fin k0_t1_loop.trips)
    (rest : Prog (TpuEff nD τ sig (Elt F) Λ₀ (.scVector cc ss)) α) {Q : α → sProp 𝕄} (ls : List (Fin 16)) :
    ∀ (G : S16x4096.Idx → Elt F .i32), (∀ j, (j 1).val < 16 * k.val → G j = (0#32 : BitVec 32)) →
      (∀ j, (j 1).val < 16 * (k.val + 1) → (∀ l ∈ ls, (j 0).val ≠ l.val) → G j = (0#32 : BitVec 32)) →
      holds (nc := nc) (V d cc ss) h6 G
        ⊢ iprop((∀ G' : S16x4096.Idx → Elt F .i32, ⌜∀ j, (j 1).val < 16 * (k.val + 1) → G' j = (0#32 : BitVec 32)⌝
              -∗ holds (nc := nc) (V d cc ss) h6 G' -∗ wp frame (wpE defs Variants.none (V d cc ss) none) Set.univ rest Q)
          -∗ wp frame (wpE defs Variants.none (V d cc ss) none) Set.univ (zRows h6 k rest ls) Q) := by
  induction ls with
  | nil =>
    intro G _ h1
    iintro H Hk
    unfold zRows
    iapply Hk $$ %G
    · ipureintro; exact fun j hj => h1 j hj (by simp)
    · iexact H
  | cons l ls ih =>
    intro G h0 h1
    unfold zRows zRow
    iintro H Hk
    iapply (wp_load_holds (nc := nc) (V d cc ss) (defs := defs) (h := h6) (G := G)) $$ H
    iintro H
    iapply (wp_store_holds (nc := nc) (V d cc ss) (defs := defs) (h := h6) (G := G)
      (G' := fun j => if (j 0).val = l.val ∧ 16 * k.val ≤ (j 1).val ∧ (j 1).val < 16 * k.val + 16 then (0#32 : BitVec 32) else G j) ?_ ?_) $$ H
    · intro x
      have hx : (x 1).val < 16 := (x 1).isLt
      rw [row_emb0, row_emb1, if_pos (by omega)]
      rfl
    · intro y hy
      rw [mem_row] at hy
      exact if_neg hy
    iintro H
    iapply (ih _ ?_ ?_) $$ H
    · intro j hj
      by_cases h : (j 0).val = l.val ∧ 16 * k.val ≤ (j 1).val ∧ (j 1).val < 16 * k.val + 16
      · exact if_pos h
      · exact (if_neg h).trans (h0 j hj)
    · intro j hj hl
      by_cases h : (j 0).val = l.val ∧ 16 * k.val ≤ (j 1).val ∧ (j 1).val < 16 * k.val + 16
      · exact if_pos h
      · refine (if_neg h).trans ?_
        by_cases h2 : (j 1).val < 16 * k.val
        · exact h0 j h2
        · refine h1 j hj fun l' hl' => ?_
          rcases List.mem_cons.mp hl' with rfl | hl'
          · intro e; exact h ⟨e, by omega, by omega⟩
          · exact hl l' hl'
    iexact Hk

/-- The zeroing's invariant: the columns done are zero. -/
def zInv (h6 : Memref sig .scVector .vmem S16x4096 .i32) (t : ℕ) (_ : BitVec 32) : sProp 𝕄 :=
  iprop(∃ G : S16x4096.Idx → Elt F .i32, ⌜∀ j, (j 1).val < 16 * t → G j = (0#32 : BitVec 32)⌝ ∗ holds (nc := nc) (V d cc ss) h6 G)

theorem zBody_wp (h6 : Memref sig .scVector .vmem S16x4096 .i32) (k : Fin k0_t1_loop.trips) (acc : BitVec 32) :
    zInv (F := F) (nc := nc) d cc ss h6 k.val acc
      ⊢ wp frame (wpE defs Variants.none (V d cc ss) none) Set.univ (zBody h6 k acc) (zInv (F := F) (nc := nc) d cc ss h6 (k.val + 1)) := by
  unfold zInv zBody
  iintro ⟨%G, %hG, H⟩
  iapply (wp_zRows (nc := nc) d cc ss h6 k _ _ G hG ?_) $$ H
  · intro j hj hl
    exact absurd rfl (hl (j 0) (by
      have : ∀ l : Fin 16, l ∈ ([0, 1, 2, 3, 4, 5, 6, 7, 8, 9, 10, 11, 12, 13, 14, 15] : List (Fin 16)) := by decide
      exact this (j 0)))
  iintro %G' %hG' H
  sl_step
  iexists G'
  isplitr; · ipureintro; exact hG'
  iexact H

/-! ## The stream, the counting -/

/-- Word `n` of tile `w`'s stream. -/
def word (X : S4194304.Idx → Elt F .i32) (w n : ℕ) : BitVec 32 :=
  if h : 131072 * w + n < 4194304 then (X (Shape.ofLane (d := ![4194304]) ⟨131072 * w + n, h⟩)) else 0#32

/-- A level: which words count, and into which bin, on vectors as the program says it and on a word. -/
structure Level (bins : Vec F S16 .i32 → IVec S16 32) (mask : Vec F S16 .i32 → IVec S16 1) (msk : BitVec 32 → BitVec 1) (bin : BitVec 32 → ℕ) : Prop where
  mask : ∀ v x, mask v x = msk ((v x : BitVec 32))
  bins : ∀ v x, (bins v x).toNat = bin ((v x : BitVec 32))
  lt : ∀ b, bin b < 4096

variable (X : S4194304.Idx → Elt F .i32) (w : ℕ) (msk : BitVec 32 → BitVec 1) (bin : BitVec 32 → ℕ)

/-- The sixteen tables after `n` words of tile `w`. -/
def hv (n : ℕ) : S16x4096.Idx → Elt F .i32 :=
  fun j => BitVec.ofNat 32 (tal (fun k => msk (word X w k)) (fun k => bin (word X w k)) (j 0).val (j 1).val n)

/-- The tile's histogram: how many words of its stream count into bin `b`. -/
def total (b : ℕ) : ℕ := cnt (fun k => msk (word X w k)) (fun k => bin (word X w k)) b 131072

/-! ## The groups -/

variable {bins : Vec F S16 .i32 → IVec S16 32} {mask : Vec F S16 .i32 → IVec S16 1} {msk bin}

theorem lanes_toNat (x : S16.Idx) : (lanes x).toNat = (x 0).val := by
  have hx : (x 0).val < 16 := (x 0).isLt
  show (BitVec.ofNat 32 (0 * 16 + (x 0).val)).toNat = _
  rw [BitVec.toNat_ofNat]; omega

theorem grp_emb (u : Fin 8) (k : Fin k0_t3_loop.trips) (hin) (x : S16.Idx) :
    ((Rect.unit (s := S16384) (goff u.val k) S16.size hin).emb x 0).val = 128 * k.val + 16 * u.val + (x 0).val := by
  rw [Rect.emb_apply]
  show goff u.val k 0 + 1 * (x 0).val = _
  rw [goff_eq]; show 128 * k.val + 16 * u.val + 1 * (x 0).val = _; omega

/-- The groups `us` of a trip, consecutive from group `m` on: sixteen words each. -/
theorem wp_grps (hL : Level bins mask msk bin) (h5 : Memref sig .scVector .vmem S16384 .i32) (h6 : Memref sig .scVector .vmem S16x4096 .i32)
    (k : Fin k0_t3_loop.trips) (C : S16384.Idx → Elt F .i32) (c0 : ℕ) (hc : 16 ∣ c0)
    (hC : ∀ x, (C x : BitVec 32) = word X w (c0 + (x 0).val))
    (rest : Prog (TpuEff nD τ sig (Elt F) Λ₀ (.scVector cc ss)) α) {Q : α → sProp 𝕄} (us : List (Fin 8)) :
    ∀ m, us.map Fin.val = List.range' m us.length →
      iprop(holds (nc := nc) (V d cc ss) h5 C ∗ holds (nc := nc) (V d cc ss) h6 (hv X w msk bin (c0 + 128 * k.val + 16 * m)))
        ⊢ iprop((holds (nc := nc) (V d cc ss) h5 C -∗ holds (nc := nc) (V d cc ss) h6 (hv X w msk bin (c0 + 128 * k.val + 16 * (m + us.length)))
              -∗ wp frame (wpE defs Variants.none (V d cc ss) none) Set.univ rest Q)
          -∗ wp frame (wpE defs Variants.none (V d cc ss) none) Set.univ (grps bins mask h5 h6 k rest us) Q) := by
  induction us with
  | nil =>
    intro m _
    unfold grps
    iintro ⟨H5, H6⟩ Hk
    iapply Hk $$ H5
    iexact H6
  | cons u us ih =>
    intro m hm
    rw [List.map_cons, List.length_cons, List.range'_succ, List.cons.injEq] at hm
    obtain ⟨hu, hus⟩ := hm
    unfold grps grp
    iintro ⟨H5, H6⟩ Hk
    iapply (wp_load_holds (nc := nc) (V d cc ss) (defs := defs) (h := h5) (G := C)) $$ H5
    iintro H5
    have hv' : ∀ x : S16.Idx, (C ((Rect.unit (s := S16384) (goff u.val k) S16.size (goff_inb u k)).emb x) : BitVec 32)
        = word X w (c0 + 128 * k.val + 16 * m + (x 0).val) := fun x => by
      rw [hC, grp_emb, hu]; congr 1; omega
    have hchk : k0_chk1 lanes (bins fun x => C ((Rect.unit (s := S16384) (goff u.val k) S16.size (goff_inb u k)).emb x)) := by
      intro a x
      match a with
      | 0 => show (lanes x).toNat < 16; rw [lanes_toNat]; exact (x 0).isLt
      | 1 => exact (hL.bins _ x).trans_lt (hL.lt _)
    iapply (wp_assume_head (nc := nc) (V d cc ss) (defs := defs) hchk)
    iapply (wp_scatter_holds (nc := nc) (V d cc ss) (defs := defs) (h := h6) (G := hv X w msk bin (c0 + 128 * k.val + 16 * m))
      (G' := hv X w msk bin (c0 + 128 * k.val + 16 * (m + 1))) ?_) $$ H6
    · refine (storeIdx_tal (F := F) (fun k => msk (word X w k)) (fun k => bin (word X w k)) (c0 + 128 * k.val + 16 * m) (by omega)
        lanes _ k0_pay1 _ lanes_toNat ?_ ?_ (fun _ => rfl) _).trans ?_
      · intro x; exact (hL.bins _ x).trans (congrArg bin (hv' x))
      · intro x; exact (hL.mask _ x).trans (congrArg msk (hv' x))
      · rfl
    iintro H6
    rw [List.length_cons, show m + (us.length + 1) = m + 1 + us.length by omega]
    iapply (ih (m + 1) hus) $$ [H5 H6]
    · isplitl [H5]; · iexact H5
      iexact H6
    iexact Hk

/-- The groups' invariant within a chunk. -/
def gInv (h5 : Memref sig .scVector .vmem S16384 .i32) (h6 : Memref sig .scVector .vmem S16x4096 .i32) (C : S16384.Idx → Elt F .i32)
    (msk : BitVec 32 → BitVec 1) (bin : BitVec 32 → ℕ) (c0 : ℕ) (t : ℕ) (_ : BitVec 32) : sProp 𝕄 :=
  iprop(holds (nc := nc) (V d cc ss) h5 C ∗ holds (nc := nc) (V d cc ss) h6 (hv X w msk bin (c0 + 128 * t)))

theorem gBody_wp (hL : Level bins mask msk bin) (h5 : Memref sig .scVector .vmem S16384 .i32) (h6 : Memref sig .scVector .vmem S16x4096 .i32)
    (k : Fin k0_t3_loop.trips) (acc : BitVec 32) (C : S16384.Idx → Elt F .i32) (c0 : ℕ) (hc : 16 ∣ c0)
    (hC : ∀ x, (C x : BitVec 32) = word X w (c0 + (x 0).val)) :
    gInv (nc := nc) d cc ss X w h5 h6 C msk bin c0 k.val acc
      ⊢ wp frame (wpE defs Variants.none (V d cc ss) none) Set.univ (gBody bins mask h5 h6 k acc)
          (gInv (nc := nc) d cc ss X w h5 h6 C msk bin c0 (k.val + 1)) := by
  unfold gInv gBody
  iintro ⟨H5, H6⟩
  iapply (wp_grps (nc := nc) d cc ss X w hL h5 h6 k C c0 hc hC _ _ 0 (by decide)) $$ [H5 H6]
  · isplitl [H5]; · iexact H5
    iexact H6
  iintro H5 H6
  sl_step
  isplitl [H5]; · iexact H5
  iexact H6

/-! ## The chunks -/

/-- A thread's waits so far, its duties unchanged: each wait is of the start or at index `none`. -/
def owed (thr : Thread nD τ) (O : CellTallies nD τ sig (HIx nc)) (W : Waits sig (HIx nc)) : sProp 𝕄 :=
  iprop(∃ W', ⌜∀ p ∈ W', p ∈ W ∨ p.2 = none⌝ ∗ owes thr O W')

variable (O : CellTallies nD τ sig (HIx nc)) (W : Waits sig (HIx nc))

/-- The chunks' invariant: `16384 * t` words counted, the scores read (share `q`), the counter at zero. -/
def cInv (h2 : Memref sig .scVector .hbm S4194304 .i32) (h5 : Memref sig .scVector .vmem S16384 .i32) (h6 : Memref sig .scVector .vmem S16x4096 .i32)
    (r1 : DmaSems sig S_) (q : PosShare TreeShare) (f2 : Buf (Elt F) (h2.view.loc (V d cc ss))) (msk : BitVec 32 → BitVec 1) (bin : BitVec 32 → ℕ)
    (t : ℕ) (_ : BitVec 32) : sProp 𝕄 :=
  iprop(Transfers.MayWaits (V d cc ss) (none : HIx nc) O ∗ (h2.view.loc (V d cc ss) ↦[h2.view.set]{q} f2)
    ∗ (∃ G, holds (nc := nc) (V d cc ss) h5 G) ∗ holds (nc := nc) (V d cc ss) h6 (hv (h2.view.read (Elt F) f2) w msk bin (16384 * t))
    ∗ semVal (V d cc ss, SemLoc.dma r1.sem) 0 ∗ owed (V d cc ss) O W)

theorem cBody_wp (hL : Level bins mask msk bin) (h2 : Memref sig .scVector .hbm S4194304 .i32) (h5 : Memref sig .scVector .vmem S16384 .i32) (w5 : h5.IsWhole)
    (h6 : Memref sig .scVector .vmem S16x4096 .i32) (r1 : DmaSems sig S_)
    (off : Fin k0_t2_loop.trips → Fin 1 → ℕ) (inb : ∀ k a, off k a + S16384.size a ≤ S4194304.size a)
    (hoff : ∀ k, off k 0 = 131072 * w + 16384 * k.val) (q : PosShare TreeShare) (f2 : Buf (Elt F) (h2.view.loc (V d cc ss)))
    (k : Fin k0_t2_loop.trips) (acc : BitVec 32) :
    cInv (nc := nc) d cc ss w O W h2 h5 h6 r1 q f2 msk bin k.val acc
      ⊢ wp frame (wpE defs Variants.none (V d cc ss) none) Set.univ (cBody bins mask h2 h5 w5 h6 r1 off inb k acc)
          (cInv (nc := nc) d cc ss w O W h2 h5 h6 r1 q f2 msk bin (k.val + 1)) := by
  unfold cInv cBody owed
  iintro ⟨#Hmw, H2, ⟨%G, H5⟩, H6, Hs, %W', %hW', HO⟩
  unfold holds
  icases H5 with ⟨%f5, %hf5, H5⟩
  sl_exec (disch := exact View.amount_pos _ _ (show 0 < S16384.numel by decide))
  have hC : ∀ x : S16384.Idx, (cBody_wp.sl.dma0 d cc ss h2 off inb f2 k x : BitVec 32)
      = word (h2.view.read (Elt F) f2) w (16384 * k.val + (x 0).val) := fun x => by
    have hx : (x 0).val < 16384 := (x 0).isLt
    have hlt := inb k 0
    change off k 0 + 16384 ≤ 4194304 at hlt
    rw [hoff] at hlt
    unfold word
    rw [dif_pos (by omega)]
    refine congrArg (fun y => (h2.view.read (Elt F) f2 y : BitVec 32)) (funext fun a => Fin.ext ?_)
    match a with
    | 0 =>
      show ((Rect.unit (s := S4194304) (off k) S16384.size (inb k)).emb x 0).val = 131072 * w + (16384 * k.val + (x 0).val)
      rw [Rect.emb_apply]
      show off k 0 + 1 * (x 0).val = _
      rw [hoff]; omega
  sl_for (gInv (nc := nc) d cc ss (h2.view.read (Elt F) f2) w h5 h6 (cBody_wp.sl.dma0 d cc ss h2 off inb f2 k) msk bin (16384 * k.val)) $$ [H5 H6]
  case region =>
    intro k3 acc3
    exact gBody_wp (nc := nc) d cc ss _ w hL h5 h6 k3 acc3 _ _ (by omega) hC
  · unfold gInv holds
    isplitl [H5]
    · iexists _
      isplitr
      rotate_left
      · iexact H5
      · ipureintro; exact View.read_writes_whole _ _ _
    · iexact H6
  iintro %_ HI
  unfold gInv holds
  icases HI with ⟨H5, H6⟩
  sl_step
  isplitr; · iexact Hmw
  isplitl [H2]; · iexact H2
  isplitl [H5]; · iexists _; iexact H5
  isplitl [H6]
  · rw [show 16384 * (k.val + 1) = 16384 * k.val + 128 * 128 by omega]
    iexact H6
  isplitl [Hs]; · iexact Hs
  iexists (insert (SemLoc.dma r1.sem, (default : HIx nc)) W'); isplitr
  · ipureintro; intro p hp
    rcases Finset.mem_insert.mp hp with hp | hp
    · exact .inr (hp ▸ rfl)
    · exact hW' p hp
  · iexact HO

/-! ## The sums -/

theorem cast_row : ∀ x : S16.Idx, (Shape.reshapeEquiv shapeCasts_S1x16_S16 x 1).val = (x 0).val := by decide +kernel
theorem cast_vec : ∀ x : S1x16.Idx, (Shape.reshapeEquiv shapeCasts_S16_S1x16 x 0).val = (x 1).val := by decide +kernel

theorem row_read (G : S16x4096.Idx → Elt F .i32) (l : ℕ) (k : Fin k0_t1_loop.trips) (hin) (n : ℕ) (hG : G = hv X w msk bin n) (x : S16.Idx) :
    shapeCast (α := BitVec 32) S16 (fun y => G ((Rect.unit (s := S16x4096) (roff l k) S1x16.size hin).emb y)) shapeCasts_S1x16_S16 x
      = BitVec.ofNat 32 (tal (fun k => msk (word X w k)) (fun k => bin (word X w k)) l (16 * k.val + (x 0).val) n) := by
  subst hG
  show hv X w msk bin n _ = _
  unfold hv
  rw [row_emb0, row_emb1, cast_row]

/-- The rows `ls`, consecutive from row `m` on, added onto the sum of those before. -/
theorem wp_sRows (h6 : Memref sig .scVector .vmem S16x4096 .i32) (k : Fin k0_t1_loop.trips) (n : ℕ)
    (rest : IVec S16 32 → Prog (TpuEff nD τ sig (Elt F) Λ₀ (.scVector cc ss)) α) {Q : α → sProp 𝕄} (ls : List (Fin 16)) :
    ∀ (m : ℕ) (acc : IVec S16 32), ls.map Fin.val = List.range' m ls.length →
      (∀ x, acc x = BitVec.ofNat 32 (∑ l ∈ Finset.range m, tal (fun k => msk (word X w k)) (fun k => bin (word X w k)) l (16 * k.val + (x 0).val) n)) →
      holds (nc := nc) (V d cc ss) h6 (hv X w msk bin n)
        ⊢ iprop((∀ acc' : IVec S16 32, ⌜∀ x, acc' x = BitVec.ofNat 32 (∑ l ∈ Finset.range (m + ls.length),
                  tal (fun k => msk (word X w k)) (fun k => bin (word X w k)) l (16 * k.val + (x 0).val) n)⌝
              -∗ holds (nc := nc) (V d cc ss) h6 (hv X w msk bin n)
              -∗ wp frame (wpE defs Variants.none (V d cc ss) none) Set.univ (rest acc') Q)
          -∗ wp frame (wpE defs Variants.none (V d cc ss) none) Set.univ (sRows h6 k rest ls acc) Q) := by
  induction ls with
  | nil =>
    intro m acc _ hacc
    unfold sRows
    iintro H6 Hk
    iapply Hk $$ %acc
    · ipureintro; exact hacc
    · iexact H6
  | cons l ls ih =>
    intro m acc hm hacc
    rw [List.map_cons, List.length_cons, List.range'_succ, List.cons.injEq] at hm
    obtain ⟨hl, hls⟩ := hm
    unfold sRows
    iintro H6 Hk
    iapply (wp_load_holds (nc := nc) (V d cc ss) (defs := defs) (h := h6) (G := hv X w msk bin n)) $$ H6
    iintro H6
    rw [List.length_cons, show m + (ls.length + 1) = m + 1 + ls.length by omega]
    iapply (ih (m + 1) _ hls ?_) $$ H6
    · intro x
      show acc x + shapeCast (α := BitVec 32) S16 _ shapeCasts_S1x16_S16 x = _
      rw [hacc, row_read X w (hv X w msk bin n) l.val k _ n rfl, Finset.sum_range_succ, BitVec.ofNat_add, hl]
    iexact Hk

/-- The sums' invariant: the first `16 * t` bins summed over the sixteen lanes. -/
def sInv (h6 : Memref sig .scVector .vmem S16x4096 .i32) (h7 : Memref sig .scVector .vmem S32x128 .i32)
    (msk : BitVec 32 → BitVec 1) (bin : BitVec 32 → ℕ) (t : ℕ) (_ : BitVec 32) : sProp 𝕄 :=
  iprop(holds (nc := nc) (V d cc ss) h6 (hv X w msk bin 131072)
    ∗ ∃ G : S32x128.Idx → Elt F .i32, ⌜∀ j, (j 0).val * 128 + (j 1).val < 16 * t → G j = BitVec.ofNat 32 (total X w msk bin ((j 0).val * 128 + (j 1).val))⌝
        ∗ holds (nc := nc) (V d cc ss) h7 G)

theorem mem_sum (k : Fin k0_t4_loop.trips) (hin) (y : S32x128.Idx) :
    y ∈ (Rect.unit (s := S32x128) (k0_off42 k) S1x16.size hin).set
      ↔ 16 * k.val ≤ (y 0).val * 128 + (y 1).val ∧ (y 0).val * 128 + (y 1).val < 16 * k.val + 16 := by
  have hy : (y 1).val < 128 := (y 1).isLt
  rw [Rect.mem_set_unit]
  simp only [soff_eq]
  constructor
  · intro h
    have h0 := h 0; have h1 := h 1
    change k.val / 8 ≤ (y 0).val ∧ (y 0).val < k.val / 8 + 1 at h0
    change k.val % 8 * 16 ≤ (y 1).val ∧ (y 1).val < k.val % 8 * 16 + 16 at h1
    omega
  · rintro ⟨h0, h1⟩ a
    match a with
    | 0 => show k.val / 8 ≤ (y 0).val ∧ (y 0).val < k.val / 8 + 1; omega
    | 1 => show k.val % 8 * 16 ≤ (y 1).val ∧ (y 1).val < k.val % 8 * 16 + 16; omega

theorem sum_emb (k : Fin k0_t4_loop.trips) (hin) (x : S1x16.Idx) :
    ((Rect.unit (s := S32x128) (k0_off42 k) S1x16.size hin).emb x 0).val * 128
      + ((Rect.unit (s := S32x128) (k0_off42 k) S1x16.size hin).emb x 1).val = 16 * k.val + (x 1).val := by
  have hx : (x 0).val < 1 := (x 0).isLt
  rw [Rect.emb_apply, Rect.emb_apply]
  show (k0_off42 k 0 + 1 * (x 0).val) * 128 + (k0_off42 k 1 + 1 * (x 1).val) = _
  rw [soff_eq]
  show (k.val / 8 + 1 * (x 0).val) * 128 + (k.val % 8 * 16 + 1 * (x 1).val) = _
  omega

theorem sBody_wp (h6 : Memref sig .scVector .vmem S16x4096 .i32) (h7 : Memref sig .scVector .vmem S32x128 .i32)
    (k : Fin k0_t1_loop.trips) (acc : BitVec 32) :
    sInv (nc := nc) d cc ss X w h6 h7 msk bin k.val acc
      ⊢ wp frame (wpE defs Variants.none (V d cc ss) none) Set.univ (sBody h6 h7 k acc)
          (sInv (nc := nc) d cc ss X w h6 h7 msk bin (k.val + 1)) := by
  unfold sInv sBody
  iintro ⟨H6, %G, %hG, H7⟩
  iapply (wp_load_holds (nc := nc) (V d cc ss) (defs := defs) (h := h6) (G := hv X w msk bin 131072)) $$ H6
  iintro H6
  iapply (wp_sRows (nc := nc) d cc ss X w h6 k 131072 _ _ 1 _ (by decide) ?_) $$ H6
  · intro x
    rw [Finset.sum_range_one]
    exact row_read X w (hv X w msk bin 131072) 0 k _ 131072 rfl x
  iintro %acc' %hacc H6
  iapply (wp_load_holds (nc := nc) (V d cc ss) (defs := defs) (h := h7) (G := G)) $$ H7
  iintro H7
  have hrow : ∀ x, acc' x = BitVec.ofNat 32 (total X w msk bin (16 * k.val + (x 0).val)) := fun x => by
    rw [hacc x]; exact congrArg _ (sum_tal _ _ _ _)
  iapply (wp_store_holds (nc := nc) (V d cc ss) (defs := defs) (h := h7) (G := G)
    (G' := fun j => if 16 * k.val ≤ (j 0).val * 128 + (j 1).val ∧ (j 0).val * 128 + (j 1).val < 16 * k.val + 16
      then BitVec.ofNat 32 (total X w msk bin ((j 0).val * 128 + (j 1).val)) else G j) ?_ ?_) $$ H7
  · intro x
    have hx : (x 1).val < 16 := (x 1).isLt
    beta_reduce
    rw [sum_emb, if_pos (by omega)]
    exact ((hrow _).trans (by rw [cast_vec])).symm
  · intro y hy
    exact if_neg (fun h => hy ((mem_sum k _ y).mpr h))
  iintro H7
  sl_step
  isplitl [H6]; · iexact H6
  iexists _
  isplitr
  rotate_left
  · iexact H7
  · ipureintro
    intro j hj
    beta_reduce
    by_cases h : 16 * k.val ≤ (j 0).val * 128 + (j 1).val ∧ (j 0).val * 128 + (j 1).val < 16 * k.val + 16
    · exact if_pos h
    · exact (if_neg h).trans (hG j (by omega))

/-! ## The tile -/

/-- The block of the output a tile writes, as 32 rows of 128. -/
abbrev outBlock (h4 : Memref sig .scVector .hbm S32x32x128 .i32) (ooff : Fin 3 → ℕ) (oinb : ∀ a, ooff a + S1x32x128.size a ≤ S32x32x128.size a) :
    Memref sig .scVector .hbm S32x128 .i32 :=
  (h4.slice (Rect.unit (s := S32x32x128) ooff S1x32x128.size oinb) (fun _ => rfl)).squeeze S32x128 squeezes_S1x32x128_S32x128

/-- What the tile writes there: bin `128 * j 0 + j 1`'s count at `j`. -/
def sums (X : S4194304.Idx → Elt F .i32) (w : ℕ) (msk : BitVec 32 → BitVec 1) (bin : BitVec 32 → ℕ) : S32x128.Idx → Elt F .i32 :=
  fun j => BitVec.ofNat 32 (total X w msk bin ((j 0).val * 128 + (j 1).val))

/-- The tile program writes its stream's histogram to its block; the scratch buffers, whatever they held, are given back. -/
theorem hist_wp (hL : Level bins mask msk bin) (h2 : Memref sig .scVector .hbm S4194304 .i32) (h4 : Memref sig .scVector .hbm S32x32x128 .i32)
    (h5 : Memref sig .scVector .vmem S16384 .i32) (w5 : h5.IsWhole)
    (h6 : Memref sig .scVector .vmem S16x4096 .i32) (h7 : Memref sig .scVector .vmem S32x128 .i32) (w7 : h7.IsWhole) (r1 r2 : DmaSems sig S_)
    (off : Fin k0_t2_loop.trips → Fin 1 → ℕ) (inb : ∀ k a, off k a + S16384.size a ≤ S4194304.size a)
    (hoff : ∀ k, off k 0 = 131072 * w + 16384 * k.val)
    (ooff : Fin 3 → ℕ) (oinb : ∀ a, ooff a + S1x32x128.size a ≤ S32x32x128.size a)
    (q : PosShare TreeShare) (f2 : Buf (Elt F) (h2.view.loc (V d cc ss))) :
    iprop(Transfers.MayWaits (V d cc ss) (none : HIx nc) O ∗ (h2.view.loc (V d cc ss) ↦[h2.view.set]{q} f2)
        ∗ (∃ f4, (outBlock h4 ooff oinb).view.loc (V d cc ss) ↦[(outBlock h4 ooff oinb).view.set]{fullShare} f4)
        ∗ (∃ G, holds (nc := nc) (V d cc ss) h5 G) ∗ (∃ G, holds (nc := nc) (V d cc ss) h6 G) ∗ (∃ G, holds (nc := nc) (V d cc ss) h7 G)
        ∗ semVal (V d cc ss, SemLoc.dma r1.sem) 0 ∗ semVal (V d cc ss, SemLoc.dma r2.sem) 0 ∗ owed (V d cc ss) O W)
      ⊢ wp frame (wpE defs Variants.none (V d cc ss) none) Set.univ (hist bins mask h2 h4 h5 w5 h6 h7 w7 r1 r2 off inb ooff oinb)
          fun _ => iprop((h2.view.loc (V d cc ss) ↦[h2.view.set]{q} f2)
            ∗ (∃ f4, ⌜(outBlock h4 ooff oinb).view.read (Elt F) f4 = sums (h2.view.read (Elt F) f2) w msk bin⌝
                ∗ ((outBlock h4 ooff oinb).view.loc (V d cc ss) ↦[(outBlock h4 ooff oinb).view.set]{fullShare} f4))
            ∗ (∃ G, holds (nc := nc) (V d cc ss) h5 G) ∗ (∃ G, holds (nc := nc) (V d cc ss) h6 G) ∗ (∃ G, holds (nc := nc) (V d cc ss) h7 G)
            ∗ semVal (V d cc ss, SemLoc.dma r1.sem) 0 ∗ semVal (V d cc ss, SemLoc.dma r2.sem) 0 ∗ owed (V d cc ss) O W) := by
  unfold hist
  iintro ⟨#Hmw, H2, ⟨%f4, H4⟩, H5, ⟨%G6, H6⟩, ⟨%G7, H7⟩, Hr1, Hr2, HO⟩
  sl_for (zInv (nc := nc) d cc ss h6) $$ [H6]
  case region => exact fun k acc => zBody_wp (nc := nc) d cc ss h6 k acc
  · unfold zInv
    iexists G6
    isplitr
    · ipureintro; intro j hj; exact absurd hj (by omega)
    · iexact H6
  iintro %_ HI
  unfold zInv
  icases HI with ⟨%G, %hG, H6⟩
  sl_for (cInv (nc := nc) d cc ss w O W h2 h5 h6 r1 q f2 msk bin) $$ [H2 H5 H6 Hr1 HO]
  case region => exact fun k acc => cBody_wp (nc := nc) d cc ss w O W hL h2 h5 w5 h6 r1 off inb hoff q f2 k acc
  · unfold cInv
    isplitr; · iexact Hmw
    isplitl [H2]; · iexact H2
    isplitl [H5]; · iexact H5
    isplitl [H6]
    · have h0 : G = hv (h2.view.read (Elt F) f2) w msk bin (16384 * 0) := funext fun j => by
        rw [hG j (show (j 1).val < 16 * 256 from (j 1).isLt)]
        show _ = BitVec.ofNat 32 (tal _ _ _ _ 0)
        rw [tal_zero]
      rw [h0]
      iexact H6
    isplitl [Hr1]; · iexact Hr1
    iexact HO
  iintro %_ HI
  unfold cInv
  icases HI with ⟨-, H2, H5, H6, Hr1, HO⟩
  sl_for (sInv (nc := nc) d cc ss (h2.view.read (Elt F) f2) w h6 h7 msk bin) $$ [H6 H7]
  case region => exact fun k acc => sBody_wp (nc := nc) d cc ss _ w h6 h7 k acc
  · unfold sInv
    isplitl [H6]; · iexact H6
    iexists G7
    isplitr
    · ipureintro; intro j hj; exact absurd hj (by omega)
    · iexact H7
  iintro %_ HI
  unfold sInv
  icases HI with ⟨H6, %G7', %hG7, H7⟩
  have hG7' : G7' = sums (h2.view.read (Elt F) f2) w msk bin := funext fun j => hG7 j (by
    have h0 : (j 0).val < 32 := (j 0).isLt
    have h1 : (j 1).val < 128 := (j 1).isLt
    show (j 0).val * 128 + (j 1).val < 16 * 256
    omega)
  subst hG7'
  unfold owed holds
  icases H7 with ⟨%f7, %hf7, H7⟩
  icases HO with ⟨%W', %hW', HO⟩
  sl_exec (disch := exact View.amount_pos _ _ (show 0 < S32x128.numel by decide))
  sl_step
  isplitl [H2]; · iexact H2
  isplitl [H4]
  · iexists _
    isplitr
    rotate_left
    · iexact H4
    · ipureintro
      exact (View.read_writes_whole _ _ _).trans hf7
  isplitl [H5]; · iexact H5
  isplitl [H6]
  · iexists (hv (h2.view.read (Elt F) f2) w msk bin 131072); iexact H6
  isplitl [H7]
  · iexists (sums (h2.view.read (Elt F) f2) w msk bin), f7
    isplitr
    · ipureintro; exact hf7
    · iexact H7
  isplitl [Hr1]; · iexact Hr1
  isplitl [Hr2]; · iexact Hr2
  iexists (insert (SemLoc.dma r2.sem, (default : HIx nc)) W'); isplitr
  · ipureintro; intro p hp
    rcases Finset.mem_insert.mp hp with hp | hp
    · exact .inr (hp ▸ rfl)
    · exact hW' p hp
  · iexact HO

/-- The fetch of the prefix `p`, sixteen times in `h3`, before whatever is done with it. -/
theorem fetch_wp (p : BitVec 32)
    (h3 : Memref sig .scVector .hbm S16 .i32) (w3 : h3.IsWhole) (h8 : Memref sig .scVector .vmem S16 .i32) (w8 : h8.IsWhole) (r0 : DmaSems sig S_)
    (q3 : PosShare TreeShare) (f3 : Buf (Elt F) (h3.view.loc (V d cc ss)))
    (hf3 : h3.view.read (Elt F) f3 = fun _ => p) (rest : Vec F S16 .i32 → Prog (TpuEff nD τ sig (Elt F) Λ₀ (.scVector cc ss)) PUnit) (Q : PUnit → sProp 𝕄) :
    iprop(Transfers.MayWaits (V d cc ss) (none : HIx nc) O ∗ (h3.view.loc (V d cc ss) ↦[h3.view.set]{q3} f3)
        ∗ (∃ G, holds (nc := nc) (V d cc ss) h8 G) ∗ semVal (V d cc ss, SemLoc.dma r0.sem) 0 ∗ owed (V d cc ss) O W
        ∗ (((h3.view.loc (V d cc ss) ↦[h3.view.set]{q3} f3)
          ∗ (∃ G, holds (nc := nc) (V d cc ss) h8 G) ∗ semVal (V d cc ss, SemLoc.dma r0.sem) 0 ∗ owed (V d cc ss) O W)
            -∗ wp frame (wpE defs Variants.none (V d cc ss) none) Set.univ (rest fun _ => p) Q))
      ⊢ wp frame (wpE defs Variants.none (V d cc ss) none) Set.univ (fetch h3 w3 h8 w8 r0 rest) Q := by
  unfold fetch owed holds
  iintro ⟨#Hmw, H3, ⟨%G8, %f8, %hf8, H8⟩, Hr0, ⟨%W', %hW', HO⟩, Hk⟩
  sl_exec (disch := exact View.amount_pos _ _ (show 0 < S16.numel by decide))
  have hv0 : fetch_wp.sl.v0 d cc ss h3 h8 f3 = fun _ => p := by
    unfold fetch_wp.sl.v0 fetch_wp.sl.dma0
    rw [hf3]
    exact funext fun x => congrFun (View.read_writes_whole (Val := Elt F) h8.view h8.view.junk (fun _ => p))
      ((Rect.unit (s := S16) ![0] S16.size inb_S16_S16_0).emb x)
  rw [hv0]
  iapply Hk
  isplitl [H3]; · iexact H3
  isplitl [H8]
  · iexists (h8.view.read (Elt F) (h8.view.writes (Elt F) f8 [⟨Rect.whole S16, fetch_wp.sl.dma0 d cc ss h3 f3⟩])), _
    isplitr
    rotate_left
    · iexact H8
    · ipureintro; rfl
  isplitl [Hr0]; · iexact Hr0
  iexists (insert (SemLoc.dma r0.sem, (default : HIx nc)) W'); isplitr
  · ipureintro; intro p hp
    rcases Finset.mem_insert.mp hp with hp | hp
    · exact .inr (hp ▸ rfl)
    · exact hW' p hp
  · iexact HO

/-- The same with the prefix `p`, sixteen times in `h3`, fetched first. -/
theorem preHist_wp {pmask : Vec F S16 .i32 → Vec F S16 .i32 → IVec S16 1} (p : BitVec 32) (hL : Level bins (pmask fun _ => p) msk bin)
    (h2 : Memref sig .scVector .hbm S4194304 .i32) (h3 : Memref sig .scVector .hbm S16 .i32) (w3 : h3.IsWhole)
    (h4 : Memref sig .scVector .hbm S32x32x128 .i32) (h5 : Memref sig .scVector .vmem S16384 .i32) (w5 : h5.IsWhole)
    (h6 : Memref sig .scVector .vmem S16x4096 .i32) (h7 : Memref sig .scVector .vmem S32x128 .i32) (w7 : h7.IsWhole)
    (h8 : Memref sig .scVector .vmem S16 .i32) (w8 : h8.IsWhole) (r0 r1 r2 : DmaSems sig S_)
    (off : Fin k0_t2_loop.trips → Fin 1 → ℕ) (inb : ∀ k a, off k a + S16384.size a ≤ S4194304.size a)
    (hoff : ∀ k, off k 0 = 131072 * w + 16384 * k.val)
    (ooff : Fin 3 → ℕ) (oinb : ∀ a, ooff a + S1x32x128.size a ≤ S32x32x128.size a)
    (q q3 : PosShare TreeShare) (f2 : Buf (Elt F) (h2.view.loc (V d cc ss))) (f3 : Buf (Elt F) (h3.view.loc (V d cc ss)))
    (hf3 : h3.view.read (Elt F) f3 = fun _ => p) :
    iprop(Transfers.MayWaits (V d cc ss) (none : HIx nc) O ∗ (h2.view.loc (V d cc ss) ↦[h2.view.set]{q} f2) ∗ (h3.view.loc (V d cc ss) ↦[h3.view.set]{q3} f3)
        ∗ (∃ f4, (outBlock h4 ooff oinb).view.loc (V d cc ss) ↦[(outBlock h4 ooff oinb).view.set]{fullShare} f4)
        ∗ (∃ G, holds (nc := nc) (V d cc ss) h5 G) ∗ (∃ G, holds (nc := nc) (V d cc ss) h6 G) ∗ (∃ G, holds (nc := nc) (V d cc ss) h7 G)
        ∗ (∃ G, holds (nc := nc) (V d cc ss) h8 G)
        ∗ semVal (V d cc ss, SemLoc.dma r0.sem) 0 ∗ semVal (V d cc ss, SemLoc.dma r1.sem) 0 ∗ semVal (V d cc ss, SemLoc.dma r2.sem) 0 ∗ owed (V d cc ss) O W)
      ⊢ wp frame (wpE defs Variants.none (V d cc ss) none) Set.univ
          (preHist bins pmask h2 h3 w3 h4 h5 w5 h6 h7 w7 h8 w8 r0 r1 r2 off inb ooff oinb)
          fun _ => iprop((h2.view.loc (V d cc ss) ↦[h2.view.set]{q} f2) ∗ (h3.view.loc (V d cc ss) ↦[h3.view.set]{q3} f3)
            ∗ (∃ f4, ⌜(outBlock h4 ooff oinb).view.read (Elt F) f4 = sums (h2.view.read (Elt F) f2) w msk bin⌝
                ∗ ((outBlock h4 ooff oinb).view.loc (V d cc ss) ↦[(outBlock h4 ooff oinb).view.set]{fullShare} f4))
            ∗ (∃ G, holds (nc := nc) (V d cc ss) h5 G) ∗ (∃ G, holds (nc := nc) (V d cc ss) h6 G) ∗ (∃ G, holds (nc := nc) (V d cc ss) h7 G)
            ∗ (∃ G, holds (nc := nc) (V d cc ss) h8 G)
            ∗ semVal (V d cc ss, SemLoc.dma r0.sem) 0 ∗ semVal (V d cc ss, SemLoc.dma r1.sem) 0 ∗ semVal (V d cc ss, SemLoc.dma r2.sem) 0 ∗ owed (V d cc ss) O W) := by
  unfold preHist
  iintro ⟨#Hmw, H2, H3, H4, H5, H6, H7, H8, Hr0, Hr1, Hr2, HO⟩
  iapply (fetch_wp (nc := nc) (defs := defs) d cc ss O W p h3 w3 h8 w8 r0 q3 f3 hf3 (fun v0 => hist bins (pmask v0) h2 h4 h5 w5 h6 h7 w7 r1 r2 off inb ooff oinb))
  isplitr; · iexact Hmw
  isplitl [H3]; · iexact H3
  isplitl [H8]; · iexact H8
  isplitl [Hr0]; · iexact Hr0
  isplitl [HO]; · iexact HO
  iintro ⟨H3, H8, Hr0, HO⟩
  ihave Hw := hist_wp (nc := nc) (defs := defs) d cc ss w O W hL h2 h4 h5 w5 h6 h7 w7 r1 r2 off inb hoff ooff oinb q f2 $$ [Hmw H2 H4 H5 H6 H7 Hr1 Hr2 HO]
  · isplitr; · iexact Hmw
    isplitl [H2]; · iexact H2
    isplitl [H4]; · iexact H4
    isplitl [H5]; · iexact H5
    isplitl [H6]; · iexact H6
    isplitl [H7]; · iexact H7
    isplitl [Hr1]; · iexact Hr1
    isplitl [Hr2]; · iexact Hr2
    iexact HO
  ihave Hw2 := wp_wand $$ Hw
  iapply Hw2
  iintro %a ⟨H2, H4, H5, H6, H7, Hr1, Hr2, HO⟩
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [Hr0]; · iexact Hr0
  isplitl [Hr1]; · iexact Hr1
  isplitl [Hr2]; · iexact Hr2
  iexact HO

end

end Cert.Whole

end
-- ==== Proof.Whole.Level1.lean ====
/-
  The level-1 call's printed body is the tile program of `Tile.lean`: each printed loop region by definitional unfolding,
  the whole from them.
-/
module

public import proofs.«01_k».proof.Proof.Whole.TileWp

@[expose] public section

noncomputable section

namespace Cert.Whole.Level1

open Cert.KernelIdeal Cert.KernelIdeal.Gen Cert.Whole
open Idealize.ShloMosaic
open Idealize.SL Idealize.SL.Sem

variable {F : FTy → Type} [FloatOps F]

/-- Every lane. -/
abbrev every : Vec F S16 .i32 → IVec S16 1 := fun _ _ => 1#1

section
variable (i : grid0.Coords) (arg2 : Memref sig .scVector .hbm S4194304 .i32) (harg2 : arg2.IsWhole) (arg3 : Memref sig .scVector .hbm S32x32x128 .i32) (harg3 : arg3.IsWhole) (arg4 : Memref sig .scVector .vmem S16384 .i32) (harg4 : arg4.IsWhole) (arg5 : Memref sig .scVector .vmem S16x4096 .i32) (harg5 : arg5.IsWhole) (arg6 : Memref sig .scVector .vmem S32x128 .i32) (harg6 : arg6.IsWhole) (v16_r0 : DmaSems sig S_) (v12_r1 : DmaSems sig S_)

theorem t1_eq : k0_t1_body (F := F) i arg2 harg2 arg3 harg3 arg4 harg4 arg5 harg5 arg6 harg6 v16_r0 v12_r1 = zBody arg5 := by
  funext k acc; rfl

theorem t3_eq : k0_t3_body (F := F) i arg2 harg2 arg3 harg3 arg4 harg4 arg5 harg5 arg6 harg6 v16_r0 v12_r1 (iota .scVector S16 32 [0] iota_S16_d0_w32_scVector)
    = gBody k0_pay4 every arg4 arg5 := by
  funext k acc; rfl

theorem t4_eq : k0_t4_body (F := F) i arg2 harg2 arg3 harg3 arg4 harg4 arg5 harg5 arg6 harg6 v16_r0 v12_r1 = sBody arg5 arg6 := by
  funext k acc; rfl

theorem t2_eq : k0_t2_body (F := F) i arg2 harg2 arg3 harg3 arg4 harg4 arg5 harg5 arg6 harg6 v16_r0 v12_r1 (iota .scVector S16 32 [0] iota_S16_d0_w32_scVector)
    = cBody k0_pay4 every arg2 arg4 harg4 arg5 v16_r0 (k0_off17 i) (k0_off17_inb i) := by
  funext k acc
  unfold k0_t2_body cBody
  rw [t3_eq]

/-- The printed kernel: the tile program at the level's bins, every word counting. -/
theorem kernel_eq : cc0_hist_kernel (F := F) i arg2 harg2 arg3 harg3 arg4 harg4 arg5 harg5 arg6 harg6 v16_r0 v12_r1
    = hist k0_pay4 every arg2 arg3 arg4 harg4 arg5 arg6 harg6 v16_r0 v12_r1 (k0_off17 i) (k0_off17_inb i) (k0_off43 i) (k0_off43_inb i) := by
  rw [cc0_hist_kernel_eq_skeleton]
  unfold cc0_hist_kernel_skel hist
  simp only [t1_eq, t4_eq]
  refine congrArg _ (funext fun _ => ?_)
  exact congrArg (fun b => Scf.Loop.for k0_t2_loop k0_t2_ok 0#32 b >>= _) (t2_eq i arg2 harg2 arg3 harg3 arg4 harg4 arg5 harg5 arg6 harg6 v16_r0 v12_r1)

end

/-- Every word counts. -/
def msk (_ : BitVec 32) : BitVec 1 := 1#1

/-- A word's bin: its upper eleven bits, the sign's left out. -/
def bin (b : BitVec 32) : ℕ := ((b &&& 2147483647#32).sshiftRight 20).toNat

theorem bin_lt (b : BitVec 32) : bin b < 4096 := by
  have hle : (b &&& 2147483647#32).toNat ≤ 2147483647 := by
    rw [BitVec.toNat_and]
    exact Nat.and_le_right
  have hm : (b &&& 2147483647#32).msb = false := by
    rw [BitVec.msb_eq_false_iff_two_mul_lt]
    omega
  unfold bin
  rw [BitVec.sshiftRight_eq_of_msb_false hm, BitVec.toNat_ushiftRight, Nat.shiftRight_eq_div_pow]
  omega

/-- The printed masks and bins are these. -/
theorem level : Level (F := F) k0_pay4 every msk bin where
  mask v x := rfl
  bins v x := rfl
  lt b := bin_lt b

end Cert.Whole.Level1

end
-- ==== Proof.Whole.Level2.lean ====
/-
  The level-2 call's printed body is the tile program of `Tile.lean`: each printed loop region by definitional unfolding,
  the whole from them.
-/
module

public import proofs.«01_k».proof.Proof.Whole.TileWp

@[expose] public section

noncomputable section

namespace Cert.Whole.Level2

open Cert.KernelIdeal Cert.KernelIdeal.Gen Cert.Whole
open Idealize.ShloMosaic
open Idealize.SL Idealize.SL.Sem

variable {F : FTy → Type} [FloatOps F]

section
variable (i : grid2.Coords) (arg2 : Memref sig .scVector .hbm S4194304 .i32) (harg2 : arg2.IsWhole) (arg3 : Memref sig .scVector .hbm S16 .i32) (harg3 : arg3.IsWhole) (arg4 : Memref sig .scVector .hbm S32x32x128 .i32) (harg4 : arg4.IsWhole) (arg5 : Memref sig .scVector .vmem S16384 .i32) (harg5 : arg5.IsWhole) (arg6 : Memref sig .scVector .vmem S16x4096 .i32) (harg6 : arg6.IsWhole) (arg7 : Memref sig .scVector .vmem S32x128 .i32) (harg7 : arg7.IsWhole) (arg8 : Memref sig .scVector .vmem S16 .i32) (harg8 : arg8.IsWhole) (v13_r0 : DmaSems sig S_) (v17_r1 : DmaSems sig S_) (v13_r2 : DmaSems sig S_)

theorem t1_eq : k2_t1_body (F := F) i arg2 harg2 arg3 harg3 arg4 harg4 arg5 harg5 arg6 harg6 arg7 harg7 arg8 harg8 v13_r0 v17_r1 v13_r2
    = zBody arg6 := by
  funext k acc; rfl

theorem t3_eq (v0 : Vec F S16 .i32) : k2_t3_body (F := F) i arg2 harg2 arg3 harg3 arg4 harg4 arg5 harg5 arg6 harg6 arg7 harg7 arg8 harg8 v13_r0 v17_r1 v13_r2 v0
      (iota .scVector S16 32 [0] iota_S16_d0_w32_scVector)
    = gBody k2_pay6 (k2_pay5 v0) arg5 arg6 := by
  funext k acc; rfl

theorem t4_eq : k2_t4_body (F := F) i arg2 harg2 arg3 harg3 arg4 harg4 arg5 harg5 arg6 harg6 arg7 harg7 arg8 harg8 v13_r0 v17_r1 v13_r2
    = sBody arg6 arg7 := by
  funext k acc; rfl

theorem t2_eq (v0 : Vec F S16 .i32) : k2_t2_body (F := F) i arg2 harg2 arg3 harg3 arg4 harg4 arg5 harg5 arg6 harg6 arg7 harg7 arg8 harg8 v13_r0 v17_r1 v13_r2 v0
      (iota .scVector S16 32 [0] iota_S16_d0_w32_scVector)
    = cBody k2_pay6 (k2_pay5 v0) arg2 arg5 harg5 arg6 v17_r1 (k2_off17 i) (k2_off17_inb i) := by
  funext k acc
  unfold k2_t2_body cBody
  rw [t3_eq]

/-- The printed kernel: the prefix fetched and read, then the tile program at the level's mask and bins. -/
theorem kernel_eq : cc2_hist_kernel (F := F) i arg2 harg2 arg3 harg3 arg4 harg4 arg5 harg5 arg6 harg6 arg7 harg7 arg8 harg8 v13_r0 v17_r1 v13_r2
    = preHist k2_pay6 k2_pay5 arg2 arg3 harg3 arg4 arg5 harg5 arg6 arg7 harg7 arg8 harg8 v13_r0 v17_r1 v13_r2 (k2_off17 i) (k2_off17_inb i) (k2_off43 i) (k2_off43_inb i) := by
  rw [cc2_hist_kernel_eq_skeleton]
  unfold cc2_hist_kernel_skel preHist hist
  simp only [t1_eq, t4_eq]
  refine congrArg _ (funext fun _ => congrArg _ (funext fun _ => congrArg _ (funext fun v0 => congrArg _ (funext fun _ => ?_))))
  exact congrArg (fun b => Scf.Loop.for k2_t2_loop k2_t2_ok 0#32 b >>= _) (t2_eq i arg2 harg2 arg3 harg3 arg4 harg4 arg5 harg5 arg6 harg6 arg7 harg7
    arg8 harg8 v13_r0 v17_r1 v13_r2 v0)

end

/-- The words that count: their upper eleven bits, the sign's left out, are `p`. -/
def msk (p b : BitVec 32) : BitVec 1 := IntOp.cmpi .eq ((b &&& 2147483647#32).sshiftRight 20) p

/-- A word's bin: its middle twelve bits. -/
def bin (b : BitVec 32) : ℕ := ((b &&& 2147483647#32).sshiftRight 8 &&& 4095#32).toNat

/-- The printed masks and bins are these. -/
theorem level (p : BitVec 32) : Level (F := F) k2_pay6 (k2_pay5 fun _ => p) (msk p) bin where
  mask v x := rfl
  bins v x := rfl
  lt b := by
    unfold bin
    rw [BitVec.toNat_and]
    exact Nat.and_le_right.trans_lt (by decide)

end Cert.Whole.Level2

end
-- ==== Proof.Whole.Level3.lean ====
/-
  The level-3 call's printed body is the tile program of `Tile.lean`: each printed loop region by definitional unfolding,
  the whole from them.
-/
module

public import proofs.«01_k».proof.Proof.Whole.TileWp

@[expose] public section

noncomputable section

namespace Cert.Whole.Level3

open Cert.KernelIdeal Cert.KernelIdeal.Gen Cert.Whole
open Idealize.ShloMosaic
open Idealize.SL Idealize.SL.Sem

variable {F : FTy → Type} [FloatOps F]

section
variable (i : grid4.Coords) (arg2 : Memref sig .scVector .hbm S4194304 .i32) (harg2 : arg2.IsWhole) (arg3 : Memref sig .scVector .hbm S16 .i32) (harg3 : arg3.IsWhole) (arg4 : Memref sig .scVector .hbm S32x32x128 .i32) (harg4 : arg4.IsWhole) (arg5 : Memref sig .scVector .vmem S16384 .i32) (harg5 : arg5.IsWhole) (arg6 : Memref sig .scVector .vmem S16x4096 .i32) (harg6 : arg6.IsWhole) (arg7 : Memref sig .scVector .vmem S32x128 .i32) (harg7 : arg7.IsWhole) (arg8 : Memref sig .scVector .vmem S16 .i32) (harg8 : arg8.IsWhole) (v13_r0 : DmaSems sig S_) (v17_r1 : DmaSems sig S_) (v13_r2 : DmaSems sig S_)

theorem t1_eq : k4_t1_body (F := F) i arg2 harg2 arg3 harg3 arg4 harg4 arg5 harg5 arg6 harg6 arg7 harg7 arg8 harg8 v13_r0 v17_r1 v13_r2
    = zBody arg6 := by
  funext k acc; rfl

theorem t3_eq (v0 : Vec F S16 .i32) : k4_t3_body (F := F) i arg2 harg2 arg3 harg3 arg4 harg4 arg5 harg5 arg6 harg6 arg7 harg7 arg8 harg8 v13_r0 v17_r1 v13_r2 v0
      (iota .scVector S16 32 [0] iota_S16_d0_w32_scVector)
    = gBody k4_pay11 (k4_pay10 v0) arg5 arg6 := by
  funext k acc; rfl

theorem t4_eq : k4_t4_body (F := F) i arg2 harg2 arg3 harg3 arg4 harg4 arg5 harg5 arg6 harg6 arg7 harg7 arg8 harg8 v13_r0 v17_r1 v13_r2
    = sBody arg6 arg7 := by
  funext k acc; rfl

theorem t2_eq (v0 : Vec F S16 .i32) : k4_t2_body (F := F) i arg2 harg2 arg3 harg3 arg4 harg4 arg5 harg5 arg6 harg6 arg7 harg7 arg8 harg8 v13_r0 v17_r1 v13_r2 v0
      (iota .scVector S16 32 [0] iota_S16_d0_w32_scVector)
    = cBody k4_pay11 (k4_pay10 v0) arg2 arg5 harg5 arg6 v17_r1 (k4_off17 i) (k4_off17_inb i) := by
  funext k acc
  unfold k4_t2_body cBody
  rw [t3_eq]

/-- The printed kernel: the prefix fetched and read, then the tile program at the level's mask and bins. -/
theorem kernel_eq : cc4_hist_kernel (F := F) i arg2 harg2 arg3 harg3 arg4 harg4 arg5 harg5 arg6 harg6 arg7 harg7 arg8 harg8 v13_r0 v17_r1 v13_r2
    = preHist k4_pay11 k4_pay10 arg2 arg3 harg3 arg4 arg5 harg5 arg6 arg7 harg7 arg8 harg8 v13_r0 v17_r1 v13_r2 (k4_off17 i) (k4_off17_inb i) (k4_off43 i) (k4_off43_inb i) := by
  rw [cc4_hist_kernel_eq_skeleton]
  unfold cc4_hist_kernel_skel preHist hist
  simp only [t1_eq, t4_eq]
  refine congrArg _ (funext fun _ => congrArg _ (funext fun _ => congrArg _ (funext fun v0 => congrArg _ (funext fun _ => ?_))))
  exact congrArg (fun b => Scf.Loop.for k4_t2_loop k4_t2_ok 0#32 b >>= _) (t2_eq i arg2 harg2 arg3 harg3 arg4 harg4 arg5 harg5 arg6 harg6 arg7 harg7
    arg8 harg8 v13_r0 v17_r1 v13_r2 v0)

end

/-- The words that count: all but their low eight bits, the sign left out, are `p`. -/
def msk (p b : BitVec 32) : BitVec 1 := IntOp.cmpi .eq ((b &&& 2147483647#32).sshiftRight 8) p

/-- A word's bin: its low eight bits. -/
def bin (b : BitVec 32) : ℕ := ((b &&& 2147483647#32) &&& 255#32).toNat

/-- The printed masks and bins are these. -/
theorem level (p : BitVec 32) : Level (F := F) k4_pay11 (k4_pay10 fun _ => p) (msk p) bin where
  mask v x := rfl
  bins v x := rfl
  lt b := by
    unfold bin
    rw [BitVec.toNat_and]
    exact Nat.and_le_right.trans_lt (by decide)

end Cert.Whole.Level3

end
-- ==== Proof.Whole.Own.lean ====
/-
  WHAT A TILE OWNS: its scratch buffers and its transfer counters, taken out of the whole one at a time. `bufsLess thr s` is
  thread `thr`'s buffers without those of `s`, `semsLess thr s` its counters, at zero, without those of `s`.
-/
module

public import proofs.«01_k».proof.Proof.Whole.Holds

@[expose] public section

noncomputable section

namespace Cert.Whole

open Cert.KernelIdeal Cert.KernelIdeal.Gen
open Idealize.ShloMosaic
open Idealize.ShloMosaic.SparseCore (S V T)
open Idealize.ShloMosaic.SparseCore.Cfg (HIx ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} {nc : ℕ}

local notation "𝕄" => MT nD τ sig (HIx nc) (Elt F) ℕ UU ℕ

variable (thr : Thread nD τ)

def bufsLess (s : Finset (DevRef τ sig)) : sProp 𝕄 :=
  bigSep (ownRefs thr.2 \ s) fun b => iprop(∃ f, ((thr.1, b) : Loc nD τ sig) ↦{fullShare} f)

def semsLess (s : Finset (GSem nD τ sig)) : sProp 𝕄 := bigSep (ownCells thr \ s) fun g => semVal g 0

theorem ownBufs_less : (ownBufs thr : sProp 𝕄) = bufsLess thr ∅ := by
  unfold ownBufs bufsLess; rw [Finset.sdiff_empty]

theorem ownSems0_less : (ownSems0 thr : sProp 𝕄) = semsLess thr ∅ := by
  unfold ownSems0 semsLess; rw [Finset.sdiff_empty]

/-- A whole buffer held at some contents is held reading something. -/
theorem holds_any {s : Shape} {e : EltTy} (h : Memref sig thr.2.kind .vmem s e) (w : h.IsWhole) :
    (iprop(∃ f, h.view.loc thr ↦{fullShare} f) : sProp 𝕄) = iprop(∃ G, holds (nc := nc) thr h G) := by
  have h1 : (iprop(∃ f, h.view.loc thr ↦{fullShare} f) : sProp 𝕄) ⊢ iprop(∃ G, holds (nc := nc) thr h G) := by
    unfold holds
    rw [← w.set_eq_univ]
    iintro ⟨%f, H⟩
    iexists (h.view.read (Elt F) f), f
    isplitr
    · ipureintro; rfl
    · iexact H
  have h2 : (iprop(∃ G, holds (nc := nc) thr h G) : sProp 𝕄) ⊢ iprop(∃ f, h.view.loc thr ↦{fullShare} f) := by
    unfold holds
    rw [← w.set_eq_univ]
    iintro ⟨%G, %f, -, H⟩
    iexists f
    iexact H
  exact BI.Entails.antisymm h1 h2

theorem take_buf {sh : Shape} {e : EltTy} (h : Memref sig thr.2.kind .vmem sh e) (w : h.IsWhole) {s : Finset (DevRef τ sig)}
    (hs : thr.2.devRef h.view.ref ∉ s) (ho : (thr.2.devRef h.view.ref).owner.home = thr.2) :
    (bufsLess thr s : sProp 𝕄) = iprop((∃ G, holds (nc := nc) thr h G) ∗ bufsLess thr (insert (thr.2.devRef h.view.ref) s)) := by
  rw [← holds_any thr h w]
  unfold bufsLess
  rw [SparseCore.bigSep_erase' (i := thr.2.devRef h.view.ref) (Finset.mem_sdiff.mpr ⟨mem_ownRefs.mpr ho, hs⟩), ← Finset.sdiff_insert]

theorem take_sem (a : DmaSem sig) {s : Finset (GSem nD τ sig)} (hs : (thr, SemLoc.dma a) ∉ s) (ho : (SemLoc.dma a : SemLoc sig).isScoped thr.2.kind = true) :
    (semsLess thr s : sProp 𝕄) = iprop(semVal (thr, SemLoc.dma a) 0 ∗ semsLess thr (insert (thr, SemLoc.dma a) s)) := by
  unfold semsLess
  rw [SparseCore.bigSep_erase' (i := (thr, SemLoc.dma a)) (Finset.mem_sdiff.mpr ⟨mem_ownCells.mpr ⟨rfl, ho⟩, hs⟩), ← Finset.sdiff_insert]

end Cert.Whole

end
-- ==== Proof.Whole.Call.lean ====
/-
  A CALL OF THE HISTOGRAM: what a tile is handed and hands back, and how the whole arrays split among the thirty-two tiles.
  Tile `w` of thirty-two is handed a thirty-second share of the words (and of the prefix), and its block of the result; it
  hands them back with its block at its part of `table`.
-/
module

public import proofs.«01_k».proof.Proof.Whole.TileWp
public import proofs.«01_k».proof.Proof.Whole.Own
public import Idealize.ShloMosaic.Lib.ShareLeaves

@[expose] public section

noncomputable section

namespace Cert.Whole

open Cert.KernelIdeal Cert.KernelIdeal.Gen
open Idealize.ShloMosaic
open Idealize.ShloMosaic.ShareLeaves (leaf pointsTo_leaves)
open Idealize.ShloMosaic.SparseCore (S V T)
open Idealize.ShloMosaic.SparseCore.Cfg (HIx ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] {nc : ℕ}

local notation "𝕄" => MT nD τ sig (HIx nc) (Elt F) ℕ UU ℕ

/-! ## The result -/

/-- The thirty-two histograms: bin `128 * j 1 + j 2` of tile `j 0`. -/
def table (X : S4194304.Idx → Elt F .i32) (msk : BitVec 32 → BitVec 1) (bin : BitVec 32 → ℕ) : S32x32x128.Idx → Elt F .i32 :=
  fun j => BitVec.ofNat 32 (total X (j 0).val msk bin ((j 1).val * 128 + (j 2).val))

/-- Tile `w`'s block of an array that reads the table reads the tile's histogram. -/
theorem read_outBlock (h4 : Memref sig .scVector .hbm S32x32x128 .i32) {w : ℕ} {ooff : Fin 3 → ℕ} (ho : ooff = ![w, 0, 0])
    (oinb : ∀ a, ooff a + S1x32x128.size a ≤ S32x32x128.size a) (X : S4194304.Idx → Elt F .i32) (msk : BitVec 32 → BitVec 1) (bin : BitVec 32 → ℕ)
    (g : h4.view.ty.Contents (Elt F)) (hg : h4.view.read (Elt F) g = table X msk bin) :
    (outBlock h4 ooff oinb).view.read (Elt F) g = sums X w msk bin := by
  subst ho
  funext y
  have h1 : (outBlock h4 ![w, 0, 0] oinb).view.read (Elt F) g y
      = h4.view.read (Elt F) g ((Rect.unit (s := S32x32x128) ![w, 0, 0] S1x32x128.size oinb).emb (Shape.reshapeEquiv squeezes_S1x32x128_S32x128.numel_eq y)) := rfl
  rw [h1, hg]
  have h2 : Shape.reshapeEquiv squeezes_S1x32x128_S32x128.numel_eq y = (Fin.cons ⟨0, Nat.one_pos⟩ y : S1x32x128.Idx) := Shape.reshapeEquiv_cons_one _ _
  rw [h2]
  show BitVec.ofNat 32 (total X _ msk bin _) = BitVec.ofNat 32 (total X w msk bin ((y 0).val * 128 + (y 1).val))
  congr 2
  show (0 + 1 * (y 0).val) * 128 + (0 + 1 * (y 1).val) = _; omega

section
variable (d : Dev nD) (cc : Fin τ.nSC) (ss : Fin τ.nSub)
variable {defs : Defs nD τ sig (Elt F) Λ₀} (O : CellTallies nD τ sig (HIx nc)) (W : Waits sig (HIx nc))

/-- Two contents that read alike through a memref own its elements alike. -/
theorem pts_of_read {s : Shape} {e : EltTy} (h : Memref sig .scVector .hbm s e) (f g : Buf (Elt F) (h.view.loc (V d cc ss)))
    (hfg : h.view.read (Elt F) f = h.view.read (Elt F) g) :
    (h.view.loc (V d cc ss) ↦[h.view.set]{fullShare} f : sProp 𝕄) = h.view.loc (V d cc ss) ↦[h.view.set]{fullShare} g := by
  refine pointsTo_congr fun i hi => ?_
  obtain ⟨x, -, rfl⟩ := Finset.mem_map.mp hi
  have hx := congrFun hfg x
  rw [View.read_apply, View.read_apply] at hx
  exact (cast_inj _).mp hx

/-! ## A tile's part -/

theorem inb_block (w : Fin 32) : ∀ a, (![w.val, 0, 0] : Fin 3 → ℕ) a + S1x32x128.size a ≤ S32x32x128.size a := by
  intro a
  match a with
  | ⟨0, _⟩ => show w.val + 1 ≤ 32; omega
  | ⟨1, _⟩ => show 0 + 32 ≤ 32; omega
  | ⟨2, _⟩ => show 0 + 128 ≤ 128; omega

/-- Tile `w`'s block of the result. -/
abbrev block (h4 : Memref sig .scVector .hbm S32x32x128 .i32) (w : Fin 32) : Memref sig .scVector .hbm S32x128 .i32 := outBlock h4 ![w.val, 0, 0] (inb_block w)

/-- Tile `w`'s share of a read-only array. -/
abbrev part32 (w : Fin 32) : PosShare TreeShare := leaf 5 fullShare w

/-- What tile `w` is handed: its shares of the words and of the prefix, and its block of the result at whatever it holds. -/
def given (h2 : Memref sig .scVector .hbm S4194304 .i32) (h3 : Memref sig .scVector .hbm S16 .i32) (h4 : Memref sig .scVector .hbm S32x32x128 .i32)
    (f2 : Buf (Elt F) (h2.view.loc (V d cc ss))) (f3 : Buf (Elt F) (h3.view.loc (V d cc ss))) (w : Fin 32) : sProp 𝕄 :=
  iprop((h2.view.loc (V d cc ss) ↦[h2.view.set]{part32 w} f2) ∗ (h3.view.loc (V d cc ss) ↦[h3.view.set]{part32 w} f3)
    ∗ ∃ f4, (block h4 w).view.loc (V d cc ss) ↦[(block h4 w).view.set]{fullShare} f4)

/-- What it hands back: the same, its block at `g`. -/
def taken (h2 : Memref sig .scVector .hbm S4194304 .i32) (h3 : Memref sig .scVector .hbm S16 .i32) (h4 : Memref sig .scVector .hbm S32x32x128 .i32)
    (f2 : Buf (Elt F) (h2.view.loc (V d cc ss))) (f3 : Buf (Elt F) (h3.view.loc (V d cc ss))) (g : Buf (Elt F) (h4.view.loc (V d cc ss))) (w : Fin 32) : sProp 𝕄 :=
  iprop((h2.view.loc (V d cc ss) ↦[h2.view.set]{part32 w} f2) ∗ (h3.view.loc (V d cc ss) ↦[h3.view.set]{part32 w} f3)
    ∗ ((block h4 w).view.loc (V d cc ss) ↦[(block h4 w).view.set]{fullShare} g))

/-- The scratch of a tile is its own: four buffers and three counters, all different. -/
structure Mine {s5 s6 s7 s8 : Shape} {e5 e6 e7 e8 : EltTy} (h5 : Memref sig .scVector .vmem s5 e5) (h6 : Memref sig .scVector .vmem s6 e6)
    (h7 : Memref sig .scVector .vmem s7 e7) (h8 : Memref sig .scVector .vmem s8 e8) (r0 r1 r2 : DmaSems sig S_) : Prop where
  o5 : ((Proc.scVector cc ss).devRef h5.view.ref).owner.home = Proc.scVector cc ss
  o6 : ((Proc.scVector cc ss).devRef h6.view.ref).owner.home = Proc.scVector cc ss
  o7 : ((Proc.scVector cc ss).devRef h7.view.ref).owner.home = Proc.scVector cc ss
  o8 : ((Proc.scVector cc ss).devRef h8.view.ref).owner.home = Proc.scVector cc ss
  refs : [h5.view.ref, h6.view.ref, h7.view.ref, h8.view.ref].Nodup
  o0 : (SemLoc.dma r0.sem : SemLoc sig).isScoped .scVector = true
  o1 : (SemLoc.dma r1.sem : SemLoc sig).isScoped .scVector = true
  o2 : (SemLoc.dma r2.sem : SemLoc sig).isScoped .scVector = true
  sems : [r0.sem, r1.sem, r2.sem].Nodup

/-- Different from the one put in and not in the rest: not in. -/
theorem ni {A : Type} [DecidableEq A] {a b : A} {s : Finset A} (h : a ≠ b) (hs : a ∉ s) : a ∉ insert b s :=
  fun hm => (Finset.mem_insert.mp hm).elim h hs

theorem ownBufs_mine {s5 s6 s7 s8 : Shape} {e5 e6 e7 e8 : EltTy} {h5 : Memref sig .scVector .vmem s5 e5} {h6 : Memref sig .scVector .vmem s6 e6}
    {h7 : Memref sig .scVector .vmem s7 e7} {h8 : Memref sig .scVector .vmem s8 e8} (w5 : h5.IsWhole) (w6 : h6.IsWhole) (w7 : h7.IsWhole) (w8 : h8.IsWhole)
    {r0 r1 r2 : DmaSems sig S_} (hM : Mine cc ss h5 h6 h7 h8 r0 r1 r2) :
    ∃ rest : sProp 𝕄, (ownBufs (V d cc ss) : sProp 𝕄) = iprop((∃ G, holds (nc := nc) (V d cc ss) h5 G) ∗ (∃ G, holds (nc := nc) (V d cc ss) h6 G)
      ∗ (∃ G, holds (nc := nc) (V d cc ss) h7 G) ∗ (∃ G, holds (nc := nc) (V d cc ss) h8 G) ∗ rest) := by
  have hn := hM.refs
  simp only [List.nodup_cons, List.mem_cons, List.not_mem_nil, or_false, not_or, not_false_eq_true, List.nodup_nil, and_true] at hn
  have hinj : ∀ {a b : Ref sig .scVector}, a ≠ b → (Proc.scVector cc ss).devRef a ≠ (Proc.scVector cc ss).devRef b :=
    fun hne e => hne (Proc.devRef_injective _ e)
  rw [ownBufs_less, take_buf (V d cc ss) h5 w5 (Finset.notMem_empty _) hM.o5,
    take_buf (V d cc ss) h6 w6 (ni (hinj (Ne.symm hn.1.1)) (Finset.notMem_empty _)) hM.o6,
    take_buf (V d cc ss) h7 w7 (ni (hinj (Ne.symm hn.2.1.1)) (ni (hinj (Ne.symm hn.1.2.1)) (Finset.notMem_empty _))) hM.o7,
    take_buf (V d cc ss) h8 w8 (ni (hinj (Ne.symm hn.2.2)) (ni (hinj (Ne.symm hn.2.1.2)) (ni (hinj (Ne.symm hn.1.2.2)) (Finset.notMem_empty _)))) hM.o8]
  exact ⟨_, rfl⟩

theorem ownSems0_mine {s5 s6 s7 s8 : Shape} {e5 e6 e7 e8 : EltTy} {h5 : Memref sig .scVector .vmem s5 e5} {h6 : Memref sig .scVector .vmem s6 e6}
    {h7 : Memref sig .scVector .vmem s7 e7} {h8 : Memref sig .scVector .vmem s8 e8}
    {r0 r1 r2 : DmaSems sig S_} (hM : Mine cc ss h5 h6 h7 h8 r0 r1 r2) :
    ∃ rest : sProp 𝕄, (ownSems0 (V d cc ss) : sProp 𝕄) = iprop(semVal (V d cc ss, SemLoc.dma r0.sem) 0 ∗ semVal (V d cc ss, SemLoc.dma r1.sem) 0
      ∗ semVal (V d cc ss, SemLoc.dma r2.sem) 0 ∗ rest) := by
  have hn := hM.sems
  simp only [List.nodup_cons, List.mem_cons, List.not_mem_nil, or_false, not_or, not_false_eq_true, List.nodup_nil, and_true] at hn
  have hinj : ∀ {a b : DmaSem sig}, a ≠ b → ((V d cc ss, SemLoc.dma a) : GSem nD τ sig) ≠ (V d cc ss, SemLoc.dma b) :=
    fun hne e => hne (SemLoc.dma.inj (Prod.mk.inj e).2)
  rw [ownSems0_less, take_sem (V d cc ss) r0.sem (Finset.notMem_empty _) hM.o0,
    take_sem (V d cc ss) r1.sem (ni (hinj (Ne.symm hn.1.1)) (Finset.notMem_empty _)) hM.o1,
    take_sem (V d cc ss) r2.sem (ni (hinj (Ne.symm hn.2)) (ni (hinj (Ne.symm hn.1.2)) (Finset.notMem_empty _))) hM.o2]
  exact ⟨_, rfl⟩

/-- A tile of a level with a prefix, from what it is handed to what it hands back. -/
theorem call_wp {bins : Vec F S16 .i32 → IVec S16 32} {pmask : Vec F S16 .i32 → Vec F S16 .i32 → IVec S16 1} {msk : BitVec 32 → BitVec 1} {bin : BitVec 32 → ℕ}
    (w : Fin 32) (p : BitVec 32) (hL : Level bins (pmask fun _ => p) msk bin)
    (h2 : Memref sig .scVector .hbm S4194304 .i32) (h3 : Memref sig .scVector .hbm S16 .i32) (w3 : h3.IsWhole)
    (h4 : Memref sig .scVector .hbm S32x32x128 .i32) (h5 : Memref sig .scVector .vmem S16384 .i32) (w5 : h5.IsWhole)
    (h6 : Memref sig .scVector .vmem S16x4096 .i32) (w6 : h6.IsWhole) (h7 : Memref sig .scVector .vmem S32x128 .i32) (w7 : h7.IsWhole)
    (h8 : Memref sig .scVector .vmem S16 .i32) (w8 : h8.IsWhole) (r0 r1 r2 : DmaSems sig S_) (hM : Mine cc ss h5 h6 h7 h8 r0 r1 r2)
    (off : Fin k0_t2_loop.trips → Fin 1 → ℕ) (inb : ∀ k a, off k a + S16384.size a ≤ S4194304.size a)
    (hoff : ∀ k, off k 0 = 131072 * w.val + 16384 * k.val)
    (ooff : Fin 3 → ℕ) (oinb : ∀ a, ooff a + S1x32x128.size a ≤ S32x32x128.size a) (ho : ooff = ![w.val, 0, 0])
    (f2 : Buf (Elt F) (h2.view.loc (V d cc ss))) (f3 : Buf (Elt F) (h3.view.loc (V d cc ss))) (g : Buf (Elt F) (h4.view.loc (V d cc ss)))
    (hf3 : h3.view.read (Elt F) f3 = fun _ => p) (hg : h4.view.read (Elt F) g = table (h2.view.read (Elt F) f2) msk bin) :
    iprop(Transfers.MayWaits (V d cc ss) (none : HIx nc) O ∗ given d cc ss h2 h3 h4 f2 f3 w ∗ ownBufs (V d cc ss) ∗ ownSems0 (V d cc ss) ∗ owes (V d cc ss) O W)
      ⊢ wp frame (wpE defs Variants.none (V d cc ss) none) Set.univ
          (preHist bins pmask h2 h3 w3 h4 h5 w5 h6 h7 w7 h8 w8 r0 r1 r2 off inb ooff oinb)
          fun _ => iprop(taken d cc ss h2 h3 h4 f2 f3 g w ∗ ownBufs (V d cc ss) ∗ ownSems0 (V d cc ss)
            ∗ ∃ W', ⌜∀ p ∈ W', p ∈ W ∨ p.2 = none⌝ ∗ owes (V d cc ss) O W') := by
  subst ho
  obtain ⟨restB, hB⟩ := ownBufs_mine (F := F) (nc := nc) d cc ss w5 w6 w7 w8 hM
  obtain ⟨restS, hS⟩ := ownSems0_mine (F := F) (nc := nc) d cc ss hM
  rw [hB, hS]
  unfold given taken
  iintro ⟨#Hmw, ⟨H2, H3, H4⟩, ⟨H5, H6, H7, H8, HB⟩, ⟨Hr0, Hr1, Hr2, HS⟩, HO⟩
  ihave Hw := preHist_wp (nc := nc) (defs := defs) d cc ss w.val O W p hL h2 h3 w3 h4 h5 w5 h6 h7 w7 h8 w8 r0 r1 r2 off inb hoff ![w.val, 0, 0] oinb
    (part32 w) (part32 w) f2 f3 hf3 $$ [Hmw H2 H3 H4 H5 H6 H7 H8 Hr0 Hr1 Hr2 HO]
  · isplitr; · iexact Hmw
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [Hr0]; · iexact Hr0
    isplitl [Hr1]; · iexact Hr1
    isplitl [Hr2]; · iexact Hr2
    unfold owed
    iexists W
    isplitr
    · ipureintro; exact fun _ h => .inl h
    · iexact HO
  ihave Hw2 := wp_wand $$ Hw
  iapply Hw2
  iintro %a ⟨H2, H3, ⟨%f4, %hf4, H4⟩, H5, H6, H7, H8, Hr0, Hr1, Hr2, HO⟩
  isplitl [H2 H3 H4]
  · isplitl [H2]; · iexact H2
    isplitl [H3]; · iexact H3
    iapply (Entails.of_eq (pts_of_read (nc := nc) d cc ss (block h4 w) f4 g
      (hf4.trans (read_outBlock h4 rfl oinb (h2.view.read (Elt F) f2) msk bin g hg).symm)))
    iexact H4
  isplitl [H5 H6 H7 H8 HB]
  · isplitl [H5]; · iexact H5
    isplitl [H6]; · iexact H6
    isplitl [H7]; · iexact H7
    isplitl [H8]; · iexact H8
    iexact HB
  isplitl [Hr0 Hr1 Hr2 HS]
  · isplitl [Hr0]; · iexact Hr0
    isplitl [Hr1]; · iexact Hr1
    isplitl [Hr2]; · iexact Hr2
    iexact HS
  unfold owed
  iexact HO

/-! ## A tile's part, where there is no prefix -/

/-- What tile `w` is handed: its share of the words and its block of the result at whatever it holds. -/
def given0 (h2 : Memref sig .scVector .hbm S4194304 .i32) (h4 : Memref sig .scVector .hbm S32x32x128 .i32)
    (f2 : Buf (Elt F) (h2.view.loc (V d cc ss))) (w : Fin 32) : sProp 𝕄 :=
  iprop((h2.view.loc (V d cc ss) ↦[h2.view.set]{part32 w} f2) ∗ ∃ f4, (block h4 w).view.loc (V d cc ss) ↦[(block h4 w).view.set]{fullShare} f4)

/-- What it hands back: the same, its block at `g`. -/
def taken0 (h2 : Memref sig .scVector .hbm S4194304 .i32) (h4 : Memref sig .scVector .hbm S32x32x128 .i32)
    (f2 : Buf (Elt F) (h2.view.loc (V d cc ss))) (g : Buf (Elt F) (h4.view.loc (V d cc ss))) (w : Fin 32) : sProp 𝕄 :=
  iprop((h2.view.loc (V d cc ss) ↦[h2.view.set]{part32 w} f2) ∗ ((block h4 w).view.loc (V d cc ss) ↦[(block h4 w).view.set]{fullShare} g))

/-- The scratch of such a tile is its own: three buffers and two counters, all different. -/
structure Mine0 {s5 s6 s7 : Shape} {e5 e6 e7 : EltTy} (h5 : Memref sig .scVector .vmem s5 e5) (h6 : Memref sig .scVector .vmem s6 e6)
    (h7 : Memref sig .scVector .vmem s7 e7) (r1 r2 : DmaSems sig S_) : Prop where
  o5 : ((Proc.scVector cc ss).devRef h5.view.ref).owner.home = Proc.scVector cc ss
  o6 : ((Proc.scVector cc ss).devRef h6.view.ref).owner.home = Proc.scVector cc ss
  o7 : ((Proc.scVector cc ss).devRef h7.view.ref).owner.home = Proc.scVector cc ss
  refs : [h5.view.ref, h6.view.ref, h7.view.ref].Nodup
  o1 : (SemLoc.dma r1.sem : SemLoc sig).isScoped .scVector = true
  o2 : (SemLoc.dma r2.sem : SemLoc sig).isScoped .scVector = true
  sems : r1.sem ≠ r2.sem

theorem ownBufs_mine0 {s5 s6 s7 : Shape} {e5 e6 e7 : EltTy} {h5 : Memref sig .scVector .vmem s5 e5} {h6 : Memref sig .scVector .vmem s6 e6}
    {h7 : Memref sig .scVector .vmem s7 e7} (w5 : h5.IsWhole) (w6 : h6.IsWhole) (w7 : h7.IsWhole) {r1 r2 : DmaSems sig S_} (hM : Mine0 cc ss h5 h6 h7 r1 r2) :
    ∃ rest : sProp 𝕄, (ownBufs (V d cc ss) : sProp 𝕄) = iprop((∃ G, holds (nc := nc) (V d cc ss) h5 G) ∗ (∃ G, holds (nc := nc) (V d cc ss) h6 G)
      ∗ (∃ G, holds (nc := nc) (V d cc ss) h7 G) ∗ rest) := by
  have hn := hM.refs
  simp only [List.nodup_cons, List.mem_cons, List.not_mem_nil, or_false, not_or, not_false_eq_true, List.nodup_nil, and_true] at hn
  have hinj : ∀ {a b : Ref sig .scVector}, a ≠ b → (Proc.scVector cc ss).devRef a ≠ (Proc.scVector cc ss).devRef b :=
    fun hne e => hne (Proc.devRef_injective _ e)
  rw [ownBufs_less, take_buf (V d cc ss) h5 w5 (Finset.notMem_empty _) hM.o5,
    take_buf (V d cc ss) h6 w6 (ni (hinj (Ne.symm hn.1.1)) (Finset.notMem_empty _)) hM.o6,
    take_buf (V d cc ss) h7 w7 (ni (hinj (Ne.symm hn.2)) (ni (hinj (Ne.symm hn.1.2)) (Finset.notMem_empty _))) hM.o7]
  exact ⟨_, rfl⟩

theorem ownSems0_mine0 {s5 s6 s7 : Shape} {e5 e6 e7 : EltTy} {h5 : Memref sig .scVector .vmem s5 e5} {h6 : Memref sig .scVector .vmem s6 e6}
    {h7 : Memref sig .scVector .vmem s7 e7} {r1 r2 : DmaSems sig S_} (hM : Mine0 cc ss h5 h6 h7 r1 r2) :
    ∃ rest : sProp 𝕄, (ownSems0 (V d cc ss) : sProp 𝕄) = iprop(semVal (V d cc ss, SemLoc.dma r1.sem) 0 ∗ semVal (V d cc ss, SemLoc.dma r2.sem) 0 ∗ rest) := by
  have hne : ((V d cc ss, SemLoc.dma r2.sem) : GSem nD τ sig) ≠ (V d cc ss, SemLoc.dma r1.sem) :=
    fun e => hM.sems (SemLoc.dma.inj (Prod.mk.inj e).2).symm
  rw [ownSems0_less, take_sem (V d cc ss) r1.sem (Finset.notMem_empty _) hM.o1, take_sem (V d cc ss) r2.sem (ni hne (Finset.notMem_empty _)) hM.o2]
  exact ⟨_, rfl⟩

/-- A tile of a level without a prefix, from what it is handed to what it hands back. -/
theorem call0_wp {bins : Vec F S16 .i32 → IVec S16 32} {mask : Vec F S16 .i32 → IVec S16 1} {msk : BitVec 32 → BitVec 1} {bin : BitVec 32 → ℕ}
    (w : Fin 32) (hL : Level bins mask msk bin)
    (h2 : Memref sig .scVector .hbm S4194304 .i32)
    (h4 : Memref sig .scVector .hbm S32x32x128 .i32) (h5 : Memref sig .scVector .vmem S16384 .i32) (w5 : h5.IsWhole)
    (h6 : Memref sig .scVector .vmem S16x4096 .i32) (w6 : h6.IsWhole) (h7 : Memref sig .scVector .vmem S32x128 .i32) (w7 : h7.IsWhole)
    (r1 r2 : DmaSems sig S_) (hM : Mine0 cc ss h5 h6 h7 r1 r2)
    (off : Fin k0_t2_loop.trips → Fin 1 → ℕ) (inb : ∀ k a, off k a + S16384.size a ≤ S4194304.size a)
    (hoff : ∀ k, off k 0 = 131072 * w.val + 16384 * k.val)
    (ooff : Fin 3 → ℕ) (oinb : ∀ a, ooff a + S1x32x128.size a ≤ S32x32x128.size a) (ho : ooff = ![w.val, 0, 0])
    (f2 : Buf (Elt F) (h2.view.loc (V d cc ss))) (g : Buf (Elt F) (h4.view.loc (V d cc ss)))
    (hg : h4.view.read (Elt F) g = table (h2.view.read (Elt F) f2) msk bin) :
    iprop(Transfers.MayWaits (V d cc ss) (none : HIx nc) O ∗ given0 d cc ss h2 h4 f2 w ∗ ownBufs (V d cc ss) ∗ ownSems0 (V d cc ss) ∗ owes (V d cc ss) O W)
      ⊢ wp frame (wpE defs Variants.none (V d cc ss) none) Set.univ
          (hist bins mask h2 h4 h5 w5 h6 h7 w7 r1 r2 off inb ooff oinb)
          fun _ => iprop(taken0 d cc ss h2 h4 f2 g w ∗ ownBufs (V d cc ss) ∗ ownSems0 (V d cc ss)
            ∗ ∃ W', ⌜∀ p ∈ W', p ∈ W ∨ p.2 = none⌝ ∗ owes (V d cc ss) O W') := by
  subst ho
  obtain ⟨restB, hB⟩ := ownBufs_mine0 (F := F) (nc := nc) d cc ss w5 w6 w7 hM
  obtain ⟨restS, hS⟩ := ownSems0_mine0 (F := F) (nc := nc) d cc ss hM
  rw [hB, hS]
  unfold given0 taken0
  iintro ⟨#Hmw, ⟨H2, H4⟩, ⟨H5, H6, H7, HB⟩, ⟨Hr1, Hr2, HS⟩, HO⟩
  ihave Hw := hist_wp (nc := nc) (defs := defs) d cc ss w.val O W hL h2 h4 h5 w5 h6 h7 w7 r1 r2 off inb hoff ![w.val, 0, 0] oinb
    (part32 w) f2 $$ [Hmw H2 H4 H5 H6 H7 Hr1 Hr2 HO]
  · isplitr; · iexact Hmw
    isplitl [H2]; · iexact H2
    isplitl [H4]; · iexact H4
    isplitl [H5]; · iexact H5
    isplitl [H6]; · iexact H6
    isplitl [H7]; · iexact H7
    isplitl [Hr1]; · iexact Hr1
    isplitl [Hr2]; · iexact Hr2
    unfold owed
    iexists W
    isplitr
    · ipureintro; exact fun _ h => .inl h
    · iexact HO
  ihave Hw2 := wp_wand $$ Hw
  iapply Hw2
  iintro %a ⟨H2, ⟨%f4, %hf4, H4⟩, H5, H6, H7, Hr1, Hr2, HO⟩
  isplitl [H2 H4]
  · isplitl [H2]; · iexact H2
    iapply (Entails.of_eq (pts_of_read (nc := nc) d cc ss (block h4 w) f4 g
      (hf4.trans (read_outBlock h4 rfl oinb (h2.view.read (Elt F) f2) msk bin g hg).symm)))
    iexact H4
  isplitl [H5 H6 H7 HB]
  · isplitl [H5]; · iexact H5
    isplitl [H6]; · iexact H6
    isplitl [H7]; · iexact H7
    iexact HB
  isplitl [Hr1 Hr2 HS]
  · isplitl [Hr1]; · iexact Hr1
    isplitl [Hr2]; · iexact Hr2
    iexact HS
  unfold owed
  iexact HO

end

end Cert.Whole

end
-- ==== Proof.Whole.Deal.lean ====
/-
  DEALING the arrays of a call to its thirty-two tiles and COLLECTING them: the words and the prefix by shares, the result by
  blocks. Tile `s` of SparseCore `c` is number `2 * s + c`.
-/
module

public import proofs.«01_k».proof.Proof.Whole.Call

@[expose] public section

noncomputable section

namespace Cert.Whole

open Cert.KernelIdeal Cert.KernelIdeal.Gen
open Idealize.ShloMosaic
open Idealize.ShloMosaic.ShareLeaves (leaf pointsTo_leaves)
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] {nc : ℕ}

local notation "𝕄" => MT nD τ sig (HIx nc) (Elt F) ℕ UU ℕ

/-- The number of tile `s` of SparseCore `c`. -/
def tileNo (c : Fin 2) (s : Fin 16) : Fin 32 := ⟨2 * s.val + c.val, by omega⟩

theorem tileNo_eq (x : Fin 16 × Fin 2) : (finProdFinEquiv x : Fin (16 * 2)) = tileNo x.2 x.1 :=
  Fin.ext (by show x.2.val + 2 * x.1.val = 2 * x.1.val + x.2.val; omega)

/-- Something for each of the thirty-two numbers is something for each tile of each SparseCore. -/
theorem bigSep_tiles (Φ : Fin 32 → sProp 𝕄) :
    bigSep Finset.univ Φ = bigSep Finset.univ fun c : Fin 2 => bigSep Finset.univ fun s : Fin 16 => Φ (tileNo c s) := by
  rw [bigSep_univ_equiv (finProdFinEquiv (m := 16) (n := 2)) Φ,
    bigSep_congr (Ψ := fun x : Fin 16 × Fin 2 => Φ (tileNo x.2 x.1)) (fun x _ => congrArg Φ (tileNo_eq x)),
    bigSep_univ_prod (fun x : Fin 16 × Fin 2 => Φ (tileNo x.2 x.1)), bigSep_univ_comm]

variable {ℓ2 ℓ3 ℓ4 : Loc nD τ sig} (R : Fin 32 → Finset (Idx ℓ4)) (hd : ∀ i j, i ≠ j → Disjoint (R i) (R j)) (hc : Finset.univ.biUnion R = Finset.univ)
  (f2 : Buf (Elt F) ℓ2) (f3 : Buf (Elt F) ℓ3)

include hd hc

theorem blocks_eq (f : Buf (Elt F) ℓ4) : (ℓ4 ↦{fullShare} f : sProp 𝕄) = bigSep Finset.univ fun w : Fin 32 => ℓ4 ↦[R w]{fullShare} f := by
  rw [← pointsTo_biUnion Finset.univ R (fun i _ j _ h => hd i j h), hc]

/-- The arrays, dealt. -/
theorem deal (f4 : Buf (Elt F) ℓ4) :
    (iprop((ℓ2 ↦{fullShare} f2) ∗ (ℓ3 ↦{fullShare} f3) ∗ ℓ4 ↦{fullShare} f4) : sProp 𝕄)
      ⊢ bigSep Finset.univ fun c : Fin 2 => bigSep Finset.univ fun s : Fin 16 =>
          iprop((ℓ2 ↦{part32 (tileNo c s)} f2) ∗ (ℓ3 ↦{part32 (tileNo c s)} f3) ∗ ∃ f4, ℓ4 ↦[R (tileNo c s)]{fullShare} f4) := by
  rw [← bigSep_tiles (fun w => iprop((ℓ2 ↦{part32 w} f2) ∗ (ℓ3 ↦{part32 w} f3) ∗ ∃ f4, ℓ4 ↦[R w]{fullShare} f4)), bigSep_sep', bigSep_sep']
  rw [pointsTo_leaves (ℓ := ℓ2) Finset.univ f2 5 fullShare, pointsTo_leaves (ℓ := ℓ3) Finset.univ f3 5 fullShare, blocks_eq R hd hc]
  have hw : ∀ w : Fin 32, (iprop(ℓ4 ↦[R w]{fullShare} f4) : sProp 𝕄) ⊢ iprop(∃ f4, ℓ4 ↦[R w]{fullShare} f4) := by
    intro w; iintro H; iexists f4; iexact H
  exact BI.sep_mono (BI.Entails.refl _) (BI.sep_mono (BI.Entails.refl _) (bigSep_mono fun w _ => hw w))

/-- The arrays, collected, every block at its part of `g`. -/
theorem collect (g : Buf (Elt F) ℓ4) :
    (bigSep Finset.univ fun c : Fin 2 => bigSep Finset.univ fun s : Fin 16 =>
          iprop((ℓ2 ↦{part32 (tileNo c s)} f2) ∗ (ℓ3 ↦{part32 (tileNo c s)} f3) ∗ ℓ4 ↦[R (tileNo c s)]{fullShare} g))
      ⊢ (iprop((ℓ2 ↦{fullShare} f2) ∗ (ℓ3 ↦{fullShare} f3) ∗ ℓ4 ↦{fullShare} g) : sProp 𝕄) := by
  rw [← bigSep_tiles (fun w => iprop((ℓ2 ↦{part32 w} f2) ∗ (ℓ3 ↦{part32 w} f3) ∗ ℓ4 ↦[R w]{fullShare} g)), bigSep_sep', bigSep_sep',
    pointsTo_leaves (ℓ := ℓ2) Finset.univ f2 5 fullShare, pointsTo_leaves (ℓ := ℓ3) Finset.univ f3 5 fullShare, blocks_eq R hd hc]
  exact .rfl

/-- The same without a prefix. -/
theorem deal0 (f4 : Buf (Elt F) ℓ4) :
    (iprop((ℓ2 ↦{fullShare} f2) ∗ ℓ4 ↦{fullShare} f4) : sProp 𝕄)
      ⊢ bigSep Finset.univ fun c : Fin 2 => bigSep Finset.univ fun s : Fin 16 =>
          iprop((ℓ2 ↦{part32 (tileNo c s)} f2) ∗ ∃ f4, ℓ4 ↦[R (tileNo c s)]{fullShare} f4) := by
  rw [← bigSep_tiles (fun w => iprop((ℓ2 ↦{part32 w} f2) ∗ ∃ f4, ℓ4 ↦[R w]{fullShare} f4)), bigSep_sep']
  rw [pointsTo_leaves (ℓ := ℓ2) Finset.univ f2 5 fullShare, blocks_eq R hd hc]
  have hw : ∀ w : Fin 32, (iprop(ℓ4 ↦[R w]{fullShare} f4) : sProp 𝕄) ⊢ iprop(∃ f4, ℓ4 ↦[R w]{fullShare} f4) := by
    intro w; iintro H; iexists f4; iexact H
  exact BI.sep_mono (BI.Entails.refl _) (bigSep_mono fun w _ => hw w)

theorem collect0 (g : Buf (Elt F) ℓ4) :
    (bigSep Finset.univ fun c : Fin 2 => bigSep Finset.univ fun s : Fin 16 =>
          iprop((ℓ2 ↦{part32 (tileNo c s)} f2) ∗ ℓ4 ↦[R (tileNo c s)]{fullShare} g))
      ⊢ (iprop((ℓ2 ↦{fullShare} f2) ∗ ℓ4 ↦{fullShare} g) : sProp 𝕄) := by
  rw [← bigSep_tiles (fun w => iprop((ℓ2 ↦{part32 w} f2) ∗ ℓ4 ↦[R w]{fullShare} g)), bigSep_sep',
    pointsTo_leaves (ℓ := ℓ2) Finset.univ f2 5 fullShare, blocks_eq R hd hc]
  exact .rfl

end Cert.Whole

end
-- ==== Proof.Whole.Region.lean ====
/-
  A TENSORCORE REGION BETWEEN THE CALLS. The core still owes the later calls' starts, and what it has waited for is recorded with a bound.
  A region takes every unscoped array at one valuation to every unscoped array at another and gives both back as they were.
-/
module

public import proofs.«01_k».proof.Proof.Whole.Holds
public import proofs.«01_k».proof.Proof.Gen.KernelIdeal.Launch
public import Idealize.ShloMosaic.Lib.SparseCore.Quiescent
public import Idealize.ShloMosaic.Lib.StableHlo.Run
public import Idealize.ShloMosaic.Lib.Pipeline.Kit
public import Idealize.ShloMosaic.Lib.Pipeline.RegionArraysS

@[expose] public section

noncomputable section

namespace Cert.Whole

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat pin arrRef arrRefs ucRefs scopedRest cellsGhost toksInit BodyObligationLoose)
open Idealize.ShloMosaic.StableHlo (held)
open Idealize.ShloMosaic.TcCoe Idealize.ShloMosaic.Tactic

variable {F : FTy → Type} [FloatOps F]

abbrev ΛP : Labels := Pipeline.Sig Λ₀ (Fin 4) fun p => (pcfgs (F := F) p).Adm
abbrev K : SparseCore.Cfg τ sig (ΛP (F := F)) 3 := sc (F := F)
abbrev D : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

local notation "𝕄" => MT nD τ sig (HIx 3) (Elt F) ℕ UU ℕ

abbrev EH : Emb UH (MT nD τ sig (HIx 3) (Elt F) ℕ UU ℕ) := embL
/-- Where the pipelines' algebra sits. -/
abbrev EP : Emb (UR sig nD τ) (MT nD τ sig (HIx 3) (Elt F) ℕ UU ℕ) := (Emb.inl : Emb (UR sig nD τ) (UR sig nD τ × Counters)).trans embR

/-- No pipeline reads a table. -/
abbrev adm : (p : Fin 4) → (pcfgs (F := F) p).Adm := fun p => (cfgs p).toPCfg_adm

/-- Every unscoped array of @main. -/
abbrev uc : Finset (DevRef τ sig) := ucRefs τ sig

/-- The pairs a core may have waited for before call `n`. -/
def low (d : Dev nD) (n : ℕ) : Set (SemLoc sig × HIx 3) := {q | (K (F := F)).lev ((T d : Thread nD τ), q.1) q.2 ≤ 8 * SparseCore.Cfg.Blocks.fst 3 3 n}

/-- What the core owes before call `n`, with what it has waited for. -/
abbrev dues (d : Dev nD) (n : ℕ) : sProp 𝕄 :=
  iprop(∃ W, ⌜(K (F := F)).WBelow (T d) W (8 * SparseCore.Cfg.Blocks.fst 3 3 n)⌝ ∗ owes (T d) ((K (F := F)).Otc d n) W)

section
variable (pdats : (p : Fin 4) → (d : Dev nD) → Dat τ (Elt F) (HIx 3) ℕ UU ℕ (pin (pcfgs (F := F)) adm p) d)
  (p : Fin 4) (n : ℕ) (W W' : Dev nD → Valuation τ sig (Elt F))

/-- Region `p` before call `n`, from the arrays at `W` to the arrays at `W'`. -/
def seg (kit : Pipeline.LaunchFacts (nD := nD) (τ := τ) cfgs p)
    (hbody : ∀ d, BodyObligationLoose (pdats p d) (defs₀ (F := F)) 𝒱₀ (none : HIx 3) Set.univ)
    (howed : ∀ d t, (pdats p d).owed t = (K (F := F)).Otc d n) (hrec : ∀ d t, (pdats p d).recorded t = low (F := F) d n)
    (hshare : ∀ d w, (pdats p d).share w = fullShare)
    (hin : ∀ d, (scopedRest (pin (pcfgs (F := F)) adm p).spec d : sProp 𝕄) ⊢ (pdats p d).Φ 0)
    (hout : ∀ d, (pdats p d).Φ (Fin.last (pin (pcfgs (F := F)) adm p).N) ⊢ (scopedRest (pin (pcfgs (F := F)) adm p).spec d : sProp 𝕄))
    (hW : ∀ d w, (pdats p d).arrAt w 0 = W d (Proc.devRef .tc (arrRef (pin (pcfgs (F := F)) adm p).spec w)))
    (hW' : ∀ d w, (pdats p d).arrAt w (pin (pcfgs (F := F)) adm p).N = W' d (Proc.devRef .tc (arrRef (pin (pcfgs (F := F)) adm p).spec w)))
    (hoff : ∀ d, ∀ b ∈ uc \ arrRefs (τ := τ) (pin (pcfgs (F := F)) adm p).spec, W' d b = W d b) :
    Pipeline.RegionSeg (pcfgs (F := F)) adm pdats (none : HIx 3) defs₀ 𝒱₀ (K (F := F)).L (K (F := F)).lev p where
  win := (kit.toP (Val := Elt F)).to₀.win
  block_pos := (kit.toP (Val := Elt F)).to₀.block_pos
  stage_whole := (kit.toP (Val := Elt F)).to₀.stage_whole
  K := PEmpty
  osem k := k.elim
  ho := Pipeline.OwnSemFacts.none _
  hbody := hbody
  hwaits d := Pipeline.cellsWaits_of_cut (pin (pcfgs (F := F)) adm) pdats none p d 0 ((K (F := F)).Otc d n) (howed d)
    (fun w s => Finset.mem_univ _) (fun w s => le_refl 0)
    (fun g i hg => ⟨Finset.mem_univ _, lt_of_lt_of_le (Nat.succ_pos _) (SparseCore.Cfg.lev_of_Otc_pos hg)⟩)
  pre d := iprop(held (T d) uc (W d) ∗ dues (F := F) d n)
  post d := iprop(held (T d) uc (W' d) ∗ dues (F := F) d n)
  X _ := BI.emp
  Y _ := BI.emp
  Z d := held (T d) (uc \ arrRefs (τ := τ) (pin (pcfgs (F := F)) adm p).spec) (W d)
  hentry d := by
    rw [Pipeline.ownSems0_none, Pipeline.prefHeld_of_none _ rfl,
      Pipeline.arrays_held (pcfgs (F := F)) adm pdats p kit.toP d (hshare d) ((pdats p d).arrAt · 0) (W d) (hW d),
      StableHlo.held_sub_split (T d : Thread nD τ) (Pipeline.arrRefs_sub_ucRefs _ (kit.toP (Val := Elt F)).win.arr_unscoped) (W d)]
    iintro ⟨⟨⟨Ha, Hu⟩, HO⟩, -, -⟩
    imodintro
    isplitl [Ha]; · iexact Ha
    isplitr; · iempintro
    isplitl [HO]
    · unfold Dat.owesAt Pipeline.owesWithin Dat.bound
      rw [howed d 0, hrec d 0]
      icases HO with ⟨%Wd, %hWd, HO⟩; iexists Wd; isplitr; · ipureintro; exact fun q hq => Or.inl (hWd q hq)
      iexact HO
    isplitr; · iempintro
    iexact Hu
  hin d := by
    iintro ⟨-, -, Hr⟩
    iapply (hin d); iexact Hr
  hout d := (hout d).trans (by
    rw [Pipeline.ownSems0_none]
    iintro Hr
    isplitr; · iempintro
    isplitr; · iempintro
    iexact Hr)
  hexit d := by
    rw [Pipeline.arrays_held (pcfgs (F := F)) adm pdats p kit.toP d (hshare d) ((pdats p d).arrAt · (pin (pcfgs (F := F)) adm p).N) (W' d) (hW' d),
      StableHlo.held_sub_split (T d : Thread nD τ) (Pipeline.arrRefs_sub_ucRefs _ (kit.toP (Val := Elt F)).win.arr_unscoped) (W' d),
      StableHlo.held_congr (T d : Thread nD τ) (V := W' d) (V' := W d) (hoff d)]
    iintro ⟨Ha, HO, -, Hu⟩
    imodintro
    isplitl [Ha Hu]
    · isplitl [Ha]; · iexact Ha
      iexact Hu
    unfold Dat.owesAt Pipeline.owesWithin Dat.bound
    rw [howed d (Fin.last _), hrec d (Fin.last _)]
    icases HO with ⟨%Wd, %hWd, HO⟩; iexists Wd; isplitr
    · ipureintro; intro q hq
      rcases hWd hq with h | ⟨w, s, rfl⟩
      · exact h
      · exact Nat.zero_le _
    iexact HO

/-- A region run from @main. -/
theorem region_step (R : Pipeline.RegionSeg (pcfgs (F := F)) adm pdats (none : HIx 3) defs₀ 𝒱₀ (K (F := F)).L (K (F := F)).lev p)
    (hpre : ∀ d, R.pre d = iprop(held (T d) uc (W d) ∗ dues (F := F) d n)) (hpost : ∀ d, R.post d = iprop(held (T d) uc (W' d) ∗ dues (F := F) d n))
    {Py : (K (F := F)).Pay (nD := nD) (Val := Elt F) (Name := ℕ) (U := UU)} (κ : GSem nD τ sig → ℕ) (d : Dev nD) (Q : PUnit → sProp 𝕄) :
    iprop((K (F := F)).ctx EH Py κ ∗ (K (F := F)).tcSt EH d n ∗ boundary (T d) ∗ held (T d) uc (W d)
        ∗ cellsGhost (pin (pcfgs (F := F)) adm) EP p d ∗ toksInit (pin (pcfgs (F := F)) adm) EP p d
        ∗ (iprop((K (F := F)).tcSt EH d n ∗ boundary (T d) ∗ held (T d) uc (W' d)) -∗ Q ⟨⟩))
      ⊢ wp frame (wpE ((K (F := F)).defs (D (F := F))) 𝒱 (SparseCore.T d) none) Set.univ
          (Prog.lift (.customCall (SparseCore.inner (Pipeline.entry p)) ())) Q := by
  change _ ⊢ wp frame (wpE ((K (F := F)).defs (D (F := F))) 𝒱 (SparseCore.T d) none) Set.univ
    (SparseCore.liftProg (.op (.customCall (Pipeline.entry p) ()) fun x => .ret x)) Q
  refine BI.Entails.trans ?_ ((K (F := F)).wp_liftProg (D (F := F)) 𝒱 _ Set.univ none _ _)
  refine BI.Entails.trans ?_ (Pipeline.RegionSeg.wp (pcfgs (F := F)) adm pdats none cellOf_inj EP defs₀ 𝒱₀ _ _ R d none (fun _ h => nomatch h) _ Q)
  rw [hpre, hpost]
  unfold SparseCore.Cfg.tcSt
  show (_ : sProp 𝕄) ⊢ (_ : sProp 𝕄)
  iintro ⟨#Hctx, ⟨HO, Hrest⟩, Hb, Hh, Hg, Ht, HQ⟩
  isplitl [Hrest HQ]
  · iintro ⟨Hb, Hh, HO⟩
    rw [wp_ret]; imodintro
    iapply HQ
    isplitl [HO Hrest]
    · isplitl [HO]; · iexact HO
      iexact Hrest
    isplitl [Hb]; · iexact Hb
    iexact Hh
  isplitl [Hb]; · iexact Hb
  isplitl [Hh HO]
  · isplitl [Hh]; · iexact Hh
    iexact HO
  isplitr; · iapply ((K (F := F)).ctx_levAts κ); iexact Hctx
  isplitl [Hg]; · iexact Hg
  iexact Ht

end

end Cert.Whole

end
-- ==== Proof.Whole.Words.lean ====
/-
  LOADS AND STORES OF A WHOLE BUFFER: a load of every element gives what the memref reads, a store of every element leaves it reading the value stored.
-/
module

public import proofs.«01_k».proof.Proof.Whole.Holds
public import Idealize.ShloMosaic.Lib.VecWindow

@[expose] public section

noncomputable section

namespace Cert.Whole

open Cert.KernelIdeal Cert.KernelIdeal.Gen
open Idealize.ShloMosaic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type}

local notation "𝕄" => MT nD τ sig (HIx 3) (Elt F) ℕ UU ℕ

section
variable {s : Shape} {e : EltTy} (thr : Thread nD τ) {defs : Defs nD τ sig (Elt F) Λ₀} {α : Type}

/-- A load of the whole of a memref gives what it reads. -/
theorem wp_load_all {cs : CoreSpace} {m : Memref sig thr.2.kind cs s e} {X : s.Idx → Elt F e} {off : Fin s.rank → ℕ}
    {inb : ∀ a, off a + s.size a ≤ s.size a} {hl : m.view.LoadsAt (Rect.unit off s.size inb).toLoadRect}
    {k : ((Rect.unit off s.size inb).shape.Idx → Elt F e) → Prog (TpuEff nD τ sig (Elt F) Λ₀ thr.2) α}
    {Q : α → sProp (MT nD τ sig (HIx 3) (Elt F) ℕ UU ℕ)} :
    owns thr m fullShare X
      ⊢ iprop((owns thr m fullShare X -∗ wp frame (wpE defs Variants.none thr none) Set.univ (k X) Q)
        -∗ wp frame (wpE defs Variants.none thr none) Set.univ (Prog.lift (.load m (Rect.unit off s.size inb).toLoadRect hl) >>= k) Q) := by
  unfold owns
  iintro ⟨%f, %hf, H⟩ Hk
  iapply (wp_load_rect (defs := defs) Variants.none thr none Set.univ (Q := Q) (m := m) (r := Rect.unit off s.size inb) (hl := hl) (k := k) (q := fullShare) (f := f)
    (S := m.view.set) (m.view.set_slice_subset _)) $$ H
  iintro H
  have e : (m.access (Rect.unit off s.size inb)).read (Elt F) f = X := by
    rw [← hf]; funext z
    show m.view.read (Elt F) f ((Rect.unit off s.size inb).emb z) = _
    rw [Rect.emb_unit_full]
  rw [e]
  iapply Hk
  iexists f
  isplitr; · ipureintro; exact hf
  iexact H

/-- A load of the one word of a memref. -/
theorem wp_word {m : Memref sig thr.2.kind .smem s e} {X : s.Idx → Elt F e} {off : Fin s.rank → ℕ}
    {inb : ∀ a, off a + s.size a ≤ s.size a} {h1 : (Rect.unit off s.size inb).shape.numel = 1} {hp : e.packing = 1} (y : s.Idx) (hy : ∀ z : s.Idx, z = y)
    {k : Elt F e → Prog (TpuEff nD τ sig (Elt F) Λ₀ thr.2) α}
    {Q : α → sProp (MT nD τ sig (HIx 3) (Elt F) ℕ UU ℕ)} :
    owns thr m fullShare X
      ⊢ iprop((owns thr m fullShare X -∗ wp frame (wpE defs Variants.none thr none) Set.univ (k (X y)) Q)
        -∗ wp frame (wpE defs Variants.none thr none) Set.univ (smemLoad m (Rect.unit off s.size inb) h1 hp >>= k) Q) := by
  unfold owns
  change _ ⊢ iprop(_ -∗ wp frame (wpE defs Variants.none thr none) Set.univ (smemLoadElt m (Rect.unit off s.size inb) (View.loads_smem_one hp h1)
    (Shape.Idx.first (h1.symm ▸ Nat.one_pos)) k) Q)
  iintro ⟨%f, %hf, H⟩ Hk
  iapply (wp_smemLoadElt (defs := defs) Variants.none thr none Set.univ (Q := Q) (m := m) (r := Rect.unit off s.size inb) (q := fullShare) (f := f)
    (S := m.view.set) (m.view.set_slice_subset _)) $$ H
  iintro H
  have e : (m.access (Rect.unit off s.size inb)).read (Elt F) f (Shape.Idx.first (h1.symm ▸ Nat.one_pos)) = X y := by
    rw [← hf]
    show m.view.read (Elt F) f ((Rect.unit off s.size inb).emb _) = _
    rw [hy ((Rect.unit off s.size inb).emb _)]
  rw [e]
  iapply Hk
  iexists f
  isplitr; · ipureintro; exact hf
  iexact H

/-- A store of the whole of a memref leaves it reading the value stored. -/
theorem wp_store_all {cs : CoreSpace} {m : Memref sig thr.2.kind cs s e} {X : s.Idx → Elt F e} {off : Fin s.rank → ℕ}
    {inb : ∀ a, off a + s.size a ≤ s.size a} {w : s.Idx → Elt F e}
    {hx : (m.access (Rect.unit off s.size inb)).Stores Finset.univ}
    {hm : (Finset.univ : Finset (Rect.unit off s.size inb).shape.Idx) = Finset.univ ∨ ∀ a, (Rect.unit off s.size inb).stride a = 1}
    {k : PUnit → Prog (TpuEff nD τ sig (Elt F) Λ₀ thr.2) α} {Q : α → sProp (MT nD τ sig (HIx 3) (Elt F) ℕ UU ℕ)} :
    owns thr m fullShare X
      ⊢ iprop((owns thr m fullShare w -∗ wp frame (wpE defs Variants.none thr none) Set.univ (k ⟨⟩) Q)
        -∗ wp frame (wpE defs Variants.none thr none) Set.univ (Prog.lift (.store m (Rect.unit off s.size inb) w Finset.univ hx hm) >>= k) Q) := by
  unfold owns
  iintro ⟨%f, %hf, H⟩ Hk
  iapply (wp_store (defs := defs) Variants.none thr none Set.univ (Q := Q) (m := m) (r := Rect.unit off s.size inb) (w := w) (Mk := Finset.univ) (hx := hx) (hm := hm) (k := k) (f := f)
    (S := m.view.set) (m.setOn_access_subset _ Finset.univ)) $$ H
  iintro H
  iapply Hk
  iexists ((m.access (Rect.unit off s.size inb)).write (Elt F) f w Finset.univ)
  isplitr
  · ipureintro
    funext z
    have := View.read_slice_write_emb (v := m.view) (Rect.unit off s.size inb) f w (Finset.mem_univ z)
    rwa [Rect.emb_unit_full] at this
  iexact H

end

/-- The one place of a 1 × 1 array. -/
def at0 : S1x1.Idx := fun a => ⟨0, by fin_cases a <;> decide⟩

theorem at0_eq (z : S1x1.Idx) : z = at0 := by
  funext a
  apply Fin.ext
  have := (z a).isLt
  have h : S1x1.size a = 1 := by fin_cases a <;> rfl
  have h' := (at0 a).isLt
  omega

end Cert.Whole

end
-- ==== Proof.Whole.Pick.lean ====
/-
  THE PICK REGIONS. Each reads a table of counts and a rank, and leaves the pair they give in its result's array.
-/
module

public import proofs.«01_k».proof.Proof.Whole.Region
public import proofs.«01_k».proof.Proof.Whole.Words
public import proofs.«01_k».proof.Proof.Gen.KernelIdeal.Skeleton
public import proofs.«01_k».proof.Proof.Gen.KernelIdeal.Points
public import Idealize.ShloMosaic.Lib.Pipeline.ValueKit

@[expose] public section

noncomputable section

namespace Cert.Whole

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat pin arrRef arrRefs ucRefs scopedRest BodyObligation)
open Idealize.ShloMosaic.TcCoe Idealize.ShloMosaic.Tactic

variable {F : FTy → Type} [FloatOps F]

local notation "𝕄" => MT nD τ sig (HIx 3) (Elt F) ℕ UU ℕ

/-- What a pick leaves of table `t` at rank `r`. -/
def pick (t : Vec F S32x32x128 .i32) (r : Elt F .i32) : IVec S1x128 32 :=
  k1_pay1 (F := F) (k1_pay3 r) (k1_pay7 t r) (k1_pay8 t r)

/-- The pick kernel's body, from the staged table and rank. -/
theorem pick_run (d : Dev nD) (M0 : Memref sig .tc .vmem S32x32x128 .i32) (h0 : M0.IsWhole) (M1 : Memref sig .tc .smem S1x1 .i32) (h1 : M1.IsWhole)
    (M2 : Memref sig .tc .vmem S1x128 .i32) (h2 : M2.IsWhole) (t : Vec F S32x32x128 .i32) (r : Vec F S1x1 .i32) (x : Vec F S1x128 .i32) (Q : PUnit → sProp 𝕄) :
    iprop(owns (d.tc : Thread nD τ) M0 fullShare t ∗ owns (d.tc : Thread nD τ) M1 fullShare r ∗ owns (d.tc : Thread nD τ) M2 fullShare x
        ∗ (iprop(owns (d.tc : Thread nD τ) M0 fullShare t ∗ owns (d.tc : Thread nD τ) M1 fullShare r
            ∗ owns (d.tc : Thread nD τ) M2 fullShare (pick (F := F) t (r at0) : Vec F S1x128 .i32)) -∗ Q ⟨⟩))
      ⊢ wp frame (wpE (defs₀ (F := F)) Variants.none (d.tc : Thread nD τ) none) Set.univ (cc1__pick_kernel M0 h0 M1 h1 M2 h2) Q := by
  rw [cc1__pick_kernel_eq_skeleton]
  unfold cc1__pick_kernel_skel
  rw [k1_part1_eq_skeleton]
  unfold k1_part1_skel
  simp only [bind_assoc, pure_bind]
  iintro ⟨H0, H1, H2, Hk⟩
  iapply (wp_load_all (F := F) (d.tc : Thread nD τ)) $$ H0; iintro H0
  iapply (wp_word (F := F) (d.tc : Thread nD τ) at0 at0_eq) $$ H1; iintro H1
  iapply (wp_load_all (F := F) (d.tc : Thread nD τ)) $$ H2; iintro H2
  iapply (wp_store_all (F := F) (d.tc : Thread nD τ)) $$ H2; iintro H2
  sl_step
  iapply Hk
  isplitl [H0]; · iexact H0
  isplitl [H1]; · iexact H1
  iexact H2

/-- The second pick kernel is the same program. -/
theorem pick_run3 (d : Dev nD) (M0 : Memref sig .tc .vmem S32x32x128 .i32) (h0 : M0.IsWhole) (M1 : Memref sig .tc .smem S1x1 .i32) (h1 : M1.IsWhole)
    (M2 : Memref sig .tc .vmem S1x128 .i32) (h2 : M2.IsWhole) (t : Vec F S32x32x128 .i32) (r : Vec F S1x1 .i32) (x : Vec F S1x128 .i32) (Q : PUnit → sProp 𝕄) :
    iprop(owns (d.tc : Thread nD τ) M0 fullShare t ∗ owns (d.tc : Thread nD τ) M1 fullShare r ∗ owns (d.tc : Thread nD τ) M2 fullShare x
        ∗ (iprop(owns (d.tc : Thread nD τ) M0 fullShare t ∗ owns (d.tc : Thread nD τ) M1 fullShare r
            ∗ owns (d.tc : Thread nD τ) M2 fullShare (pick (F := F) t (r at0) : Vec F S1x128 .i32)) -∗ Q ⟨⟩))
      ⊢ wp frame (wpE (defs₀ (F := F)) Variants.none (d.tc : Thread nD τ) none) Set.univ (cc3__pick_kernel M0 h0 M1 h1 M2 h2) Q := by
  rw [show cc3__pick_kernel (F := F) = cc1__pick_kernel (F := F) from rfl]
  exact pick_run d M0 h0 M1 h1 M2 h2 t r x Q

/-- The third pick kernel is the same program. -/
theorem pick_run5 (d : Dev nD) (M0 : Memref sig .tc .vmem S32x32x128 .i32) (h0 : M0.IsWhole) (M1 : Memref sig .tc .smem S1x1 .i32) (h1 : M1.IsWhole)
    (M2 : Memref sig .tc .vmem S1x128 .i32) (h2 : M2.IsWhole) (t : Vec F S32x32x128 .i32) (r : Vec F S1x1 .i32) (x : Vec F S1x128 .i32) (Q : PUnit → sProp 𝕄) :
    iprop(owns (d.tc : Thread nD τ) M0 fullShare t ∗ owns (d.tc : Thread nD τ) M1 fullShare r ∗ owns (d.tc : Thread nD τ) M2 fullShare x
        ∗ (iprop(owns (d.tc : Thread nD τ) M0 fullShare t ∗ owns (d.tc : Thread nD τ) M1 fullShare r
            ∗ owns (d.tc : Thread nD τ) M2 fullShare (pick (F := F) t (r at0) : Vec F S1x128 .i32)) -∗ Q ⟨⟩))
      ⊢ wp frame (wpE (defs₀ (F := F)) Variants.none (d.tc : Thread nD τ) none) Set.univ (cc5__pick_kernel M0 h0 M1 h1 M2 h2) Q := by
  rw [show cc5__pick_kernel (F := F) = cc1__pick_kernel (F := F) from rfl]
  exact pick_run d M0 h0 M1 h1 M2 h2 t r x Q

section
variable (n : ℕ) (W : Dev nD → Valuation τ sig (Elt F))

/-- The proof data of the first pick, from the arrays at `W`. -/
def dat1 (d : Dev nD) : Dat τ (Elt F) (HIx 3) ℕ UU ℕ cfg1 d where
  A w := W d (Proc.devRef .tc (arrRef spec1 w))
  after w _ := match w with
    | ⟨0, _⟩ => W d main_v2
    | ⟨1, _⟩ => W d main_v1
    | ⟨2, _⟩ => pick (F := F) (W d main_v2) ((W d main_v1 : Vec F S1x1 .i32) at0)
  Φ _ := scopedRest spec1 d
  q _ := fullShare
  owed _ := (K (F := F)).Otc d n
  recorded _ := low (F := F) d n

theorem before1_0 (d : Dev nD) (x) : (dat1 n W d).before 0 t1_0 x = W d main_v2 := by
  unfold Dat.before; rw [if_pos (fetch1_0 _)]
  funext y
  show W d main_v2 _ = W d main_v2 y
  congr 1; funext a; apply Fin.ext
  show 0 * _ + 1 * (y a).val = _
  omega

theorem before1_1 (d : Dev nD) (x) : (dat1 n W d).before 1 t1_0 x = W d main_v1 := by
  unfold Dat.before; rw [if_pos (fetch1_1 _)]
  funext y
  show W d main_v1 _ = W d main_v1 y
  congr 1; funext a; apply Fin.ext
  show 0 * _ + 1 * (y a).val = _
  omega

theorem body1 (d : Dev nD) : BodyObligation (dat1 n W d) (defs₀ (F := F)) 𝒱₀ (none : HIx 3) Set.univ := fun t => by
  obtain rfl := fin_N1 t
  rw [bigSep_W1, bigSep_W1]
  rw [show (dat1 n W d).Φ t1_0.castSucc = scopedRest spec1 d from rfl, show (dat1 n W d).Φ t1_0.succ = scopedRest spec1 d from rfl,
    show (dat1 n W d).owesAt none t1_0.succ = (dat1 n W d).owesAt none t1_0.castSucc from rfl]
  iintro ⟨HΦ, Howes, ⟨%d0, H0⟩, ⟨%d1, H1⟩, ⟨%d2, H2⟩⟩
  rw [before1_0, before1_1]
  iapply (pick_run (F := F) d _ _ _ _ _ _ _ _ _ _)
  isplitl [H0]; · iexact H0
  isplitl [H1]; · iexact H1
  isplitl [H2]; · iexact H2
  iintro ⟨H0, H1, H2⟩
  isplitl [HΦ]; · iexact HΦ
  isplitl [Howes]; · iexact Howes
  isplitl [H0]; · iexact H0
  isplitl [H1]; · iexact H1
  iexact H2

theorem arr1 (d : Dev nD) : (dat1 n W d).arrAt 2 cfg1.N = pick (F := F) (W d main_v2) ((W d main_v1 : Vec F S1x1 .i32) at0) :=
  (dat1 n W d).arrAt_eq_of_after_last 2 t1_0 (by decide +kernel) _ fun _ => rfl

/-- The proof data of the second pick, from the arrays at `W`. -/
def dat3 (d : Dev nD) : Dat τ (Elt F) (HIx 3) ℕ UU ℕ cfg3 d where
  A w := W d (Proc.devRef .tc (arrRef spec3 w))
  after w _ := match w with
    | ⟨0, _⟩ => W d main_v7
    | ⟨1, _⟩ => W d main_v8
    | ⟨2, _⟩ => pick (F := F) (W d main_v7) ((W d main_v8 : Vec F S1x1 .i32) at0)
  Φ _ := scopedRest spec3 d
  q _ := fullShare
  owed _ := (K (F := F)).Otc d n
  recorded _ := low (F := F) d n

theorem before3_0 (d : Dev nD) (x) : (dat3 n W d).before 0 t3_0 x = W d main_v7 := by
  unfold Dat.before; rw [if_pos (fetch3_0 _)]
  funext y
  show W d main_v7 _ = W d main_v7 y
  congr 1; funext a; apply Fin.ext
  show 0 * _ + 1 * (y a).val = _
  omega

theorem before3_1 (d : Dev nD) (x) : (dat3 n W d).before 1 t3_0 x = W d main_v8 := by
  unfold Dat.before; rw [if_pos (fetch3_1 _)]
  funext y
  show W d main_v8 _ = W d main_v8 y
  congr 1; funext a; apply Fin.ext
  show 0 * _ + 1 * (y a).val = _
  omega

theorem body3 (d : Dev nD) : BodyObligation (dat3 n W d) (defs₀ (F := F)) 𝒱₀ (none : HIx 3) Set.univ := fun t => by
  obtain rfl := fin_N3 t
  rw [bigSep_W3, bigSep_W3]
  rw [show (dat3 n W d).Φ t3_0.castSucc = scopedRest spec3 d from rfl, show (dat3 n W d).Φ t3_0.succ = scopedRest spec3 d from rfl,
    show (dat3 n W d).owesAt none t3_0.succ = (dat3 n W d).owesAt none t3_0.castSucc from rfl]
  iintro ⟨HΦ, Howes, ⟨%d0, H0⟩, ⟨%d1, H1⟩, ⟨%d2, H2⟩⟩
  rw [before3_0, before3_1]
  iapply (pick_run3 (F := F) d _ _ _ _ _ _ _ _ _ _)
  isplitl [H0]; · iexact H0
  isplitl [H1]; · iexact H1
  isplitl [H2]; · iexact H2
  iintro ⟨H0, H1, H2⟩
  isplitl [HΦ]; · iexact HΦ
  isplitl [Howes]; · iexact Howes
  isplitl [H0]; · iexact H0
  isplitl [H1]; · iexact H1
  iexact H2

theorem arr3 (d : Dev nD) : (dat3 n W d).arrAt 2 cfg3.N = pick (F := F) (W d main_v7) ((W d main_v8 : Vec F S1x1 .i32) at0) :=
  (dat3 n W d).arrAt_eq_of_after_last 2 t3_0 (by decide +kernel) _ fun _ => rfl

/-- The proof data of the third pick, from the arrays at `W`. -/
def dat5 (d : Dev nD) : Dat τ (Elt F) (HIx 3) ℕ UU ℕ cfg5 d where
  A w := W d (Proc.devRef .tc (arrRef spec5 w))
  after w _ := match w with
    | ⟨0, _⟩ => W d main_v15
    | ⟨1, _⟩ => W d main_v16
    | ⟨2, _⟩ => pick (F := F) (W d main_v15) ((W d main_v16 : Vec F S1x1 .i32) at0)
  Φ _ := scopedRest spec5 d
  q _ := fullShare
  owed _ := (K (F := F)).Otc d n
  recorded _ := low (F := F) d n

theorem before5_0 (d : Dev nD) (x) : (dat5 n W d).before 0 t5_0 x = W d main_v15 := by
  unfold Dat.before; rw [if_pos (fetch5_0 _)]
  funext y
  show W d main_v15 _ = W d main_v15 y
  congr 1; funext a; apply Fin.ext
  show 0 * _ + 1 * (y a).val = _
  omega

theorem before5_1 (d : Dev nD) (x) : (dat5 n W d).before 1 t5_0 x = W d main_v16 := by
  unfold Dat.before; rw [if_pos (fetch5_1 _)]
  funext y
  show W d main_v16 _ = W d main_v16 y
  congr 1; funext a; apply Fin.ext
  show 0 * _ + 1 * (y a).val = _
  omega

theorem body5 (d : Dev nD) : BodyObligation (dat5 n W d) (defs₀ (F := F)) 𝒱₀ (none : HIx 3) Set.univ := fun t => by
  obtain rfl := fin_N5 t
  rw [bigSep_W5, bigSep_W5]
  rw [show (dat5 n W d).Φ t5_0.castSucc = scopedRest spec5 d from rfl, show (dat5 n W d).Φ t5_0.succ = scopedRest spec5 d from rfl,
    show (dat5 n W d).owesAt none t5_0.succ = (dat5 n W d).owesAt none t5_0.castSucc from rfl]
  iintro ⟨HΦ, Howes, ⟨%d0, H0⟩, ⟨%d1, H1⟩, ⟨%d2, H2⟩⟩
  rw [before5_0, before5_1]
  iapply (pick_run5 (F := F) d _ _ _ _ _ _ _ _ _ _)
  isplitl [H0]; · iexact H0
  isplitl [H1]; · iexact H1
  isplitl [H2]; · iexact H2
  iintro ⟨H0, H1, H2⟩
  isplitl [HΦ]; · iexact HΦ
  isplitl [Howes]; · iexact Howes
  isplitl [H0]; · iexact H0
  isplitl [H1]; · iexact H1
  iexact H2

theorem arr5 (d : Dev nD) : (dat5 n W d).arrAt 2 cfg5.N = pick (F := F) (W d main_v15) ((W d main_v16 : Vec F S1x1 .i32) at0) :=
  (dat5 n W d).arrAt_eq_of_after_last 2 t5_0 (by decide +kernel) _ fun _ => rfl

end

end Cert.Whole

end
-- ==== Proof.Whole.Mm.lean ====
/-
  THE MASKED PRODUCT. Sixteen points, each a block of 512 rows; the first point masks the weights by the threshold into the kernel's scratch,
  and every point multiplies its rows by what the scratch holds.
-/
module

public import proofs.«01_k».proof.Proof.Whole.Pick
public import Idealize.ShloMosaic.Lib.Pointwise

@[expose] public section

noncomputable section

namespace Cert.Whole

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat pin arrRef arrRefs ucRefs scopedRest BodyObligation)
open Idealize.ShloMosaic.TcCoe Idealize.ShloMosaic.Tactic

variable {F : FTy → Type} [FloatOps F]

local notation "𝕄" => MT nD τ sig (HIx 3) (Elt F) ℕ UU ℕ

/-- The weights kept where the masked word is at least `t`. -/
abbrev masked (w : Vec F S2048x2048 .i32) (t : Elt F .i32) (fcw : Vec F S2048x2048 .f32) : FVec F S2048x2048 .bf16 := k6_pay1 w t fcw

/-- Row block `b` of `x`. -/
def rows (x : Vec F S8192x2048 .f32) (b : Fin 16) : Vec F S512x2048 .f32 :=
  fun y => x (ix2 (n0 := 8192) (n1 := 2048) ⟨b.val * 512 + (y 0).val, by have h : (y 0).val < 512 := (y 0).isLt; have := b.isLt; omega⟩ (y 1))

/-- The whole product. -/
def product (x : Vec F S8192x2048 .f32) (m : FVec F S2048x2048 .bf16) (b : Vec F S1x2048 .f32) : Vec F S8192x2048 .f32 := fun i =>
  k6_pay2 (rows x ⟨(i 0).val / 512, by have h : (i 0).val < 8192 := (i 0).isLt; omega⟩) m b
    (ix2 (n0 := 512) (n1 := 2048) ⟨(i 0).val % 512, Nat.mod_lt _ (by decide)⟩ (i 1))

/-- Whether the body is at the first point. -/
theorem first_point (i : grid6.Coords) :
    (Scalar.cmpi .ne (Scalar.extui (Scalar.cmpi .eq (BitVec.ofNat 32 (i 0).val) 0#32) : BitVec 32) 0#32 = 1#1) ↔ (i 0).val = 0 := by
  have h : ∀ x : Fin 16, (Scalar.cmpi .ne (Scalar.extui (Scalar.cmpi .eq (BitVec.ofNat 32 x.val) 0#32) : BitVec 32) 0#32 = 1#1) ↔ x.val = 0 := by decide
  exact h ⟨(i 0).val, (i 0).isLt⟩

section
variable (d : Dev nD) (i : grid6.Coords)
  (M1 : Memref sig .tc .smem S1x1 .i32) (h1 : M1.IsWhole) (M2 : Memref sig .tc .vmem S512x2048 .f32) (h2 : M2.IsWhole)
  (M3 : Memref sig .tc .vmem S2048x2048 .i32) (h3 : M3.IsWhole) (M4 : Memref sig .tc .vmem S2048x2048 .f32) (h4 : M4.IsWhole)
  (M5 : Memref sig .tc .vmem S1x2048 .f32) (h5 : M5.IsWhole) (M6 : Memref sig .tc .vmem S512x2048 .f32) (h6 : M6.IsWhole)
  (M7 : Memref sig .tc .vmem S2048x2048 .bf16) (h7 : M7.IsWhole)
  (t : Vec F S1x1 .i32) (x : Vec F S512x2048 .f32) (w : Vec F S2048x2048 .i32) (fcw : Vec F S2048x2048 .f32) (b : Vec F S1x2048 .f32)
  (o : Vec F S512x2048 .f32) (g : Vec F S2048x2048 .bf16) (Q : PUnit → sProp (MT nD τ sig (HIx 3) (Elt F) ℕ UU ℕ))

/-- The product kernel's body. -/
theorem mm_run (hg : (i 0).val ≠ 0 → g = masked w (t at0) fcw) :
    iprop(owns (d.tc : Thread nD τ) M1 fullShare t ∗ owns (d.tc : Thread nD τ) M2 fullShare x ∗ owns (d.tc : Thread nD τ) M3 fullShare w
        ∗ owns (d.tc : Thread nD τ) M4 fullShare fcw ∗ owns (d.tc : Thread nD τ) M5 fullShare b ∗ owns (d.tc : Thread nD τ) M6 fullShare o
        ∗ owns (d.tc : Thread nD τ) M7 fullShare g
        ∗ (iprop(owns (d.tc : Thread nD τ) M1 fullShare t ∗ owns (d.tc : Thread nD τ) M2 fullShare x ∗ owns (d.tc : Thread nD τ) M3 fullShare w
            ∗ owns (d.tc : Thread nD τ) M4 fullShare fcw ∗ owns (d.tc : Thread nD τ) M5 fullShare b
            ∗ owns (d.tc : Thread nD τ) M6 fullShare (k6_pay2 x (masked w (t at0) fcw) b : Vec F S512x2048 .f32)
            ∗ owns (d.tc : Thread nD τ) M7 fullShare (masked w (t at0) fcw : Vec F S2048x2048 .bf16)) -∗ Q ⟨⟩))
      ⊢ wp frame (wpE (defs₀ (F := F)) Variants.none (d.tc : Thread nD τ) none) Set.univ
          (cc6__mm_kernel i M1 h1 M2 h2 M3 h3 M4 h4 M5 h5 M6 h6 M7 h7) Q := by
  rw [cc6__mm_kernel_eq_skeleton]
  unfold cc6__mm_kernel_skel
  by_cases h : (i 0).val = 0
  · rw [dif_pos ((first_point i).mpr h)]
    simp only [bind_assoc, pure_bind]
    iintro ⟨H1, H2, H3, H4, H5, H6, H7, Hk⟩
    iapply (wp_load_all (F := F) (d.tc : Thread nD τ)) $$ H3; iintro H3
    iapply (wp_word (F := F) (d.tc : Thread nD τ) at0 at0_eq) $$ H1; iintro H1
    iapply (wp_load_all (F := F) (d.tc : Thread nD τ)) $$ H4; iintro H4
    iapply (wp_load_all (F := F) (d.tc : Thread nD τ)) $$ H7; iintro H7
    iapply (wp_store_all (F := F) (d.tc : Thread nD τ)) $$ H7; iintro H7
    iapply (wp_load_all (F := F) (d.tc : Thread nD τ)) $$ H2; iintro H2
    iapply (wp_load_all (F := F) (d.tc : Thread nD τ)) $$ H7; iintro H7
    iapply (wp_load_all (F := F) (d.tc : Thread nD τ)) $$ H5; iintro H5
    iapply (wp_load_all (F := F) (d.tc : Thread nD τ)) $$ H6; iintro H6
    iapply (wp_store_all (F := F) (d.tc : Thread nD τ)) $$ H6; iintro H6
    sl_step
    iapply Hk
    isplitl [H1]; · iexact H1
    isplitl [H2]; · iexact H2
    isplitl [H3]; · iexact H3
    isplitl [H4]; · iexact H4
    isplitl [H5]; · iexact H5
    isplitl [H6]; · iexact H6
    iexact H7
  · rw [dif_neg (fun e => h ((first_point i).mp e)), hg h]
    simp only [bind_assoc, pure_bind]
    iintro ⟨H1, H2, H3, H4, H5, H6, H7, Hk⟩
    iapply (wp_load_all (F := F) (d.tc : Thread nD τ)) $$ H2; iintro H2
    iapply (wp_load_all (F := F) (d.tc : Thread nD τ)) $$ H7; iintro H7
    iapply (wp_load_all (F := F) (d.tc : Thread nD τ)) $$ H5; iintro H5
    iapply (wp_load_all (F := F) (d.tc : Thread nD τ)) $$ H6; iintro H6
    iapply (wp_store_all (F := F) (d.tc : Thread nD τ)) $$ H6; iintro H6
    sl_step
    iapply Hk
    isplitl [H1]; · iexact H1
    isplitl [H2]; · iexact H2
    isplitl [H3]; · iexact H3
    isplitl [H4]; · iexact H4
    isplitl [H5]; · iexact H5
    isplitl [H6]; · iexact H6
    iexact H7

end

/-- Buffer `b` at some contents. -/
abbrev some0 (d : Dev nD) (b : Ref sig .tc) : sProp 𝕄 :=
  iprop(∃ f : Buf (Elt F) ((d.tc : Thread nD τ).loc b), ((d.tc : Thread nD τ).loc b) ↦{fullShare} f)

/-- The other kernels' scoped buffers. -/
def others (d : Dev nD) : sProp 𝕄 :=
  iprop(some0 (F := F) d cc1_stg0_0 ∗ some0 (F := F) d cc1_stg2_0 ∗ some0 (F := F) d cc3_stg0_0 ∗ some0 (F := F) d cc3_stg2_0 ∗ some0 (F := F) d cc5_stg0_0
    ∗ some0 (F := F) d cc5_stg2_0 ∗ some0 (F := F) d cc1_stg1_0 ∗ some0 (F := F) d cc3_stg1_0 ∗ some0 (F := F) d cc5_stg1_0)

section
variable (n : ℕ) (W : Dev nD → Valuation τ sig (Elt F))

/-- The masked weights of the arrays at `W`. -/
def maskedAt (d : Dev nD) : Vec F S2048x2048 .bf16 :=
  masked (F := F) (W d main_arg1) ((W d main_v24 : Vec F S1x1 .i32) at0) (W d main_arg2)

/-- Between the points: the scratch, masked once a point has run, and what the region does not use. -/
def between (d : Dev nD) (k : ℕ) : sProp 𝕄 :=
  iprop(∃ g : Vec F S2048x2048 .bf16, ⌜k ≠ 0 → g = maskedAt W d⌝ ∗ owns (d.tc : Thread nD τ) (Memref.whole cc6_scratch0) fullShare g ∗ others (F := F) d)

/-- The proof data of the product, from the arrays at `W`. -/
def dat6 (d : Dev nD) : Dat τ (Elt F) (HIx 3) ℕ UU ℕ cfg6 d where
  A w := W d (Proc.devRef .tc (arrRef spec6 w))
  after w t := match w with
    | ⟨0, _⟩ => W d main_v24
    | ⟨1, _⟩ => rows (W d main_arg0) ⟨t.val, lt_of_lt_of_eq t.isLt N_6⟩
    | ⟨2, _⟩ => W d main_arg1
    | ⟨3, _⟩ => W d main_arg2
    | ⟨4, _⟩ => W d main_v25
    | ⟨5, _⟩ => k6_pay2 (rows (W d main_arg0) ⟨t.val, lt_of_lt_of_eq t.isLt N_6⟩) (maskedAt W d) (W d main_v25)
  Φ t := between W d t.val
  q _ := fullShare
  owed _ := (K (F := F)).Otc d n
  recorded _ := low (F := F) d n

theorem ofNat_toNat (t : Fin grid6.N) : ((grid6.coords t) 0).val = t.val := by
  have h : ∀ t : Fin grid6.N, ((grid6.coords t) 0).val = t.val := by decide
  exact h t

theorem block1 (d : Dev nD) (t : Fin cfg6.N) : (dat6 n W d).blockOf 1 t = rows (W d main_arg0) ⟨t.val, lt_of_lt_of_eq t.isLt N_6⟩ := by
  funext y
  show W d main_arg0 _ = W d main_arg0 _
  congr 1; funext a; apply Fin.ext
  have hN : t.val < 16 := lt_of_lt_of_eq t.isLt N_6
  match a with
  | ⟨0, _⟩ =>
    show (BitVec.ofNat 32 ((grid6.coords t) 0).val).toNat * 512 + 1 * (y 0).val = t.val * 512 + (y 0).val
    rw [ofNat_toNat, BitVec.toNat_ofNat, Nat.mod_eq_of_lt (by omega)]; omega
  | ⟨1, _⟩ => show 0 * 2048 + 1 * (y 1).val = (y 1).val; omega

theorem block0 (d : Dev nD) (t : Fin cfg6.N) : (dat6 n W d).blockOf 0 t = (W d main_v24 : Vec F S1x1 .i32) := by
  funext y
  show W d main_v24 _ = W d main_v24 y
  congr 1; funext a; apply Fin.ext
  match a with
  | ⟨0, _⟩ => show 0 * 1 + 1 * (y 0).val = (y 0).val; omega
  | ⟨1, _⟩ => show 0 * 1 + 1 * (y 1).val = (y 1).val; omega

theorem block2 (d : Dev nD) (t : Fin cfg6.N) : (dat6 n W d).blockOf 2 t = (W d main_arg1 : Vec F S2048x2048 .i32) := by
  funext y
  show W d main_arg1 _ = W d main_arg1 y
  congr 1; funext a; apply Fin.ext
  match a with
  | ⟨0, _⟩ => show 0 * 2048 + 1 * (y 0).val = (y 0).val; omega
  | ⟨1, _⟩ => show 0 * 2048 + 1 * (y 1).val = (y 1).val; omega

theorem block3 (d : Dev nD) (t : Fin cfg6.N) : (dat6 n W d).blockOf 3 t = (W d main_arg2 : Vec F S2048x2048 .f32) := by
  funext y
  show W d main_arg2 _ = W d main_arg2 y
  congr 1; funext a; apply Fin.ext
  match a with
  | ⟨0, _⟩ => show 0 * 2048 + 1 * (y 0).val = (y 0).val; omega
  | ⟨1, _⟩ => show 0 * 2048 + 1 * (y 1).val = (y 1).val; omega

theorem block4 (d : Dev nD) (t : Fin cfg6.N) : (dat6 n W d).blockOf 4 t = (W d main_v25 : Vec F S1x2048 .f32) := by
  funext y
  show W d main_v25 _ = W d main_v25 y
  congr 1; funext a; apply Fin.ext
  match a with
  | ⟨0, _⟩ => show 0 * 1 + 1 * (y 0).val = (y 0).val; omega
  | ⟨1, _⟩ => show 0 * 2048 + 1 * (y 1).val = (y 1).val; omega

theorem before6_0 (d : Dev nD) (t : Fin cfg6.N) (x) : (dat6 n W d).before 0 t x = (W d main_v24 : Vec F S1x1 .i32) :=
  ((dat6 n W d).before_in_eq_fetched 0 rfl (fun _ => rfl) (fun _ _ _ => rfl) (fun t => (block0 n W d t).symm) t x).trans (block0 n W d t)

theorem before6_1 (d : Dev nD) (t : Fin cfg6.N) (x) : (dat6 n W d).before 1 t x = rows (W d main_arg0) ⟨t.val, lt_of_lt_of_eq t.isLt N_6⟩ :=
  ((dat6 n W d).before_in_eq_fetched 1 rfl (fun _ => rfl) (fun _ _ _ => rfl) (fun t => (block1 n W d t).symm) t x).trans (block1 n W d t)

theorem before6_2 (d : Dev nD) (t : Fin cfg6.N) (x) : (dat6 n W d).before 2 t x = (W d main_arg1 : Vec F S2048x2048 .i32) :=
  ((dat6 n W d).before_in_eq_fetched 2 rfl (fun _ => rfl) (fun _ _ _ => rfl) (fun t => (block2 n W d t).symm) t x).trans (block2 n W d t)

theorem before6_3 (d : Dev nD) (t : Fin cfg6.N) (x) : (dat6 n W d).before 3 t x = (W d main_arg2 : Vec F S2048x2048 .f32) :=
  ((dat6 n W d).before_in_eq_fetched 3 rfl (fun _ => rfl) (fun _ _ _ => rfl) (fun t => (block3 n W d t).symm) t x).trans (block3 n W d t)

theorem before6_4 (d : Dev nD) (t : Fin cfg6.N) (x) : (dat6 n W d).before 4 t x = (W d main_v25 : Vec F S1x2048 .f32) :=
  ((dat6 n W d).before_in_eq_fetched 4 rfl (fun _ => rfl) (fun _ _ _ => rfl) (fun t => (block4 n W d t).symm) t x).trans (block4 n W d t)

theorem body6 (d : Dev nD) : BodyObligation (dat6 n W d) (defs₀ (F := F)) 𝒱₀ (none : HIx 3) Set.univ := fun t => by
  rw [bigSep_W6, bigSep_W6]
  rw [show (dat6 n W d).Φ t.castSucc = between W d t.val from rfl, show (dat6 n W d).Φ t.succ = between W d (t.val + 1) from rfl,
    show (dat6 n W d).owesAt none t.succ = (dat6 n W d).owesAt none t.castSucc from rfl]
  unfold between
  change _ ⊢ wp frame (wpE (defs₀ (F := F)) Variants.none (d.tc : Thread nD τ) none) Set.univ (bodyAt6 (F := F) t) _
  unfold bodyAt6
  iintro ⟨⟨%g, %hg, Hs, Hr⟩, Howes, ⟨%d0, H0⟩, ⟨%d1, H1⟩, ⟨%d2, H2⟩, ⟨%d3, H3⟩, ⟨%d4, H4⟩, ⟨%d5, H5⟩⟩
  rw [before6_0, before6_1, before6_2, before6_3, before6_4]
  iapply (mm_run (F := F) d (grid6.coords t) (st6_0 t) _ (st6_1 t) _ (st6_2 t) _ (st6_3 t) _ (st6_4 t) _ (st6_5 t) _ (Memref.whole cc6_scratch0) _ _ _ _ _ _ _ _ _ (by rw [ofNat_toNat]; exact hg))
  isplitl [H0]; · iexact H0
  isplitl [H1]; · iexact H1
  isplitl [H2]; · iexact H2
  isplitl [H3]; · iexact H3
  isplitl [H4]; · iexact H4
  isplitl [H5]; · iexact H5
  isplitl [Hs]; · iexact Hs
  iintro ⟨H0, H1, H2, H3, H4, H5, Hs⟩
  isplitl [Hs Hr]
  · iexists (maskedAt W d)
    isplitr; · ipureintro; exact fun _ => rfl
    isplitl [Hs]; · iexact Hs
    iexact Hr
  isplitl [Howes]; · iexact Howes
  isplitl [H0]; · iexact H0
  isplitl [H1]; · iexact H1
  isplitl [H2]; · iexact H2
  isplitl [H3]; · iexact H3
  isplitl [H4]; · iexact H4
  iexact H5

theorem arr6 (d : Dev nD) : (dat6 n W d).arrAt 5 cfg6.N = product (F := F) (W d main_arg0) (maskedAt W d) (W d main_v25) := by
  refine (dat6 n W d).arrAt_eq_of_covers 5 _ (by decide +kernel) fun t _ y => ?_
  have hN : t.val < 16 := lt_of_lt_of_eq t.isLt N_6
  have hy : (y 0).val < 512 := (y 0).isLt
  have e0 : ((((cfg6.win 5).blk t).view.emb y) 0).val = t.val * 512 + (y 0).val := by
    show (BitVec.ofNat 32 ((grid6.coords t) 0).val).toNat * 512 + 1 * (y 0).val = t.val * 512 + (y 0).val
    rw [ofNat_toNat, BitVec.toNat_ofNat, Nat.mod_eq_of_lt (by omega)]; omega
  have e1 : ((((cfg6.win 5).blk t).view.emb y) 1).val = (y 1).val := by
    show 0 * 2048 + 1 * (y 1).val = (y 1).val; omega
  show k6_pay2 _ _ _ _ = k6_pay2 _ _ _ _
  congr 2
  · apply Fin.ext; show t.val = _ / 512
    rw [e0]; omega
  · funext a; apply Fin.ext
    match a with
    | ⟨0, _⟩ => show (y 0).val = _ % 512; rw [e0]; omega
    | ⟨1, _⟩ => show (y 1).val = _; exact e1.symm

theorem enter6 (d : Dev nD) : (scopedRest spec6 d : sProp 𝕄) ⊢ (dat6 n W d).Φ 0 := by
  rw [scopedRest6_eq, show (dat6 n W d).Φ 0 = between W d 0 from rfl]
  unfold between others
  simp only [owns_whole_eq]
  iintro ⟨H0, H1, H2, H3, H4, H5, ⟨%g, Hs⟩, H6, H7, H8⟩
  iexists g
  isplitr; · ipureintro; exact fun h => absurd rfl h
  isplitl [Hs]
  · iexists g; isplitr; · ipureintro; rfl
    iexact Hs
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

theorem leave6 (d : Dev nD) : (dat6 n W d).Φ (Fin.last cfg6.N) ⊢ (scopedRest spec6 d : sProp 𝕄) := by
  rw [scopedRest6_eq, show (dat6 n W d).Φ (Fin.last cfg6.N) = between W d cfg6.N from rfl]
  unfold between others
  simp only [owns_whole_eq]
  iintro ⟨%g, -, ⟨%f, -, Hs⟩, H0, H1, H2, H3, H4, H5, H6, H7, H8⟩
  isplitl [H0]; · iexact H0
  isplitl [H1]; · iexact H1
  isplitl [H2]; · iexact H2
  isplitl [H3]; · iexact H3
  isplitl [H4]; · iexact H4
  isplitl [H5]; · iexact H5
  isplitl [Hs]; · iexists f; iexact Hs
  isplitl [H6]; · iexact H6
  isplitl [H7]; · iexact H7
  iexact H8

end

end Cert.Whole

end
-- ==== Proof.Whole.Values.lean ====
/-
  WHAT THE ARRAYS OF @main HOLD between its steps: the words flattened, at each level a table, its pick and the bin and rank the pick names,
  the three bins joined to the threshold, and the product of the rows with the weights kept there.
-/
module

public import proofs.«01_k».proof.Proof.Whole.Level1
public import proofs.«01_k».proof.Proof.Whole.Level2
public import proofs.«01_k».proof.Proof.Whole.Level3
public import proofs.«01_k».proof.Proof.Whole.Deal
public import proofs.«01_k».proof.Proof.Whole.Pick
public import proofs.«01_k».proof.Proof.Whole.Mm

@[expose] public section

noncomputable section

namespace Cert.Whole

open Cert.KernelIdeal Cert.KernelIdeal.Gen
open Idealize.ShloMosaic
open Idealize.ShloMosaic.SparseCore (S V T)
open Idealize.ShloMosaic.TcCoe Idealize.ShloMosaic.Tactic

variable {F : FTy → Type} [FloatOps F]

/-! ## The values, from the words -/

section
variable (w : Vec F S2048x2048 .i32)

/-- The words flattened. -/
def flat : S4194304.Idx → Elt F .i32 := shapeCast S4194304 w shapeCasts_S2048x2048_S4194304
/-- The first level: its table, its pick, the bin and the rank left. -/
def tab1 : S32x32x128.Idx → Elt F .i32 := table (F := F) (flat w) Level1.msk Level1.bin
def pick1 : IVec S1x128 32 := pick (F := F) (tab1 w) (2097152#32 : BitVec 32)
def bin1 : BitVec 32 := pick1 w (ix2 0 0)
def rank1 : BitVec 32 := pick1 w (ix2 0 1)
/-- The second level. -/
def tab2 : S32x32x128.Idx → Elt F .i32 := table (F := F) (flat w) (Level2.msk (bin1 w)) Level2.bin
def pick2 : IVec S1x128 32 := pick (F := F) (tab2 w) (rank1 w)
def bin2 : BitVec 32 := pick2 w (ix2 0 0)
def rank2 : BitVec 32 := pick2 w (ix2 0 1)
/-- The first two bins joined. -/
def joined : S_.Idx → BitVec 32 := ori (Host.shli (fun _ => bin1 w) (constantI S_ 32 12#32)) (fun _ => bin2 w)
def pref3 : BitVec 32 := joined w (fun a => a.elim0)
/-- The third level. -/
def tab3 : S32x32x128.Idx → Elt F .i32 := table (F := F) (flat w) (Level3.msk (pref3 w)) Level3.bin
def pick3 : IVec S1x128 32 := pick (F := F) (tab3 w) (rank2 w)
def bin3 : BitVec 32 := pick3 w (ix2 0 0)
/-- The threshold: the three bins joined. -/
def thr0 : S_.Idx → BitVec 32 :=
  ori (ori (Host.shli (fun _ => bin1 w) (constantI S_ 32 20#32)) (Host.shli (fun _ => bin2 w) (constantI S_ 32 8#32))) (fun _ => bin3 w)
def thr : BitVec 32 := thr0 w (fun a => a.elim0)
/-- The result. -/
def outcome (x : Vec F S8192x2048 .f32) (fcw : Vec F S2048x2048 .f32) (fcb : Vec F S2048 .f32) : Vec F S8192x2048 .f32 :=
  product x (masked (F := F) w (thr w) fcw) (shapeCast S1x2048 fcb shapeCasts_S2048_S1x2048)

end

/-! ## The arrays, step by step -/

variable (m : (ℓ : Loc nD τ sig) → Buf (Elt F) ℓ)

abbrev words (d : Dev nD) : Vec F S2048x2048 .i32 := m ((SparseCore.T d).loc main_arg1)

abbrev opX : HloOp τ sig (Elt F) := StableHlo.reshape main_arg1 main_v0 (rfl : (.i32 : EltTy) = .i32) shapeCasts_S2048x2048_S4194304
abbrev opC : HloOp τ sig (Elt F) := StableHlo.nullary main_c (constantI S_ 32 2097152#32)
abbrev opB : HloOp τ sig (Elt F) :=
  StableHlo.unary main_c main_v1 (broadcastInDim S1x1 ![] bcast_S_S1x1 : (⟨S_, .i32⟩ : BufTy).Contents (Elt F) → (⟨S1x1, .i32⟩ : BufTy).Contents (Elt F))
abbrev op4 : HloOp τ sig (Elt F) :=
  StableHlo.unary main_v3 main_v4 ((extractStridedSlice S1x1 ![0, 0] · slices_S1x128_S1x1_0_0) : (⟨S1x128, .i32⟩ : BufTy).Contents (Elt F) → (⟨S1x1, .i32⟩ : BufTy).Contents (Elt F))
abbrev op5 : HloOp τ sig (Elt F) := StableHlo.reshape main_v4 main_v5 (rfl : (.i32 : EltTy) = .i32) shapeCasts_S1x1_S_
abbrev op6 : HloOp τ sig (Elt F) :=
  StableHlo.unary main_v5 main_v6 (broadcastInDim S16 ![] bcast_S_S16 : (⟨S_, .i32⟩ : BufTy).Contents (Elt F) → (⟨S16, .i32⟩ : BufTy).Contents (Elt F))
abbrev op8 : HloOp τ sig (Elt F) :=
  StableHlo.unary main_v3 main_v8 ((extractStridedSlice S1x1 ![0, 1] · slices_S1x128_S1x1_0_1) : (⟨S1x128, .i32⟩ : BufTy).Contents (Elt F) → (⟨S1x1, .i32⟩ : BufTy).Contents (Elt F))
abbrev op10 : HloOp τ sig (Elt F) :=
  StableHlo.unary main_v9 main_v10 ((extractStridedSlice S1x1 ![0, 0] · slices_S1x128_S1x1_0_0) : (⟨S1x128, .i32⟩ : BufTy).Contents (Elt F) → (⟨S1x1, .i32⟩ : BufTy).Contents (Elt F))
abbrev op11 : HloOp τ sig (Elt F) := StableHlo.reshape main_v10 main_v11 (rfl : (.i32 : EltTy) = .i32) shapeCasts_S1x1_S_
abbrev opC0 : HloOp τ sig (Elt F) := StableHlo.nullary main_c_0 (constantI S_ 32 12#32)
abbrev op12 : HloOp τ sig (Elt F) := StableHlo.binary main_v5 main_c_0 main_v12
  (Host.shli : (⟨S_, .i32⟩ : BufTy).Contents (Elt F) → (⟨S_, .i32⟩ : BufTy).Contents (Elt F) → (⟨S_, .i32⟩ : BufTy).Contents (Elt F))
abbrev op13 : HloOp τ sig (Elt F) := StableHlo.binary main_v12 main_v11 main_v13
  (ori : (⟨S_, .i32⟩ : BufTy).Contents (Elt F) → (⟨S_, .i32⟩ : BufTy).Contents (Elt F) → (⟨S_, .i32⟩ : BufTy).Contents (Elt F))
abbrev op14 : HloOp τ sig (Elt F) :=
  StableHlo.unary main_v13 main_v14 (broadcastInDim S16 ![] bcast_S_S16 : (⟨S_, .i32⟩ : BufTy).Contents (Elt F) → (⟨S16, .i32⟩ : BufTy).Contents (Elt F))
abbrev op16 : HloOp τ sig (Elt F) :=
  StableHlo.unary main_v9 main_v16 ((extractStridedSlice S1x1 ![0, 1] · slices_S1x128_S1x1_0_1) : (⟨S1x128, .i32⟩ : BufTy).Contents (Elt F) → (⟨S1x1, .i32⟩ : BufTy).Contents (Elt F))
abbrev op18 : HloOp τ sig (Elt F) :=
  StableHlo.unary main_v17 main_v18 ((extractStridedSlice S1x1 ![0, 0] · slices_S1x128_S1x1_0_0) : (⟨S1x128, .i32⟩ : BufTy).Contents (Elt F) → (⟨S1x1, .i32⟩ : BufTy).Contents (Elt F))
abbrev op19 : HloOp τ sig (Elt F) := StableHlo.reshape main_v18 main_v19 (rfl : (.i32 : EltTy) = .i32) shapeCasts_S1x1_S_
abbrev opC1 : HloOp τ sig (Elt F) := StableHlo.nullary main_c_1 (constantI S_ 32 20#32)
abbrev op20 : HloOp τ sig (Elt F) := StableHlo.binary main_v5 main_c_1 main_v20
  (Host.shli : (⟨S_, .i32⟩ : BufTy).Contents (Elt F) → (⟨S_, .i32⟩ : BufTy).Contents (Elt F) → (⟨S_, .i32⟩ : BufTy).Contents (Elt F))
abbrev opC2 : HloOp τ sig (Elt F) := StableHlo.nullary main_c_2 (constantI S_ 32 8#32)
abbrev op21 : HloOp τ sig (Elt F) := StableHlo.binary main_v11 main_c_2 main_v21
  (Host.shli : (⟨S_, .i32⟩ : BufTy).Contents (Elt F) → (⟨S_, .i32⟩ : BufTy).Contents (Elt F) → (⟨S_, .i32⟩ : BufTy).Contents (Elt F))
abbrev op22 : HloOp τ sig (Elt F) := StableHlo.binary main_v20 main_v21 main_v22
  (ori : (⟨S_, .i32⟩ : BufTy).Contents (Elt F) → (⟨S_, .i32⟩ : BufTy).Contents (Elt F) → (⟨S_, .i32⟩ : BufTy).Contents (Elt F))
abbrev op23 : HloOp τ sig (Elt F) := StableHlo.binary main_v22 main_v19 main_v23
  (ori : (⟨S_, .i32⟩ : BufTy).Contents (Elt F) → (⟨S_, .i32⟩ : BufTy).Contents (Elt F) → (⟨S_, .i32⟩ : BufTy).Contents (Elt F))
abbrev op24 : HloOp τ sig (Elt F) := StableHlo.reshape main_v23 main_v24 (rfl : (.i32 : EltTy) = .i32) shapeCasts_S_S1x1
abbrev op25 : HloOp τ sig (Elt F) := StableHlo.reshape main_arg3 main_v25 (rfl : (.f32 : EltTy) = .f32) shapeCasts_S2048_S1x2048

/-- As a device's buffer. -/
abbrev dr (b : Ref sig .tc) : DevRef τ sig := Proc.devRef .tc b

def W0 (d : Dev nD) : Valuation τ sig (Elt F) := fun b => m (d, b)
/-- Before the first call. -/
def W1 (d : Dev nD) : Valuation τ sig (Elt F) := (opB (F := F)).result ((opC (F := F)).result ((opX (F := F)).result (W0 m d)))
def W2 (d : Dev nD) : Valuation τ sig (Elt F) := Function.update (W1 m d) (dr main_v2) (tab1 (words m d))
/-- After the first pick. -/
def W3 (d : Dev nD) : Valuation τ sig (Elt F) := Function.update (W2 m d) (dr main_v3) (pick1 (words m d))
/-- Before the second call. -/
def W4 (d : Dev nD) : Valuation τ sig (Elt F) := (op6 (F := F)).result ((op5 (F := F)).result ((op4 (F := F)).result (W3 m d)))
def W5 (d : Dev nD) : Valuation τ sig (Elt F) := Function.update (W4 m d) (dr main_v7) (tab2 (words m d))
/-- Before the second pick. -/
def W6 (d : Dev nD) : Valuation τ sig (Elt F) := (op8 (F := F)).result (W5 m d)
def W7 (d : Dev nD) : Valuation τ sig (Elt F) := Function.update (W6 m d) (dr main_v9) (pick2 (words m d))
/-- Before the third call. -/
def W8 (d : Dev nD) : Valuation τ sig (Elt F) :=
  (op14 (F := F)).result ((op13 (F := F)).result ((op12 (F := F)).result ((opC0 (F := F)).result ((op11 (F := F)).result ((op10 (F := F)).result (W7 m d))))))
def W9 (d : Dev nD) : Valuation τ sig (Elt F) := Function.update (W8 m d) (dr main_v15) (tab3 (words m d))
/-- Before the third pick. -/
def W10 (d : Dev nD) : Valuation τ sig (Elt F) := (op16 (F := F)).result (W9 m d)
def W11 (d : Dev nD) : Valuation τ sig (Elt F) := Function.update (W10 m d) (dr main_v17) (pick3 (words m d))
/-- Before the product. -/
def W12 (d : Dev nD) : Valuation τ sig (Elt F) :=
  (op25 (F := F)).result ((op24 (F := F)).result ((op23 (F := F)).result ((op22 (F := F)).result ((op21 (F := F)).result ((opC2 (F := F)).result
    ((op20 (F := F)).result ((opC1 (F := F)).result ((op19 (F := F)).result ((op18 (F := F)).result (W11 m d))))))))))
/-- The result of the arguments at the launch. -/
abbrev outcomeOf (d : Dev nD) : Vec F S8192x2048 .f32 :=
  outcome (words m d) (m ((SparseCore.T d).loc main_arg0)) (m ((SparseCore.T d).loc main_arg2)) (m ((SparseCore.T d).loc main_arg3))
def W13 (d : Dev nD) : Valuation τ sig (Elt F) := Function.update (W12 m d) (dr main_v26) (outcomeOf m d)

/-! ## What a step does not write stays -/

section
variable (d : Dev nD) {b : Ref sig .tc}

theorem W1_of (h0 : b ≠ main_v0) (h1 : b ≠ main_c) (h2 : b ≠ main_v1) : W1 m d (dr b) = m ((SparseCore.T d).loc b) := by
  unfold W1
  rw [StableHlo.unary_result_ne _ _ _ _ _ _ h2, StableHlo.nullary_result_ne _ _ _ _ h1, StableHlo.reshape_result_ne _ _ _ _ _ _ _ h0]
  rfl

theorem upd_of (V : Valuation τ sig (Elt F)) (o : Ref sig .tc) (v : Buf (Elt F) ((SparseCore.T d).loc o)) (h : b ≠ o) :
    Function.update V (dr o) v (dr b) = V (dr b) := Function.update_of_ne (StableHlo.devRef_ne_of_ne h) _ _

theorem W4_of (h4 : b ≠ main_v4) (h5 : b ≠ main_v5) (h6 : b ≠ main_v6) : W4 m d (dr b) = W3 m d (dr b) := by
  unfold W4
  rw [StableHlo.unary_result_ne _ _ _ _ _ _ h6, StableHlo.reshape_result_ne _ _ _ _ _ _ _ h5, StableHlo.unary_result_ne _ _ _ _ _ _ h4]

theorem W3_of (h2 : b ≠ main_v2) (h3 : b ≠ main_v3) : W3 m d (dr b) = W1 m d (dr b) := by
  unfold W3 W2; rw [upd_of d _ main_v3 _ h3, upd_of d _ main_v2 _ h2]

theorem W6_of (h7 : b ≠ main_v7) (h8 : b ≠ main_v8) : W6 m d (dr b) = W4 m d (dr b) := by
  unfold W6 W5; rw [StableHlo.unary_result_ne _ _ _ _ _ _ h8, upd_of d _ main_v7 _ h7]

theorem W7_of (h9 : b ≠ main_v9) : W7 m d (dr b) = W6 m d (dr b) := by unfold W7; rw [upd_of d _ main_v9 _ h9]

theorem W8_of (h10 : b ≠ main_v10) (h11 : b ≠ main_v11) (hc : b ≠ main_c_0) (h12 : b ≠ main_v12) (h13 : b ≠ main_v13) (h14 : b ≠ main_v14) :
    W8 m d (dr b) = W7 m d (dr b) := by
  unfold W8
  rw [StableHlo.unary_result_ne _ _ _ _ _ _ h14, StableHlo.binary_result_ne _ _ _ _ _ _ _ _ h13, StableHlo.binary_result_ne _ _ _ _ _ _ _ _ h12,
    StableHlo.nullary_result_ne _ _ _ _ hc, StableHlo.reshape_result_ne _ _ _ _ _ _ _ h11, StableHlo.unary_result_ne _ _ _ _ _ _ h10]

theorem W10_of (h15 : b ≠ main_v15) (h16 : b ≠ main_v16) : W10 m d (dr b) = W8 m d (dr b) := by
  unfold W10 W9; rw [StableHlo.unary_result_ne _ _ _ _ _ _ h16, upd_of d _ main_v15 _ h15]

theorem W11_of (h17 : b ≠ main_v17) : W11 m d (dr b) = W10 m d (dr b) := by unfold W11; rw [upd_of d _ main_v17 _ h17]

end

/-! ## What the steps read -/

section
variable (d : Dev nD)

/-- A pick's first word, sliced out and made a scalar. -/
theorem corner (p : IVec S1x128 32) :
    (shapeCast S_ (extractStridedSlice S1x1 ![0, 0] p slices_S1x128_S1x1_0_0) shapeCasts_S1x1_S_ : S_.Idx → BitVec 32) = fun _ => p (ix2 0 0) := by
  funext i
  show extractStridedSlice S1x1 ![0, 0] p slices_S1x128_S1x1_0_0 (Shape.reshapeEquiv shapeCasts_S1x1_S_ i) = _
  rw [at0_eq (Shape.reshapeEquiv shapeCasts_S1x1_S_ i)]
  show p _ = p _
  refine congrArg p (funext fun a => ?_)
  match a with
  | 0 => rfl
  | 1 => rfl

theorem W1_x : W1 m d (dr main_v0) = flat (words m d) := by
  unfold W1
  rw [StableHlo.unary_result_ne _ _ _ _ _ _ (by decide), StableHlo.nullary_result_ne _ _ _ _ (by decide)]
  exact StableHlo.reshape_result main_arg1 main_v0 _ _ _ _ (W0 m d)
theorem W2_v1 : (W2 m d (dr main_v1) : Vec F S1x1 .i32) at0 = (2097152#32 : BitVec 32) := by
  unfold W2 W1; rw [upd_of d _ main_v2 _ (by decide)]
  refine (congrFun (StableHlo.unary_result main_c main_v1 _ _ _ _) at0).trans ?_
  rw [StableHlo.nullary_result]; rfl
theorem W2_v2 : W2 m d (dr main_v2) = tab1 (words m d) := Function.update_self _ _ _

theorem W4_x : W4 m d (dr main_v0) = flat (words m d) := by
  rw [W4_of m d (by decide) (by decide) (by decide), W3_of m d (by decide) (by decide), W1_x]
theorem W3_v3 : W3 m d (dr main_v3) = pick1 (words m d) := Function.update_self _ _ _
theorem W4_v5 : W4 m d (dr main_v5) = (fun _ => bin1 (words m d) : S_.Idx → BitVec 32) := by
  unfold W4
  rw [StableHlo.unary_result_ne _ _ _ _ _ _ (by decide)]
  refine (StableHlo.reshape_result main_v4 main_v5 _ _ _ _ _).trans ?_
  rw [StableHlo.unary_result, W3_v3]
  exact corner _
theorem W4_v6 : W4 m d (dr main_v6) = (fun _ => bin1 (words m d) : S16.Idx → BitVec 32) := by
  unfold W4
  refine (StableHlo.unary_result main_v5 main_v6 _ _ _ _).trans ?_
  rw [show (op5 (F := F)).result ((op4 (F := F)).result (W3 m d)) (dr main_v5) = W4 m d (dr main_v5) from
    (StableHlo.unary_result_ne main_v5 main_v6 _ _ _ _ (by decide)).symm, W4_v5]
  rfl

theorem W6_v7 : W6 m d (dr main_v7) = tab2 (words m d) := by
  unfold W6; rw [StableHlo.unary_result_ne _ _ _ _ _ _ (by decide)]; exact Function.update_self _ _ _
theorem W6_v8 : (W6 m d (dr main_v8) : Vec F S1x1 .i32) at0 = rank1 (words m d) := by
  unfold W6
  refine (congrFun (StableHlo.unary_result main_v3 main_v8 _ _ _ _) at0).trans ?_
  unfold W5
  rw [upd_of d _ main_v7 _ (by decide), W4_of m d (by decide) (by decide) (by decide), W3_v3]
  rfl

theorem W7_v9 : W7 m d (dr main_v9) = pick2 (words m d) := Function.update_self _ _ _
theorem W7_v5 : W7 m d (dr main_v5) = (fun _ => bin1 (words m d) : S_.Idx → BitVec 32) := by
  rw [W7_of m d (by decide), W6_of m d (by decide) (by decide), W4_v5]
theorem W8_x : W8 m d (dr main_v0) = flat (words m d) := by
  rw [W8_of m d (by decide) (by decide) (by decide) (by decide) (by decide) (by decide), W7_of m d (by decide), W6_of m d (by decide) (by decide), W4_x]
theorem W8_v11 : W8 m d (dr main_v11) = (fun _ => bin2 (words m d) : S_.Idx → BitVec 32) := by
  unfold W8
  rw [StableHlo.unary_result_ne _ _ _ _ _ _ (by decide), StableHlo.binary_result_ne _ _ _ _ _ _ _ _ (by decide),
    StableHlo.binary_result_ne _ _ _ _ _ _ _ _ (by decide), StableHlo.nullary_result_ne _ _ _ _ (by decide)]
  refine (StableHlo.reshape_result main_v10 main_v11 _ _ _ _ _).trans ?_
  rw [StableHlo.unary_result, W7_v9]
  exact corner _
theorem W8_v13 : W8 m d (dr main_v13) = joined (words m d) := by
  unfold W8
  rw [StableHlo.unary_result_ne _ _ _ _ _ _ (by decide)]
  refine (StableHlo.binary_result main_v12 main_v11 main_v13 _ _ _ _ _).trans ?_
  rw [StableHlo.binary_result, StableHlo.nullary_result,
    StableHlo.binary_result_ne (a := main_v5) _ _ _ _ _ _ _ (r := main_v11) (by decide), StableHlo.nullary_result_ne _ _ _ _ (r := main_v11) (by decide),
    StableHlo.reshape_result, StableHlo.unary_result, W7_v9,
    StableHlo.nullary_result_ne _ _ _ _ (r := main_v5) (by decide), StableHlo.reshape_result_ne _ _ _ _ _ _ _ (r := main_v5) (by decide),
    StableHlo.unary_result_ne _ _ _ _ _ _ (r := main_v5) (by decide), W7_v5]
  show ori (Host.shli _ _) (shapeCast S_ _ _) = joined (words m d)
  rw [corner]; rfl
theorem W8_v14 : W8 m d (dr main_v14) = (fun _ => pref3 (words m d) : S16.Idx → BitVec 32) := by
  unfold W8
  refine (StableHlo.unary_result main_v13 main_v14 _ _ _ _).trans ?_
  have h := W8_v13 m d
  unfold W8 at h
  rw [StableHlo.unary_result_ne _ _ _ _ _ _ (by decide)] at h
  rw [h]
  funext i
  exact congrArg (joined (words m d)) (funext fun a => a.elim0)

theorem W10_v15 : W10 m d (dr main_v15) = tab3 (words m d) := by
  unfold W10; rw [StableHlo.unary_result_ne _ _ _ _ _ _ (by decide)]; exact Function.update_self _ _ _
theorem W10_v16 : (W10 m d (dr main_v16) : Vec F S1x1 .i32) at0 = rank2 (words m d) := by
  unfold W10
  refine (congrFun (StableHlo.unary_result main_v9 main_v16 _ _ _ _) at0).trans ?_
  unfold W9
  rw [upd_of d _ main_v15 _ (by decide), W8_of m d (by decide) (by decide) (by decide) (by decide) (by decide) (by decide), W7_v9]
  rfl

theorem W11_v17 : W11 m d (dr main_v17) = pick3 (words m d) := Function.update_self _ _ _
theorem W11_v5 : W11 m d (dr main_v5) = (fun _ => bin1 (words m d) : S_.Idx → BitVec 32) := by
  rw [W11_of m d (by decide), W10_of m d (by decide) (by decide),
    W8_of m d (by decide) (by decide) (by decide) (by decide) (by decide) (by decide), W7_v5]
theorem W11_v11 : W11 m d (dr main_v11) = (fun _ => bin2 (words m d) : S_.Idx → BitVec 32) := by
  rw [W11_of m d (by decide), W10_of m d (by decide) (by decide), W8_v11]
/-- What no step writes is as at the launch before the product. -/
theorem W12_arg {b : Ref sig .tc} (h : b ∈ ([main_arg0, main_arg1, main_arg2, main_arg3] : List (Ref sig .tc))) :
    W12 m d (dr b) = m ((SparseCore.T d).loc b) := by
  have n (o : Ref sig .tc) (ho : o ∉ ([main_arg0, main_arg1, main_arg2, main_arg3] : List (Ref sig .tc))) : b ≠ o := fun e => ho (e ▸ h)
  unfold W12
  rw [StableHlo.reshape_result_ne _ _ _ _ _ _ _ (n _ (by decide)), StableHlo.reshape_result_ne _ _ _ _ _ _ _ (n _ (by decide)),
    StableHlo.binary_result_ne _ _ _ _ _ _ _ _ (n _ (by decide)), StableHlo.binary_result_ne _ _ _ _ _ _ _ _ (n _ (by decide)),
    StableHlo.binary_result_ne _ _ _ _ _ _ _ _ (n _ (by decide)), StableHlo.nullary_result_ne _ _ _ _ (n _ (by decide)),
    StableHlo.binary_result_ne _ _ _ _ _ _ _ _ (n _ (by decide)), StableHlo.nullary_result_ne _ _ _ _ (n _ (by decide)),
    StableHlo.reshape_result_ne _ _ _ _ _ _ _ (n _ (by decide)), StableHlo.unary_result_ne _ _ _ _ _ _ (n _ (by decide)),
    W11_of m d (n _ (by decide)), W10_of m d (n _ (by decide)) (n _ (by decide)),
    W8_of m d (n _ (by decide)) (n _ (by decide)) (n _ (by decide)) (n _ (by decide)) (n _ (by decide)) (n _ (by decide)),
    W7_of m d (n _ (by decide)), W6_of m d (n _ (by decide)) (n _ (by decide)), W4_of m d (n _ (by decide)) (n _ (by decide)) (n _ (by decide)),
    W3_of m d (n _ (by decide)) (n _ (by decide)), W1_of m d (n _ (by decide)) (n _ (by decide)) (n _ (by decide))]

theorem W12_v25 : W12 m d (dr main_v25) = (shapeCast S1x2048 (m ((SparseCore.T d).loc main_arg3) : Vec F S2048 .f32) shapeCasts_S2048_S1x2048 : Vec F S1x2048 .f32) := by
  have h := W12_arg m d (b := main_arg3) (by decide)
  unfold W12 at h ⊢
  rw [StableHlo.reshape_result_ne _ _ _ _ _ _ _ (by decide)] at h
  refine (StableHlo.reshape_result main_arg3 main_v25 _ _ _ _ _).trans ?_
  rw [h]
  rfl

theorem W12_v24 : (W12 m d (dr main_v24) : Vec F S1x1 .i32) at0 = thr (words m d) := by
  unfold W12
  rw [StableHlo.reshape_result_ne _ _ _ _ _ _ _ (by decide)]
  refine (congrFun (StableHlo.reshape_result main_v23 main_v24 _ _ _ _ _) at0).trans ?_
  rw [StableHlo.binary_result, StableHlo.binary_result,
    -- the third bin
    StableHlo.binary_result_ne (a := main_v20) _ _ _ _ _ _ _ (r := main_v19) (by decide), StableHlo.binary_result_ne (a := main_v11) _ _ _ _ _ _ _ (r := main_v19) (by decide),
    StableHlo.nullary_result_ne _ _ _ _ (r := main_v19) (by decide), StableHlo.binary_result_ne (a := main_v5) _ _ _ _ _ _ _ (r := main_v19) (by decide),
    StableHlo.nullary_result_ne _ _ _ _ (r := main_v19) (by decide), StableHlo.reshape_result, StableHlo.unary_result, W11_v17,
    -- the second
    StableHlo.binary_result (a := main_v11), StableHlo.nullary_result (y := main_c_2),
    StableHlo.nullary_result_ne _ _ _ _ (r := main_v11) (by decide), StableHlo.binary_result_ne (a := main_v5) _ _ _ _ _ _ _ (r := main_v11) (by decide),
    StableHlo.nullary_result_ne _ _ _ _ (r := main_v11) (by decide), StableHlo.reshape_result_ne _ _ _ _ _ _ _ (r := main_v11) (by decide),
    StableHlo.unary_result_ne _ _ _ _ _ _ (r := main_v11) (by decide), W11_v11,
    -- the first
    StableHlo.binary_result_ne (a := main_v11) _ _ _ _ _ _ _ (r := main_v20) (by decide), StableHlo.nullary_result_ne _ _ _ _ (r := main_v20) (by decide),
    StableHlo.binary_result (a := main_v5), StableHlo.nullary_result (y := main_c_1),
    StableHlo.nullary_result_ne _ _ _ _ (r := main_v5) (by decide), StableHlo.reshape_result_ne _ _ _ _ _ _ _ (r := main_v5) (by decide),
    StableHlo.unary_result_ne _ _ _ _ _ _ (r := main_v5) (by decide), W11_v5]
  show (ori (ori (Host.shli _ _) (Host.shli _ _)) (shapeCast S_ _ _) : S_.Idx → BitVec 32) _ = thr0 (words m d) _
  rw [corner]
  exact congrArg (thr0 (words m d)) (funext fun a => a.elim0)

end

end Cert.Whole

end
-- ==== Proof.Whole.Tiles.lean ====
/-
  THE THREE CALLS of the whole program as the launch takes them: what each tile is given and hands back, its obligation, and the deal of the
  flattened words, the prefix and the result over the thirty-two tiles.
-/
module

public import proofs.«01_k».proof.Proof.Whole.Values
public import proofs.«01_k».proof.Proof.Whole.Region
public import Idealize.ShloMosaic.Lib.SparseCore.Quiescent
public import Idealize.ShloMosaic.Lib.StableHlo.Run
public import Idealize.ShloMosaic.Lib.Pipeline.Kit

@[expose] public section

noncomputable section

namespace Cert.Whole

open Cert.KernelIdeal Cert.KernelIdeal.Gen
open Idealize.ShloMosaic
open Idealize.ShloMosaic.SparseCore (S V T)
open Idealize.ShloMosaic.SparseCore.Cfg (HIx Pay ownBufs ownSems0)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 3) (Elt F) ℕ UU ℕ

variable (m : (ℓ : Loc nD τ sig) → Buf (Elt F) ℓ)

abbrev xLoc (d : Dev nD) : Loc nD τ sig := (SparseCore.T d).loc main_v0
abbrev p2Loc (d : Dev nD) : Loc nD τ sig := (SparseCore.T d).loc main_v6
abbrev p3Loc (d : Dev nD) : Loc nD τ sig := (SparseCore.T d).loc main_v14
abbrev o1Loc (d : Dev nD) : Loc nD τ sig := (SparseCore.T d).loc main_v2
abbrev o2Loc (d : Dev nD) : Loc nD τ sig := (SparseCore.T d).loc main_v7
abbrev o3Loc (d : Dev nD) : Loc nD τ sig := (SparseCore.T d).loc main_v15

local notation "xV" => (Memref.whole Cert.KernelIdeal.main_v0_scv : Memref Cert.KernelIdeal.sig Kind.scVector Space.hbm Cert.KernelIdeal.S4194304 EltTy.i32)
local notation "p2V" => (Memref.whole Cert.KernelIdeal.main_v6_scv : Memref Cert.KernelIdeal.sig Kind.scVector Space.hbm Cert.KernelIdeal.S16 EltTy.i32)
local notation "p3V" => (Memref.whole Cert.KernelIdeal.main_v14_scv : Memref Cert.KernelIdeal.sig Kind.scVector Space.hbm Cert.KernelIdeal.S16 EltTy.i32)
local notation "o1V" => (Memref.whole Cert.KernelIdeal.main_v2_scv : Memref Cert.KernelIdeal.sig Kind.scVector Space.hbm Cert.KernelIdeal.S32x32x128 EltTy.i32)
local notation "o2V" => (Memref.whole Cert.KernelIdeal.main_v7_scv : Memref Cert.KernelIdeal.sig Kind.scVector Space.hbm Cert.KernelIdeal.S32x32x128 EltTy.i32)
local notation "o3V" => (Memref.whole Cert.KernelIdeal.main_v15_scv : Memref Cert.KernelIdeal.sig Kind.scVector Space.hbm Cert.KernelIdeal.S32x32x128 EltTy.i32)

/-! ## What the calls take and give -/

abbrev go1 (d : Dev nD) (c : Fin 2) (s : Fin 16) : sProp 𝕄 := given0 (nc := 3) d c s xV o1V (flat (words m d)) (tileNo c s)
abbrev td1 (d : Dev nD) (c : Fin 2) (s : Fin 16) : sProp 𝕄 := taken0 (nc := 3) d c s xV o1V (flat (words m d)) (tab1 (words m d)) (tileNo c s)
abbrev go2 (d : Dev nD) (c : Fin 2) (s : Fin 16) : sProp 𝕄 := given (nc := 3) d c s xV p2V o2V (flat (words m d)) (fun _ => bin1 (words m d)) (tileNo c s)
abbrev td2 (d : Dev nD) (c : Fin 2) (s : Fin 16) : sProp 𝕄 := taken (nc := 3) d c s xV p2V o2V (flat (words m d)) (fun _ => bin1 (words m d)) (tab2 (words m d)) (tileNo c s)
abbrev go3 (d : Dev nD) (c : Fin 2) (s : Fin 16) : sProp 𝕄 := given (nc := 3) d c s xV p3V o3V (flat (words m d)) (fun _ => pref3 (words m d)) (tileNo c s)
abbrev td3 (d : Dev nD) (c : Fin 2) (s : Fin 16) : sProp 𝕄 := taken (nc := 3) d c s xV p3V o3V (flat (words m d)) (fun _ => pref3 (words m d)) (tab3 (words m d)) (tileNo c s)

def P : (K (F := F)).Pay (nD := nD) (Val := Elt F) (Name := ℕ) (U := UU) where
  st := fun q d c => match q with
    | 0 => bigSep Finset.univ fun s : Fin 16 => go1 m d c s
    | 1 => bigSep Finset.univ fun s : Fin 16 => go2 m d c s
    | 2 => bigSep Finset.univ fun s : Fin 16 => go3 m d c s
  dn := fun q d c => match q with
    | 0 => bigSep Finset.univ fun s : Fin 16 => td1 m d c s
    | 1 => bigSep Finset.univ fun s : Fin 16 => td2 m d c s
    | 2 => bigSep Finset.univ fun s : Fin 16 => td3 m d c s
  go := fun q d c s => match q with
    | 0 => go1 m d c s
    | 1 => go2 m d c s
    | 2 => go3 m d c s
  td := fun q d c s => match q with
    | 0 => td1 m d c s
    | 1 => td2 m d c s
    | 2 => td3 m d c s
  x := fun _ _ => iprop(emp)

section
variable (d : Dev nD) (cc : Fin τ.nSC) (ss : Fin τ.nSub) (h2 : Memref sig .scVector .hbm S4194304 .i32) (h3 : Memref sig .scVector .hbm S16 .i32)
  (h4 : Memref sig .scVector .hbm S32x32x128 .i32) (f2 : Buf (Elt F) (h2.view.loc (V d cc ss))) (f3 : Buf (Elt F) (h3.view.loc (V d cc ss)))
  (g : Buf (Elt F) (h4.view.loc (V d cc ss))) (w : Fin 32)

instance given_storable : BI.Storable (upEmb : UEmb _ 𝕄) (given (nc := 3) d cc ss h2 h3 h4 f2 f3 w) := by unfold given; infer_instance
instance taken_storable : BI.Storable (upEmb : UEmb _ 𝕄) (taken (nc := 3) d cc ss h2 h3 h4 f2 f3 g w) := by unfold taken; infer_instance
instance given0_storable : BI.Storable (upEmb : UEmb _ 𝕄) (given0 (nc := 3) d cc ss h2 h4 f2 w) := by unfold given0; infer_instance
instance taken0_storable : BI.Storable (upEmb : UEmb _ 𝕄) (taken0 (nc := 3) d cc ss h2 h4 f2 g w) := by unfold taken0; infer_instance

end

instance P_storable : (P (F := F) m).IsStorable where
  st q d c := match q with
    | 0 => (inferInstance : BI.Storable (upEmb : UEmb _ 𝕄) (bigSep Finset.univ fun s : Fin 16 => go1 m d c s))
    | 1 => (inferInstance : BI.Storable (upEmb : UEmb _ 𝕄) (bigSep Finset.univ fun s : Fin 16 => go2 m d c s))
    | 2 => (inferInstance : BI.Storable (upEmb : UEmb _ 𝕄) (bigSep Finset.univ fun s : Fin 16 => go3 m d c s))
  dn q d c := match q with
    | 0 => (inferInstance : BI.Storable (upEmb : UEmb _ 𝕄) (bigSep Finset.univ fun s : Fin 16 => td1 m d c s))
    | 1 => (inferInstance : BI.Storable (upEmb : UEmb _ 𝕄) (bigSep Finset.univ fun s : Fin 16 => td2 m d c s))
    | 2 => (inferInstance : BI.Storable (upEmb : UEmb _ 𝕄) (bigSep Finset.univ fun s : Fin 16 => td3 m d c s))
  go q d c s := match q with
    | 0 => (inferInstance : BI.Storable (upEmb : UEmb _ 𝕄) (go1 m d c s))
    | 1 => (inferInstance : BI.Storable (upEmb : UEmb _ 𝕄) (go2 m d c s))
    | 2 => (inferInstance : BI.Storable (upEmb : UEmb _ 𝕄) (go3 m d c s))
  td q d c s := match q with
    | 0 => (inferInstance : BI.Storable (upEmb : UEmb _ 𝕄) (td1 m d c s))
    | 1 => (inferInstance : BI.Storable (upEmb : UEmb _ 𝕄) (td2 m d c s))
    | 2 => (inferInstance : BI.Storable (upEmb : UEmb _ 𝕄) (td3 m d c s))

theorem split_self (Φ Ψ : sProp 𝕄) : Φ ⊢ |={Set.univ}=> iprop(Φ ∗ (Ψ -∗ Ψ)) := by
  iintro H; imodintro
  isplitl [H]; · iexact H
  iintro H; iexact H

theorem vecSplit1 : (K (F := F)).VecSplit' (P m) 0 := by
  intro d c
  show (P m).st 0 d c ⊢ |={Set.univ}=> iprop((P m).st 0 d c ∗ ((P m).dn 0 d c -∗ (P m).dn 0 d c))
  exact split_self _ _

theorem vecSplit2 : (K (F := F)).VecSplit' (P m) 1 := by
  intro d c
  show (P m).st 1 d c ⊢ |={Set.univ}=> iprop((P m).st 1 d c ∗ ((P m).dn 1 d c -∗ (P m).dn 1 d c))
  exact split_self _ _

set_option maxHeartbeats 2000000 in
theorem vecSplit3 : (K (F := F)).VecSplit' (P m) 2 := by
  intro d c
  show (P m).st 2 d c ⊢ |={Set.univ}=> iprop((P m).st 2 d c ∗ ((P m).dn 2 d c -∗ (P m).dn 2 d c))
  exact split_self _ _

/-! ## The tiles' obligations -/

section
variable (d : Dev nD) (cc : Fin τ.nSC) (ss : Fin τ.nSub) (O : CellTallies nD τ sig (HIx 3)) (W : Waits sig (HIx 3)) (hO : ∀ g, O g none = 0) (q : Fin 3)

include hO

/-- A proof about a tile's own scratch is one about all its scoped scratch. -/
theorem tile_of {Λ : Labels} {defs : Defs nD τ sig (Elt F) Λ} {prog : Prog (TpuEff nD τ sig (Elt F) Λ (.scVector cc ss)) PUnit} {G T : sProp 𝕄}
    (h : iprop(Transfers.MayWaits (V d cc ss) (none : HIx 3) O ∗ G ∗ ownBufs (V d cc ss) ∗ ownSems0 (V d cc ss) ∗ owes (V d cc ss) O W)
      ⊢ wp frame (wpE defs Variants.none (V d cc ss) none) Set.univ prog
          fun _ => iprop(T ∗ ownBufs (V d cc ss) ∗ ownSems0 (V d cc ss) ∗ ∃ W', ⌜∀ p ∈ W', p ∈ W ∨ p.2 = none⌝ ∗ owes (V d cc ss) O W')) :
    iprop(levAts (K (F := F)).L (K (F := F)).lev ∗ emp ∗ G ∗ scopedBufs (V d cc ss) ∗ scopedSems0 (V d cc ss) ∗ owes (V d cc ss) O W)
      ⊢ wp frame (wpE defs Variants.none (V d cc ss) none) Set.univ prog
          fun _ => iprop(T ∗ scopedBufs (V d cc ss) ∗ scopedSems0 (V d cc ss) ∗ ∃ W', ⌜∀ p ∈ W', p ∈ W ∨ p.2 = none ∨ p.2 = some q⌝ ∗ owes (V d cc ss) O W') := by
  rw [(K (F := F)).scopedBufs_V facts d cc ss, SparseCore.Cfg.scopedSems0_V (Val := Elt F) d cc ss]
  iintro ⟨#Hlv, -, HG, HB, HS, HO⟩
  ihave Hmw := (show levAts (K (F := F)).L (K (F := F)).lev ⊢ Transfers.MayWaits (V d cc ss) (default : HIx 3) O from
    (K (F := F)).mayWaits_none (thr := V d cc ss) hO) $$ Hlv
  ihave Hw := h $$ [Hmw HG HB HS HO]
  · isplitr; · iexact Hmw
    isplitl [HG]; · iexact HG
    isplitl [HB]; · iexact HB
    isplitl [HS]; · iexact HS
    iexact HO
  ihave Hw2 := wp_wand $$ Hw
  iapply Hw2
  iintro %a ⟨HT, HB, HS, %W', %hW', HO⟩
  isplitl [HT]; · iexact HT
  isplitl [HB]; · iexact HB
  isplitl [HS]; · iexact HS
  iexists W'; isplitr
  · ipureintro; exact fun p hp => (hW' p hp).imp_right Or.inl
  · iexact HO

end

/-- A tile's number from its coordinates. -/
theorem tile_off {cv sv kv : ℕ} {o : ℕ} (h : o = 262144 * sv + 131072 * cv + 16384 * kv) : o = 131072 * (2 * sv + cv) + 16384 * kv := by omega

def coords0 (c : Fin (grid0.bound 0)) (s : Fin (grid0.bound 1)) : grid0.Coords :=
  fun | 0 => c | 1 => s | ⟨_ + 2, h⟩ => absurd h (Nat.not_lt.2 (Nat.le_add_left _ _))
def coords2 (c : Fin (grid2.bound 0)) (s : Fin (grid2.bound 1)) : grid2.Coords :=
  fun | 0 => c | 1 => s | ⟨_ + 2, h⟩ => absurd h (Nat.not_lt.2 (Nat.le_add_left _ _))
def coords4 (c : Fin (grid4.bound 0)) (s : Fin (grid4.bound 1)) : grid4.Coords :=
  fun | 0 => c | 1 => s | ⟨_ + 2, h⟩ => absurd h (Nat.not_lt.2 (Nat.le_add_left _ _))

/-- The three calls on a tile. -/
abbrev call1 (c : Fin (grid0.bound 0)) (s : Fin (grid0.bound 1)) :=
  cc0_hist_kernel (F := F) (coords0 c s) xV (Memref.isWhole_whole _) o1V (Memref.isWhole_whole _)
    (Memref.whole cc0_scratch0) (Memref.isWhole_whole _) (Memref.whole cc0_scratch1) (Memref.isWhole_whole _)
    (Memref.whole cc0_scratch2) (Memref.isWhole_whole _) cc0_scoped0 cc0_scoped1
abbrev call2 (c : Fin (grid2.bound 0)) (s : Fin (grid2.bound 1)) :=
  cc2_hist_kernel (F := F) (coords2 c s) xV (Memref.isWhole_whole _) p2V (Memref.isWhole_whole _) o2V (Memref.isWhole_whole _)
    (Memref.whole cc2_scratch0) (Memref.isWhole_whole _) (Memref.whole cc2_scratch1) (Memref.isWhole_whole _)
    (Memref.whole cc2_scratch2) (Memref.isWhole_whole _) (Memref.whole cc2_scratch3) (Memref.isWhole_whole _) cc2_scoped0 cc2_scoped1 cc2_scoped2
abbrev call3 (c : Fin (grid4.bound 0)) (s : Fin (grid4.bound 1)) :=
  cc4_hist_kernel (F := F) (coords4 c s) xV (Memref.isWhole_whole _) p3V (Memref.isWhole_whole _) o3V (Memref.isWhole_whole _)
    (Memref.whole cc4_scratch0) (Memref.isWhole_whole _) (Memref.whole cc4_scratch1) (Memref.isWhole_whole _)
    (Memref.whole cc4_scratch2) (Memref.isWhole_whole _) (Memref.whole cc4_scratch3) (Memref.isWhole_whole _) cc4_scoped0 cc4_scoped1 cc4_scoped2

theorem defs₀_call1 (c : Fin τ.nSC) (s : Fin τ.nSub) : defs₀ (F := F) (.scVector c s) 0 () = SparseCore.onTile hcore0 hsub0 call1 ⟨⟩ c s := rfl
theorem defs₀_call2 (c : Fin τ.nSC) (s : Fin τ.nSub) : defs₀ (F := F) (.scVector c s) 2 () = SparseCore.onTile hcore2 hsub2 call2 ⟨⟩ c s := rfl
theorem defs₀_call3 (c : Fin τ.nSC) (s : Fin τ.nSub) : defs₀ (F := F) (.scVector c s) 4 () = SparseCore.onTile hcore4 hsub4 call3 ⟨⟩ c s := rfl

theorem mine1 (cc : Fin τ.nSC) (ss : Fin τ.nSub) : Mine0 cc ss (Memref.whole cc0_scratch0 : Memref sig .scVector .vmem S16384 .i32)
    (Memref.whole cc0_scratch1 : Memref sig .scVector .vmem S16x4096 .i32) (Memref.whole cc0_scratch2 : Memref sig .scVector .vmem S32x128 .i32)
    cc0_scoped0 cc0_scoped1 where
  o5 := rfl
  o6 := rfl
  o7 := rfl
  refs := show [cc0_scratch0, cc0_scratch1, cc0_scratch2].Nodup by decide
  o1 := by decide
  o2 := by decide
  sems := by decide

theorem mine2 (cc : Fin τ.nSC) (ss : Fin τ.nSub) : Mine cc ss (Memref.whole cc2_scratch0 : Memref sig .scVector .vmem S16384 .i32)
    (Memref.whole cc2_scratch1 : Memref sig .scVector .vmem S16x4096 .i32) (Memref.whole cc2_scratch2 : Memref sig .scVector .vmem S32x128 .i32)
    (Memref.whole cc2_scratch3 : Memref sig .scVector .vmem S16 .i32) cc2_scoped0 cc2_scoped1 cc2_scoped2 where
  o5 := rfl
  o6 := rfl
  o7 := rfl
  o8 := rfl
  refs := show [cc2_scratch0, cc2_scratch1, cc2_scratch2, cc2_scratch3].Nodup by decide
  o0 := by decide
  o1 := by decide
  o2 := by decide
  sems := by decide

theorem mine3 (cc : Fin τ.nSC) (ss : Fin τ.nSub) : Mine cc ss (Memref.whole cc4_scratch0 : Memref sig .scVector .vmem S16384 .i32)
    (Memref.whole cc4_scratch1 : Memref sig .scVector .vmem S16x4096 .i32) (Memref.whole cc4_scratch2 : Memref sig .scVector .vmem S32x128 .i32)
    (Memref.whole cc4_scratch3 : Memref sig .scVector .vmem S16 .i32) cc4_scoped0 cc4_scoped1 cc4_scoped2 where
  o5 := rfl
  o6 := rfl
  o7 := rfl
  o8 := rfl
  refs := show [cc4_scratch0, cc4_scratch1, cc4_scratch2, cc4_scratch3].Nodup by decide
  o0 := by decide
  o1 := by decide
  o2 := by decide
  sems := by decide

section
variable (d : Dev nD) (O : CellTallies nD τ sig (HIx 3)) (W : Waits sig (HIx 3))

theorem tileBody1 (c : Fin (grid0.bound 0)) (s : Fin (grid0.bound 1)) :
    iprop(Transfers.MayWaits (V d (c.castLE hcore0) (s.castLE hsub0)) (none : HIx 3) O ∗ go1 m d (c.castLE hcore0) (s.castLE hsub0)
        ∗ ownBufs (V d (c.castLE hcore0) (s.castLE hsub0)) ∗ ownSems0 (V d (c.castLE hcore0) (s.castLE hsub0)) ∗ owes (V d (c.castLE hcore0) (s.castLE hsub0)) O W)
      ⊢ wp frame (wpE (defs₀ (F := F)) Variants.none (V d (c.castLE hcore0) (s.castLE hsub0)) none) Set.univ (call1 c s)
          fun _ => iprop(td1 m d (c.castLE hcore0) (s.castLE hsub0) ∗ ownBufs (V d (c.castLE hcore0) (s.castLE hsub0)) ∗ ownSems0 (V d (c.castLE hcore0) (s.castLE hsub0))
            ∗ ∃ W', ⌜∀ p ∈ W', p ∈ W ∨ p.2 = none⌝ ∗ owes (V d (c.castLE hcore0) (s.castLE hsub0)) O W') := by
  unfold call1
  rw [Level1.kernel_eq]
  exact call0_wp (F := F) (nc := 3) d (c.castLE hcore0) (s.castLE hsub0) O W (tileNo c s) Level1.level xV o1V _ (Memref.isWhole_whole _) _ (Memref.isWhole_whole _)
    _ (Memref.isWhole_whole _) cc0_scoped0 cc0_scoped1 (mine1 (c.castLE hcore0) (s.castLE hsub0)) (k0_off17 (coords0 c s)) (k0_off17_inb (coords0 c s))
    (fun k => tile_off (congrFun (k0_off17_eq (coords0 c s) k) 0)) (k0_off43 (coords0 c s)) (k0_off43_inb (coords0 c s)) (k0_off43_eq (coords0 c s))
    (flat (words m d)) (tab1 (words m d)) rfl

theorem tileBody2 (c : Fin (grid2.bound 0)) (s : Fin (grid2.bound 1)) :
    iprop(Transfers.MayWaits (V d (c.castLE hcore2) (s.castLE hsub2)) (none : HIx 3) O ∗ go2 m d (c.castLE hcore2) (s.castLE hsub2)
        ∗ ownBufs (V d (c.castLE hcore2) (s.castLE hsub2)) ∗ ownSems0 (V d (c.castLE hcore2) (s.castLE hsub2)) ∗ owes (V d (c.castLE hcore2) (s.castLE hsub2)) O W)
      ⊢ wp frame (wpE (defs₀ (F := F)) Variants.none (V d (c.castLE hcore2) (s.castLE hsub2)) none) Set.univ (call2 c s)
          fun _ => iprop(td2 m d (c.castLE hcore2) (s.castLE hsub2) ∗ ownBufs (V d (c.castLE hcore2) (s.castLE hsub2)) ∗ ownSems0 (V d (c.castLE hcore2) (s.castLE hsub2))
            ∗ ∃ W', ⌜∀ p ∈ W', p ∈ W ∨ p.2 = none⌝ ∗ owes (V d (c.castLE hcore2) (s.castLE hsub2)) O W') := by
  unfold call2
  rw [Level2.kernel_eq]
  exact call_wp (F := F) (nc := 3) d (c.castLE hcore2) (s.castLE hsub2) O W (tileNo c s) (bin1 (words m d)) (Level2.level (bin1 (words m d))) xV p2V (Memref.isWhole_whole _) o2V
    _ (Memref.isWhole_whole _) _ (Memref.isWhole_whole _) _ (Memref.isWhole_whole _) _ (Memref.isWhole_whole _)
    cc2_scoped0 cc2_scoped1 cc2_scoped2 (mine2 (c.castLE hcore2) (s.castLE hsub2)) (k2_off17 (coords2 c s)) (k2_off17_inb (coords2 c s))
    (fun k => tile_off (congrFun (k2_off17_eq (coords2 c s) k) 0)) (k2_off43 (coords2 c s)) (k2_off43_inb (coords2 c s)) (k2_off43_eq (coords2 c s))
    (flat (words m d)) (fun _ => bin1 (words m d)) (tab2 (words m d)) rfl rfl

theorem tileBody3 (c : Fin (grid4.bound 0)) (s : Fin (grid4.bound 1)) :
    iprop(Transfers.MayWaits (V d (c.castLE hcore4) (s.castLE hsub4)) (none : HIx 3) O ∗ go3 m d (c.castLE hcore4) (s.castLE hsub4)
        ∗ ownBufs (V d (c.castLE hcore4) (s.castLE hsub4)) ∗ ownSems0 (V d (c.castLE hcore4) (s.castLE hsub4)) ∗ owes (V d (c.castLE hcore4) (s.castLE hsub4)) O W)
      ⊢ wp frame (wpE (defs₀ (F := F)) Variants.none (V d (c.castLE hcore4) (s.castLE hsub4)) none) Set.univ (call3 c s)
          fun _ => iprop(td3 m d (c.castLE hcore4) (s.castLE hsub4) ∗ ownBufs (V d (c.castLE hcore4) (s.castLE hsub4)) ∗ ownSems0 (V d (c.castLE hcore4) (s.castLE hsub4))
            ∗ ∃ W', ⌜∀ p ∈ W', p ∈ W ∨ p.2 = none⌝ ∗ owes (V d (c.castLE hcore4) (s.castLE hsub4)) O W') := by
  unfold call3
  rw [Level3.kernel_eq]
  exact call_wp (F := F) (nc := 3) d (c.castLE hcore4) (s.castLE hsub4) O W (tileNo c s) (pref3 (words m d)) (Level3.level (pref3 (words m d))) xV p3V (Memref.isWhole_whole _) o3V
    _ (Memref.isWhole_whole _) _ (Memref.isWhole_whole _) _ (Memref.isWhole_whole _) _ (Memref.isWhole_whole _)
    cc4_scoped0 cc4_scoped1 cc4_scoped2 (mine3 (c.castLE hcore4) (s.castLE hsub4)) (k4_off17 (coords4 c s)) (k4_off17_inb (coords4 c s))
    (fun k => tile_off (congrFun (k4_off17_eq (coords4 c s) k) 0)) (k4_off43 (coords4 c s)) (k4_off43_inb (coords4 c s)) (k4_off43_eq (coords4 c s))
    (flat (words m d)) (fun _ => pref3 (words m d)) (tab3 (words m d)) rfl rfl

end

set_option maxRecDepth 16384 in
theorem tileObl1 : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_call1]; simp only [SparseCore.onTile, hci, and_self, ↓reduceDIte]
  exact tile_of d _ _ O W hO 0 (tileBody1 m d O W ⟨_, hci.1⟩ ⟨_, hci.2⟩)

set_option maxRecDepth 16384 in
theorem tileObl2 : (K (F := F)).TileObl (D (F := F)) 𝒱 (P m) v₀ 1 := by
  intro d c i O W hO _ _
  simp only [show (P m).ox = fun _ _ => 0 from rfl, add_zero]
  have hci : ((K (F := F)).core 1 c).val < grid2.bound 0 ∧ ((K (F := F)).sub 1 i).val < grid2.bound 1 := ⟨c.isLt, i.isLt⟩
  change _ ⊢ wp _ _ _ (Pipeline.liftProg (defs₀ (F := F) (.scVector ((K (F := F)).core 1 c) ((K (F := F)).sub 1 i)) 2 ())) _
  refine BI.Entails.trans ?_ (Pipeline.wp_liftProg (D (F := F)) (Pipeline.defs_kernel pcfgs defs₀) 𝒱₀ _ Set.univ none _ _)
  rw [defs₀_call2]; simp only [SparseCore.onTile, hci, and_self, ↓reduceDIte]
  exact tile_of d _ _ O W hO 1 (tileBody2 m d O W ⟨_, hci.1⟩ ⟨_, hci.2⟩)

set_option maxRecDepth 16384 in
theorem tileObl3 : (K (F := F)).TileObl (D (F := F)) 𝒱 (P m) v₀ 2 := by
  intro d c i O W hO _ _
  simp only [show (P m).ox = fun _ _ => 0 from rfl, add_zero]
  have hci : ((K (F := F)).core 2 c).val < grid4.bound 0 ∧ ((K (F := F)).sub 2 i).val < grid4.bound 1 := ⟨c.isLt, i.isLt⟩
  change _ ⊢ wp _ _ _ (Pipeline.liftProg (defs₀ (F := F) (.scVector ((K (F := F)).core 2 c) ((K (F := F)).sub 2 i)) 4 ())) _
  refine BI.Entails.trans ?_ (Pipeline.wp_liftProg (D (F := F)) (Pipeline.defs_kernel pcfgs defs₀) 𝒱₀ _ Set.univ none _ _)
  rw [defs₀_call3]; simp only [SparseCore.onTile, hci, and_self, ↓reduceDIte]
  exact tile_of d _ _ O W hO 2 (tileBody3 m d O W ⟨_, hci.1⟩ ⟨_, hci.2⟩)

/-! ## The blocks of a result -/

theorem odiv : 32 ∣ S32x32x128.size 0 := ⟨1, rfl⟩

theorem part_eq (w : Fin 32) : Rect.unit (s := S32x32x128) ![w.val, 0, 0] S1x32x128.size (inb_block w) = Rect.part (s := S32x32x128) (a₀ := 0) odiv w := by
  unfold Rect.part Rect.block
  congr 1 <;> funext a
  · match a with
    | 0 => simp [Shape.partIx, Shape.partSize]
    | 1 => simp [Shape.partIx, Shape.partSize]
    | 2 => simp [Shape.partIx, Shape.partSize]
  · match a with
    | 0 => simp [Shape.partSize]
    | 1 => simp [Shape.partSize]
    | 2 => simp [Shape.partSize]

section
variable (h : Memref sig .scVector .hbm S32x32x128 .i32)

/-- Tile `w`'s block, as a set of the result's indices. -/
abbrev blockSet (w : Fin 32) : Finset h.view.ty.Idx := (block h w).view.set

theorem block_set (w : Fin 32) : blockSet h w = (Rect.part (s := S32x32x128) (a₀ := 0) odiv w).set.map h.view.emb := by
  show ((h.view.slice (Rect.unit (s := S32x32x128) ![w.val, 0, 0] S1x32x128.size (inb_block w))).reshape S32x128 squeezes_S1x32x128_S32x128.numel_eq).set = _
  rw [View.set_reshape, View.set_slice]
  exact congrArg (fun r : Rect S32x32x128 => r.set.map h.view.emb) (part_eq w)

theorem blocks_disjoint (i j : Fin 32) (hij : i ≠ j) : Disjoint (blockSet h i) (blockSet h j) := by
  rw [block_set, block_set]; exact (Finset.disjoint_map _).mpr (Rect.part_disjoint odiv hij)

theorem blocks_cover (hw : h.view.set = Finset.univ) : Finset.univ.biUnion (blockSet h) = Finset.univ := by
  refine Finset.eq_univ_of_forall fun x => ?_
  obtain ⟨y, -, rfl⟩ := Finset.mem_map.mp (show x ∈ Finset.univ.map h.view.emb from (Finset.ext_iff.mp hw x).mpr (Finset.mem_univ x))
  obtain ⟨w, hw', hy⟩ := Finset.mem_biUnion.mp (show y ∈ Finset.univ.biUnion fun w => (Rect.part (s := S32x32x128) (a₀ := 0) odiv w).set from
    Rect.biUnion_part (s := S32x32x128) (a₀ := 0) odiv ▸ Finset.mem_univ y)
  exact Finset.mem_biUnion.mpr ⟨w, hw', block_set h w ▸ Finset.mem_map_of_mem _ hy⟩

end

theorem gv1_eq (d : Dev nD) (c : Fin 2) (s : Fin 16) :
    go1 m d c s = iprop((xLoc d ↦{part32 (tileNo c s)} flat (words m d)) ∗ ∃ f, o1Loc d ↦[blockSet o1V (tileNo c s)]{fullShare} f) := by
  unfold go1 given0
  rw [show (xV).view.set = Finset.univ from View.set_whole _]

theorem tk1_eq (d : Dev nD) (c : Fin 2) (s : Fin 16) :
    td1 m d c s = iprop((xLoc d ↦{part32 (tileNo c s)} flat (words m d)) ∗ o1Loc d ↦[blockSet o1V (tileNo c s)]{fullShare} tab1 (words m d)) := by
  unfold td1 taken0
  rw [show (xV).view.set = Finset.univ from View.set_whole _]

theorem gv2_eq (d : Dev nD) (c : Fin 2) (s : Fin 16) :
    go2 m d c s = iprop((xLoc d ↦{part32 (tileNo c s)} flat (words m d)) ∗ (p2Loc d ↦{part32 (tileNo c s)} fun _ => bin1 (words m d))
      ∗ ∃ f, o2Loc d ↦[blockSet o2V (tileNo c s)]{fullShare} f) := by
  unfold go2 given
  rw [show (xV).view.set = Finset.univ from View.set_whole _, show (p2V).view.set = Finset.univ from View.set_whole _]

theorem tk2_eq (d : Dev nD) (c : Fin 2) (s : Fin 16) :
    td2 m d c s = iprop((xLoc d ↦{part32 (tileNo c s)} flat (words m d)) ∗ (p2Loc d ↦{part32 (tileNo c s)} fun _ => bin1 (words m d))
      ∗ o2Loc d ↦[blockSet o2V (tileNo c s)]{fullShare} tab2 (words m d)) := by
  unfold td2 taken
  rw [show (xV).view.set = Finset.univ from View.set_whole _, show (p2V).view.set = Finset.univ from View.set_whole _]

theorem gv3_eq (d : Dev nD) (c : Fin 2) (s : Fin 16) :
    go3 m d c s = iprop((xLoc d ↦{part32 (tileNo c s)} flat (words m d)) ∗ (p3Loc d ↦{part32 (tileNo c s)} fun _ => pref3 (words m d))
      ∗ ∃ f, o3Loc d ↦[blockSet o3V (tileNo c s)]{fullShare} f) := by
  unfold go3 given
  rw [show (xV).view.set = Finset.univ from View.set_whole _, show (p3V).view.set = Finset.univ from View.set_whole _]

theorem tk3_eq (d : Dev nD) (c : Fin 2) (s : Fin 16) :
    td3 m d c s = iprop((xLoc d ↦{part32 (tileNo c s)} flat (words m d)) ∗ (p3Loc d ↦{part32 (tileNo c s)} fun _ => pref3 (words m d))
      ∗ o3Loc d ↦[blockSet o3V (tileNo c s)]{fullShare} tab3 (words m d)) := by
  unfold td3 taken
  rw [show (xV).view.set = Finset.univ from View.set_whole _, show (p3V).view.set = Finset.univ from View.set_whole _]

/-! ## The calls dealt and collected -/

theorem st1_eq (d : Dev nD) : (bigSep Finset.univ fun c : Fin ((K (F := F)).nCore 0) => (P m).st 0 d c)
    = bigSep Finset.univ fun c : Fin 2 => bigSep Finset.univ fun s : Fin 16 =>
      iprop((xLoc d ↦{part32 (tileNo c s)} flat (words m d)) ∗ ∃ f, o1Loc d ↦[blockSet o1V (tileNo c s)]{fullShare} f) :=
  bigSep_congr fun c _ => (show (P m).st 0 d c = bigSep Finset.univ fun s : Fin 16 => go1 m d c s from rfl).trans (bigSep_congr fun s _ => gv1_eq m d c s)

theorem dn1_eq (d : Dev nD) : (bigSep Finset.univ fun c : Fin ((K (F := F)).nCore 0) => (P m).dn 0 d c)
    = bigSep Finset.univ fun c : Fin 2 => bigSep Finset.univ fun s : Fin 16 =>
      iprop((xLoc d ↦{part32 (tileNo c s)} flat (words m d)) ∗ o1Loc d ↦[blockSet o1V (tileNo c s)]{fullShare} tab1 (words m d)) :=
  bigSep_congr fun c _ => (show (P m).dn 0 d c = bigSep Finset.univ fun s : Fin 16 => td1 m d c s from rfl).trans (bigSep_congr fun s _ => tk1_eq m d c s)

theorem deal1 (d : Dev nD) (f : Buf (Elt F) (o1Loc d)) :
    (iprop((xLoc d ↦{fullShare} flat (words m d)) ∗ o1Loc d ↦{fullShare} f) : sProp 𝕄) ⊢ bigSep Finset.univ fun c : Fin ((K (F := F)).nCore 0) => (P m).st 0 d c := by
  rw [st1_eq]
  exact deal0 (nc := 3) (ℓ2 := xLoc d) (ℓ4 := o1Loc d) (blockSet o1V) (blocks_disjoint o1V) (blocks_cover o1V (View.set_whole _)) (flat (words m d)) f

theorem collect1 (d : Dev nD) :
    (bigSep Finset.univ fun c : Fin ((K (F := F)).nCore 0) => (P m).dn 0 d c) ⊢ (iprop((xLoc d ↦{fullShare} flat (words m d)) ∗ o1Loc d ↦{fullShare} tab1 (words m d)) : sProp 𝕄) := by
  rw [dn1_eq]
  exact collect0 (nc := 3) (ℓ2 := xLoc d) (ℓ4 := o1Loc d) (blockSet o1V) (blocks_disjoint o1V) (blocks_cover o1V (View.set_whole _)) (flat (words m d)) (tab1 (words m d))

theorem st2_eq (d : Dev nD) : (bigSep Finset.univ fun c : Fin ((K (F := F)).nCore 1) => (P m).st 1 d c)
    = bigSep Finset.univ fun c : Fin 2 => bigSep Finset.univ fun s : Fin 16 =>
      iprop((xLoc d ↦{part32 (tileNo c s)} flat (words m d)) ∗ (p2Loc d ↦{part32 (tileNo c s)} fun _ => bin1 (words m d)) ∗ ∃ f, o2Loc d ↦[blockSet o2V (tileNo c s)]{fullShare} f) :=
  bigSep_congr fun c _ => (show (P m).st 1 d c = bigSep Finset.univ fun s : Fin 16 => go2 m d c s from rfl).trans (bigSep_congr fun s _ => gv2_eq m d c s)

theorem dn2_eq (d : Dev nD) : (bigSep Finset.univ fun c : Fin ((K (F := F)).nCore 1) => (P m).dn 1 d c)
    = bigSep Finset.univ fun c : Fin 2 => bigSep Finset.univ fun s : Fin 16 =>
      iprop((xLoc d ↦{part32 (tileNo c s)} flat (words m d)) ∗ (p2Loc d ↦{part32 (tileNo c s)} fun _ => bin1 (words m d)) ∗ o2Loc d ↦[blockSet o2V (tileNo c s)]{fullShare} tab2 (words m d)) :=
  bigSep_congr fun c _ => (show (P m).dn 1 d c = bigSep Finset.univ fun s : Fin 16 => td2 m d c s from rfl).trans (bigSep_congr fun s _ => tk2_eq m d c s)

theorem deal2 (d : Dev nD) (f : Buf (Elt F) (o2Loc d)) :
    (iprop((xLoc d ↦{fullShare} flat (words m d)) ∗ (p2Loc d ↦{fullShare} fun _ => bin1 (words m d)) ∗ o2Loc d ↦{fullShare} f) : sProp 𝕄) ⊢ bigSep Finset.univ fun c : Fin ((K (F := F)).nCore 1) => (P m).st 1 d c := by
  rw [st2_eq]
  exact deal (nc := 3) (ℓ2 := xLoc d) (ℓ3 := p2Loc d) (ℓ4 := o2Loc d) (blockSet o2V) (blocks_disjoint o2V) (blocks_cover o2V (View.set_whole _)) (flat (words m d)) (fun _ => bin1 (words m d)) f

theorem collect2 (d : Dev nD) :
    (bigSep Finset.univ fun c : Fin ((K (F := F)).nCore 1) => (P m).dn 1 d c) ⊢ (iprop((xLoc d ↦{fullShare} flat (words m d)) ∗ (p2Loc d ↦{fullShare} fun _ => bin1 (words m d)) ∗ o2Loc d ↦{fullShare} tab2 (words m d)) : sProp 𝕄) := by
  rw [dn2_eq]
  exact collect (nc := 3) (ℓ2 := xLoc d) (ℓ3 := p2Loc d) (ℓ4 := o2Loc d) (blockSet o2V) (blocks_disjoint o2V) (blocks_cover o2V (View.set_whole _)) (flat (words m d)) (fun _ => bin1 (words m d)) (tab2 (words m d))

theorem st3_eq (d : Dev nD) : (bigSep Finset.univ fun c : Fin ((K (F := F)).nCore 2) => (P m).st 2 d c)
    = bigSep Finset.univ fun c : Fin 2 => bigSep Finset.univ fun s : Fin 16 =>
      iprop((xLoc d ↦{part32 (tileNo c s)} flat (words m d)) ∗ (p3Loc d ↦{part32 (tileNo c s)} fun _ => pref3 (words m d)) ∗ ∃ f, o3Loc d ↦[blockSet o3V (tileNo c s)]{fullShare} f) :=
  bigSep_congr fun c _ => (show (P m).st 2 d c = bigSep Finset.univ fun s : Fin 16 => go3 m d c s from rfl).trans (bigSep_congr fun s _ => gv3_eq m d c s)

theorem dn3_eq (d : Dev nD) : (bigSep Finset.univ fun c : Fin ((K (F := F)).nCore 2) => (P m).dn 2 d c)
    = bigSep Finset.univ fun c : Fin 2 => bigSep Finset.univ fun s : Fin 16 =>
      iprop((xLoc d ↦{part32 (tileNo c s)} flat (words m d)) ∗ (p3Loc d ↦{part32 (tileNo c s)} fun _ => pref3 (words m d)) ∗ o3Loc d ↦[blockSet o3V (tileNo c s)]{fullShare} tab3 (words m d)) :=
  bigSep_congr fun c _ => (show (P m).dn 2 d c = bigSep Finset.univ fun s : Fin 16 => td3 m d c s from rfl).trans (bigSep_congr fun s _ => tk3_eq m d c s)

theorem deal3 (d : Dev nD) (f : Buf (Elt F) (o3Loc d)) :
    (iprop((xLoc d ↦{fullShare} flat (words m d)) ∗ (p3Loc d ↦{fullShare} fun _ => pref3 (words m d)) ∗ o3Loc d ↦{fullShare} f) : sProp 𝕄) ⊢ bigSep Finset.univ fun c : Fin ((K (F := F)).nCore 2) => (P m).st 2 d c := by
  rw [st3_eq]
  exact deal (nc := 3) (ℓ2 := xLoc d) (ℓ3 := p3Loc d) (ℓ4 := o3Loc d) (blockSet o3V) (blocks_disjoint o3V) (blocks_cover o3V (View.set_whole _)) (flat (words m d)) (fun _ => pref3 (words m d)) f

theorem collect3 (d : Dev nD) :
    (bigSep Finset.univ fun c : Fin ((K (F := F)).nCore 2) => (P m).dn 2 d c) ⊢ (iprop((xLoc d ↦{fullShare} flat (words m d)) ∗ (p3Loc d ↦{fullShare} fun _ => pref3 (words m d)) ∗ o3Loc d ↦{fullShare} tab3 (words m d)) : sProp 𝕄) := by
  rw [dn3_eq]
  exact collect (nc := 3) (ℓ2 := xLoc d) (ℓ3 := p3Loc d) (ℓ4 := o3Loc d) (blockSet o3V) (blocks_disjoint o3V) (blocks_cover o3V (View.set_whole _)) (flat (words m d)) (fun _ => pref3 (words m d)) (tab3 (words m d))

end Cert.Whole

end
-- ==== Proof.Whole.Launch.lean ====
/-
  THE WHOLE PROGRAM'S RUN: the words flattened, three times a SparseCore call and a pick, the threshold joined, the product. At its end the
  result is `outcome` of the arguments, the arguments are unchanged and every counter is zero.
-/
module

public import proofs.«01_k».proof.Proof.Whole.Tiles

@[expose] public section

noncomputable section

namespace Cert.Whole

open Cert.KernelIdeal Cert.KernelIdeal.Gen
open Idealize.ShloMosaic
open Idealize.ShloMosaic.SparseCore (S V T)
open Idealize.ShloMosaic.SparseCore.Cfg (HIx Pay ownBufs ownSems0)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held wp_hlo_within)
open Idealize.ShloMosaic.Pipeline (Dat pin arrRef arrRefs ucRefs scopedRest cellsGhost toksInit)
open Idealize.ShloMosaic.TcCoe Idealize.ShloMosaic.Tactic

variable {F : FTy → Type} [FloatOps F]

local notation "𝕄" => MT nD τ sig (HIx 3) (Elt F) ℕ UU ℕ

variable (m : (ℓ : Loc nD τ sig) → Buf (Elt F) ℓ) (ρ : Dev nD → PrngReg)

/-! ## The launch element -/

def u₀ : UU := (initOf (K (F := F)).hsCells (K (F := F)).hsToks,
  (initOf (Pipeline.cells (pin (pcfgs (F := F)) adm) cellOf_inj) (Pipeline.launchToks (pin (pcfgs (F := F)) adm) cellOf_inj), 1))

/-- What the regions run on. -/
abbrev G (d : Dev nD) : sProp 𝕄 :=
  iprop((bigSep Finset.univ fun p : Fin 4 => cellsGhost (pin (pcfgs (F := F)) adm) EP p d) ∗ bigSep Finset.univ fun p : Fin 4 => toksInit (pin (pcfgs (F := F)) adm) EP p d)

theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 3 => (P m).x q thr) := by
  unfold u₀
  iintro Hu
  ihave H := (ownU_pair (initOf (K (F := F)).hsCells (K (F := F)).hsToks)
    ((initOf (Pipeline.cells (pin (pcfgs (F := F)) adm) cellOf_inj) (Pipeline.launchToks (pin (pcfgs (F := F)) adm) cellOf_inj), 1) : UR sig nD τ × Counters)) $$ Hu
  icases H with ⟨HH, HR⟩
  ihave H := (own_pair_emb (embR : Emb (UR sig nD τ × Counters) 𝕄)
    (initOf (Pipeline.cells (pin (pcfgs (F := F)) adm) cellOf_inj) (Pipeline.launchToks (pin (pcfgs (F := F)) adm) cellOf_inj)) (1 : Counters)) $$ HR
  icases H with ⟨HP, -⟩
  imod (Pipeline.fund_ghost (pin (pcfgs (F := F)) adm) EP cellOf_inj) $$ HP with ⟨Hg, Ht⟩
  imodintro
  isplitl [HH]; · iexact HH
  isplitl [Hg Ht]
  · rw [bigSep_sep']
    isplitl [Hg]; · iexact Hg
    iexact Ht
  rw [show (bigSep Finset.univ fun thr : Thread nD τ => bigSep Finset.univ fun q : Fin 3 => (P (F := F) m).x q thr) = bigSep Finset.univ fun _ => iprop(emp) from
    bigSep_congr fun _ _ => bigSep_emp' _, bigSep_emp']
  iempintro

/-! ## The steps of @main -/

section
variable (κ : GSem nD τ sig → ℕ) (d : Dev nD)

/-- Between the steps: before call `n`, the arrays at `W`, and `R` besides. -/
def St (n : ℕ) (W : Valuation τ sig (Elt F)) (R : sProp 𝕄) : sProp 𝕄 :=
  iprop((K (F := F)).ctx EH (P m) κ ∗ (K (F := F)).tcSt EH d n ∗ boundary (T d) ∗ held (T d) uc W ∗ R)

/-- An operation of @main. -/
theorem step (op : HloOp τ sig (Elt F)) (hb : op.bufs ⊆ StableHlo.tcRefs τ sig) (hf : op.fresh = ∅) {n : ℕ} {W : Valuation τ sig (Elt F)} {R Q : sProp 𝕄}
    (h : St m κ d n (op.result W) R ⊢ Q) :
    St m κ d n W R ⊢ wp frame (wpE ((K (F := F)).defs (D (F := F))) 𝒱 (SparseCore.T d) none) Set.univ (hlo rfl op (fun _ => .ret ⟨⟩)) (fun _ : PUnit => Q) := by
  unfold St at h ⊢
  iintro ⟨#Hctx, Hst, Hb, Hh, HR⟩
  iapply (wp_hlo_within 𝒱 (SparseCore.T d) none Set.univ (op := op) (S := uc) (Pipeline.sub_ucRefs op hb) (V := W) hf) $$ [Hb Hh]
  · isplitl [Hb]; · iexact Hb
    iexact Hh
  iintro ⟨Hb, Hh⟩
  rw [wp_ret]; imodintro
  iapply h
  isplitr; · iexact Hctx
  isplitl [Hst]; · iexact Hst
  isplitl [Hb]; · iexact Hb
  isplitl [Hh]; · iexact Hh
  iexact HR

/-- A SparseCore call, which takes the arrays `A` and gives them back. -/
theorem call (q : Fin 3) {W W' : Valuation τ sig (Elt F)} (A : Finset (DevRef τ sig)) (hA : A ⊆ uc)
    (hdeal : (held (T d) A W : sProp 𝕄) ⊢ bigSep Finset.univ fun c : Fin ((K (F := F)).nCore q) => (P m).st q d c)
    (hcol : (bigSep Finset.univ fun c : Fin ((K (F := F)).nCore q) => (P m).dn q d c) ⊢ (held (T d) A W' : sProp 𝕄))
    (hoff : ∀ b ∈ uc \ A, W b = W' b) {R Q : sProp 𝕄} (h : St m κ d (q.val + 1) W' R ⊢ Q) :
    St m κ d q.val W R ⊢ wp frame (wpE ((K (F := F)).defs (D (F := F))) 𝒱 (SparseCore.T d) none) Set.univ ((K (F := F)).run d q) (fun _ : PUnit => Q) := by
  unfold St at h ⊢
  rw [StableHlo.held_sub_split (T d : Thread nD τ) hA W, StableHlo.held_congr (T d : Thread nD τ) (V := W) (V' := W') hoff]
  rw [StableHlo.held_sub_split (T d : Thread nD τ) hA W'] at h
  iintro ⟨#Hctx, Hst, Hb, ⟨HA, Hh⟩, HR⟩
  iapply ((K (F := F)).wp_run (D (F := F)) 𝒱 (EH := EH) (P := P m) κ d q) $$ [Hst HA Hb Hh HR]
  isplitr; · iexact Hctx
  isplitl [Hst]; · iexact Hst
  isplitl [HA]; · iapply hdeal; iexact HA
  iintro ⟨Hst, Hdn⟩
  iapply h
  isplitr; · iexact Hctx
  isplitl [Hst]; · iexact Hst
  isplitl [Hb]; · iexact Hb
  isplitr [HR]
  · isplitl [Hdn]; · iapply hcol; iexact Hdn
    iexact Hh
  iexact HR

/-- A region. -/
theorem region (pdats : (p : Fin 4) → (d : Dev nD) → Dat τ (Elt F) (HIx 3) ℕ UU ℕ (pin (pcfgs (F := F)) adm p) d) (p : Fin 4) (n : ℕ)
    (W W' : Dev nD → Valuation τ sig (Elt F))
    (Rg : Pipeline.RegionSeg (pcfgs (F := F)) adm pdats (none : HIx 3) defs₀ 𝒱₀ (K (F := F)).L (K (F := F)).lev p)
    (hpre : ∀ d, Rg.pre d = iprop(held (T d) uc (W d) ∗ dues (F := F) d n)) (hpost : ∀ d, Rg.post d = iprop(held (T d) uc (W' d) ∗ dues (F := F) d n))
    {R Q : sProp 𝕄} (h : St m κ d n (W' d) R ⊢ Q) :
    St m κ d n (W d) (iprop((cellsGhost (pin (pcfgs (F := F)) adm) EP p d ∗ toksInit (pin (pcfgs (F := F)) adm) EP p d) ∗ R))
      ⊢ wp frame (wpE ((K (F := F)).defs (D (F := F))) 𝒱 (SparseCore.T d) none) Set.univ
          (Prog.lift (.customCall (SparseCore.inner (Pipeline.entry p)) ())) (fun _ : PUnit => Q) := by
  unfold St at h ⊢
  iintro ⟨#Hctx, Hst, Hb, Hh, ⟨Hg, Ht⟩, HR⟩
  iapply (region_step pdats p n W W' Rg hpre hpost (Py := P m) κ d (fun _ => Q))
  isplitr; · iexact Hctx
  isplitl [Hst]; · iexact Hst
  isplitl [Hb]; · iexact Hb
  isplitl [Hh]; · iexact Hh
  isplitl [Hg]; · iexact Hg
  isplitl [Ht]; · iexact Ht
  iintro ⟨Hst, Hb, Hh⟩
  iapply h
  isplitr; · iexact Hctx
  isplitl [Hst]; · iexact Hst
  isplitl [Hb]; · iexact Hb
  isplitl [Hh]; · iexact Hh
  iexact HR

end

/-! ## The regions -/

def pdats : (p : Fin 4) → (d : Dev nD) → Dat τ (Elt F) (HIx 3) ℕ UU ℕ (pin (pcfgs (F := F)) adm p) d := fun p => match p with
  | 0 => dat1 1 (W2 m)
  | 1 => dat3 2 (W6 m)
  | 2 => dat5 3 (W10 m)
  | 3 => dat6 3 (W12 m)

/-- An array of @main outside `o` is as before `o` was set. -/
theorem off_upd {W : Valuation τ sig (Elt F)} (d : Dev nD) (o : Ref sig .tc) (v : Buf (Elt F) ((SparseCore.T d).loc o)) {A : Finset (DevRef τ sig)} (ho : dr o ∈ A)
    (b : DevRef τ sig) (hb : b ∈ uc \ A) : Function.update W (dr o) v b = W b :=
  Function.update_of_ne (fun e => (Finset.mem_sdiff.mp hb).2 (by rw [e]; exact ho)) _ _

def seg1 : Pipeline.RegionSeg (pcfgs (F := F)) adm (pdats m) (none : HIx 3) defs₀ 𝒱₀ (K (F := F)).L (K (F := F)).lev 0 :=
  seg (pdats m) 0 1 (W2 m) (W3 m) launch1 (fun d => (body1 1 (W2 m) d).loose) (fun _ _ => rfl) (fun _ _ => rfl)
    (fun d w => by
      show (dat1 1 (W2 m) d).share w = _
      unfold Dat.share; split <;> rfl)
    (fun d => .rfl) (fun d => .rfl) (fun d w => rfl)
    (fun d w => by
      show (dat1 1 (W2 m) d).arrAt w cfg1.N = W3 m d (Proc.devRef .tc (arrRef spec1 w))
      match w with
      | ⟨0, _⟩ => exact ((dat1 1 (W2 m) d).arrAt_in 0 rfl _).trans (upd_of (b := main_v2) d (W2 m d) main_v3 (pick1 (words m d)) (by decide)).symm
      | ⟨1, _⟩ => exact ((dat1 1 (W2 m) d).arrAt_in 1 rfl _).trans (upd_of (b := main_v1) d (W2 m d) main_v3 (pick1 (words m d)) (by decide)).symm
      | ⟨2, _⟩ =>
        refine (arr1 1 (W2 m) d).trans ?_
        rw [W2_v2, W2_v1]
        exact (W3_v3 m d).symm)
    (fun d => off_upd d main_v3 _ (Finset.mem_map_of_mem _ (Finset.mem_image_of_mem (arrRef spec1) (Finset.mem_univ (2 : Fin 3)))))

def seg3 : Pipeline.RegionSeg (pcfgs (F := F)) adm (pdats m) (none : HIx 3) defs₀ 𝒱₀ (K (F := F)).L (K (F := F)).lev 1 :=
  seg (pdats m) 1 2 (W6 m) (W7 m) launch3 (fun d => (body3 2 (W6 m) d).loose) (fun _ _ => rfl) (fun _ _ => rfl)
    (fun d w => by
      show (dat3 2 (W6 m) d).share w = _
      unfold Dat.share; split <;> rfl)
    (fun d => .rfl) (fun d => .rfl) (fun d w => rfl)
    (fun d w => by
      show (dat3 2 (W6 m) d).arrAt w cfg3.N = W7 m d (Proc.devRef .tc (arrRef spec3 w))
      match w with
      | ⟨0, _⟩ => exact ((dat3 2 (W6 m) d).arrAt_in 0 rfl _).trans (upd_of (b := main_v7) d (W6 m d) main_v9 (pick2 (words m d)) (by decide)).symm
      | ⟨1, _⟩ => exact ((dat3 2 (W6 m) d).arrAt_in 1 rfl _).trans (upd_of (b := main_v8) d (W6 m d) main_v9 (pick2 (words m d)) (by decide)).symm
      | ⟨2, _⟩ =>
        refine (arr3 2 (W6 m) d).trans ?_
        rw [W6_v7, W6_v8]
        exact (W7_v9 m d).symm)
    (fun d => off_upd d main_v9 _ (Finset.mem_map_of_mem _ (Finset.mem_image_of_mem (arrRef spec3) (Finset.mem_univ (2 : Fin 3)))))

def seg5 : Pipeline.RegionSeg (pcfgs (F := F)) adm (pdats m) (none : HIx 3) defs₀ 𝒱₀ (K (F := F)).L (K (F := F)).lev 2 :=
  seg (pdats m) 2 3 (W10 m) (W11 m) launch5 (fun d => (body5 3 (W10 m) d).loose) (fun _ _ => rfl) (fun _ _ => rfl)
    (fun d w => by
      show (dat5 3 (W10 m) d).share w = _
      unfold Dat.share; split <;> rfl)
    (fun d => .rfl) (fun d => .rfl) (fun d w => rfl)
    (fun d w => by
      show (dat5 3 (W10 m) d).arrAt w cfg5.N = W11 m d (Proc.devRef .tc (arrRef spec5 w))
      match w with
      | ⟨0, _⟩ => exact ((dat5 3 (W10 m) d).arrAt_in 0 rfl _).trans (upd_of (b := main_v15) d (W10 m d) main_v17 (pick3 (words m d)) (by decide)).symm
      | ⟨1, _⟩ => exact ((dat5 3 (W10 m) d).arrAt_in 1 rfl _).trans (upd_of (b := main_v16) d (W10 m d) main_v17 (pick3 (words m d)) (by decide)).symm
      | ⟨2, _⟩ =>
        refine (arr5 3 (W10 m) d).trans ?_
        rw [W10_v15, W10_v16]
        exact (W11_v17 m d).symm)
    (fun d => off_upd d main_v17 _ (Finset.mem_map_of_mem _ (Finset.mem_image_of_mem (arrRef spec5) (Finset.mem_univ (2 : Fin 3)))))

theorem maskedAt_eq (d : Dev nD) : maskedAt (W12 m) d = masked (F := F) (words m d) (thr (words m d)) (m ((SparseCore.T d).loc main_arg2)) := by
  unfold maskedAt
  rw [W12_v24, W12_arg m d (b := main_arg1) (by decide), W12_arg m d (b := main_arg2) (by decide)]

/-- The product's inputs end as they were. -/
theorem in6 (d : Dev nD) (w : Fin 6) (b : Ref sig .tc) (hin : (cfg6.win w).isOut = false) (hb : arrRef spec6 w = b) (hne : b ≠ main_v26) :
    (dat6 3 (W12 m) d).arrAt w cfg6.N = W13 m d (Proc.devRef .tc (arrRef spec6 w)) := by
  refine ((dat6 3 (W12 m) d).arrAt_in w hin _).trans ?_
  subst hb
  exact (upd_of (b := arrRef spec6 w) d (W12 m d) main_v26 (outcomeOf m d) hne).symm

def seg6 : Pipeline.RegionSeg (pcfgs (F := F)) adm (pdats m) (none : HIx 3) defs₀ 𝒱₀ (K (F := F)).L (K (F := F)).lev 3 :=
  seg (pdats m) 3 3 (W12 m) (W13 m) launch6 (fun d => (body6 3 (W12 m) d).loose) (fun _ _ => rfl) (fun _ _ => rfl)
    (fun d w => by
      show (dat6 3 (W12 m) d).share w = _
      unfold Dat.share; split <;> rfl)
    (fun d => enter6 3 (W12 m) d) (fun d => leave6 3 (W12 m) d) (fun d w => rfl)
    (fun d w => by
      show (dat6 3 (W12 m) d).arrAt w cfg6.N = W13 m d (Proc.devRef .tc (arrRef spec6 w))
      match w with
      | ⟨0, _⟩ => exact in6 m d 0 main_v24 rfl rfl (by decide)
      | ⟨1, _⟩ => exact in6 m d 1 main_arg0 rfl rfl (by decide)
      | ⟨2, _⟩ => exact in6 m d 2 main_arg1 rfl rfl (by decide)
      | ⟨3, _⟩ => exact in6 m d 3 main_arg2 rfl rfl (by decide)
      | ⟨4, _⟩ => exact in6 m d 4 main_v25 rfl rfl (by decide)
      | ⟨5, _⟩ =>
        refine (arr6 3 (W12 m) d).trans ?_
        rw [maskedAt_eq, W12_v25, W12_arg m d (b := main_arg0) (by decide)]
        exact (Function.update_self (dr main_v26) (outcomeOf m d) (W12 m d)).symm)
    (fun d => off_upd d main_v26 _ (Finset.mem_map_of_mem _ (Finset.mem_image_of_mem (arrRef spec6) (Finset.mem_univ (5 : Fin 6)))))

end Cert.Whole

end
-- ==== Proof.Whole.Run.lean ====
/-
  @MAIN AND THE RUN of the whole program: its steps one after the other from the launch memory. At its end the
  result is `outcome` of the arguments, the arguments are unchanged and every counter is zero.
-/
module

public import proofs.«01_k».proof.Proof.Whole.Launch

@[expose] public section

noncomputable section

namespace Cert.Whole

open Cert.KernelIdeal Cert.KernelIdeal.Gen
open Idealize.ShloMosaic
open Idealize.ShloMosaic.SparseCore (S V T)
open Idealize.ShloMosaic.SparseCore.Cfg (HIx Pay ownBufs ownSems0)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held wp_hlo_within)
open Idealize.ShloMosaic.Pipeline (Dat pin arrRef arrRefs ucRefs scopedRest cellsGhost toksInit)
open Idealize.ShloMosaic.TcCoe Idealize.ShloMosaic.Tactic

variable {F : FTy → Type} [FloatOps F]

local notation "𝕄" => MT nD τ sig (HIx 3) (Elt F) ℕ UU ℕ

variable (m : (ℓ : Loc nD τ sig) → Buf (Elt F) ℓ) (ρ : Dev nD → PrngReg)

/-! ## The launch element -/

/-! ## The calls' arrays -/

section
variable (d : Dev nD) (W : Valuation τ sig (Elt F))

theorem held_two {a b : DevRef τ sig} (h : a ∉ ({b} : Finset (DevRef τ sig))) :
    (held (T d) {a, b} W : sProp 𝕄) = iprop((((d, a) : Loc nD τ sig) ↦{fullShare} W a) ∗ ((d, b) : Loc nD τ sig) ↦{fullShare} W b) := by
  unfold held; rw [SparseCore.bigSep_insert' h, bigSep_singleton]

theorem held_three {a b c : DevRef τ sig} (h : a ∉ ({b, c} : Finset (DevRef τ sig))) (h' : b ∉ ({c} : Finset (DevRef τ sig))) :
    (held (T d) {a, b, c} W : sProp 𝕄) = iprop((((d, a) : Loc nD τ sig) ↦{fullShare} W a) ∗ (((d, b) : Loc nD τ sig) ↦{fullShare} W b)
      ∗ ((d, c) : Loc nD τ sig) ↦{fullShare} W c) := by
  unfold held; rw [SparseCore.bigSep_insert' h, SparseCore.bigSep_insert' h', bigSep_singleton]

end

theorem in_uc {b : Ref sig .tc} (h : b.isScoped = false) : dr b ∈ uc := Pipeline.devRef_mem_ucRefs h

abbrev arrs1 : Finset (DevRef τ sig) := {dr main_v0, dr main_v2}
abbrev arrs2 : Finset (DevRef τ sig) := {dr main_v0, dr main_v6, dr main_v7}
abbrev arrs3 : Finset (DevRef τ sig) := {dr main_v0, dr main_v14, dr main_v15}

theorem sub1 : arrs1 ⊆ uc := by
  intro b hb; rcases Finset.mem_insert.mp hb with rfl | hb
  · exact in_uc rfl
  · rw [Finset.mem_singleton.mp hb]; exact in_uc rfl
theorem sub2 : arrs2 ⊆ uc := by
  intro b hb; rcases Finset.mem_insert.mp hb with rfl | hb
  · exact in_uc rfl
  rcases Finset.mem_insert.mp hb with rfl | hb
  · exact in_uc rfl
  · rw [Finset.mem_singleton.mp hb]; exact in_uc rfl
theorem sub3 : arrs3 ⊆ uc := by
  intro b hb; rcases Finset.mem_insert.mp hb with rfl | hb
  · exact in_uc rfl
  rcases Finset.mem_insert.mp hb with rfl | hb
  · exact in_uc rfl
  · rw [Finset.mem_singleton.mp hb]; exact in_uc rfl

theorem give1 (d : Dev nD) : (held (T d) arrs1 (W1 m d) : sProp 𝕄) ⊢ bigSep Finset.univ fun c : Fin ((K (F := F)).nCore 0) => (P m).st 0 d c := by
  rw [held_two d _ (by decide), W1_x]; exact deal1 m d _
theorem back1 (d : Dev nD) : (bigSep Finset.univ fun c : Fin ((K (F := F)).nCore 0) => (P m).dn 0 d c) ⊢ (held (T d) arrs1 (W2 m d) : sProp 𝕄) := by
  rw [held_two d _ (by decide), W2_v2, show W2 m d (dr main_v0) = flat (words m d) from (upd_of d _ main_v2 _ (by decide)).trans (W1_x m d)]
  exact collect1 m d
theorem give2 (d : Dev nD) : (held (T d) arrs2 (W4 m d) : sProp 𝕄) ⊢ bigSep Finset.univ fun c : Fin ((K (F := F)).nCore 1) => (P m).st 1 d c := by
  rw [held_three d _ (by decide) (by decide), W4_x, W4_v6]; exact deal2 m d _
theorem back2 (d : Dev nD) : (bigSep Finset.univ fun c : Fin ((K (F := F)).nCore 1) => (P m).dn 1 d c) ⊢ (held (T d) arrs2 (W5 m d) : sProp 𝕄) := by
  rw [held_three d _ (by decide) (by decide), show W5 m d (dr main_v7) = tab2 (words m d) from Function.update_self _ _ _,
    show W5 m d (dr main_v0) = flat (words m d) from (upd_of d _ main_v7 _ (by decide)).trans (W4_x m d),
    show W5 m d (dr main_v6) = (fun _ => bin1 (words m d) : S16.Idx → BitVec 32) from (upd_of d _ main_v7 _ (by decide)).trans (W4_v6 m d)]
  exact collect2 m d
theorem give3 (d : Dev nD) : (held (T d) arrs3 (W8 m d) : sProp 𝕄) ⊢ bigSep Finset.univ fun c : Fin ((K (F := F)).nCore 2) => (P m).st 2 d c := by
  rw [held_three d _ (by decide) (by decide), W8_x, W8_v14]; exact deal3 m d _
theorem back3 (d : Dev nD) : (bigSep Finset.univ fun c : Fin ((K (F := F)).nCore 2) => (P m).dn 2 d c) ⊢ (held (T d) arrs3 (W9 m d) : sProp 𝕄) := by
  rw [held_three d _ (by decide) (by decide), show W9 m d (dr main_v15) = tab3 (words m d) from Function.update_self _ _ _,
    show W9 m d (dr main_v0) = flat (words m d) from (upd_of d _ main_v15 _ (by decide)).trans (W8_x m d),
    show W9 m d (dr main_v14) = (fun _ => pref3 (words m d) : S16.Idx → BitVec 32) from (upd_of d _ main_v15 _ (by decide)).trans (W8_v14 m d)]
  exact collect3 m d

/-! ## @main -/

/-- What @main leaves: every array at the last valuation. -/
abbrev FIN (d : Dev nD) : sProp 𝕄 := held (T d) uc (W13 m d)

abbrev Gh (d : Dev nD) (p : Fin 4) : sProp 𝕄 :=
  iprop(cellsGhost (pin (pcfgs (F := F)) adm) EP p d ∗ toksInit (pin (pcfgs (F := F)) adm) EP p d)

theorem G_eq (d : Dev nD) : G (F := F) d = iprop(Gh d 0 ∗ Gh d 1 ∗ Gh d 2 ∗ Gh d 3) := by
  unfold G
  rw [← bigSep_sep', show (Finset.univ : Finset (Fin 4)) = {0, 1, 2, 3} by decide, SparseCore.bigSep_insert' (by decide), SparseCore.bigSep_insert' (by decide),
    SparseCore.bigSep_insert' (by decide), bigSep_singleton]

/-- The steps, from the arrays at the launch. -/
theorem steps (κ : GSem nD τ sig → ℕ) (d : Dev nD) (E : sProp 𝕄) :
    St m κ d 0 (W0 m d) (iprop(Gh d 0 ∗ Gh d 1 ∗ Gh d 2 ∗ Gh d 3 ∗ E))
      ⊢ wp frame (wpE ((K (F := F)).defs (D (F := F))) 𝒱 (SparseCore.T d) none) Set.univ (main d) fun _ => St m κ d 3 (W13 m d) E := by
  simp only [main, wp_bind, wp_pure]
  refine step m κ d _ (StableHlo.reshape_bufs_sub ..) rfl ?_
  refine step m κ d _ (StableHlo.nullary_bufs_sub ..) rfl ?_
  refine step m κ d _ (StableHlo.unary_bufs_sub ..) rfl ?_
  refine call m κ d 0 (W := W1 m d) (W' := W2 m d) arrs1 sub1 (give1 m d) (back1 m d)
    (fun b hb => (off_upd d main_v2 _ (Finset.mem_insert_of_mem (Finset.mem_singleton_self _)) b hb).symm) ?_
  refine region m κ d (pdats m) 0 1 (W2 m) (W3 m) (seg1 m) (fun _ => rfl) (fun _ => rfl) ?_
  refine step m κ d _ (StableHlo.unary_bufs_sub ..) rfl ?_
  refine step m κ d _ (StableHlo.reshape_bufs_sub ..) rfl ?_
  refine step m κ d _ (StableHlo.unary_bufs_sub ..) rfl ?_
  refine call m κ d 1 (W := W4 m d) (W' := W5 m d) arrs2 sub2 (give2 m d) (back2 m d)
    (fun b hb => (off_upd d main_v7 _ (Finset.mem_insert_of_mem (Finset.mem_insert_of_mem (Finset.mem_singleton_self _))) b hb).symm) ?_
  refine step m κ d _ (StableHlo.unary_bufs_sub ..) rfl ?_
  refine region m κ d (pdats m) 1 2 (W6 m) (W7 m) (seg3 m) (fun _ => rfl) (fun _ => rfl) ?_
  refine step m κ d _ (StableHlo.unary_bufs_sub ..) rfl ?_
  refine step m κ d _ (StableHlo.reshape_bufs_sub ..) rfl ?_
  refine step m κ d _ (StableHlo.nullary_bufs_sub ..) rfl ?_
  refine step m κ d _ (StableHlo.binary_bufs_sub ..) rfl ?_
  refine step m κ d _ (StableHlo.binary_bufs_sub ..) rfl ?_
  refine step m κ d _ (StableHlo.unary_bufs_sub ..) rfl ?_
  refine call m κ d 2 (W := W8 m d) (W' := W9 m d) arrs3 sub3 (give3 m d) (back3 m d)
    (fun b hb => (off_upd d main_v15 _ (Finset.mem_insert_of_mem (Finset.mem_insert_of_mem (Finset.mem_singleton_self _))) b hb).symm) ?_
  refine step m κ d _ (StableHlo.unary_bufs_sub ..) rfl ?_
  refine region m κ d (pdats m) 2 3 (W10 m) (W11 m) (seg5 m) (fun _ => rfl) (fun _ => rfl) ?_
  refine step m κ d _ (StableHlo.unary_bufs_sub ..) rfl ?_
  refine step m κ d _ (StableHlo.reshape_bufs_sub ..) rfl ?_
  refine step m κ d _ (StableHlo.nullary_bufs_sub ..) rfl ?_
  refine step m κ d _ (StableHlo.binary_bufs_sub ..) rfl ?_
  refine step m κ d _ (StableHlo.nullary_bufs_sub ..) rfl ?_
  refine step m κ d _ (StableHlo.binary_bufs_sub ..) rfl ?_
  refine step m κ d _ (StableHlo.binary_bufs_sub ..) rfl ?_
  refine step m κ d _ (StableHlo.binary_bufs_sub ..) rfl ?_
  refine step m κ d _ (StableHlo.reshape_bufs_sub ..) rfl ?_
  refine step m κ d _ (StableHlo.reshape_bufs_sub ..) rfl ?_
  refine region m κ d (pdats m) 3 3 (W12 m) (W13 m) (seg6 m) (fun _ => rfl) (fun _ => rfl) ?_
  iintro H; imodintro; iexact H

theorem hmain (κ : GSem nD τ sig → ℕ) (d : Dev nD) :
    iprop((K (F := F)).ctx EH (P m) κ ∗ (K (F := F)).tcSt EH d 0 ∗ (K (F := F)).tcRes m ρ d ∗ G (F := F) d)
      ⊢ wp frame (wpE ((K (F := F)).defs (D (F := F))) 𝒱 (SparseCore.T d) none) Set.univ (main d)
          fun _ => iprop((K (F := F)).tcSt EH d 3 ∗ FIN m d ∗ (K (F := F)).tcEnd d) := by
  refine BI.Entails.trans ?_ ((steps m κ d ((K (F := F)).tcSems0 d)).trans (wp_mono _ _ _ fun _ => ?_))
  · unfold St SparseCore.Cfg.tcRes
    rw [G_eq, show unscopedBufs d (fun b => m ((SparseCore.T d).loc b)) = (held (T d) uc (W0 m d) : sProp 𝕄) from Pipeline.unscopedBufs_held d (W0 m d)]
    show (_ : sProp 𝕄) ⊢ (_ : sProp 𝕄)
    iintro ⟨Hctx, Hst, ⟨Hb, Hh, Hs, -⟩, ⟨H0, H1, H2, H3⟩⟩
    isplitl [Hctx]; · iexact Hctx
    isplitl [Hst]; · iexact Hst
    isplitl [Hb]; · iexact Hb
    isplitl [Hh]; · iexact Hh
    isplitl [H0]; · iexact H0
    isplitl [H1]; · iexact H1
    isplitl [H2]; · iexact H2
    isplitl [H3]; · iexact H3
    iexact Hs
  · unfold St SparseCore.Cfg.tcEnd
    show (_ : sProp 𝕄) ⊢ (_ : sProp 𝕄)
    iintro ⟨-, Hst, Hb, Hh, Hs⟩
    isplitl [Hst]; · iexact Hst
    isplitl [Hh]; · iexact Hh
    isplitl [Hb]; · iexact Hb
    iexact Hs

/-! ## The run -/

/-- What is held whole is what the memory holds. -/
theorem agree (s' : Phys nD τ sig (Elt F)) (ℓ : Loc nD τ sig) (f : Buf (Elt F) ℓ) : iprop((ℓ ↦{fullShare} f) ∗ SI s') ⊢ (⌜s'.mem.mem ℓ = f⌝ : sProp 𝕄) := by
  iintro ⟨Hl, HSI⟩
  ihave H := (SI_pointsTo_agree (st := s') (ℓ := ℓ) (I := Finset.univ) (q := fullShare) (f := f)) $$ [HSI Hl]
  · isplitl [HSI] <;> iassumption
  icases H with %h1
  ipureintro
  exact funext fun i => h1 i (Finset.mem_univ i)

def fq (d : Dev nD) (s' : Phys nD τ sig (Elt F)) : Prop := ∀ b ∈ (uc : Finset (DevRef τ sig)), s'.mem.mem (d, b) = W13 m d b

theorem hfin (d : Dev nD) (s' : Phys nD τ sig (Elt F)) : iprop(FIN m d ∗ SI s') ⊢ (⌜fq m d s'⌝ : sProp 𝕄) :=
  fun n hP b hb => ((sep_mono_left (bigSep_elim hb)).trans (agree s' (d, b) _)) n hP

/-- What holds at the end. -/
def QC : PUnit × MemSt nD τ sig (Elt F) → Prop := fun r =>
  (∀ d : Dev nD, r.2.mem ((SparseCore.T d).loc main_v26) = outcomeOf m d ∧ r.2.mem ((SparseCore.T d).loc main_arg0) = m ((SparseCore.T d).loc main_arg0)
    ∧ r.2.mem ((SparseCore.T d).loc main_arg1) = m ((SparseCore.T d).loc main_arg1) ∧ r.2.mem ((SparseCore.T d).loc main_arg2) = m ((SparseCore.T d).loc main_arg2)
    ∧ r.2.mem ((SparseCore.T d).loc main_arg3) = m ((SparseCore.T d).loc main_arg3)) ∧ r.2.sem = fun _ => 0

theorem W13_arg (d : Dev nD) {b : Ref sig .tc} (h : b ∈ ([main_arg0, main_arg1, main_arg2, main_arg3] : List (Ref sig .tc))) :
    W13 m d (dr b) = m ((SparseCore.T d).loc b) :=
  (upd_of (b := b) d (W12 m d) main_v26 (outcomeOf m d) (fun e => absurd h (by rw [e]; decide))).trans (W12_arg m d h)

theorem fq_QC (s' : Phys nD τ sig (Elt F)) (h : ∀ d, fq m d s') (hz : s'.mem.sem = fun _ => 0) : QC m (⟨⟩, s'.mem) :=
  ⟨fun d => ⟨(h d _ (in_uc rfl)).trans (Function.update_self _ _ _), (h d _ (in_uc rfl)).trans (W13_arg m d (by decide)), (h d _ (in_uc rfl)).trans (W13_arg m d (by decide)),
    (h d _ (in_uc rfl)).trans (W13_arg m d (by decide)), (h d _ (in_uc rfl)).trans (W13_arg m d (by decide))⟩, hz⟩

theorem run_main [∀ e, Nonempty (Elt F e)] : θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq | 1 => nomatch hq | 2 => nomatch hq)
    (fun q _ => match q with | 0 => tileObl1 m | 1 => tileObl2 m | 2 => tileObl3 m)
    (fun q _ => match q with | 0 => SparseCore.Cfg.VecSplit.of_plain (vecSplit1 m) | 1 => SparseCore.Cfg.VecSplit.of_plain (vecSplit2 m) | 2 => SparseCore.Cfg.VecSplit.of_plain (vecSplit3 m))
    m ρ main (G (F := F)) (FIN m) (u₀ (F := F)) (sep_elim_left.trans (hu₀ m)) (hmain m ρ) (fq m) (hfin m) (QC m) (fq_QC m)

end Cert.Whole

end
-- ==== Proof.Whole.PickValue.lean ====
/-
  WHAT A PICK IS, at the ideal values. The table's thirty-two parts are summed bin by bin; the running sums over the bins are exact, so the
  one bin at which they pass the rank is the pick's first word, and the rank less the running sum before that bin is its second.
-/
module

public import proofs.«01_k».proof.Proof.Whole.Pick
public import Idealize.ShloMosaic.PureOps.Ideal.Laws
public import Idealize.ShloMosaic.Lib.MatmulPlain
public import Idealize.ShloMosaic.Lib.WordCmp
public import Idealize.ShloMosaic.Lib.ValueLayoutCasts
public import Idealize.ShloMosaic.Lib.Pipeline.Value

@[expose] public section

noncomputable section

namespace Cert.Whole

open Cert.KernelIdeal Cert.KernelIdeal.Gen
open Idealize.ShloMosaic hiding ix1 ix2 ix3
open Idealize.ShloMosaic.ValueIdx Idealize.ShloMosaic.WordCmp Idealize.ShloMosaic.Ideal
open scoped BigOperators

variable (t : S32x32x128.Idx → BitVec 32)

/-- The words the thirty-two parts hold at row `r`, lane `c`, summed. -/
def rowTot (r : Fin 32) (c : Fin 128) : ℕ := ∑ p : Fin 32, (t (ix3 p r c)).toNat
/-- The same by the bin's number. -/
def binTot (b : ℕ) : ℕ := if h : b < 4096 then rowTot t ⟨b / 128, by omega⟩ ⟨b % 128, by omega⟩ else 0
/-- The running sum over the bins before `b`. -/
def running (b : ℕ) : ℕ := ∑ x ∈ Finset.range b, binTot t x

theorem binTot_at (r : Fin 32) (c : Fin 128) : binTot t (r.val * 128 + c.val) = rowTot t r c := by
  unfold binTot
  rw [dif_pos (by omega)]
  congr 1 <;> apply Fin.ext <;> simp only <;> omega

theorem running_succ (b : ℕ) : running t (b + 1) = running t b + binTot t b := Finset.sum_range_succ _ _
theorem running_mono {a b : ℕ} (h : a ≤ b) : running t a ≤ running t b :=
  Finset.sum_le_sum_of_subset (Finset.range_subset_range.mpr h)

/-- The lanes of row `r` before lane `c`. -/
theorem running_lanes (r : Fin 32) (c : ℕ) (hc : c ≤ 128) :
    running t (r.val * 128 + c) = running t (r.val * 128) + ∑ k : Fin 128, if k.val < c then rowTot t r k else 0 := by
  unfold running
  rw [Finset.sum_range_add]
  refine congrArg _ ?_
  rw [← Finset.sum_filter]
  refine Finset.sum_bij' (fun x _ => (⟨x % 128, by omega⟩ : Fin 128)) (fun k _ => k.val) ?_ ?_ ?_ ?_ ?_
  · intro x hx
    have := Finset.mem_range.mp hx
    refine Finset.mem_filter.mpr ⟨Finset.mem_univ _, ?_⟩
    show x % 128 < c
    omega
  · intro k hk; exact Finset.mem_range.mpr (Finset.mem_filter.mp hk).2
  · intro x hx
    have := Finset.mem_range.mp hx
    show x % 128 = x
    omega
  · intro k _; apply Fin.ext; show k.val % 128 = k.val; omega
  · intro x hx
    have := Finset.mem_range.mp hx
    rw [← binTot_at]
    show _ = binTot t (r.val * 128 + x % 128)
    rw [Nat.mod_eq_of_lt (by omega)]

/-- The rows before row `r`. -/
theorem running_rows (r : ℕ) (hr : r ≤ 32) : running t (r * 128) = ∑ k : Fin 32, if k.val < r then ∑ c : Fin 128, rowTot t k c else 0 := by
  induction r with
  | zero => simp [running]
  | succ r ih =>
    have e := running_lanes t ⟨r, by omega⟩ 128 le_rfl
    rw [show (r + 1) * 128 = r * 128 + 128 by ring]
    refine e.trans ?_
    rw [ih (by omega)]
    have : ∀ k : Fin 32, (if k.val < r + 1 then ∑ c : Fin 128, rowTot t k c else 0)
        = (if k.val < r then ∑ c : Fin 128, rowTot t k c else 0) + if k = ⟨r, by omega⟩ then ∑ c : Fin 128, rowTot t k c else 0 := by
      intro k
      by_cases h : k.val < r
      · rw [if_pos (by omega), if_pos h, if_neg (fun e => by rw [e] at h; exact absurd h (lt_irrefl _)), add_zero]
      · by_cases h' : k.val = r
        · rw [if_pos (by omega), if_neg h, if_pos (Fin.ext h'), zero_add]
        · rw [if_neg (by omega), if_neg h, if_neg (fun e => h' (congrArg Fin.val e))]
    rw [Finset.sum_congr rfl fun k _ => this k, Finset.sum_add_distrib, Finset.sum_ite_eq' Finset.univ, if_pos (Finset.mem_univ _)]
    refine congrArg _ (Finset.sum_congr rfl fun k _ => if_pos k.isLt)

/-! ## The payloads -/

section
variable (ht : ∀ i, (t i).toNat < 2 ^ 31)
include ht

theorem toInt_small {x : BitVec 32} (h : x.toNat < 2 ^ 31) : x.toInt = (x.toNat : ℤ) := toInt_eq_toNat_of_lt_half h

omit ht in
theorem sitofp_small {x : BitVec 32} (h : x.toNat < 2 ^ 31) : (FloatOps.sitofp .f32 x : Ideal .f32) = ((x.toNat : ℕ) : EReal) := by
  show (((x.toInt : ℤ) : ℝ) : EReal) = _
  rw [toInt_eq_toNat_of_lt_half h, Int.cast_natCast]
  rfl

/-- The parts' sum. -/
theorem pay2_eq (r : Fin 32) (c : Fin 128) : k1_pay2 (F := Ideal) t (ix2 r c) = ((rowTot t r c : ℕ) : EReal) := by
  unfold k1_pay2 rowTot
  refine (multiReduction_add_single _ _ _ _ _ _).trans ?_
  rw [Nat.cast_sum]
  refine Finset.sum_congr rfl fun p _ => ?_
  rw [sitofp_apply, shapeCast_self]
  have e : (reduces_S32x32x128_S32x128).lift (ix2 r c) p = ix3 p r c := by
    funext a; match a with | ⟨0, _⟩ => rfl | ⟨1, _⟩ => rfl | ⟨2, _⟩ => rfl
  rw [e]; exact sitofp_small (ht _)

omit ht in
/-- A comparison's bit as a value. -/
theorem bit_value (p : Prop) [Decidable p] : (FloatOps.sitofp .f32 ((BitVec.ofBool (decide p)).setWidth 32) : Ideal .f32) = if p then 1 else 0 := by
  by_cases h : p
  · rw [if_pos h, decide_eq_true h, sitofp_small (by decide)]; exact Nat.cast_one
  · rw [if_neg h, decide_eq_false h, sitofp_small (by decide)]; exact Nat.cast_zero

omit ht in
theorem ite_value (p : Prop) [Decidable p] (n : ℕ) : (if p then 1 else 0 : EReal) * (n : EReal) = ((if p then n else 0 : ℕ) : EReal) := by
  by_cases h : p
  · rw [if_pos h, if_pos h, one_mul]
  · rw [if_neg h, if_neg h, zero_mul, Nat.cast_zero]

omit ht in
theorem ite_value' (p : Prop) [Decidable p] (n : ℕ) : (n : EReal) * (if p then 1 else 0 : EReal) = ((if p then n else 0 : ℕ) : EReal) := by
  rw [mul_comm]; exact ite_value p n

omit ht in
/-- The matrix that keeps the rows before a row. -/
theorem before_row (r k : Fin 32) :
    (sitofp .f32 (extui 32 (cmpi .slt (iota .tc S32x32 32 [1] iota_S32x32_d1_w32) (iota .tc S32x32 32 [0] iota_S32x32_d0_w32)) natLt_1_32) : FVec Ideal S32x32 .f32) (ix2 r k)
      = if k.val < r.val then 1 else 0 := by
  have hr := r.isLt; have hk := k.isLt
  refine Eq.trans ?_ (bit_value (k.val < r.val))
  show FloatOps.sitofp .f32 ((IntOp.cmpi .slt (BitVec.ofNat 32 (0 * 32 + k.val)) (BitVec.ofNat 32 (0 * 32 + r.val))).setWidth 32) = _
  rw [Nat.zero_mul, Nat.zero_add, Nat.zero_add, cmpi_slt_ofNat (by omega) (by omega)]

omit ht in
/-- The matrix that keeps the lanes through a lane. -/
theorem through_lane (k c : Fin 128) :
    (sitofp .f32 (extui 32 (cmpi .sle (iota .tc S128x128 32 [0] iota_S128x128_d0_w32) (iota .tc S128x128 32 [1] iota_S128x128_d1_w32)) natLt_1_32) : FVec Ideal S128x128 .f32) (ix2 k c)
      = if k.val < c.val + 1 then 1 else 0 := by
  have hr := c.isLt; have hk := k.isLt
  refine Eq.trans ?_ (bit_value (k.val < c.val + 1))
  show FloatOps.sitofp .f32 ((IntOp.cmpi .sle (BitVec.ofNat 32 (0 * 128 + k.val)) (BitVec.ofNat 32 (0 * 128 + c.val))).setWidth 32) = _
  rw [Nat.zero_mul, Nat.zero_add, Nat.zero_add, cmpi_sle_ofNat (by omega) (by omega)]
  simp only [Nat.lt_succ_iff]

/-- The rows before row `r`, lane by lane. -/
theorem rows_before (L : FVec Ideal S32x32 .f32) (r : Fin 32) (hL : ∀ k : Fin 32, L (ix2 r k) = if k.val < r.val then 1 else 0) (c : Fin 128) :
    matmul dot_S32x32_S32x128_S32x128_1_0_0_1_n_n (some .fp32) L (k1_pay2 (F := Ideal) t) (constant S32x128 .f32 0x00000000#32) (ix2 r c)
      = ((∑ k : Fin 32, (if k.val < r.val then rowTot t k c else 0) : ℕ) : EReal) := by
  refine (matmul_plain_apply (M := 32) (K := 32) (N := 128) (some .fp32) L (k1_pay2 (F := Ideal) t) (constant S32x128 .f32 0x00000000#32) r c).trans ?_
  rw [show (constant S32x128 .f32 0x00000000#32 : FVec Ideal S32x128 .f32) (ix2 r c) = 0 from ofBits_zero_f32, zero_add, Nat.cast_sum]
  refine Finset.sum_congr rfl fun k _ => ?_
  rw [hL, pay2_eq t ht]
  exact ite_value _ _

/-- The lanes of row `r` through lane `c`. -/
theorem lanes_through (U : FVec Ideal S128x128 .f32) (r : Fin 32) (c : Fin 128) (hU : ∀ k : Fin 128, U (ix2 k c) = if k.val < c.val + 1 then 1 else 0) :
    matmul dot_S32x128_S128x128_S32x128_1_0_0_1_n_n (some .fp32) (k1_pay2 (F := Ideal) t) U (constant S32x128 .f32 0x00000000#32) (ix2 r c)
      = ((∑ k : Fin 128, (if k.val < c.val + 1 then rowTot t r k else 0) : ℕ) : EReal) := by
  refine (matmul_plain_apply (M := 32) (K := 128) (N := 128) (some .fp32) (k1_pay2 (F := Ideal) t) U (constant S32x128 .f32 0x00000000#32) r c).trans ?_
  rw [show (constant S32x128 .f32 0x00000000#32 : FVec Ideal S32x128 .f32) (ix2 r c) = 0 from ofBits_zero_f32, zero_add, Nat.cast_sum]
  refine Finset.sum_congr rfl fun k _ => ?_
  rw [hU, pay2_eq t ht]
  exact ite_value' _ _

omit ht in
/-- A row's sum, as the column it is cast to and spread from. -/
theorem spread_sum (v : FVec Ideal S32x128 .f32) (r : Fin 32) (c : Fin 128) :
    broadcastTo S32x128 (shapeCast S32x1 (multiReduction .add [1] S32 v 0x00000000#32 reduces_S32x128_S32 (.inl rfl) rfl) shapeCasts_S32_S32x1) broadcasts_S32x1_S32x128 (ix2 r c)
      = ∑ c' : Fin 128, v (ix2 r c') := by
  refine (broadcastTo_apply _ broadcasts_S32x1_S32x128 (ix2 r c) (ix2 r 0) ?_).trans
    ((shapeCast_a_a1_apply _ shapeCasts_S32_S32x1 r 0).trans ((multiReduction_add_single _ _ _ _ _ _).trans ?_))
  · intro a; match a with | ⟨0, _⟩ => rfl | ⟨1, _⟩ => rfl
  refine Finset.sum_congr rfl fun c' _ => congrArg v ?_
  funext a; match a with | ⟨0, _⟩ => rfl | ⟨1, _⟩ => rfl

/-- The running sum through a bin. -/
theorem pay4_eq (r : Fin 32) (c : Fin 128) : k1_pay4 (F := Ideal) t (ix2 r c) = ((running t (r.val * 128 + c.val + 1) : ℕ) : EReal) := by
  unfold k1_pay4
  have hr := r.isLt; have hc := c.isLt
  refine Eq.trans (congrArg₂ (· + ·) (spread_sum _ r c) (lanes_through t ht _ r c fun k => through_lane k c)) ?_
  rw [Nat.add_assoc, running_lanes t r (c.val + 1) (by omega), running_rows t r.val (by omega), Nat.cast_add]
  refine congrArg₂ (· + ·) ?_ rfl
  refine (Finset.sum_congr rfl fun c' _ => rows_before t ht _ r (fun k => before_row r k) c').trans ?_
  rw [← Nat.cast_sum, Finset.sum_comm]
  refine congrArg _ (Finset.sum_congr rfl fun k _ => ?_)
  by_cases h : k.val < r.val
  · simp only [if_pos h]
  · simp only [if_neg h, Finset.sum_const_zero]

/-- The running sum before a bin. -/
theorem pay5_eq (r : Fin 32) (c : Fin 128) : k1_pay5 (F := Ideal) t (ix2 r c) = ((running t (r.val * 128 + c.val) : ℕ) : EReal) := by
  unfold k1_pay5
  show k1_pay4 (F := Ideal) t (ix2 r c) - k1_pay2 (F := Ideal) t (ix2 r c) = _
  rw [pay4_eq t ht, pay2_eq t ht, running_succ, binTot_at, ← EReal.coe_natCast, ← EReal.coe_natCast, ← EReal.coe_natCast, ← EReal.coe_sub, Nat.cast_add, add_sub_cancel_right]

/-- Whether the running sums pass the rank at a bin. -/
theorem pay6_eq (R : BitVec 32) (hR : R.toNat < 2 ^ 31) (r : Fin 32) (c : Fin 128) :
    k1_pay6 (F := Ideal) t R (ix2 r c)
      = BitVec.ofBool (decide (running t (r.val * 128 + c.val) ≤ R.toNat) && decide (R.toNat < running t (r.val * 128 + c.val + 1))) := by
  unfold k1_pay6
  show IntOp.andi (Ideal.cmp .ole (k1_pay5 (F := Ideal) t (ix2 r c)) (FloatOps.sitofp .f32 R : Ideal .f32)) (Ideal.cmp .olt (FloatOps.sitofp .f32 R : Ideal .f32) (k1_pay4 (F := Ideal) t (ix2 r c))) = _
  rw [pay4_eq t ht, pay5_eq t ht, sitofp_small hR, ← andi_ofBool]
  show IntOp.andi (BitVec.ofBool (decide _)) (BitVec.ofBool (decide _)) = _
  simp only [EReal.natCast_le_iff, EReal.natCast_lt_iff]

omit ht in
/-- The total of a row-by-lane array with one entry that is not zero. -/
theorem total_one (v : FVec Ideal S32x128 .f32) (i0 : S32x128.Idx) (h0 : ∀ i, i ≠ i0 → v i = 0) :
    extractAt ![0, 0, 0] (shapeCast S1x1x1 (multiReduction .add [1, 2] S1 (shapeCast S1x32x128 v shapeCasts_S32x128_S1x32x128) 0x00000000#32 reduces_S1x32x128_S1 (.inl rfl) rfl) shapeCasts_S1_S1x1x1) inpos_S1x1x1_p0_0_0
      = v i0 := by
  refine (multiReduction_add_total _ 0x00000000#32 _ (fun b => ?_) (.inl rfl) rfl _).trans ?_
  · match b with | ⟨0, _⟩ => rfl
  refine (Equiv.sum_comp (Shape.reshapeEquiv shapeCasts_S32x128_S1x32x128) v).trans ?_
  exact Finset.sum_eq_single i0 (fun i _ h => h0 i h) fun h => absurd (Finset.mem_univ _) h

omit ht in
/-- A whole number's word. -/
theorem fptosi_nat (n : ℕ) (h : n < 2 ^ 31) : (FloatOps.fptosi (F := Ideal) (φ := .f32) 32 ((n : ℕ) : EReal) : BitVec 32) = BitVec.ofNat 32 n := by
  show BitVec.ofInt 32 (Ideal.toIntClamped (-(2 ^ (32 - 1) : Nat)) ((2 ^ (32 - 1) : Nat) - 1) ((n : ℕ) : EReal)) = _
  rw [← EReal.coe_natCast, toIntClamped_coe, if_pos (Nat.cast_nonneg n), Int.floor_natCast, min_eq_right (by push_cast; omega), max_eq_right (by push_cast; omega)]
  rfl

section
variable (R : BitVec 32) (hR : R.toNat < 2 ^ 31) (b : ℕ) (hb : b < 4096) (hlo : running t b ≤ R.toNat) (hhi : R.toNat < running t (b + 1))
include hR hlo hhi

/-- The bit is set at the one bin where the running sums pass the rank. -/
theorem pay6_iff (r : Fin 32) (c : Fin 128) : k1_pay6 (F := Ideal) t R (ix2 r c) = BitVec.ofBool (decide (r.val * 128 + c.val = b)) := by
  rw [pay6_eq t ht R hR]
  refine congrArg _ ?_
  rw [← Bool.decide_and]
  refine decide_eq_decide.mpr ⟨fun ⟨h1, h2⟩ => ?_, fun h => by rw [h]; exact ⟨hlo, hhi⟩⟩
  rcases Nat.lt_trichotomy (r.val * 128 + c.val) b with h | h | h
  · have := running_mono t (Nat.succ_le_of_lt h); simp only [Nat.succ_eq_add_one] at this; omega
  · exact h
  · have := running_mono t (Nat.succ_le_of_lt h); simp only [Nat.succ_eq_add_one] at this; omega

include hb

/-- An array kept at that bin and zero elsewhere totals its entry there. -/
theorem kept_total (v z : FVec Ideal S32x128 .f32) (hz : ∀ i, z i = 0) :
    extractAt ![0, 0, 0] (shapeCast S1x1x1 (multiReduction .add [1, 2] S1 (shapeCast S1x32x128 (select (k1_pay6 (F := Ideal) t R) v z) shapeCasts_S32x128_S1x32x128) 0x00000000#32 reduces_S1x32x128_S1 (.inl rfl) rfl) shapeCasts_S1_S1x1x1) inpos_S1x1x1_p0_0_0
      = v (ix2 ⟨b / 128, by omega⟩ ⟨b % 128, by omega⟩) := by
  refine (total_one _ (ix2 ⟨b / 128, by omega⟩ ⟨b % 128, by omega⟩) fun i hi => ?_).trans ?_
  · obtain ⟨r, c, rfl⟩ : ∃ r c, i = ix2 r c := ⟨i 0, i 1, ValueIdx.eq_ix2 i⟩
    rw [select_apply, pay6_iff t ht R hR b hlo hhi, decide_eq_false]
    · exact hz _
    intro h
    have hc := c.isLt
    refine hi ?_
    have e0 : r = ⟨b / 128, by omega⟩ := Fin.ext (by show r.val = b / 128; omega)
    have e1 : c = ⟨b % 128, by omega⟩ := Fin.ext (by show c.val = b % 128; omega)
    exact congrArg₂ ix2 e0 e1
  · rw [select_apply, pay6_iff t ht R hR b hlo hhi, decide_eq_true]
    · rfl
    show b / 128 * 128 + b % 128 = b
    omega

theorem pay7_eq : k1_pay7 (F := Ideal) t R = ((b : ℕ) : EReal) := by
  unfold k1_pay7
  refine (kept_total t ht R hR b hb hlo hhi _ _ fun i => ofBits_zero_f32).trans ?_
  show FloatOps.sitofp .f32 (IntOp.addi (IntOp.muli (BitVec.ofNat 32 (0 * 32 + b / 128)) 128#32) (BitVec.ofNat 32 (0 * 128 + b % 128))) = _
  have e : IntOp.addi (IntOp.muli (BitVec.ofNat 32 (0 * 32 + b / 128)) 128#32) (BitVec.ofNat 32 (0 * 128 + b % 128)) = BitVec.ofNat 32 b := by
    show BitVec.ofNat 32 (0 * 32 + b / 128) * BitVec.ofNat 32 128 + BitVec.ofNat 32 (0 * 128 + b % 128) = _
    rw [← BitVec.ofNat_mul, ← BitVec.ofNat_add]
    exact congrArg _ (by omega)
  have e' : (BitVec.ofNat 32 b).toNat = b := by rw [BitVec.toNat_ofNat]; exact Nat.mod_eq_of_lt (by omega)
  rw [e, sitofp_small (by rw [e']; omega), e']

theorem pay8_eq : k1_pay8 (F := Ideal) t R = ((running t b : ℕ) : EReal) := by
  unfold k1_pay8
  refine (kept_total t ht R hR b hb hlo hhi _ _ fun i => ofBits_zero_f32).trans ?_
  rw [pay5_eq t ht]
  exact congrArg (fun n => ((running t n : ℕ) : EReal)) (by show b / 128 * 128 + b % 128 = b; omega)

/-- The rank less the running sum, as a word. -/
theorem rest_eq : (FloatOps.fptosi 32 (Scalar.subf (k1_pay3 (F := Ideal) R) (k1_pay8 (F := Ideal) t R)) : BitVec 32) = BitVec.ofNat 32 (R.toNat - running t b) := by
  rw [pay8_eq t ht R hR b hb hlo hhi]
  unfold k1_pay3
  show FloatOps.fptosi (F := Ideal) (φ := .f32) 32 ((FloatOps.sitofp .f32 R : Ideal .f32) - ((running t b : ℕ) : EReal) : EReal) = _
  rw [sitofp_small hR, ← fptosi_nat _ (by omega), ← EReal.coe_natCast, ← EReal.coe_natCast, ← EReal.coe_natCast, ← EReal.coe_sub, Nat.cast_sub hlo]

/-- The pick's first word: the bin. -/
theorem pick_bin : pick (F := Ideal) t R (ix2 0 0) = BitVec.ofNat 32 b := by
  unfold pick k1_pay1
  show (FloatOps.fptosi 32 (k1_pay7 (F := Ideal) t R) : BitVec 32) = _
  rw [pay7_eq t ht R hR b hb hlo hhi]
  exact fptosi_nat b (by omega)

/-- The pick's second word: the rank among the bin's entries. -/
theorem pick_rest : pick (F := Ideal) t R (ix2 0 1) = BitVec.ofNat 32 (R.toNat - running t b) := by
  unfold pick k1_pay1
  show (FloatOps.fptosi 32 (Scalar.subf (k1_pay3 (F := Ideal) R) (k1_pay8 (F := Ideal) t R)) : BitVec 32) = _
  exact rest_eq t ht R hR b hb hlo hhi
end

end

end Cert.Whole

end
-- ==== Proof.Whole.Select.lean ====
/-
  WHICH WORD THE THREE LEVELS PICK, at the ideal values. A level's thirty-two histograms add up to the whole array's; its pick is the next
  digit of the threshold; and the three digits joined are the one number at which the count of smaller magnitudes passes the rank.
-/
module

public import proofs.«01_k».proof.Proof.Whole.Values
public import proofs.«01_k».proof.Proof.Whole.PickValue

@[expose] public section

noncomputable section

namespace Cert.Whole

open Cert.KernelIdeal Cert.KernelIdeal.Gen
open Idealize.ShloMosaic hiding ix1 ix2 ix3
open Idealize.ShloMosaic.ValueIdx Idealize.ShloMosaic.WordCmp Idealize.ShloMosaic.Ideal
open scoped BigOperators

/-! ## Counting -/

section
variable (hit : ℕ → BitVec 1) (bn q : ℕ → ℕ)

/-- The histogram's bins before `b` hold the hits whose bin is before `b`. -/
theorem count_bins (b N : ℕ) :
    ∑ x ∈ Finset.range b, Nat.count (fun k => hit k = 1#1 ∧ bn k = x) N = Nat.count (fun k => hit k = 1#1 ∧ bn k < b) N := by
  induction N with
  | zero => simp
  | succ N ih =>
    simp only [Nat.count_succ, Finset.sum_add_distrib, ih]
    refine congrArg _ ?_
    by_cases h : hit N = 1#1
    · simp [h]
    · simp [h]

/-- One digit more: the numbers before a longer prefix are those before the shorter one, and those that begin with it and whose next digit
    is smaller. -/
theorem count_digit (p K b : ℕ) (hb : b ≤ K) (hbn : ∀ k, bn k < K) (hq : ∀ k, hit k = 1#1 ↔ q k = p) (N : ℕ) :
    Nat.count (fun k => q k * K + bn k < p * K + b) N = Nat.count (fun k => q k < p) N + Nat.count (fun k => hit k = 1#1 ∧ bn k < b) N := by
  induction N with
  | zero => rfl
  | succ N ih =>
    simp only [Nat.count_succ, ih]
    have hN := hbn N
    have hqN := hq N
    rcases Nat.lt_trichotomy (q N) p with h | h | h
    · have h1 : (q N + 1) * K ≤ p * K := Nat.mul_le_mul_right K h
      rw [if_pos (show q N * K + bn N < p * K + b by rw [Nat.add_mul, Nat.one_mul] at h1; omega), if_pos h,
        if_neg (fun e => by have := hqN.mp e.1; omega)]
      omega
    · by_cases hd : bn N < b
      · rw [if_pos (by rw [h]; omega), if_neg (by omega), if_pos ⟨hqN.mpr h, hd⟩]; omega
      · rw [if_neg (by rw [h]; omega), if_neg (by omega), if_neg (fun e => hd e.2)]; omega
    · have h1 : (p + 1) * K ≤ q N * K := Nat.mul_le_mul_right K h
      rw [if_neg (show ¬ (q N * K + bn N < p * K + b) by rw [Nat.add_mul, Nat.one_mul] at h1; omega), if_neg (by omega),
        if_neg (fun e => by have := hqN.mp e.1; omega)]
      omega

end

/-- Where a count that starts at or below the rank and ends above it passes the rank. -/
theorem passes (c : ℕ → ℕ) (r K : ℕ) (h0 : c 0 ≤ r) (hK : r < c K) : ∃ b, b < K ∧ c b ≤ r ∧ r < c (b + 1) := by
  induction K with
  | zero => omega
  | succ K ih =>
    by_cases h : r < c K
    · obtain ⟨b, hb, h1, h2⟩ := ih h; exact ⟨b, by omega, h1, h2⟩
    · exact ⟨K, by omega, by omega, hK⟩

/-! ## The tables -/

section
variable (X : S4194304.Idx → BitVec 32)

/-- Word `n`. -/
def wordAt (n : ℕ) : BitVec 32 := if h : n < 4194304 then X (Shape.ofLane (d := ![4194304]) ⟨n, h⟩) else 0#32

variable (msk : BitVec 32 → BitVec 1) (bin : BitVec 32 → ℕ)

theorem total_le (p b : ℕ) : total (F := Ideal) X p msk bin b ≤ 131072 := Nat.count_le _

theorem sum_total (b n : ℕ) : ∑ p ∈ Finset.range n, total (F := Ideal) X p msk bin b
    = Nat.count (fun k => msk (wordAt X k) = 1#1 ∧ bin (wordAt X k) = b) (131072 * n) := by
  induction n with
  | zero => rfl
  | succ n ih => rw [Finset.sum_range_succ, ih, Nat.mul_succ, Nat.count_add]; rfl

theorem table_toNat (i : S32x32x128.Idx) :
    (table (F := Ideal) X msk bin i : BitVec 32).toNat = total (F := Ideal) X (i 0).val msk bin ((i 1).val * 128 + (i 2).val) := by
  show (BitVec.ofNat 32 _).toNat = _
  rw [BitVec.toNat_ofNat]
  have := total_le X msk bin (i 0).val ((i 1).val * 128 + (i 2).val)
  exact Nat.mod_eq_of_lt (by omega)

theorem table_small (i : S32x32x128.Idx) : (table (F := Ideal) X msk bin i : BitVec 32).toNat < 2 ^ 31 := by
  rw [table_toNat]
  have := total_le X msk bin (i 0).val ((i 1).val * 128 + (i 2).val)
  omega

/-- A bin of the summed table counts over the whole array. -/
theorem binTot_table (b : ℕ) (hb : b < 4096) :
    binTot (table (F := Ideal) X msk bin) b = Nat.count (fun k => msk (wordAt X k) = 1#1 ∧ bin (wordAt X k) = b) 4194304 := by
  have e := sum_total X msk bin b 32
  rw [Finset.sum_range] at e
  unfold binTot rowTot
  rw [dif_pos hb]
  refine Eq.trans (Finset.sum_congr rfl fun p _ => ?_) e
  rw [table_toNat]
  exact congrArg (total (F := Ideal) X p.val msk bin) (by show b / 128 * 128 + b % 128 = b; omega)

theorem running_table (b : ℕ) (hb : b ≤ 4096) :
    running (table (F := Ideal) X msk bin) b = Nat.count (fun k => msk (wordAt X k) = 1#1 ∧ bin (wordAt X k) < b) 4194304 := by
  rw [← count_bins]
  exact Finset.sum_congr rfl fun x hx => binTot_table X msk bin x (by have := Finset.mem_range.mp hx; omega)

/-- How many words have a number before `p`. -/
def before (f : BitVec 32 → ℕ) (p : ℕ) : ℕ := Nat.count (fun k => f (wordAt X k) < p) 4194304

/-- One level: from the prefix at which the counts pass the rank, the pick is the next digit and the rank that is left. -/
theorem level_step (q : BitVec 32 → ℕ) (p K r : ℕ) (R : BitVec 32) (hK : K ≤ 4096) (hr : r < 2 ^ 31) (hbin : ∀ w, bin w < K)
    (hmsk : ∀ w, msk w = 1#1 ↔ q w = p) (hlo : before X q p ≤ r) (hhi : r < before X q (p + 1)) (hR : R.toNat = r - before X q p) :
    ∃ b, b < K ∧ pick (F := Ideal) (table (F := Ideal) X msk bin) R (ix2 0 0) = BitVec.ofNat 32 b
      ∧ (pick (F := Ideal) (table (F := Ideal) X msk bin) R (ix2 0 1)).toNat = r - before X (fun w => q w * K + bin w) (p * K + b)
      ∧ before X (fun w => q w * K + bin w) (p * K + b) ≤ r ∧ r < before X (fun w => q w * K + bin w) (p * K + b + 1) := by
  have hd : ∀ b, b ≤ K → before X (fun w => q w * K + bin w) (p * K + b) = before X q p + running (table (F := Ideal) X msk bin) b := by
    intro b hb
    rw [running_table X msk bin b (by omega)]
    exact count_digit (fun k => msk (wordAt X k)) (fun k => bin (wordAt X k)) (fun k => q (wordAt X k)) p K b hb (fun k => hbin _) (fun k => hmsk _) _
  have hall : before X (fun w => q w * K + bin w) (p * K + K) = before X q (p + 1) := by
    unfold before
    rw [Nat.count_eq_card_filter_range, Nat.count_eq_card_filter_range]
    refine congrArg _ (Finset.filter_congr fun k _ => ?_)
    have hb := hbin (wordAt X k)
    show q (wordAt X k) * K + bin (wordAt X k) < p * K + K ↔ q (wordAt X k) < p + 1
    constructor
    · intro h
      by_contra hn
      have h1 : (p + 1) * K ≤ q (wordAt X k) * K := Nat.mul_le_mul_right K (by omega)
      rw [Nat.add_mul, Nat.one_mul] at h1
      omega
    · intro h
      have h1 : q (wordAt X k) * K ≤ p * K := Nat.mul_le_mul_right K (by omega)
      omega
  have hend := hd K le_rfl
  rw [hall] at hend
  obtain ⟨b, hbK, h1, h2⟩ := passes (running (table (F := Ideal) X msk bin)) R.toNat K (by show running _ 0 ≤ _; exact Nat.zero_le _) (by omega)
  have e1 := hd b (by omega)
  have e2 := hd (b + 1) (by omega)
  have ht := table_small X msk bin
  have hR' : R.toNat < 2 ^ 31 := by omega
  refine ⟨b, hbK, pick_bin _ ht R hR' b (by omega) h1 h2, ?_, by omega, by rw [Nat.add_assoc]; omega⟩
  rw [pick_rest _ ht R hR' b (by omega) h1 h2, BitVec.toNat_ofNat, Nat.mod_eq_of_lt (by omega)]
  omega

end

/-! ## The words' digits -/

/-- A word's magnitude: its low thirty-one bits. -/
def mag (b : BitVec 32) : ℕ := (b &&& 2147483647#32).toNat

theorem mag_lt (b : BitVec 32) : mag b < 2 ^ 31 := by
  unfold mag
  rw [BitVec.toNat_and]
  exact Nat.lt_of_le_of_lt Nat.and_le_right (by decide)

theorem shift_toNat (b : BitVec 32) (s : ℕ) : ((b &&& 2147483647#32).sshiftRight s).toNat = mag b / 2 ^ s := by
  have hm : (b &&& 2147483647#32).msb = false := by
    rw [BitVec.msb_eq_false_iff_two_mul_lt]
    have := mag_lt b
    unfold mag at this
    omega
  rw [BitVec.sshiftRight_eq_of_msb_false hm, BitVec.toNat_ushiftRight, Nat.shiftRight_eq_div_pow]
  rfl

theorem bin1_eq (b : BitVec 32) : Level1.bin b = mag b / 2 ^ 20 := shift_toNat b 20
theorem bin2_eq (b : BitVec 32) : Level2.bin b = mag b / 2 ^ 8 % 4096 := by
  unfold Level2.bin
  rw [BitVec.toNat_and, shift_toNat]
  exact Nat.and_two_pow_sub_one_eq_mod _ 12
theorem bin3_eq (b : BitVec 32) : Level3.bin b = mag b % 256 := by
  unfold Level3.bin
  rw [BitVec.toNat_and]
  exact Nat.and_two_pow_sub_one_eq_mod _ 8

theorem msk2_iff (p : ℕ) (hp : p < 2 ^ 32) (b : BitVec 32) : Level2.msk (BitVec.ofNat 32 p) b = 1#1 ↔ mag b / 2 ^ 20 = p := by
  unfold Level2.msk
  rw [cmpi_eq_eq, ofBool_eq_one_iff, decide_eq_true_iff, ← BitVec.toNat_inj, shift_toNat, BitVec.toNat_ofNat, Nat.mod_eq_of_lt hp]
theorem msk3_iff (p : ℕ) (hp : p < 2 ^ 32) (b : BitVec 32) : Level3.msk (BitVec.ofNat 32 p) b = 1#1 ↔ mag b / 2 ^ 8 = p := by
  unfold Level3.msk
  rw [cmpi_eq_eq, ofBool_eq_one_iff, decide_eq_true_iff, ← BitVec.toNat_inj, shift_toNat, BitVec.toNat_ofNat, Nat.mod_eq_of_lt hp]

theorem shift_digit (a s : ℕ) (ha : a * 2 ^ s < 2 ^ 32) : BitVec.ofNat 32 a <<< s = BitVec.ofNat 32 (a * 2 ^ s) := by
  apply BitVec.eq_of_toNat_eq
  have ha' : a ≤ a * 2 ^ s := Nat.le_mul_of_pos_right a (by positivity)
  rw [BitVec.toNat_shiftLeft, BitVec.toNat_ofNat, BitVec.toNat_ofNat, Nat.mod_eq_of_lt (a := a) (by omega), Nat.shiftLeft_eq]

/-- Two digits joined by a shift and an or. -/
theorem join_digits (a b s : ℕ) (hb : b < 2 ^ s) (hlt : a * 2 ^ s + b < 2 ^ 32) :
    BitVec.ofNat 32 (a * 2 ^ s) ||| BitVec.ofNat 32 b = BitVec.ofNat 32 (a * 2 ^ s + b) := by
  apply BitVec.eq_of_toNat_eq
  rw [BitVec.toNat_or, BitVec.toNat_ofNat, BitVec.toNat_ofNat, BitVec.toNat_ofNat, Nat.mod_eq_of_lt (a := a * 2 ^ s) (by omega),
    Nat.mod_eq_of_lt (a := b) (by omega), Nat.mod_eq_of_lt hlt, Nat.mul_comm a]
  exact (Nat.two_pow_add_eq_or_of_lt hb a).symm

/-! ## The threshold -/

section
variable (w : Vec Ideal S2048x2048 .i32)

theorem before_congr (X : S4194304.Idx → BitVec 32) {f g : BitVec 32 → ℕ} (h : ∀ b, f b = g b) (p : ℕ) : before X f p = before X g p := by
  rw [funext h]

/-- The three digits joined pass the rank among the magnitudes. -/
theorem threshold : ∃ T, T < 2 ^ 31 ∧ thr (F := Ideal) w = BitVec.ofNat 32 T
    ∧ before (flat (F := Ideal) w) mag T ≤ 2097152 ∧ 2097152 < before (flat (F := Ideal) w) mag (T + 1) := by
  have z0 : before (flat (F := Ideal) w) (fun _ => 0) 0 = 0 := by
    unfold before
    rw [Nat.count_eq_card_filter_range, Finset.card_eq_zero, Finset.filter_eq_empty_iff]
    intro k _ h
    exact absurd h (Nat.not_lt_zero _)
  have z1 : before (flat (F := Ideal) w) (fun _ => 0) (0 + 1) = 4194304 := by
    unfold before
    rw [Nat.count_eq_card_filter_range, Finset.filter_true_of_mem (fun _ _ => Nat.zero_lt_one), Finset.card_range]
  obtain ⟨b1, h1, e1, r1, lo1, hi1⟩ := level_step (flat (F := Ideal) w) Level1.msk Level1.bin (fun _ => 0) 0 2048 2097152 2097152#32 (by decide) (by decide)
    (fun b => by rw [bin1_eq]; have := mag_lt b; omega) (fun _ => ⟨fun _ => rfl, fun _ => rfl⟩) (by rw [z0]; omega) (by rw [z1]; omega) (by rw [z0]; rfl)
  have q1 : ∀ b, 0 * 2048 + Level1.bin b = mag b / 2 ^ 20 := fun b => by rw [bin1_eq]; omega
  rw [before_congr _ q1, Nat.zero_mul, Nat.zero_add] at r1 lo1 hi1
  have e1' : bin1 (F := Ideal) w = BitVec.ofNat 32 b1 := e1
  have r1' : (rank1 (F := Ideal) w).toNat = _ := r1
  obtain ⟨b2, h2, e2, r2, lo2, hi2⟩ := level_step (flat (F := Ideal) w) (Level2.msk (BitVec.ofNat 32 b1)) Level2.bin (fun b => mag b / 2 ^ 20) b1 4096 2097152
    (rank1 (F := Ideal) w) (by decide) (by decide) (fun b => by rw [bin2_eq]; omega) (msk2_iff b1 (by omega)) lo1 hi1 r1'
  have q2 : ∀ b, mag b / 2 ^ 20 * 4096 + Level2.bin b = mag b / 2 ^ 8 := fun b => by rw [bin2_eq]; omega
  rw [before_congr _ q2] at r2 lo2 hi2
  have e2' : bin2 (F := Ideal) w = BitVec.ofNat 32 b2 := by unfold bin2 pick2 tab2; rw [e1']; exact e2
  have r2' : (rank2 (F := Ideal) w).toNat = 2097152 - before (flat (F := Ideal) w) (fun b => mag b / 2 ^ 8) (b1 * 4096 + b2) := by unfold rank2 pick2 tab2; rw [e1']; exact r2
  have p3 : pref3 (F := Ideal) w = BitVec.ofNat 32 (b1 * 4096 + b2) := by
    show (bin1 (F := Ideal) w <<< 12) ||| bin2 (F := Ideal) w = _
    rw [e1', e2', shift_digit b1 12 (by omega)]
    exact join_digits b1 b2 12 h2 (by omega)
  obtain ⟨b3, h3, e3, r3, lo3, hi3⟩ := level_step (flat (F := Ideal) w) (Level3.msk (BitVec.ofNat 32 (b1 * 4096 + b2))) Level3.bin (fun b => mag b / 2 ^ 8)
    (b1 * 4096 + b2) 256 2097152 (rank2 (F := Ideal) w) (by decide) (by decide) (fun b => by rw [bin3_eq]; omega) (msk3_iff _ (by omega)) lo2 hi2 r2'
  have q3 : ∀ b, mag b / 2 ^ 8 * 256 + Level3.bin b = mag b := fun b => by rw [bin3_eq]; omega
  rw [before_congr _ q3] at r3 lo3 hi3
  have e3' : bin3 (F := Ideal) w = BitVec.ofNat 32 b3 := by unfold bin3 pick3 tab3; rw [p3]; exact e3
  refine ⟨(b1 * 4096 + b2) * 256 + b3, by omega, ?_, lo3, hi3⟩
  show ((bin1 (F := Ideal) w <<< 20) ||| (bin2 (F := Ideal) w <<< 8)) ||| bin3 (F := Ideal) w = _
  rw [e1', e2', e3', shift_digit b1 20 (by omega), shift_digit b2 8 (by omega), join_digits b1 (b2 * 2 ^ 8) 20 (by omega) (by omega),
    show b1 * 2 ^ 20 + b2 * 2 ^ 8 = (b1 * 4096 + b2) * 2 ^ 8 by ring]
  exact join_digits _ b3 8 h3 (by omega)

end

end Cert.Whole

end
-- ==== Proof.Whole.Sorted.lean ====
/-
  WHAT THE REFERENCE KEEPS, at the ideal values. The reference sorts the magnitudes and sets a one at every position in the upper half of the
  order. When the two middle magnitudes differ, that is a one exactly at the magnitudes that reach the one number at which the count of
  smaller magnitudes passes the middle.
-/
module

public import proofs.«01_k».proof.ReferenceIdeal
public import proofs.«01_k».proof.Pre_apart
public import proofs.«01_k».proof.Proof.Whole.Select
public import Idealize.ShloMosaic.Lib.SortFacts
public import Idealize.ShloMosaic.Lib.Routing.OpsPair
public import Idealize.ShloMosaic.Lib.IdealHost

@[expose] public section

noncomputable section

namespace Cert.Whole

open Idealize.ShloMosaic hiding ix1 ix2 ix3
open Idealize.ShloMosaic.ValueIdx Idealize.ShloMosaic.WordCmp Idealize.ShloMosaic.Ideal Idealize.ShloMosaic.Routing
open scoped BigOperators

/-! ## The middle of an order -/

/-- When the middle value of an order is above all those before it, it is the one number at which the counts pass the middle. -/
theorem upper_half {N J : ℕ} (hJ : J < N) (σ : Fin N → Fin N) (hσ : Function.Injective σ) (f : ℕ → ℕ)
    (hmono : ∀ i j : Fin N, i < j → f (σ i).val ≤ f (σ j).val) (hgap : ∀ i : Fin N, i.val < J → f (σ i).val < f (σ ⟨J, hJ⟩).val) (hsurj : Function.Surjective σ)
    (T : ℕ) (hlo : Nat.count (fun k => f k < T) N ≤ J) (hhi : J < Nat.count (fun k => f k < T + 1) N) (k : Fin N) :
    T ≤ f (σ k).val ↔ J ≤ k.val := by
  have hle : ∀ i j : Fin N, i ≤ j → f (σ i).val ≤ f (σ j).val := fun i j h => by
    rcases eq_or_lt_of_le h with e | e
    · rw [e]
    · exact hmono i j e
  have up : Nat.count (fun k => f k < f (σ ⟨J, hJ⟩).val) N ≤ J := by
    rw [Nat.count_eq_card_filter_range]
    refine le_trans (Finset.card_le_card (t := (Finset.univ.filter fun i : Fin N => i.val < J).image fun i => (σ i).val) fun x hx => ?_) (Finset.card_image_le.trans ?_)
    · obtain ⟨h1, h2⟩ := Finset.mem_filter.mp hx
      obtain ⟨i, hi⟩ := hsurj ⟨x, Finset.mem_range.mp h1⟩
      have e : (σ i).val = x := congrArg Fin.val hi
      refine Finset.mem_image.mpr ⟨i, Finset.mem_filter.mpr ⟨Finset.mem_univ _, ?_⟩, e⟩
      by_contra hn
      have := hle ⟨J, hJ⟩ i (Fin.le_def.mpr (by show J ≤ i.val; omega))
      rw [e] at this
      omega
    · refine le_of_le_of_eq (Finset.card_le_card_of_injOn (fun i => i.val) (t := Finset.range J) (fun i hi => Finset.mem_coe.mpr (Finset.mem_range.mpr (Finset.mem_filter.mp (Finset.mem_coe.mp hi)).2)) fun i _ j _ h => Fin.ext h) (Finset.card_range J)
  have down : J + 1 ≤ Nat.count (fun k => f k < f (σ ⟨J, hJ⟩).val + 1) N := by
    rw [Nat.count_eq_card_filter_range]
    refine le_trans (le_of_eq (Finset.card_range (J + 1)).symm) (Finset.card_le_card_of_injOn (fun i => if h : i < N then (σ ⟨i, h⟩).val else 0) (fun i hi => ?_) fun i hi j hj h => ?_)
    · have hi := Finset.mem_range.mp (Finset.mem_coe.mp hi)
      have hN : i < N := by omega
      refine Finset.mem_coe.mpr (Finset.mem_filter.mpr ⟨?_, ?_⟩)
      · show (if h : i < N then (σ ⟨i, h⟩).val else 0) ∈ Finset.range N
        rw [dif_pos hN]; exact Finset.mem_range.mpr (σ ⟨i, hN⟩).isLt
      · show f (if h : i < N then (σ ⟨i, h⟩).val else 0) < _
        rw [dif_pos hN]
        exact Nat.lt_succ_of_le (hle _ _ (Fin.le_def.mpr (by show i ≤ J; omega)))
    · have hi := Finset.mem_range.mp (Finset.mem_coe.mp hi)
      have hj := Finset.mem_range.mp (Finset.mem_coe.mp hj)
      have h : (if h : i < N then (σ ⟨i, h⟩).val else 0) = if h : j < N then (σ ⟨j, h⟩).val else 0 := h
      rw [dif_pos (show i < N by omega), dif_pos (show j < N by omega)] at h
      exact congrArg Fin.val (hσ (Fin.ext h))
  have mono : ∀ a b : ℕ, a ≤ b → Nat.count (fun k => f k < a) N ≤ Nat.count (fun k => f k < b) N := fun a b h =>
by
    rw [Nat.count_eq_card_filter_range, Nat.count_eq_card_filter_range]
    exact Finset.card_le_card fun x hx => Finset.mem_filter.mpr ⟨(Finset.mem_filter.mp hx).1, lt_of_lt_of_le (Finset.mem_filter.mp hx).2 h⟩
  have hT : T = f (σ ⟨J, hJ⟩).val := by
    rcases Nat.lt_trichotomy T (f (σ ⟨J, hJ⟩).val) with h | h | h
    · have := mono (T + 1) _ h; omega
    · exact h
    · have := mono (f (σ ⟨J, hJ⟩).val + 1) T h; omega
  rw [hT]
  constructor
  · intro h
    by_contra hn
    have := hgap k (by omega)
    omega
  · intro h
    exact hle ⟨J, hJ⟩ k (Fin.le_def.mpr h)

/-! ## The scatter of ones -/

/-- Update `i` of a scatter of `M` scalars into a vector of `N`, one index word each, lands at `x` exactly when its word is `x`. -/
theorem lands_at {N M : ℕ} (d : ScatterDims (shape1 N) (shape2 M 1) (shape1 M)) (hiw : d.insertedWindowDims = [0])
    (hsd : d.scatterDimsToOperandDims = [0]) (hivd : d.indexVectorDim = 1) (idx : IVec (shape2 M 1) 32) (i : Fin M) (x : Fin N) :
    d.resultIdx? (ix1 i) idx = some (ix1 x) ↔ (idx (ix2 i (0 : Fin 1))).toInt = (x.val : ℤ) := by
  have hm : (0 : Fin 1) ∈ d.scatterDimsToOperandDims := by rw [hsd]; exact List.mem_singleton.2 rfl
  have hw : d.window (ix1 i) 0 = 0 := by
    unfold ScatterDims.window
    exact dif_neg fun h => (of_decide_eq_true (List.mem_filter.1 h).2) (by rw [hiw]; exact List.mem_singleton.2 rfl)
  have hs : d.start (ix1 i) idx 0 = (idx (ix2 i (0 : Fin 1))).toInt := by
    unfold ScatterDims.start
    rw [dif_pos hm]
    refine congrArg (fun j => (idx j).toInt) (funext fun b => Fin.ext ?_)
    unfold ScatterDims.siIdx
    match b with
    | ⟨0, _⟩ =>
      rw [dif_neg (by rw [hivd]; exact Nat.zero_ne_one)]
      unfold ScatterDims.siCoord
      rw [Fin.val_cast]
      have e : ∀ a : Fin 1, ((ix1 i : (shape1 M).Idx) a).val = i.val := fun a => by obtain rfl := Subsingleton.elim a 0; rfl
      exact e _
    | ⟨1, _⟩ =>
      rw [dif_pos (by rw [hivd])]
      show List.idxOf (0 : Fin 1) d.scatterDimsToOperandDims = 0
      rw [hsd]; exact List.idxOf_cons_self
  rw [resultIdx?_ix1, hs, hw, Int.natCast_zero, Int.add_zero]

/-- Setting one value at some steps of a fold. -/
theorem foldl_set {κ α : Type} (L : List κ) (N : κ → Prop) [DecidablePred N] (one : κ → α) (v : α) (hv : ∀ n, one n = v) (x : α) :
    L.foldl (fun a n => if N n then one n else a) x = if ∃ n ∈ L, N n then v else x := by
  induction L generalizing x with
  | nil => rw [if_neg (by rintro ⟨n, h, _⟩; cases h)]; rfl
  | cons n L ih =>
    rw [List.foldl_cons, ih]
    by_cases h : ∃ m ∈ L, N m
    · obtain ⟨m, h1, h2⟩ := h
      rw [if_pos ⟨m, h1, h2⟩, if_pos ⟨m, List.mem_cons_of_mem _ h1, h2⟩]
    · rw [if_neg h]
      by_cases hn : N n
      · rw [if_pos hn, if_pos ⟨n, List.mem_cons_self, hn⟩, hv]
      · rw [if_neg hn, if_neg]
        rintro ⟨m, h1, h2⟩
        rcases List.mem_cons.mp h1 with rfl | h1
        · exact hn h2
        · exact h ⟨m, h1, h2⟩

/-- A scatter that sets one value, read at one element. -/
theorem scatter_set {N M : ℕ} {α : Type} (d : ScatterDims (shape1 N) (shape2 M 1) (shape1 M)) (hiw : d.insertedWindowDims = [0])
    (hsd : d.scatterDimsToOperandDims = [0]) (hivd : d.indexVectorDim = 1) (x0 : (shape1 N).Idx → α) (idx : IVec (shape2 M 1) 32)
    (upd : (shape1 M).Idx → α) (v : α) (hv : ∀ i, upd i = v) (x : Fin N) (p : Prop) [Decidable p]
    (hp : p ↔ ∃ i : Fin M, (idx (ix2 i (0 : Fin 1))).toInt = (x.val : ℤ)) :
    Host.scatter d (fun _ b => b) x0 idx upd (ix1 x) = if p then v else x0 (ix1 x) := by
  rw [scatter_at]
  refine (foldl_set _ _ _ v (fun n => hv _) _).trans ?_
  have e : p ↔ ∃ n ∈ List.finRange (shape1 M).numel, d.resultIdx? ((shape1 M).rowMajor.symm n) idx = some (ix1 x) := by
    rw [hp]
    constructor
    · rintro ⟨i, h⟩
      refine ⟨(shape1 M).rowMajor (ix1 i), List.mem_finRange _, ?_⟩
      rw [Equiv.symm_apply_apply, lands_at d hiw hsd hivd]
      exact h
    · rintro ⟨n, _, h⟩
      obtain ⟨i, hi⟩ : ∃ i : Fin M, (shape1 M).rowMajor.symm n = ix1 i := ⟨_, ValueIdx.eq_ix1 _⟩
      rw [hi, lands_at d hiw hsd hivd] at h
      exact ⟨i, h⟩
  by_cases h : p
  · rw [if_pos h]; exact if_pos (e.mp h)
  · rw [if_neg h]; exact if_neg (mt e.mpr h)

end Cert.Whole

end
-- ==== Proof.Whole.Upper.lean ====
/-
  THE REFERENCE'S MASK AND THE PRECONDITION, read through the one order of the magnitudes both sort by.
-/
module

public import proofs.«01_k».proof.Proof.Whole.Sorted
public import proofs.«01_k».proof.Proof.Gen.ReferenceIdeal
public import proofs.«01_k».proof.Proof.Gen.Pre_apart

@[expose] public section

noncomputable section

namespace Cert.Whole.Ref

open Cert.ReferenceIdeal Cert.ReferenceIdeal.Gen
open Idealize.ShloMosaic hiding ix1 ix2 ix3
open Idealize.ShloMosaic.ValueIdx Idealize.ShloMosaic.WordCmp Idealize.ShloMosaic.Ideal Idealize.ShloMosaic.Routing
open scoped BigOperators

/-- The positions sorted by their words: which position is `k`-th. -/
theorem sort2_places {n : ℕ} (cmp : BitVec 32 × BitVec 32 → BitVec 32 × BitVec 32 → BitVec 1) (key : BitVec 32 → BitVec 32 → BitVec 1)
    (hk : ∀ a b, cmp a b = key a.1 b.1) (x : (⟨1, ![n]⟩ : Shape).Idx → BitVec 32) (k : Fin n) :
    (Host.sort2 ⟨1, ![n]⟩ 0 cmp x (iotaInDim ⟨1, ![n]⟩ 32 0)).2 (Shape.Idx.ofFin k)
      = BitVec.ofNat 32 (sortedFrom (fun k k' => key (x (Shape.Idx.ofFin k)) (x (Shape.Idx.ofFin k')) == 1#1) k).val := by
  unfold Host.sort2
  simp [hk, iotaInDim]

section
variable (w : IVec S2048x2048 32)

/-- The magnitudes, flattened. -/
def mags : IVec S4194304 32 :=
  shapeCast S4194304 (andi w (broadcastInDim S2048x2048 ![] bcast_S_S2048x2048 (constantI S_ 32 2147483647#32))) shapeCasts_S2048x2048_S4194304

/-- The order of the magnitudes: which position is `k`-th. -/
def order : Fin 4194304 → Fin 4194304 :=
  sortedFrom (fun k k' => IntOp.cmpi .slt (mags w (Shape.Idx.ofFin k)) (mags w (Shape.Idx.ofFin k')) == 1#1)

/-- The magnitude at position `n`. -/
def magAt (n : ℕ) : ℕ := mag (wordAt (flat (F := Ideal) w) n)

theorem mags_at (k : Fin 4194304) : (mags w (Shape.Idx.ofFin k)).toNat = magAt w k.val := by
  unfold magAt wordAt
  rw [dif_pos k.isLt]
  rfl

theorem mags_lt (i : S4194304.Idx) : (mags w i).toNat < 2 ^ 31 := by
  obtain ⟨k, rfl⟩ : ∃ k : Fin 4194304, i = Shape.Idx.ofFin k := ⟨i 0, Shape.Idx.eq_ofFin i⟩
  rw [mags_at]
  exact mag_lt _

theorem slt_iff (i j : S4194304.Idx) : (IntOp.cmpi .slt (mags w i) (mags w j) == 1#1) = decide ((mags w i).toNat < (mags w j).toNat) := by
  rw [cmpi_slt_of_lt (mags_lt w i) (mags_lt w j)]
  by_cases h : (mags w i).toNat < (mags w j).toNat
  · rw [decide_eq_true h]; rfl
  · rw [decide_eq_false h]; rfl

theorem order_mono (i j : Fin 4194304) (hij : i < j) : magAt w (order w i).val ≤ magAt w (order w j).val := by
  have h := sortedFrom_noInversion (fun k k' => IntOp.cmpi .slt (mags w (Shape.Idx.ofFin k)) (mags w (Shape.Idx.ofFin k')) == 1#1)
    (fun k k' => IntOp.cmpi .slt (mags w (Shape.Idx.ofFin k)) (mags w (Shape.Idx.ofFin k')) == 1#1)
    (fun a b h => by rw [slt_iff, decide_eq_true_iff] at h; rw [slt_iff, decide_eq_false_iff_not]; omega)
    (fun a b h => h)
    (fun a b c h1 h2 => by rw [slt_iff, decide_eq_false_iff_not] at h1 h2 ⊢; omega) i j hij
  rw [slt_iff, decide_eq_false_iff_not] at h
  rw [← mags_at, ← mags_at]
  exact Nat.le_of_not_lt h

theorem order_injective : Function.Injective (order w) := sortedFrom_injective _
theorem order_surjective : Function.Surjective (order w) := sortedFrom_surjective _

/-- The positions in order, as the reference sorts them. -/
def places : IVec S4194304 32 := (Host.sort2 S4194304 0 comparator_i32_i32_d0 (mags w) (iotaInDim S4194304 32 0)).2

theorem places_at (k : Fin 4194304) : places w (Shape.Idx.ofFin k) = BitVec.ofNat 32 (order w k).val := by
  unfold places order
  exact sort2_places comparator_i32_i32_d0 (IntOp.cmpi .slt) (fun _ _ => rfl) (mags w) k

/-- The upper half of them. -/
def upper : IVec S2097152 32 := extractStridedSlice S2097152 ![2097152] (places w) slices_S4194304_S2097152_2097152

theorem upper_at (i : Fin 2097152) : upper w (ix1 i) = BitVec.ofNat 32 (order w ⟨2097152 + i.val, by omega⟩).val := by
  rw [← places_at]
  refine congrArg (places w) (funext fun a => Fin.ext ?_)
  match a with
  | ⟨0, _⟩ => rfl

/-- A one at each of them, zero elsewhere. -/
def ones : FVec Ideal S4194304 .f32 :=
  Host.scatter scatter_S4194304_S2097152x1_S2097152_n_0_0_1 (fun _ b => b) (broadcastInDim S4194304 ![] bcast_S_S4194304 (constant S_ .f32 0x00000000#32))
    (broadcastInDim S2097152x1 ![0] bcast_S2097152_S2097152x1_0
      (select (cmpi .slt (upper w) (broadcastInDim S2097152 ![] bcast_S_S2097152 (constantI S_ 32 0#32)))
        (addi (upper w) (broadcastInDim S2097152 ![] bcast_S_S2097152 (constantI S_ 32 4194304#32))) (upper w)))
    (broadcastInDim S2097152 ![] bcast_S_S2097152 (constant S_ .f32 0x3F800000#32))

theorem start_at (i : Fin 2097152) :
    (broadcastInDim S2097152x1 ![0] bcast_S2097152_S2097152x1_0
      (select (cmpi .slt (upper w) (broadcastInDim S2097152 ![] bcast_S_S2097152 (constantI S_ 32 0#32)))
        (addi (upper w) (broadcastInDim S2097152 ![] bcast_S_S2097152 (constantI S_ 32 4194304#32))) (upper w)) (ix2 i (0 : Fin 1)))
      = upper w (ix1 i) := by
  have e : ∀ v : IVec S2097152 32, broadcastInDim S2097152x1 ![0] bcast_S2097152_S2097152x1_0 v (ix2 i (0 : Fin 1)) = v (ix1 i) := fun v => by
    unfold broadcastInDim
    refine congrArg v (funext fun a => ?_)
    match a with
    | 0 => rfl
  rw [e]
  refine wrap_of_lt (upper w (ix1 i)) _ ?_
  rw [upper_at, BitVec.toNat_ofNat]
  have := (order w ⟨2097152 + i.val, by omega⟩).isLt
  omega

/-- The two middle magnitudes differ. -/
def Gap : Prop := ∀ i j : Fin 4194304, i.val = 2097151 → j.val = 2097152 → magAt w (order w i).val < magAt w (order w j).val

variable (hgap : Gap w)
  (T : ℕ) (hlo : before (flat (F := Ideal) w) mag T ≤ 2097152) (hhi : 2097152 < before (flat (F := Ideal) w) mag (T + 1))
include hgap hlo hhi

/-- The ones are at the magnitudes that reach the threshold. -/
theorem ones_at (n : Fin 4194304) : ones w (ix1 n) = if T ≤ magAt w n.val then (1 : EReal) else 0 := by
  have key := upper_half (J := 2097152) (by omega) (order w) (order_injective w) (magAt w) (order_mono w) (fun i hi => ?_) (order_surjective w) T hlo hhi
  · refine (scatter_set scatter_S4194304_S2097152x1_S2097152_n_0_0_1 rfl rfl rfl _ _ _ (1 : EReal) (fun i => ofBits_one_f32) n (T ≤ magAt w n.val) ?_).trans ?_
    · obtain ⟨k, rfl⟩ := order_surjective w n
      rw [key k]
      have hk := k.isLt
      constructor
      · intro h
        refine ⟨⟨k.val - 2097152, by omega⟩, ?_⟩
        rw [start_at, upper_at]
        have e : (⟨2097152 + (k.val - 2097152), by omega⟩ : Fin 4194304) = k := Fin.ext (by show 2097152 + (k.val - 2097152) = k.val; omega)
        rw [e]
        have := (order w k).isLt
        exact toInt_ofNat_of_lt (by omega)
      · rintro ⟨i, h⟩
        rw [start_at, upper_at, toInt_ofNat_of_lt (by have := (order w ⟨2097152 + i.val, by omega⟩).isLt; omega)] at h
        have := congrArg Fin.val (order_injective w (Fin.ext (Int.natCast_inj.mp h)))
        have : 2097152 + i.val = k.val := this
        omega
    · exact congrArg (fun z => if T ≤ magAt w n.val then (1 : EReal) else z) ofBits_zero_f32
  · rcases Nat.lt_or_ge i.val 2097151 with h | h
    · exact lt_of_le_of_lt (order_mono w i ⟨2097151, by omega⟩ (Fin.lt_def.mpr h)) (hgap _ _ rfl rfl)
    · have : i = ⟨2097151, by omega⟩ := Fin.ext (by show i.val = 2097151; omega)
      rw [this]
      exact hgap _ _ rfl rfl

end

end Cert.Whole.Ref

end
-- ==== Proof.Whole.Result.lean ====
/-
  THE TWO RESULTS ARE ONE, at the ideal values: entry `(r, c)` of both is the sum over `k` of row `r`'s entry times the weight at `(c, k)` where
  its magnitude reaches the threshold, and the bias at `c`.
-/
module

public import proofs.«01_k».proof.Proof.Whole.Upper
public import Idealize.ShloMosaic.Lib.StackMember

@[expose] public section

noncomputable section

namespace Cert.Whole.Ref

open Cert.ReferenceIdeal Cert.ReferenceIdeal.Gen
open Idealize.ShloMosaic hiding ix1 ix2 ix3
open Idealize.ShloMosaic.ValueIdx Idealize.ShloMosaic.WordCmp Idealize.ShloMosaic.Ideal
open scoped BigOperators

section
variable (x : FVec Ideal S8192x2048 .f32) (w : IVec S2048x2048 32) (fcw : FVec Ideal S2048x2048 .f32) (fcb : FVec Ideal S2048 .f32)

/-- The precondition: the two middle magnitudes differ. -/
theorem gap_of_pre (h : Cert.Pre_apart.fn (F := Ideal) x w fcw fcb = fun _ => 1#1) : Gap w := by
  intro i j hi hj
  have one : ∀ v : IVec (⟨1, ![1]⟩ : Shape) 32, ∀ (hc : (⟨1, ![1]⟩ : Shape).ShapeCasts S_) (j : S_.Idx), shapeCast S_ v hc j = v (ix1 (0 : Fin 1)) := fun v hc j =>
    congrArg v (funext fun a => by match a with | ⟨0, _⟩ => exact Subsingleton.elim (α := Fin 1) _ _)
  have e := congrFun h (fun a => a.elim0)
  unfold Cert.Pre_apart.fn Cert.Pre_apart.fn_sort at e
  have e' : IntOp.cmpi .slt (Host.sort S4194304 0 Cert.Pre_apart.comparator_i32_d0 (mags w) (Shape.Idx.ofFin i))
      (Host.sort S4194304 0 Cert.Pre_apart.comparator_i32_d0 (mags w) (Shape.Idx.ofFin j)) = 1#1 := by
    refine Eq.trans (congrArg₂ (IntOp.cmpi .slt) ?_ ?_) e
    · refine ((one _ _ _).trans ?_).symm
      refine congrArg (Host.sort S4194304 0 Cert.Pre_apart.comparator_i32_d0 (mags w)) (funext fun a => ?_)
      match a with | ⟨0, _⟩ => exact Fin.ext hi.symm
    · refine ((one _ _ _).trans ?_).symm
      refine congrArg (Host.sort S4194304 0 Cert.Pre_apart.comparator_i32_d0 (mags w)) (funext fun a => ?_)
      match a with | ⟨0, _⟩ => exact Fin.ext hj.symm
  rw [Host.sort_rank1, Host.sort_rank1] at e'
  have e2 : (IntOp.cmpi .slt (mags w (Shape.Idx.ofFin (order w i))) (mags w (Shape.Idx.ofFin (order w j))) == 1#1) = true :=
    beq_iff_eq.mpr e'
  rw [slt_iff, decide_eq_true_iff, mags_at, mags_at] at e2
  exact e2

/-- The reference's result, of its arguments. -/
def result : FVec Ideal S8192x2048 .f32 :=
  addf (Host.dotGeneral dot_S8192x2048_S2048x2048_S8192x2048_1_0_0_1_n_n none x
      (transpose S2048x2048 [1, 0] (mulf fcw (shapeCast S2048x2048 (ones w) shapeCasts_S4194304_S2048x2048)) transposes_S2048x2048_S2048x2048_1_0))
    (broadcastInDim S8192x2048 ![0, 1] bcast_S1x2048_S8192x2048_0_1 (broadcastInDim S1x2048 ![1] bcast_S2048_S1x2048_1 fcb))

/-- The magnitude at row `c`, column `k`. -/
theorem magAt_two (c k : Fin 2048) : magAt w (c.val * 2048 + k.val) = mag (w (ix2 c k)) := by
  unfold magAt wordAt
  have hc := c.isLt
  have hk := k.isLt
  rw [dif_pos (by omega)]
  refine congrArg mag (shapeCast_apply w _ _ (ix2 c k) ?_)
  rw [Shape.rowMajor_val_two, Shape.rowMajor_val_one]
  rfl

variable (T : ℕ) (hgap : Gap w)
  (hlo : before (flat (F := Ideal) w) mag T ≤ 2097152) (hhi : 2097152 < before (flat (F := Ideal) w) mag (T + 1))

/-- The common value. -/
def kept (c k : Fin 2048) : EReal := if T ≤ mag (w (ix2 c k)) then fcw (ix2 c k) else 0

include hgap hlo hhi in
theorem weight_at (c k : Fin 2048) :
    transpose S2048x2048 [1, 0] (mulf fcw (shapeCast S2048x2048 (ones w) shapeCasts_S4194304_S2048x2048)) transposes_S2048x2048_S2048x2048_1_0 (ix2 k c)
      = kept w fcw T c k := by
  have hc := c.isLt
  have hk := k.isLt
  have e1 : shapeCast S2048x2048 (ones w) shapeCasts_S4194304_S2048x2048 (ix2 c k) = if T ≤ mag (w (ix2 c k)) then (1 : EReal) else 0 := by
    refine (shapeCast_apply (ones w) _ _ (ix1 (⟨c.val * 2048 + k.val, by omega⟩ : Fin 4194304)) ?_).trans ?_
    · rw [Shape.rowMajor_val_two, Shape.rowMajor_val_one]
      rfl
    · rw [ones_at w hgap T hlo hhi, magAt_two]
  refine (transpose_apply _ _ _ _ (ix2 c k) (fun a => by match a with | ⟨0, _⟩ => rfl | ⟨1, _⟩ => rfl)).trans ?_
  show fcw (ix2 c k) * shapeCast S2048x2048 (ones w) shapeCasts_S4194304_S2048x2048 (ix2 c k) = _
  rw [e1]
  unfold kept
  by_cases h : T ≤ mag (w (ix2 c k))
  · rw [if_pos h, if_pos h, mul_one]
  · rw [if_neg h, if_neg h, mul_zero]

include hgap hlo hhi in
theorem result_at (r : Fin 8192) (c : Fin 2048) :
    result x w fcw fcb (ix2 r c) = (∑ k : Fin 2048, x (ix2 r k) * kept w fcw T c k) + fcb (ix1 c) := by
  unfold result
  refine congrArg₂ (· + ·) ?_ ?_
  · refine (StackMember.dotGeneral_plain_apply (m := 8192) (n := 2048) (k := 2048) none x _ r c).trans ?_
    exact Finset.sum_congr rfl fun k _ => congrArg (x (ix2 r k) * ·) (weight_at w fcw T hgap hlo hhi c k)
  · refine congrArg fcb (funext fun a => ?_)
    match a with | ⟨0, _⟩ => rfl

end

end Cert.Whole.Ref

namespace Cert.Whole

open Cert.KernelIdeal Cert.KernelIdeal.Gen
open Idealize.ShloMosaic hiding ix1 ix2 ix3
open Idealize.ShloMosaic.ValueIdx Idealize.ShloMosaic.WordCmp Idealize.ShloMosaic.Ideal
open scoped BigOperators

section
variable (x : FVec Ideal S8192x2048 .f32) (w : IVec S2048x2048 32) (fcw : FVec Ideal S2048x2048 .f32) (fcb : FVec Ideal S2048 .f32)
variable (T : ℕ) (hT : T < 2 ^ 31)
include hT

/-- The kernel's masked weights. -/
theorem masked_at (c k : Fin 2048) : masked (F := Ideal) w (BitVec.ofNat 32 T) fcw (ix2 c k) = Ref.kept w fcw T c k := by
  unfold masked k6_pay1
  rw [shapeCast_self]
  show Scalar.select (IntOp.cmpi .sge (w (ix2 c k) &&& 2147483647#32) (BitVec.ofNat 32 T)) (fcw (ix2 c k)) (FloatOps.ofBits (F := Ideal) .f32 0x00000000#32) = _
  have e : (BitVec.ofNat 32 T).toNat = T := by rw [BitVec.toNat_ofNat]; exact Nat.mod_eq_of_lt (by omega)
  rw [cmpi_sge_of_lt (mag_lt (w (ix2 c k))) (by rw [e]; exact hT), e]
  unfold Ref.kept
  by_cases h : T ≤ mag (w (ix2 c k))
  · rw [if_pos h, decide_eq_true (show T ≤ (w (ix2 c k) &&& 2147483647#32).toNat from h)]; rfl
  · rw [if_neg h, decide_eq_false (show ¬ T ≤ (w (ix2 c k) &&& 2147483647#32).toNat from h)]; exact ofBits_zero_f32

theorem product_at (r : Fin 8192) (c : Fin 2048) :
    product (F := Ideal) x (masked (F := Ideal) w (BitVec.ofNat 32 T) fcw) (shapeCast S1x2048 fcb shapeCasts_S2048_S1x2048) (ix2 r c)
      = (∑ k : Fin 2048, x (ix2 r k) * Ref.kept w fcw T c k) + fcb (ix1 c) := by
  unfold product k6_pay2
  have hr := r.isLt
  refine congrArg₂ (· + ·) ?_ ?_
  · refine (matmul_transposedRhs_apply (M := 512) (K := 2048) (N := 2048) none _ _ _ (⟨r.val % 512, Nat.mod_lt _ (by decide)⟩ : Fin 512) c).trans ?_
    refine Eq.trans (congrArg (· + _) ofBits_zero_f32) ((zero_add _).trans ?_)
    refine Finset.sum_congr rfl fun k _ => congrArg₂ (· * ·) ?_ (masked_at w fcw T hT c k)
    refine congrArg x ?_
    refine congrArg (fun a => ix2 a k) (Fin.ext ?_)
    show r.val / 512 * 512 + r.val % 512 = r.val
    omega
  · refine (broadcastTo_apply _ broadcasts_S1x2048_S512x2048 _ (ix2 0 c) ?_).trans ?_
    · intro a; match a with | ⟨0, _⟩ => rfl | ⟨1, _⟩ => rfl
    rw [shapeCast_self]
    refine shapeCast_apply fcb _ _ (ix1 c) ?_
    rw [Shape.rowMajor_val_two, Shape.rowMajor_val_one]
    show c.val = 0 * 2048 + c.val
    omega

end

/-- The kernel's result is the reference's, when the two middle magnitudes differ. -/
theorem outcome_eq (x : FVec Ideal S8192x2048 .f32) (w : IVec S2048x2048 32) (fcw : FVec Ideal S2048x2048 .f32) (fcb : FVec Ideal S2048 .f32)
    (h : Cert.Pre_apart.fn (F := Ideal) x w fcw fcb = fun _ => 1#1) : outcome (F := Ideal) w x fcw fcb = Ref.result x w fcw fcb := by
  obtain ⟨T, hT, e, hlo, hhi⟩ := threshold w
  funext j
  obtain ⟨r, c, rfl⟩ : ∃ (r : Fin 8192) (c : Fin 2048), j = ix2 r c := ⟨j 0, j 1, ValueIdx.eq_ix2 j⟩
  unfold outcome
  rw [e]
  exact (product_at x w fcw fcb T hT r c).trans (Ref.result_at x w fcw fcb T (Ref.gap_of_pre x w fcw fcb h) hlo hhi r c).symm

end Cert.Whole

end
-- ==== Proof.Whole.Same.lean ====
/-
  THE TWO PRINTS OF THE KERNEL ARE ONE PROGRAM, over the words of the floats: no operation was rewritten between them, so label by label their bodies
  are the same. What is proved of the one's run is so of the other's.
-/
module

public import proofs.«01_k».proof.Defs
public import proofs.«01_k».proof.Proof.Gen.Kernel
public import proofs.«01_k».proof.Proof.Gen.KernelIdeal

@[expose] public section

noncomputable section

namespace Cert.Whole.Same

open Idealize.ShloMosaic Idealize.SL.Sem

set_option maxHeartbeats 8000000 in
/-- The kernels' bodies. -/
theorem defs₀_eq : Cert.Kernel.defs₀ (F := Bits) = Cert.KernelIdeal.defs₀ (F := Bits) := by
  funext pr l a
  match pr, l, a with
  | .scVector c s, 0, _ => rfl
  | .scVector c s, 1, _ => rfl
  | .scVector c s, 2, _ => rfl
  | .scVector c s, 3, _ => rfl
  | .scVector c s, 4, _ => rfl
  | .scVector c s, 5, _ => rfl
  | .scVector c s, 6, _ => rfl
  | .tc, 0, _ => rfl
  | .tc, 1, _ => rfl
  | .tc, 2, _ => rfl
  | .tc, 3, _ => rfl
  | .tc, 4, _ => rfl
  | .tc, 5, _ => rfl
  | .tc, 6, _ => rfl
  | .scScalar c, 0, _ => rfl
  | .scScalar c, 1, _ => rfl
  | .scScalar c, 2, _ => rfl
  | .scScalar c, 3, _ => rfl
  | .scScalar c, 4, _ => rfl
  | .scScalar c, 5, _ => rfl
  | .scScalar c, 6, _ => rfl

set_option maxHeartbeats 4000000 in
/-- The whole table of bodies. -/
theorem defs_eq : Cert.Kernel.defs (F := Bits) = Cert.KernelIdeal.defs (F := Bits) :=
  congrArg (fun D => Cert.Kernel.sc.defs (Pipeline.defs Cert.Kernel.pcfgs D)) defs₀_eq

set_option maxHeartbeats 4000000 in
/-- What each thread starts with. -/
theorem threads_eq : Cert.Kernel.threads (F := Bits) = Cert.KernelIdeal.threads (F := Bits) := rfl

end Cert.Whole.Same

end
-- ==== Proof.Scatter.lean ====
/-
  THE REFERENCE'S SCATTER-ADD, read at one element. Update `(i, k)` of a 32 × 131072 table goes to row `i`, at the column its bin names, and
  adds one when its word counts: row `r`'s entry `j` ends at the number of row `r`'s words that count into bin `j` (`cnt`, as in Count.lean).
-/
module

public import proofs.«01_k».proof.Proof.Call
public import proofs.«01_k».proof.Proof.Gen.Counts.Run
public import Idealize.ShloMosaic.Lib.Routing.OpsPair
public import Idealize.ShloMosaic.Lib.WordCmp
public import Idealize.ShloMosaic.Lib.ShapeFacts
public import Idealize.ShloMosaic.Lib.ScatterToDense.Reading
public import Idealize.ShloMosaic.Lib.Pipeline.Value

@[expose] public section

noncomputable section

namespace Cert.Hist

open Idealize.ShloMosaic Idealize.ShloMosaic.ValueIdx Idealize.ShloMosaic.Routing

/-! ## The fold -/

/-- Adding a word at some steps of a fold: the sum of `1`s over the steps that are named and whose bit is one. -/
theorem foldl_bits {κ : Type} (L : List κ) (N : κ → Prop) [DecidablePred N] (bit : κ → BitVec 1) (x : BitVec 32) :
    L.foldl (fun a n => if N n then IntOp.addi a ((bit n).setWidth 32) else a) x
      = x + BitVec.ofNat 32 (L.countP fun n => N n ∧ bit n = 1#1) := by
  induction L generalizing x with
  | nil => simp
  | cons n L ih =>
    rw [List.foldl_cons, ih, List.countP_cons]
    by_cases hN : N n
    · by_cases hb : bit n = 1#1
      · simp only [hN, hb, if_true, decide_true, and_self, BitVec.ofNat_add]
        rw [show IntOp.addi x ((1#1 : BitVec 1).setWidth 32) = x + 1#32 from rfl, BitVec.add_assoc, BitVec.add_comm 1#32]
      · have h0 : bit n = 0#1 := by
          have := (bit n).isLt
          have h1 : (bit n).toNat ≠ 1 := fun e => hb (BitVec.eq_of_toNat_eq (by simpa using e))
          exact BitVec.eq_of_toNat_eq (by simp; omega)
        simp only [hN, h0, if_true]
        rw [show IntOp.addi x ((0#1 : BitVec 1).setWidth 32) = x + 0#32 from rfl, BitVec.add_zero]
        simp
    · simp [hN]

/-- Counting along the rows of a table, only row `r` counted: the count along that row. -/
theorem count_row {T K r : ℕ} (hK : 0 < K) (hr : r < T) (p : ℕ → Prop) [DecidablePred p] :
    Nat.count (fun n => n / K = r ∧ p (n % K)) (T * K) = Nat.count p K := by
  obtain ⟨t, rfl⟩ : ∃ t, T = r + (1 + t) := ⟨T - r - 1, by omega⟩
  rw [Nat.add_mul, Nat.count_add, Nat.add_mul, Nat.count_add, Nat.one_mul]
  have h1 : Nat.count (fun n => n / K = r ∧ p (n % K)) (r * K) = 0 := by
    rw [Nat.count_eq_card_filter_range, Finset.card_eq_zero, Finset.filter_eq_empty_iff]
    intro n hn h
    have := Nat.div_lt_of_lt_mul (show n < K * r by rw [Nat.mul_comm]; exact Finset.mem_range.mp hn)
    omega
  have h3 : Nat.count (fun k => (r * K + (K + k)) / K = r ∧ p ((r * K + (K + k)) % K)) (t * K) = 0 := by
    rw [Nat.count_eq_card_filter_range, Finset.card_eq_zero, Finset.filter_eq_empty_iff]
    intro n _ h
    have : r + 1 ≤ (r * K + (K + n)) / K := (Nat.le_div_iff_mul_le hK).mpr (by rw [Nat.add_mul]; omega)
    omega
  have h2 : Nat.count (fun k => (r * K + k) / K = r ∧ p ((r * K + k) % K)) K = Nat.count p K := by
    rw [Nat.count_eq_card_filter_range, Nat.count_eq_card_filter_range]
    congr 1
    refine Finset.filter_congr fun k hk => ?_
    have hk := Finset.mem_range.mp hk
    rw [Nat.mul_comm r K, Nat.mul_add_div hK, Nat.mul_add_mod, Nat.div_eq_of_lt hk, Nat.mod_eq_of_lt hk]
    simp
  rw [h1, h2, h3]; omega

/-- The scatter-add, read at row `r`'s column `j`. -/
theorem scatter_cnt {T C K : ℕ} (d : ScatterDims (shape2 T C) (shape3 T K 2) (shape2 T K)) (hiw : d.insertedWindowDims = [0, 1])
    (hsd : d.scatterDimsToOperandDims = [0, 1]) (hivd : d.indexVectorDim = 2) (hT : T ≤ 2 ^ 31) (hC : C ≤ 2 ^ 31) (hK : 0 < K)
    (x0 : (shape2 T C).Idx → BitVec 32) (hx : ∀ i, x0 i = 0#32) (idx : IVec (shape3 T K 2) 32) (upd : IVec (shape2 T K) 32)
    (hit : Fin T → ℕ → BitVec 1) (bin : Fin T → ℕ → ℕ)
    (hrow : ∀ (i : Fin T) (k : Fin K), idx (ix3 i k (0 : Fin 2)) = BitVec.ofNat 32 i.val)
    (hbin : ∀ (i : Fin T) (k : Fin K), (idx (ix3 i k (1 : Fin 2))).toNat = bin i k.val)
    (hupd : ∀ (i : Fin T) (k : Fin K), upd (ix2 i k) = (hit i k.val).setWidth 32) (r : Fin T) (j : Fin C) :
    Host.scatter d IntOp.addi x0 idx upd (ix2 r j) = BitVec.ofNat 32 (cnt (hit r) (bin r) j.val K) := by
  have hN : (shape2 T K).numel = T * K := Shape.numel_rank2 _
  rw [scatter_at, hx]
  have step : (fun (a : BitVec 32) (n : Fin (shape2 T K).numel) => if d.resultIdx? ((shape2 T K).rowMajor.symm n) idx = some (ix2 r j)
        then IntOp.addi a (upd ((shape2 T K).rowMajor.symm n)) else a)
      = fun a n => if n.val / K = r.val ∧ bin r (n.val % K) = j.val then IntOp.addi a ((hit r (n.val % K)).setWidth 32) else a := by
    funext a n
    have hn : n.val < T * K := Nat.lt_of_lt_of_eq n.isLt hN
    have hi : n.val / K < T := Nat.div_lt_of_lt_mul (by rwa [Nat.mul_comm] at hn)
    have hk : n.val % K < K := Nat.mod_lt _ hK
    have hl : d.resultIdx? (ix2 (⟨n.val / K, hi⟩ : Fin T) (⟨n.val % K, hk⟩ : Fin K)) idx = some (ix2 r j)
        ↔ n.val / K = r.val ∧ j.val = bin ⟨n.val / K, hi⟩ (n.val % K) := by
      rw [scatter_lands2 d hiw hsd hivd, hrow, WordCmp.toInt_ofNat_of_lt (Nat.lt_of_lt_of_le hi hT),
        ScatterToDense.toInt_eq_iff _ _ (Nat.lt_of_lt_of_le j.isLt hC), hbin]
      exact and_congr_left' Int.natCast_inj
    rw [symm22 n hi hk, hupd]
    by_cases e : n.val / K = r.val
    · obtain rfl : (⟨n.val / K, hi⟩ : Fin T) = r := Fin.ext e
      exact if_congr (hl.trans (and_congr_right' eq_comm)) rfl rfl
    · rw [if_neg fun q => e (hl.1 q).1, if_neg fun q => e q.1]
  rw [step, foldl_bits, BitVec.zero_add]
  refine congrArg _ ?_
  unfold cnt
  rw [← count_row hK r.isLt fun k => hit r k = 1#1 ∧ bin r k = j.val, ← hN]
  show _ = (List.range _).countP _
  rw [← List.map_coe_finRange_eq_range, List.countP_map]
  refine List.countP_congr fun n _ => ?_
  simp only [Function.comp, decide_eq_true_eq]
  tauto

end Cert.Hist

namespace Cert.Hist.Ref

open Cert.Hist Cert.Counts Cert.Counts.Gen
open Idealize.ShloMosaic Idealize.ShloMosaic.ValueIdx Idealize.ShloMosaic.Routing

/-! ## The reference's histograms -/

/-- The row numbers the scatter is handed: an index below zero would be wrapped; none is. -/
abbrev rows : IVec S32x131072 32 := select (cmpi .slt (iotaInDim S32x131072 32 0) (broadcastInDim S32x131072 ![] bcast_S_S32x131072 (constantI S_ 32 0#32)))
  (addi (iotaInDim S32x131072 32 0) (broadcastInDim S32x131072 ![] bcast_S_S32x131072 (constantI S_ 32 32#32))) (iotaInDim S32x131072 32 0)

/-- The columns: the bins, an index below zero wrapped. -/
abbrev cols (b : IVec S32x131072 32) : IVec S32x131072 32 := select (cmpi .slt b (broadcastInDim S32x131072 ![] bcast_S_S32x131072 (constantI S_ 32 0#32)))
  (addi b (broadcastInDim S32x131072 ![] bcast_S_S32x131072 (constantI S_ 32 4096#32))) b

/-- The histograms, as the reference computes them of the bins and the updates. -/
abbrev hists (b upd : IVec S32x131072 32) : IVec S32x32x128 32 :=
  shapeCast _ (Host.scatter scatter_S32x4096_S32x131072x2_S32x131072_n_01_01_2 IntOp.addi (broadcastInDim S32x4096 ![] bcast_S_S32x4096 (constantI S_ 32 0#32))
    (concatenate S32x131072x2 2 [⟨S32x131072x1, broadcastInDim S32x131072x1 ![0, 1] bcast_S32x131072_S32x131072x1_0_1 rows⟩,
      ⟨S32x131072x1, broadcastInDim S32x131072x1 ![0, 1] bcast_S32x131072_S32x131072x1_0_1 (cols b)⟩] concatenates_S32x131072x1_S32x131072x1_S32x131072x2_d2) upd)
    shapeCasts_S32x4096_S32x32x128

theorem column (i : Fin 32) (k : Fin 131072) (z : IVec S32x131072 32) :
    broadcastInDim S32x131072x1 ![0, 1] bcast_S32x131072_S32x131072x1_0_1 z (ix3 i k (0 : Fin 1)) = z (ix2 i k) := by
  unfold broadcastInDim
  refine congrArg z (funext fun a => ?_)
  match a with
  | 0 => rfl
  | 1 => rfl

/-- The histograms of words `bits`: entry `(r, a, b)` counts the words of row `r` that count into bin `128 * a + b`. -/
theorem hists_apply (b upd : IVec S32x131072 32) (hit : Fin 32 → ℕ → BitVec 1) (bin : Fin 32 → ℕ → ℕ)
    (hbin : ∀ (i : Fin 32) (k : Fin 131072), (b (ix2 i k)).toNat = bin i k.val) (hlt : ∀ i k, bin i k < 2 ^ 31)
    (hupd : ∀ (i : Fin 32) (k : Fin 131072), upd (ix2 i k) = (hit i k.val).setWidth 32) (j : S32x32x128.Idx) :
    hists b upd j = BitVec.ofNat 32 (cnt (hit (j 0)) (bin (j 0)) ((j 1).val * 128 + (j 2).val) 131072) := by
  have h1 : (j 1).val < 32 := (j 1).isLt
  have h2 : (j 2).val < 128 := (j 2).isLt
  have e := shapeCast_apply (t := S32x32x128) (Host.scatter scatter_S32x4096_S32x131072x2_S32x131072_n_01_01_2 IntOp.addi
      (broadcastInDim S32x4096 ![] bcast_S_S32x4096 (constantI S_ 32 0#32))
    (concatenate S32x131072x2 2 [⟨S32x131072x1, broadcastInDim S32x131072x1 ![0, 1] bcast_S32x131072_S32x131072x1_0_1 rows⟩,
      ⟨S32x131072x1, broadcastInDim S32x131072x1 ![0, 1] bcast_S32x131072_S32x131072x1_0_1 (cols b)⟩] concatenates_S32x131072x1_S32x131072x1_S32x131072x2_d2) upd)
    shapeCasts_S32x4096_S32x32x128 j (ix2 (j 0) (⟨(j 1).val * 128 + (j 2).val, by omega⟩ : Fin 4096)) (by
      rw [Shape.rowMajor_val_two, Shape.rowMajor_val_three]
      show (j 0).val * 4096 + ((j 1).val * 128 + (j 2).val) = ((j 0).val * 32 + (j 1).val) * 128 + (j 2).val
      omega)
  refine e.trans (scatter_cnt _ rfl rfl rfl (by decide) (by decide) (by decide) _ (fun _ => rfl) _ _ hit bin ?_ ?_ hupd (j 0) _)
  · intro i k
    refine (concatenate_pair_apply_left (t := S32x131072x2) (s₁ := S32x131072x1) (s₂ := S32x131072x1) 2 _ _ concatenates_S32x131072x1_S32x131072x1_S32x131072x2_d2
      (ix3 i k (0 : Fin 2)) rfl (ix3 i k (0 : Fin 1)) fun a => ?_).trans ?_
    · match a with
      | 0 => rfl
      | 1 => rfl
      | 2 => rfl
    rw [column]
    exact wrap_of_lt (BitVec.ofNat 32 i.val) _ (by rw [BitVec.toNat_ofNat]; omega)
  · intro i k
    refine congrArg BitVec.toNat ((concatenate_pair_apply_right (t := S32x131072x2) (s₁ := S32x131072x1) (s₂ := S32x131072x1) 2 _ _
      concatenates_S32x131072x1_S32x131072x1_S32x131072x2_d2 (ix3 i k (1 : Fin 2)) rfl rfl (ix3 i k (0 : Fin 1)) (fun a ha => ?_) rfl).trans ?_) |>.trans (hbin i k)
    · match a with
      | 0 => rfl
      | 1 => rfl
      | 2 => exact absurd rfl ha
    rw [column]
    exact wrap_of_lt (b (ix2 i k)) _ (by rw [hbin]; exact hlt i k)

end Cert.Hist.Ref

end
-- ==== Proof.Bridge.lean ====
/-
  THE TWO SIDES MEET. The reference's words are those of the flattened scores with the sign bit cleared, and row `i`'s word `k` is word `k` of
  tile `i`'s stream: the reference's histograms are the kernel's `table`.
-/
module

public import proofs.«01_k».proof.Proof.Scatter
public import proofs.«01_k».proof.Proof.Level1
public import proofs.«01_k».proof.Proof.Level2
public import proofs.«01_k».proof.Proof.Level3
public import Idealize.ShloMosaic.PureOps.BitExact

@[expose] public section

noncomputable section

namespace Cert.Hist.Ref

open Cert.Hist Cert.Counts Cert.Counts.Gen
open Idealize.ShloMosaic Idealize.ShloMosaic.ValueIdx

/-- The scores' words, sign cleared, as the reference deals them into 32 rows. -/
abbrev absBits (A : FVec Bits S2048x2048 .f32) : IVec S32x131072 32 := shapeCast _ (bitcastToInt (Host.absf A)) shapeCasts_S2048x2048_S32x131072

/-- The scores, flattened, as the kernel reads them. -/
abbrev flatten (A : FVec Bits S2048x2048 .f32) : Cert.Levels.S4194304.Idx → Elt Bits .f32 :=
  shapeCast Cert.Levels.S4194304 A Cert.Levels.Gen.shapeCasts_S2048x2048_S4194304

theorem absBits_apply (A : FVec Bits S2048x2048 .f32) (i : Fin 32) (k : Fin 131072) :
    absBits A (ix2 i k) = word (F := Bits) (flatten A) i.val k.val &&& 2147483647#32 := by
  have hn : 131072 * i.val + k.val < 4194304 := by omega
  have e1 := shapeCast_apply (t := S32x131072) (bitcastToInt (Host.absf A)) shapeCasts_S2048x2048_S32x131072 (ix2 i k)
    (ix2 (⟨(131072 * i.val + k.val) / 2048, by omega⟩ : Fin 2048) (⟨(131072 * i.val + k.val) % 2048, by omega⟩ : Fin 2048)) (by
      rw [Shape.rowMajor_val_two, Shape.rowMajor_val_two]
      show (131072 * i.val + k.val) / 2048 * 2048 + (131072 * i.val + k.val) % 2048 = i.val * 131072 + k.val
      omega)
  have e2 := shapeCast_apply (t := Cert.Levels.S4194304) A Cert.Levels.Gen.shapeCasts_S2048x2048_S4194304
    (Shape.ofLane (d := ![4194304]) ⟨131072 * i.val + k.val, hn⟩)
    (ix2 (⟨(131072 * i.val + k.val) / 2048, by omega⟩ : Fin 2048) (⟨(131072 * i.val + k.val) % 2048, by omega⟩ : Fin 2048)) (by
      rw [Shape.rowMajor_val_two, Shape.rowMajor_val_one]
      show (131072 * i.val + k.val) / 2048 * 2048 + (131072 * i.val + k.val) % 2048 = 131072 * i.val + k.val
      omega)
  refine e1.trans ?_
  unfold word
  rw [dif_pos hn]
  refine Eq.trans ?_ (congrArg (fun a : Bits .f32 => a &&& 2147483647#32) e2.symm)
  exact Bits.absf_f32 _

/-- Histograms whose bins and updates are a level's, at every word, are the level's table. -/
theorem hists_eq_table (A : FVec Bits S2048x2048 .f32) (msk : BitVec 32 → BitVec 1) (bin : BitVec 32 → ℕ) (hlt : ∀ b, bin b < 4096)
    (b upd : IVec S32x131072 32) (hb : ∀ (i : Fin 32) (k : Fin 131072), (b (ix2 i k)).toNat = bin (word (F := Bits) (flatten A) i.val k.val))
    (hu : ∀ (i : Fin 32) (k : Fin 131072), upd (ix2 i k) = (msk (word (F := Bits) (flatten A) i.val k.val)).setWidth 32) :
    hists b upd = table (F := Bits) (flatten A) msk bin := by
  funext j
  exact hists_apply b upd (fun i k => msk (word (F := Bits) (flatten A) i.val k)) (fun i k => bin (word (F := Bits) (flatten A) i.val k)) hb
    (fun i k => (hlt _).trans (by decide)) hu j

/-- A word shifted right, at the reference's `n`. -/
theorem shifted (A : FVec Bits S2048x2048 .f32) (n : BitVec 32) (hn : n.toNat < 32) (i : Fin 32) (k : Fin 131072) :
    Host.shrsi (absBits A) (broadcastInDim S32x131072 ![] bcast_S_S32x131072 (constantI S_ 32 n)) (ix2 i k)
      = (word (F := Bits) (flatten A) i.val k.val &&& 2147483647#32).sshiftRight n.toNat := by
  show IntOp.shrsi .host (absBits A (ix2 i k)) n = _
  rw [absBits_apply]
  exact if_pos hn

/-! ## Level 2 -/

theorem level2 (A : FVec Bits S2048x2048 .f32) (p : IVec S_ 32) :
    hists (andi (Host.shrsi (absBits A) (broadcastInDim S32x131072 ![] bcast_S_S32x131072 (constantI S_ 32 8#32)))
        (broadcastInDim S32x131072 ![] bcast_S_S32x131072 (constantI S_ 32 4095#32)))
      (extui 32 (cmpi .eq (Host.shrsi (absBits A) (broadcastInDim S32x131072 ![] bcast_S_S32x131072 (constantI S_ 32 20#32)))
        (broadcastInDim S32x131072 ![] bcast_S_S32x131072 p)) natLt_1_32)
      = table (F := Bits) (flatten A) (Level2.msk (p fun a => a.elim0)) Level2.bin := by
  refine hists_eq_table A _ _ (Level2.level (F := Bits) (p fun a => a.elim0)).lt _ _ (fun i k => ?_) (fun i k => ?_)
  · show (Host.shrsi (absBits A) (broadcastInDim S32x131072 ![] bcast_S_S32x131072 (constantI S_ 32 8#32)) (ix2 i k) &&& 4095#32).toNat = _
    rw [shifted A 8#32 (by decide)]
    rfl
  · show (IntOp.cmpi .eq (Host.shrsi (absBits A) (broadcastInDim S32x131072 ![] bcast_S_S32x131072 (constantI S_ 32 20#32)) (ix2 i k)) (p _)).setWidth 32 = _
    rw [shifted A 20#32 (by decide)]
    exact congrArg (fun q => (IntOp.cmpi .eq _ (p q)).setWidth 32) (funext fun a => a.elim0)

/-! ## Level 1 -/

theorem level1 (A : FVec Bits S2048x2048 .f32) :
    hists (Host.shrsi (absBits A) (broadcastInDim S32x131072 ![] bcast_S_S32x131072 (constantI S_ 32 20#32)))
      (broadcastInDim S32x131072 ![] bcast_S_S32x131072 (constantI S_ 32 1#32))
      = table (F := Bits) (flatten A) Level1.msk Level1.bin := by
  refine hists_eq_table A _ _ (Level1.level (F := Bits)).lt _ _ (fun i k => ?_) (fun i k => rfl)
  rw [shifted A 20#32 (by decide)]
  rfl

/-! ## Level 3 -/

theorem level3 (A : FVec Bits S2048x2048 .f32) (p : IVec S_ 32) :
    hists (andi (absBits A) (broadcastInDim S32x131072 ![] bcast_S_S32x131072 (constantI S_ 32 255#32)))
      (extui 32 (cmpi .eq (Host.shrsi (absBits A) (broadcastInDim S32x131072 ![] bcast_S_S32x131072 (constantI S_ 32 8#32)))
        (broadcastInDim S32x131072 ![] bcast_S_S32x131072 p)) natLt_1_32)
      = table (F := Bits) (flatten A) (Level3.msk (p fun a => a.elim0)) Level3.bin := by
  refine hists_eq_table A _ _ (Level3.level (F := Bits) (p fun a => a.elim0)).lt _ _ (fun i k => ?_) (fun i k => ?_)
  · show (absBits A (ix2 i k) &&& 255#32).toNat = _
    rw [absBits_apply]
    rfl
  · show (IntOp.cmpi .eq (Host.shrsi (absBits A) (broadcastInDim S32x131072 ![] bcast_S_S32x131072 (constantI S_ 32 8#32)) (ix2 i k)) (p _)).setWidth 32 = _
    rw [shifted A 8#32 (by decide)]
    exact congrArg (fun q => (IntOp.cmpi .eq _ (p q)).setWidth 32) (funext fun a => a.elim0)

end Cert.Hist.Ref

end
-- ==== Proof.lean ====
/-
  The proof of `Cert.Claim`. The three calls' run (Launch.lean, over any float values) says how they end: every counter at zero, the arguments
  unchanged, each result the thirty-two histograms of the flattened scores' words at its level. Their reference's run says each of its results is a
  composed term of the arguments, which Bridge.lean shows to be those same histograms.

  The whole kernel's run (Whole/Run.lean, over any float values too) says it ends with every counter at zero, the arguments unchanged, and the product
  of the inputs by the weights masked at the threshold its three picks compute. Whole/Result.lean shows that, at the ideal values and where the two
  middle magnitudes differ, to be what the reference computes by sorting.
-/
module

public import proofs.«01_k».proof.Defs
public import proofs.«01_k».proof.Proof.Gen.Levels
public import proofs.«01_k».proof.Proof.Gen.Counts.Run
public import proofs.«01_k».proof.Proof.Gen.Kernel
public import proofs.«01_k».proof.Proof.Gen.KernelIdeal
public import proofs.«01_k».proof.Proof.Gen.ReferenceIdeal.Run
public import proofs.«01_k».proof.Proof.Gen.Pre_apart
public import proofs.«01_k».proof.Proof.Launch
public import proofs.«01_k».proof.Proof.Whole.Run
public import proofs.«01_k».proof.Proof.Whole.Result
public import proofs.«01_k».proof.Proof.Whole.Same
public import proofs.«01_k».proof.Proof.Bridge
public import Idealize.ShloMosaic.Adequacy
public import Idealize.ShloMosaic.Init

@[expose] public section

noncomputable section

namespace Cert.Proof

open Idealize.ShloMosaic Idealize.SL.Sem

theorem frame_kernel : Cert.quiescent_Levels := fun m ρ _ =>
  (θ_run Cert.Levels.defs _ _).mono (fun _ h => ⟨fun c => ⟨(h.1 c).1, (h.1 c).2.1, (h.1 c).2.2.1⟩, h.2⟩) (Cert.Hist.run_main (F := Bits) m ρ)

theorem frame_reference : Cert.quiescent_Counts := fun m ρ _ =>
  (θ_run Cert.Counts.defs _ _).mono (fun r h => ⟨fun c => (h c).2.2.2, sem_eq_zero_of_no_sems (by decide) r.2⟩) (Cert.Counts.Value.run (F := Bits) m ρ)

/-- The reference's results, of the reference's memory, are the kernel's `out1`, `out2`, `out3`, of a kernel memory that holds the same arguments. -/
theorem bitexact : Cert.bitexact_Levels_Counts := by
  intro m ρ m' ρ' _ hagree
  refine ⟨fun c => Cert.Hist.out1 (F := Bits) m c, fun c => Cert.Hist.out2 (F := Bits) m c, fun c => Cert.Hist.out3 (F := Bits) m c,
    (θ_run Cert.Levels.defs _ _).mono (fun _ h c =>
      ⟨(h.1 c).2.2.2.1, (h.1 c).2.2.2.2.1, (h.1 c).2.2.2.2.2, (h.1 c).1, (h.1 c).2.1, (h.1 c).2.2.1⟩) (Cert.Hist.run_main (F := Bits) m ρ), ?_⟩
  refine (θ_run Cert.Counts.defs _ _).mono (fun _ h c => ⟨((h c).1).trans ?_, ((h c).2.1).trans ?_, ((h c).2.2.1).trans ?_, (h c).2.2.2⟩)
    (Cert.Counts.Value.run (F := Bits) m' ρ')
  · refine (Cert.Hist.Ref.level1 _).trans ?_
    rw [(hagree c).1]
    rfl
  · refine (Cert.Hist.Ref.level2 _ _).trans ?_
    rw [(hagree c).1, (hagree c).2.1]
    rfl
  · refine (Cert.Hist.Ref.level3 _ _).trans ?_
    rw [(hagree c).1, (hagree c).2.1, (hagree c).2.2]
    rfl

theorem frame_whole : Cert.quiescent_Kernel := by
  intro m ρ _
  rw [Cert.Whole.Same.defs_eq, Cert.Whole.Same.threads_eq]
  exact (θ_run Cert.KernelIdeal.defs _ _).mono (fun _ h => ⟨fun c => (h.1 c).2, h.2⟩) (Cert.Whole.run_main (F := Bits) m ρ)

theorem frame_ideal : Cert.quiescent_KernelIdeal := fun m ρ _ =>
  (θ_run Cert.KernelIdeal.defs _ _).mono (fun _ h => ⟨fun c => (h.1 c).2, h.2⟩) (Cert.Whole.run_main (F := Ideal) m ρ)

theorem frame_ideal_apart : Cert.quiescent_KernelIdeal_pre_apart := fun m ρ _ =>
  (θ_run Cert.KernelIdeal.defs _ _).mono (fun _ h => ⟨fun c => (h.1 c).2, h.2⟩) (Cert.Whole.run_main (F := Ideal) m ρ)

theorem frame_sorting : Cert.quiescent_ReferenceIdeal := fun m ρ _ =>
  (θ_run Cert.ReferenceIdeal.defs _ _).mono (fun r h => ⟨fun c => (h c).2, sem_eq_zero_of_no_sems (by decide) r.2⟩) (Cert.ReferenceIdeal.Value.run (F := Ideal) m ρ)

theorem frame_sorting_apart : Cert.quiescent_ReferenceIdeal_pre_apart := fun m ρ _ =>
  (θ_run Cert.ReferenceIdeal.defs _ _).mono (fun r h => ⟨fun c => (h c).2, sem_eq_zero_of_no_sems (by decide) r.2⟩) (Cert.ReferenceIdeal.Value.run (F := Ideal) m ρ)

/-- The reference's result, of the reference's memory, is the kernel's, of a kernel memory that holds the same arguments. -/
theorem algebraic : Cert.algebraic_KernelIdeal_ReferenceIdeal_pre_apart := by
  intro m ρ m' ρ' hpre hagree
  refine ⟨fun c => Cert.Whole.outcomeOf (F := Ideal) m c,
    (θ_run Cert.KernelIdeal.defs _ _).mono (fun _ h c => h.1 c) (Cert.Whole.run_main (F := Ideal) m ρ), ?_⟩
  refine (θ_run Cert.ReferenceIdeal.defs _ _).mono (fun _ h c => ⟨((h c).1).trans ?_, (h c).2⟩) (Cert.ReferenceIdeal.Value.run (F := Ideal) m' ρ')
  rw [(hagree c).1, (hagree c).2.1, (hagree c).2.2.1, (hagree c).2.2.2]
  exact (Cert.Whole.outcome_eq _ _ _ _ (hpre c)).symm

theorem claim : Cert.Claim :=
  ⟨Cert.Levels.Gen.facts, Cert.Counts.Gen.facts, Cert.Kernel.Gen.facts, Cert.KernelIdeal.Gen.facts, Cert.ReferenceIdeal.Gen.facts, Cert.Pre_apart.Gen.facts,
    frame_kernel, frame_reference, frame_whole, frame_ideal, frame_ideal_apart, frame_sorting, frame_sorting_apart, bitexact, trivial, algebraic⟩

end Cert.Proof

end
